-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v69)) (v1 : (c : Dev Cert.KernelIdeal.nD) → Buf (Elt Ideal) ((c.tc : Thread Cert.KernelIdeal.nD Cert.KernelIdeal.τ).loc Cert.KernelIdeal.main_v71)) (v2 : (c : Dev Cert.KernelIdeal.nD) → Buf (Elt Ideal) ((c.tc : Thread Cert.KernelIdeal.nD Cert.KernelIdeal.τ).loc Cert.KernelIdeal.main_v73)) (v3 : (c : Dev Cert.KernelIdeal.nD) → Buf (Elt Ideal) ((c.tc : Thread Cert.KernelIdeal.nD Cert.KernelIdeal.τ).loc Cert.KernelIdeal.main_v74)) (v4 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_v71) = v1 c
          ∧ r.2.mem ((c.tc : Thread Cert.KernelIdeal.nD Cert.KernelIdeal.τ).loc Cert.KernelIdeal.main_v73) = v2 c
          ∧ r.2.mem ((c.tc : Thread Cert.KernelIdeal.nD Cert.KernelIdeal.τ).loc Cert.KernelIdeal.main_v74) = v3 c
          ∧ r.2.mem ((c.tc : Thread Cert.KernelIdeal.nD Cert.KernelIdeal.τ).loc Cert.KernelIdeal.main_v75) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_v74) = v3 c
          ∧ r.2.mem ((c.tc : Thread Cert.ReferenceIdeal.nD Cert.ReferenceIdeal.τ).loc Cert.ReferenceIdeal.main_v55) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v24_0)) (v1 : (c : Dev Cert.Kernel2Ideal.nD) → Buf (Elt Ideal) ((c.tc : Thread Cert.Kernel2Ideal.nD Cert.Kernel2Ideal.τ).loc Cert.Kernel2Ideal.main_v24_1)) (v2 : (c : Dev Cert.Kernel2Ideal.nD) → Buf (Elt Ideal) ((c.tc : Thread Cert.Kernel2Ideal.nD Cert.Kernel2Ideal.τ).loc Cert.Kernel2Ideal.main_v24_2)) (v3 : (c : Dev Cert.Kernel2Ideal.nD) → Buf (Elt Ideal) ((c.tc : Thread Cert.Kernel2Ideal.nD Cert.Kernel2Ideal.τ).loc Cert.Kernel2Ideal.main_v24_3)) (v4 : (c : Dev Cert.Kernel2Ideal.nD) → Buf (Elt Ideal) ((c.tc : Thread Cert.Kernel2Ideal.nD Cert.Kernel2Ideal.τ).loc Cert.Kernel2Ideal.main_v24_4)) (v5 : (c : Dev Cert.Kernel2Ideal.nD) → Buf (Elt Ideal) ((c.tc : Thread Cert.Kernel2Ideal.nD Cert.Kernel2Ideal.τ).loc Cert.Kernel2Ideal.main_v24_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24_0) = v0 c
          ∧ r.2.mem ((c.tc : Thread Cert.Kernel2Ideal.nD Cert.Kernel2Ideal.τ).loc Cert.Kernel2Ideal.main_v24_1) = v1 c
          ∧ r.2.mem ((c.tc : Thread Cert.Kernel2Ideal.nD Cert.Kernel2Ideal.τ).loc Cert.Kernel2Ideal.main_v24_2) = v2 c
          ∧ r.2.mem ((c.tc : Thread Cert.Kernel2Ideal.nD Cert.Kernel2Ideal.τ).loc Cert.Kernel2Ideal.main_v24_3) = v3 c
          ∧ r.2.mem ((c.tc : Thread Cert.Kernel2Ideal.nD Cert.Kernel2Ideal.τ).loc Cert.Kernel2Ideal.main_v24_4) = v4 c
          ∧ r.2.mem ((c.tc : Thread Cert.Kernel2Ideal.nD Cert.Kernel2Ideal.τ).loc Cert.Kernel2Ideal.main_v24_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v54) = v0 c
          ∧ r.2.mem ((c.tc : Thread Cert.Reference2Ideal.nD Cert.Reference2Ideal.τ).loc Cert.Reference2Ideal.main_v81) = v1 c
          ∧ r.2.mem ((c.tc : Thread Cert.Reference2Ideal.nD Cert.Reference2Ideal.τ).loc Cert.Reference2Ideal.main_v82) = v2 c
          ∧ r.2.mem ((c.tc : Thread Cert.Reference2Ideal.nD Cert.Reference2Ideal.τ).loc Cert.Reference2Ideal.main_v83) = v3 c
          ∧ r.2.mem ((c.tc : Thread Cert.Reference2Ideal.nD Cert.Reference2Ideal.τ).loc Cert.Reference2Ideal.main_v86) = v4 c
          ∧ r.2.mem ((c.tc : Thread Cert.Reference2Ideal.nD Cert.Reference2Ideal.τ).loc Cert.Reference2Ideal.main_v89) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)) (v2 : (c : Dev Cert.Kernel4Ideal.nD) → Buf (Elt Ideal) ((c.tc : Thread Cert.Kernel4Ideal.nD Cert.Kernel4Ideal.τ).loc Cert.Kernel4Ideal.main_v7_2)) (v3 : (c : Dev Cert.Kernel4Ideal.nD) → Buf (Elt Ideal) ((c.tc : Thread Cert.Kernel4Ideal.nD Cert.Kernel4Ideal.τ).loc Cert.Kernel4Ideal.main_v7_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_v7_2) = v2 c
          ∧ r.2.mem ((c.tc : Thread Cert.Kernel4Ideal.nD Cert.Kernel4Ideal.τ).loc Cert.Kernel4Ideal.main_v7_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v33) = v0 c
          ∧ r.2.mem ((c.tc : Thread Cert.Reference4Ideal.nD Cert.Reference4Ideal.τ).loc Cert.Reference4Ideal.main_v34) = v1 c
          ∧ r.2.mem ((c.tc : Thread Cert.Reference4Ideal.nD Cert.Reference4Ideal.τ).loc Cert.Reference4Ideal.main_v36) = v2 c
          ∧ r.2.mem ((c.tc : Thread Cert.Reference4Ideal.nD Cert.Reference4Ideal.τ).loc Cert.Reference4Ideal.main_v38) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_v7) = v1 c
          ∧ r.2.mem ((c.tc : Thread Cert.Reference10Ideal.nD Cert.Reference10Ideal.τ).loc Cert.Reference10Ideal.main_v15) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S8192x8x128 : Shape := ⟨3, ![8192, 8, 128]⟩
abbrev S8192x8x64 : Shape := ⟨3, ![8192, 8, 64]⟩
abbrev S8192x64 : Shape := ⟨2, ![8192, 64]⟩
abbrev S_ : Shape := ⟨0, ![]⟩

class Facts : Prop where
  bitsLt_bf16_f32 : FTy.bits .bf16 < FTy.bits .f32
  bcast_S_S8192x8x128 : S_.BroadcastsInDim S8192x8x128 (![] : Fin 0 → Fin S8192x8x128.rank)
  bcast_S_S8192x8x64 : S_.BroadcastsInDim S8192x8x64 (![] : Fin 0 → Fin S8192x8x64.rank)
  bcast_S_S8192x64 : S_.BroadcastsInDim S8192x64 (![] : Fin 0 → Fin S8192x64.rank)

variable [Facts]

def fn_part1 {F : FTy → Type} [FloatOps F] (main_arg5 : FVec F S8192x8x128 .bf16) (main_v3 : IVec S8192x8x128 1) (main_v7 : IVec S8192x8x64 1) (main_v11 : IVec S8192x8x128 1) (main_v15 : IVec S8192x64 1) (main_v17 : FVec F S8192x8x128 .f32) (main_v18 : FVec F S8192x8x128 .f32) : IVec S8192x8x128 1 × IVec S8192x8x64 1 × IVec S8192x8x128 1 × IVec S8192x64 1 × IVec S8192x8x128 1 × IVec S8192x8x128 1 :=
  let main_v19 : IVec S8192x8x128 1 := cmpf .olt main_v17 main_v18
  let main_v20 : FVec F S8192x8x128 .f32 := (extf .f32 · bitsLt_bf16_f32) main_arg5
  let main_v21 : FVec F S8192x8x128 .f32 := Host.absf main_v20
  let main_cst_4 : FVec F S_ .f32 := constant S_ .f32 0x7F800000#32
  let main_v22 : FVec F S8192x8x128 .f32 := broadcastInDim S8192x8x128 ![] bcast_S_S8192x8x128 main_cst_4
  let main_v23 : IVec S8192x8x128 1 := cmpf .olt main_v21 main_v22
  (main_v3, main_v7, main_v11, main_v15, main_v19, main_v23)

def fn {F : FTy → Type} [FloatOps F] (main_arg0 : FVec F S8192x8x128 .bf16) (main_arg1 : FVec F S8192x8x64 .bf16) (main_arg2 : FVec F S8192x8x128 .bf16) (main_arg3 : FVec F S8192x64 .bf16) (main_arg4 : FVec F S8192x8x128 .bf16) (main_arg5 : FVec F S8192x8x128 .bf16) : IVec S8192x8x128 1 × IVec S8192x8x64 1 × IVec S8192x8x128 1 × IVec S8192x64 1 × IVec S8192x8x128 1 × IVec S8192x8x128 1 :=
  let main_v0 : FVec F S8192x8x128 .f32 := (extf .f32 · bitsLt_bf16_f32) main_arg0
  let main_v1 : FVec F S8192x8x128 .f32 := Host.absf main_v0
  let main_cst : FVec F S_ .f32 := constant S_ .f32 0x7F800000#32
  let main_v2 : FVec F S8192x8x128 .f32 := broadcastInDim S8192x8x128 ![] bcast_S_S8192x8x128 main_cst
  let main_v3 : IVec S8192x8x128 1 := cmpf .olt main_v1 main_v2
  let main_v4 : FVec F S8192x8x64 .f32 := (extf .f32 · bitsLt_bf16_f32) main_arg1
  let main_v5 : FVec F S8192x8x64 .f32 := Host.absf main_v4
  let main_cst_0 : FVec F S_ .f32 := constant S_ .f32 0x7F800000#32
  let main_v6 : FVec F S8192x8x64 .f32 := broadcastInDim S8192x8x64 ![] bcast_S_S8192x8x64 main_cst_0
  let main_v7 : IVec S8192x8x64 1 := cmpf .olt main_v5 main_v6
  let main_v8 : FVec F S8192x8x128 .f32 := (extf .f32 · bitsLt_bf16_f32) main_arg2
  let main_v9 : FVec F S8192x8x128 .f32 := Host.absf main_v8
  let main_cst_1 : FVec F S_ .f32 := constant S_ .f32 0x7F800000#32
  let main_v10 : FVec F S8192x8x128 .f32 := broadcastInDim S8192x8x128 ![] bcast_S_S8192x8x128 main_cst_1
  let main_v11 : IVec S8192x8x128 1 := cmpf .olt main_v9 main_v10
  let main_v12 : FVec F S8192x64 .f32 := (extf .f32 · bitsLt_bf16_f32) main_arg3
  let main_v13 : FVec F S8192x64 .f32 := Host.absf main_v12
  let main_cst_2 : FVec F S_ .f32 := constant S_ .f32 0x7F800000#32
  let main_v14 : FVec F S8192x64 .f32 := broadcastInDim S8192x64 ![] bcast_S_S8192x64 main_cst_2
  let main_v15 : IVec S8192x64 1 := cmpf .olt main_v13 main_v14
  let main_v16 : FVec F S8192x8x128 .f32 := (extf .f32 · bitsLt_bf16_f32) main_arg4
  let main_v17 : FVec F S8192x8x128 .f32 := Host.absf main_v16
  let main_cst_3 : FVec F S_ .f32 := constant S_ .f32 0x7F800000#32
  let main_v18 : FVec F S8192x8x128 .f32 := broadcastInDim S8192x8x128 ![] bcast_S_S8192x8x128 main_cst_3
  fn_part1 (F := F) main_arg5 main_v3 main_v7 main_v11 main_v15 main_v17 main_v18
-- ==== Pre_finite2.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S1024 .f32) (main_arg2 : FVec F S1024x2816 .f32) (main_arg3 : FVec F S1024x2816 .f32) (main_arg4 : FVec F S2816x1024 .f32) (main_arg5 : FVec F S8192x1024 .f32) : IVec S8192x1024 1 × IVec S1024 1 × IVec S1024x2816 1 × IVec S1024x2816 1 × IVec S2816x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  (main_v2, main_v5, main_v8, main_v11, main_v14, main_v17)
-- ==== Kernel.lean ====
abbrev S8192x8x128 : Shape := ⟨3, ![8192, 8, 128]⟩
abbrev S8192x8x64 : Shape := ⟨3, ![8192, 8, 64]⟩
abbrev S8192x64 : Shape := ⟨2, ![8192, 64]⟩
abbrev S8192 : Shape := ⟨1, ![8192]⟩
abbrev S_ : Shape := ⟨0, ![]⟩
abbrev S8x8192x8192 : Shape := ⟨3, ![8, 8192, 8192]⟩
abbrev S8192x8192x8 : Shape := ⟨3, ![8192, 8192, 8]⟩
abbrev S8192x1 : Shape := ⟨2, ![8192, 1]⟩
abbrev S1x8192 : Shape := ⟨2, ![1, 8192]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8192x8 : Shape := ⟨2, ![8192, 8]⟩
abbrev S8192x8x256 : Shape := ⟨3, ![8192, 8, 256]⟩
abbrev S8192x1x64 : Shape := ⟨3, ![8192, 1, 64]⟩
abbrev S8x8192x256 : Shape := ⟨3, ![8, 8192, 256]⟩
abbrev S8x8192x128 : Shape := ⟨3, ![8, 8192, 128]⟩
abbrev S8192x1024 : Shape := ⟨2, ![8192, 1024]⟩
abbrev S8x16x1x512 : Shape := ⟨4, ![8, 16, 1, 512]⟩
abbrev S8x16x8x512 : Shape := ⟨4, ![8, 16, 8, 512]⟩
abbrev S1x8192x256 : Shape := ⟨3, ![1, 8192, 256]⟩
abbrev S1x512x256 : Shape := ⟨3, ![1, 512, 256]⟩
abbrev S1x512x128 : Shape := ⟨3, ![1, 512, 128]⟩
abbrev S8192x128 : Shape := ⟨2, ![8192, 128]⟩
abbrev S1x16x8x512 : Shape := ⟨4, ![1, 16, 8, 512]⟩
abbrev S8192x256 : Shape := ⟨2, ![8192, 256]⟩
abbrev S512x256 : Shape := ⟨2, ![512, 256]⟩
abbrev S128x512 : Shape := ⟨2, ![128, 512]⟩
abbrev S512x128 : Shape := ⟨2, ![512, 128]⟩
abbrev S512x512 : Shape := ⟨2, ![512, 512]⟩
abbrev S1x1x8x512 : Shape := ⟨4, ![1, 1, 8, 512]⟩
abbrev S8x512 : Shape := ⟨2, ![8, 512]⟩
abbrev S1x512 : Shape := ⟨2, ![1, 512]⟩

abbrev nBuf : Space → Nat
  | .hbm => 113
  | .vmem => 21
  | .smem => 0
  | _ => 0

abbrev bufTy : (tb : Table) → Fin (tcTables nBuf tb) → BufTy
  | .hbm, ⟨0, _⟩ => ⟨S8192x8x128, .bf16⟩
  | .hbm, ⟨1, _⟩ => ⟨S8192x8x64, .bf16⟩
  | .hbm, ⟨2, _⟩ => ⟨S8192x8x128, .bf16⟩
  | .hbm, ⟨3, _⟩ => ⟨S8192x64, .bf16⟩
  | .hbm, ⟨4, _⟩ => ⟨S8192x8x128, .bf16⟩
  | .hbm, ⟨5, _⟩ => ⟨S8192x8x128, .bf16⟩
  | .hbm, ⟨6, _⟩ => ⟨S8192, .i32⟩
  | .hbm, ⟨7, _⟩ => ⟨S_, .i32⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S_, .i32⟩
  | .hbm, ⟨13, _⟩ => ⟨S8192, .i32⟩
  | .hbm, ⟨14, _⟩ => ⟨S8192, .i1⟩
  | .hbm, ⟨15, _⟩ => ⟨S8192, .i32⟩
  | .hbm, ⟨16, _⟩ => ⟨S8192, .i32⟩
  | .hbm, ⟨17, _⟩ => ⟨S_, .i32⟩
  | .hbm, ⟨18, _⟩ => ⟨S8192, .i32⟩
  | .hbm, ⟨19, _⟩ => ⟨S8192, .i1⟩
  | .hbm, ⟨20, _⟩ => ⟨S8192, .i1⟩
  | .hbm, ⟨21, _⟩ => ⟨S_, .i32⟩
  | .hbm, ⟨22, _⟩ => ⟨S8192, .i32⟩
  | .hbm, ⟨23, _⟩ => ⟨S8192, .i32⟩
  | .hbm, ⟨24, _⟩ => ⟨S8192, .i32⟩
  | .hbm, ⟨25, _⟩ => ⟨S8192x8x128, .f32⟩
  | .hbm, ⟨26, _⟩ => ⟨S8192x8x128, .f32⟩
  | .hbm, ⟨27, _⟩ => ⟨S8x8192x8192, .f32⟩
  | .hbm, ⟨28, _⟩ => ⟨S8192x8x64, .f32⟩
  | .hbm, ⟨29, _⟩ => ⟨S8192x64, .f32⟩
  | .hbm, ⟨30, _⟩ => ⟨S8192x8192x8, .f32⟩
  | .hbm, ⟨31, _⟩ => ⟨S8x8192x8192, .f32⟩
  | .hbm, ⟨32, _⟩ => ⟨S8x8192x8192, .f32⟩
  | .hbm, ⟨33, _⟩ => ⟨S_, .f32⟩
  | .hbm, ⟨34, _⟩ => ⟨S8x8192x8192, .f32⟩
  | .hbm, ⟨35, _⟩ => ⟨S8x8192x8192, .f32⟩
  | .hbm, ⟨36, _⟩ => ⟨S8192x1, .i32⟩
  | .hbm, ⟨37, _⟩ => ⟨S1x8192, .i32⟩
  | .hbm, ⟨38, _⟩ => ⟨S8192x8192, .i32⟩
  | .hbm, ⟨39, _⟩ => ⟨S8192x8192, .i32⟩
  | .hbm, ⟨40, _⟩ => ⟨S8192x8192, .i1⟩
  | .hbm, ⟨41, _⟩ => ⟨S1x8192x8192, .i1⟩
  | .hbm, ⟨42, _⟩ => ⟨S_, .f32⟩
  | .hbm, ⟨43, _⟩ => ⟨S_, .f32⟩
  | .hbm, ⟨44, _⟩ => ⟨S8x8192x8192, .i1⟩
  | .hbm, ⟨45, _⟩ => ⟨S8x8192x8192, .f32⟩
  | .hbm, ⟨46, _⟩ => ⟨S8x8192x8192, .f32⟩
  | .hbm, ⟨47, _⟩ => ⟨S_, .f32⟩
  | .hbm, ⟨48, _⟩ => ⟨S8x8192, .f32⟩
  | .hbm, ⟨49, _⟩ => ⟨S8x8192x1, .f32⟩
  | .hbm, ⟨50, _⟩ => ⟨S8x8192x8192, .f32⟩
  | .hbm, ⟨51, _⟩ => ⟨S8x8192x8192, .f32⟩
  | .hbm, ⟨52, _⟩ => ⟨S8x8192x8192, .f32⟩
  | .hbm, ⟨53, _⟩ => ⟨S_, .f32⟩
  | .hbm, ⟨54, _⟩ => ⟨S8x8192, .f32⟩
  | .hbm, ⟨55, _⟩ => ⟨S8x8192x1, .f32⟩
  | .hbm, ⟨56, _⟩ => ⟨S8x8192x1, .f32⟩
  | .hbm, ⟨57, _⟩ => ⟨S8x8192x1, .f32⟩
  | .hbm, ⟨58, _⟩ => ⟨S8x8192, .f32⟩
  | .hbm, ⟨59, _⟩ => ⟨S8x8192x8192, .f32⟩
  | .hbm, ⟨60, _⟩ => ⟨S8x8192x8192, .f32⟩
  | .hbm, ⟨61, _⟩ => ⟨S8192x8x128, .f32⟩
  | .hbm, ⟨62, _⟩ => ⟨S8x128x8192, .f32⟩
  | .hbm, ⟨63, _⟩ => ⟨S8192x8x128, .f32⟩
  | .hbm, ⟨64, _⟩ => ⟨S8192x8x128, .f32⟩
  | .hbm, ⟨65, _⟩ => ⟨S8192x8x128, .f32⟩
  | .hbm, ⟨66, _⟩ => ⟨S_, .f32⟩
  | .hbm, ⟨67, _⟩ => ⟨S8192x8, .f32⟩
  | .hbm, ⟨68, _⟩ => ⟨S8x8192, .f32⟩
  | .hbm, ⟨69, _⟩ => ⟨S_, .f32⟩
  | .hbm, ⟨70, _⟩ => ⟨S8192x8x64, .f32⟩
  | .hbm, ⟨71, _⟩ => ⟨S8192x8x128, .f32⟩
  | .hbm, ⟨72, _⟩ => ⟨S8192x8x64, .f32⟩
  | .hbm, ⟨73, _⟩ => ⟨S8192x8x256, .f32⟩
  | .hbm, ⟨74, _⟩ => ⟨S_, .f32⟩
  | .hbm, ⟨75, _⟩ => ⟨S8192x8x256, .f32⟩
  | .hbm, ⟨76, _⟩ => ⟨S8192x8x256, .f32⟩
  | .hbm, ⟨77, _⟩ => ⟨S8192x64, .f32⟩
  | .hbm, ⟨78, _⟩ => ⟨S8192x1x64, .f32⟩
  | .hbm, ⟨79, _⟩ => ⟨S8192x8x64, .f32⟩
  | .hbm, ⟨80, _⟩ => ⟨S8192x8x128, .f32⟩
  | .hbm, ⟨81, _⟩ => ⟨S8192x8x256, .f32⟩
  | .hbm, ⟨82, _⟩ => ⟨S8x8192x256, .f32⟩
  | .hbm, ⟨83, _⟩ => ⟨S8x8192x256, .bf16⟩
  | .hbm, ⟨84, _⟩ => ⟨S8x8192x256, .f32⟩
  | .hbm, ⟨85, _⟩ => ⟨S8x8192x256, .bf16⟩
  | .hbm, ⟨86, _⟩ => ⟨S8x8192x128, .bf16⟩
  | .hbm, ⟨87, _⟩ => ⟨S8192x1024, .bf16⟩
  | .hbm, ⟨88, _⟩ => ⟨S8x16x1x512, .f32⟩
  | .hbm, ⟨89, _⟩ => ⟨S8x16x8x512, .f32⟩
  | .hbm, ⟨90, _⟩ => ⟨S8x16x1x512, .f32⟩
  | .hbm, ⟨91, _⟩ => ⟨S8x16x8x512, .f32⟩
  | .hbm, ⟨92, _⟩ => ⟨S8x8192x256, .bf16⟩
  | .hbm, ⟨93, _⟩ => ⟨S8x8192x256, .bf16⟩
  | .hbm, ⟨94, _⟩ => ⟨S8x8192x128, .bf16⟩
  | .hbm, ⟨95, _⟩ => ⟨S8x8192x256, .f32⟩
  | .hbm, ⟨96, _⟩ => ⟨S8192x8x256, .f32⟩
  | .hbm, ⟨97, _⟩ => ⟨S_, .f32⟩
  | .hbm, ⟨98, _⟩ => ⟨S8192x8x256, .f32⟩
  | .hbm, ⟨99, _⟩ => ⟨S8192x8x256, .f32⟩
  | .hbm, ⟨100, _⟩ => ⟨S8x8192x256, .f32⟩
  | .hbm, ⟨101, _⟩ => ⟨S8192x8x256, .f32⟩
  | .hbm, ⟨102, _⟩ => ⟨S8192x8x64, .f32⟩
  | .hbm, ⟨103, _⟩ => ⟨S_, .f32⟩
  | .hbm, ⟨104, _⟩ => ⟨S8192x64, .f32⟩
  | .hbm, ⟨105, _⟩ => ⟨S8192x8x128, .f32⟩
  | .hbm, ⟨106, _⟩ => ⟨S8192x8x128, .bf16⟩
  | .hbm, ⟨107, _⟩ => ⟨S8192x8x64, .f32⟩
  | .hbm, ⟨108, _⟩ => ⟨S8192x8x64, .bf16⟩
  | .hbm, ⟨109, _⟩ => ⟨S8192x8x128, .f32⟩
  | .hbm, ⟨110, _⟩ => ⟨S8192x8x128, .bf16⟩
  | .hbm, ⟨111, _⟩ => ⟨S8192x64, .bf16⟩
  | .hbm, ⟨112, _⟩ => ⟨S8192x8x128, .bf16⟩
  | .local _ .vmem, ⟨0, _⟩ => ⟨S1x8192x256, .bf16⟩
  | .local _ .vmem, ⟨1, _⟩ => ⟨S1x8192x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x512x128, .bf16⟩
  | .local _ .vmem, ⟨5, _⟩ => ⟨S1x512x128, .bf16⟩
  | .local _ .vmem, ⟨6, _⟩ => ⟨S8192x128, .bf16⟩
  | .local _ .vmem, ⟨7, _⟩ => ⟨S8192x128, .bf16⟩
  | .local _ .vmem, ⟨8, _⟩ => ⟨S1x16x8x512, .f32⟩
  | .local _ .vmem, ⟨9, _⟩ => ⟨S1x16x8x512, .f32⟩
  | .local _ .vmem, ⟨10, _⟩ => ⟨S1x16x8x512, .f32⟩
  | .local _ .vmem, ⟨11, _⟩ => ⟨S1x16x8x512, .f32⟩
  | .local _ .vmem, ⟨12, _⟩ => ⟨S1x8192x256, .bf16⟩
  | .local _ .vmem, ⟨13, _⟩ => ⟨S1x8192x256, .bf16⟩
  | .local _ .vmem, ⟨14, _⟩ => ⟨S1x512x256, .bf16⟩
  | .local _ .vmem, ⟨15, _⟩ => ⟨S1x512x256, .bf16⟩
  | .local _ .vmem, ⟨16, _⟩ => ⟨S1x512x128, .bf16⟩
  | .local _ .vmem, ⟨17, _⟩ => ⟨S1x512x128, .bf16⟩
  | .local _ .vmem, ⟨18, _⟩ => ⟨S8192x256, .f32⟩
  | .local _ .vmem, ⟨19, _⟩ => ⟨S512x256, .f32⟩
  | .local _ .vmem, ⟨20, _⟩ => ⟨S128x512, .f32⟩
  | _, _ => ⟨S8192x8x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_0 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v18 : Ref sig .tc := ⟨.hbm, 46, rfl⟩
abbrev main_cst_1 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_cst_2 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_3 : Ref sig .tc := ⟨.hbm, 66, rfl⟩
abbrev main_v36 : Ref sig .tc := ⟨.hbm, 67, rfl⟩
abbrev main_v37 : Ref sig .tc := ⟨.hbm, 68, rfl⟩
abbrev main_cst_4 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_5 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59_0 : Ref sig .tc := ⟨.hbm, 92, rfl⟩
abbrev main_v59_1 : Ref sig .tc := ⟨.hbm, 93, rfl⟩
abbrev main_v59_2 : Ref sig .tc := ⟨.hbm, 94, rfl⟩
abbrev main_v60 : Ref sig .tc := ⟨.hbm, 95, rfl⟩
abbrev main_v61 : Ref sig .tc := ⟨.hbm, 96, rfl⟩
abbrev main_cst_6 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_7 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c512_i32 : BitVec 32 := 512#32
  let v15 : BitVec 32 := Scalar.muli arg1 c512_i32
  v15
def k0_off1 (i : grid0.Coords) : Fin 3 → Nat :=
  let c0_11 : Index := 0#32
  let arg1 : BitVec 32 := BitVec.ofNat 32 (i 1).val
  let c512_i32 : BitVec 32 := 512#32
  let v15 : BitVec 32 := Scalar.muli arg1 c512_i32
  let v16 : BitVec 32 := v15
  let v17 : Index := Scalar.indexCast v16
  let c0_12 : Index := 0#32
  ![0, v17.toNat, 0]
def k0_off2 (i : grid0.Coords) : Fin 2 → Nat :=
  let arg1 : BitVec 32 := BitVec.ofNat 32 (i 1).val
  let c512_i32 : BitVec 32 := 512#32
  let v15 : BitVec 32 := Scalar.muli arg1 c512_i32
  let v16 : BitVec 32 := v15
  let v20 : Index := Scalar.indexCast v16
  let c0_13 : Index := 0#32
  ![v20.toNat, 0]
def k0_off3 (i : grid0.Coords) : Fin 4 → Nat :=
  let c0_15 : Index := 0#32
  let arg1 : BitVec 32 := BitVec.ofNat 32 (i 1).val
  let v24 : Index := Scalar.indexCast arg1
  let c0_16 : Index := 0#32
  let c0_17 : Index := 0#32
  ![0, v24.toNat, 0, 0]
def k0_off4 (i : grid0.Coords) : Fin 2 → Nat :=
  let arg1 : BitVec 32 := BitVec.ofNat 32 (i 1).val
  let c512_i32 : BitVec 32 := 512#32
  let v15 : BitVec 32 := Scalar.muli arg1 c512_i32
  let v16 : BitVec 32 := v15
  let v106 : Index := Scalar.indexCast v16
  let c0_45 : Index := 0#32
  ![v106.toNat, 0]
@[reducible] def k0_t1_loop (i : grid0.Coords) : Scf.Loop 32 :=
  let c0_i32_55 : BitVec 32 := 0#32
  let c15_i32 : BitVec 32 := 15#32
  let arg1 : BitVec 32 := BitVec.ofNat 32 (i 1).val
  let v114 : BitVec 32 := Scalar.subi c15_i32 arg1
  let c0_i32_48 : BitVec 32 := 0#32
  let v116 : BitVec 1 := Scalar.cmpi .sgt v114 c0_i32_48
  let v117 : BitVec 32 := Scalar.extui v116
  let c0_i32_49 : BitVec 32 := 0#32
  let v118 : BitVec 1 := Scalar.cmpi .slt v114 c0_i32_49
  let v119 : BitVec 32 := Scalar.extui v118
  let v120 : BitVec 32 := Scalar.subi v117 v119
  let c2_i32 : BitVec 32 := 2#32
  let c0_i32_50 : BitVec 32 := 0#32
  let v121 : BitVec 1 := Scalar.cmpi .sgt c2_i32 c0_i32_50
  let v122 : BitVec 32 := Scalar.extui v121
  let c0_i32_51 : BitVec 32 := 0#32
  let v123 : BitVec 1 := Scalar.cmpi .slt c2_i32 c0_i32_51
  let v124 : BitVec 32 := Scalar.extui v123
  let v125 : BitVec 32 := Scalar.subi v122 v124
  let v126 : BitVec 1 := Scalar.cmpi .ne v120 v125
  let v127 : BitVec 32 := Scalar.remsi v114 c2_i32
  let c0_i32_52 : BitVec 32 := 0#32
  let v128 : BitVec 1 := Scalar.cmpi .ne v127 c0_i32_52
  let v129 : BitVec 1 := Scalar.andi v126 v128
  let v115 : BitVec 32 := Scalar.divsi v114 c2_i32
  let c1_i32_53 : BitVec 32 := 1#32
  let v130 : BitVec 32 := Scalar.subi v115 c1_i32_53
  let v131 : BitVec 32 := Scalar.select v129 v130 v115
  let v132 : BitVec 32 := Scalar.subi v131 c0_i32_55
  let c1_i32_56 : BitVec 32 := 1#32
  let v134 : BitVec 32 := Scalar.divsi v132 c1_i32_56
  let v135 : BitVec 32 := Scalar.muli v134 c1_i32_56
  let v136 : BitVec 32 := Scalar.addi c0_i32_55 v135
  let c1_i32_57 : BitVec 32 := 1#32
  ⟨c0_i32_55, v136, c1_i32_57⟩
def k0_mult2 (i : grid0.Coords) (k0_t1 : Fin (k0_t1_loop i).trips) : BitVec 32 :=
  let arg1 : BitVec 32 := BitVec.ofNat 32 (i 1).val
  let c1_i32_79 : BitVec 32 := 1#32
  let v164 : BitVec 32 := Scalar.addi arg1 c1_i32_79
  let c2_i32_80 : BitVec 32 := 2#32
  let c0_i32_55 : BitVec 32 := 0#32
  let c1_i32_57 : BitVec 32 := 1#32
  let arg14 : BitVec 32 := Scf.iv c0_i32_55 c1_i32_57 k0_t1
  let v165 : BitVec 32 := Scalar.muli c2_i32_80 arg14
  let v166 : BitVec 32 := Scalar.addi v164 v165
  let c512_i32_81 : BitVec 32 := 512#32
  let v167 : BitVec 32 := Scalar.muli v166 c512_i32_81
  v167
def k0_off5 (i : grid0.Coords) (k0_t1 : Fin (k0_t1_loop i).trips) (c1_i32_79 : BitVec 32) : Fin 3 → Nat :=
  let c0_82 : Index := 0#32
  let arg1 : BitVec 32 := BitVec.ofNat 32 (i 1).val
  let v164 : BitVec 32 := Scalar.addi arg1 c1_i32_79
  let c2_i32_80 : BitVec 32 := 2#32
  let c0_i32_55 : BitVec 32 := 0#32
  let c1_i32_57 : BitVec 32 := 1#32
  let arg14 : BitVec 32 := Scf.iv c0_i32_55 c1_i32_57 k0_t1
  let v165 : BitVec 32 := Scalar.muli c2_i32_80 arg14
  let v166 : BitVec 32 := Scalar.addi v164 v165
  let c512_i32_81 : BitVec 32 := 512#32
  let v167 : BitVec 32 := Scalar.muli v166 c512_i32_81
  let v168 : BitVec 32 := v167
  let v169 : Index := Scalar.indexCast v168
  let c0_83 : Index := 0#32
  ![0, v169.toNat, 0]
def k0_off6 (i : grid0.Coords) (k0_t1 : Fin (k0_t1_loop i).trips) (c1_i32_79 : BitVec 32) : Fin 2 → Nat :=
  let arg1 : BitVec 32 := BitVec.ofNat 32 (i 1).val
  let v164 : BitVec 32 := Scalar.addi arg1 c1_i32_79
  let c2_i32_80 : BitVec 32 := 2#32
  let c0_i32_55 : BitVec 32 := 0#32
  let c1_i32_57 : BitVec 32 := 1#32
  let arg14 : BitVec 32 := Scf.iv c0_i32_55 c1_i32_57 k0_t1
  let v165 : BitVec 32 := Scalar.muli c2_i32_80 arg14
  let v166 : BitVec 32 := Scalar.addi v164 v165
  let c512_i32_81 : BitVec 32 := 512#32
  let v167 : BitVec 32 := Scalar.muli v166 c512_i32_81
  let v168 : BitVec 32 := v167
  let v172 : Index := Scalar.indexCast v168
  let c0_84 : Index := 0#32
  ![v172.toNat, 0]
def k0_off7 (i : grid0.Coords) (k0_t1 : Fin (k0_t1_loop i).trips) (c1_i32_79 : BitVec 32) : Fin 4 → Nat :=
  let c0_86 : Index := 0#32
  let arg1 : BitVec 32 := BitVec.ofNat 32 (i 1).val
  let v164 : BitVec 32 := Scalar.addi arg1 c1_i32_79
  let c2_i32_80 : BitVec 32 := 2#32
  let c0_i32_55 : BitVec 32 := 0#32
  let c1_i32_57 : BitVec 32 := 1#32
  let arg14 : BitVec 32 := Scf.iv c0_i32_55 c1_i32_57 k0_t1
  let v165 : BitVec 32 := Scalar.muli c2_i32_80 arg14
  let v166 : BitVec 32 := Scalar.addi v164 v165
  let v176 : Index := Scalar.indexCast v166
  let c0_87 : Index := 0#32
  let c0_88 : Index := 0#32
  ![0, v176.toNat, 0, 0]
def k0_off8 (i : grid0.Coords) (k0_t1 : Fin (k0_t1_loop i).trips) (c1_i32_79 : BitVec 32) : Fin 2 → Nat :=
  let arg1 : BitVec 32 := BitVec.ofNat 32 (i 1).val
  let v164 : BitVec 32 := Scalar.addi arg1 c1_i32_79
  let c2_i32_80 : BitVec 32 := 2#32
  let c0_i32_55 : BitVec 32 := 0#32
  let c1_i32_57 : BitVec 32 := 1#32
  let arg14 : BitVec 32 := Scf.iv c0_i32_55 c1_i32_57 k0_t1
  let v165 : BitVec 32 := Scalar.muli c2_i32_80 arg14
  let v166 : BitVec 32 := Scalar.addi v164 v165
  let c512_i32_81 : BitVec 32 := 512#32
  let v167 : BitVec 32 := Scalar.muli v166 c512_i32_81
  let v168 : BitVec 32 := v167
  let v205 : Index := Scalar.indexCast v168
  let c0_103 : Index := 0#32
  ![v205.toNat, 0]
def k0_mult3 (i : grid0.Coords) (k0_t1 : Fin (k0_t1_loop i).trips) : BitVec 32 :=
  let arg1 : BitVec 32 := BitVec.ofNat 32 (i 1).val
  let c2_i32_106 : BitVec 32 := 2#32
  let v213 : BitVec 32 := Scalar.addi arg1 c2_i32_106
  let c2_i32_107 : BitVec 32 := 2#32
  let c0_i32_55 : BitVec 32 := 0#32
  let c1_i32_57 : BitVec 32 := 1#32
  let arg14 : BitVec 32 := Scf.iv c0_i32_55 c1_i32_57 k0_t1
  let v214 : BitVec 32 := Scalar.muli c2_i32_107 arg14
  let v215 : BitVec 32 := Scalar.addi v213 v214
  let c512_i32_108 : BitVec 32 := 512#32
  let v216 : BitVec 32 := Scalar.muli v215 c512_i32_108
  v216
@[reducible] def k0_t2_loop (i : grid0.Coords) : Scf.Loop 32 :=
  let c0_i32_55 : BitVec 32 := 0#32
  let c15_i32 : BitVec 32 := 15#32
  let arg1 : BitVec 32 := BitVec.ofNat 32 (i 1).val
  let v114 : BitVec 32 := Scalar.subi c15_i32 arg1
  let c0_i32_48 : BitVec 32 := 0#32
  let v116 : BitVec 1 := Scalar.cmpi .sgt v114 c0_i32_48
  let v117 : BitVec 32 := Scalar.extui v116
  let c0_i32_49 : BitVec 32 := 0#32
  let v118 : BitVec 1 := Scalar.cmpi .slt v114 c0_i32_49
  let v119 : BitVec 32 := Scalar.extui v118
  let v120 : BitVec 32 := Scalar.subi v117 v119
  let c2_i32 : BitVec 32 := 2#32
  let c0_i32_50 : BitVec 32 := 0#32
  let v121 : BitVec 1 := Scalar.cmpi .sgt c2_i32 c0_i32_50
  let v122 : BitVec 32 := Scalar.extui v121
  let c0_i32_51 : BitVec 32 := 0#32
  let v123 : BitVec 1 := Scalar.cmpi .slt c2_i32 c0_i32_51
  let v124 : BitVec 32 := Scalar.extui v123
  let v125 : BitVec 32 := Scalar.subi v122 v124
  let v126 : BitVec 1 := Scalar.cmpi .ne v120 v125
  let v127 : BitVec 32 := Scalar.remsi v114 c2_i32
  let c0_i32_52 : BitVec 32 := 0#32
  let v128 : BitVec 1 := Scalar.cmpi .ne v127 c0_i32_52
  let v129 : BitVec 1 := Scalar.andi v126 v128
  let v115 : BitVec 32 := Scalar.divsi v114 c2_i32
  let c1_i32_53 : BitVec 32 := 1#32
  let v130 : BitVec 32 := Scalar.subi v115 c1_i32_53
  let v131 : BitVec 32 := Scalar.select v129 v130 v115
  let v132 : BitVec 32 := Scalar.subi v131 c0_i32_55
  let c1_i32_56 : BitVec 32 := 1#32
  let v134 : BitVec 32 := Scalar.divsi v132 c1_i32_56
  let v135 : BitVec 32 := Scalar.muli v134 c1_i32_56
  let v136 : BitVec 32 := Scalar.addi c0_i32_55 v135
  let v133 : BitVec 32 := Scalar.addi c0_i32_55 v132
  let c1_i32_58 : BitVec 32 := 1#32
  ⟨v136, v133, c1_i32_58⟩
def k0_mult4 (i : grid0.Coords) (k0_t2 : Fin (k0_t2_loop i).trips) : BitVec 32 :=
  let arg1 : BitVec 32 := BitVec.ofNat 32 (i 1).val
  let c1_i32_79 : BitVec 32 := 1#32
  let v164 : BitVec 32 := Scalar.addi arg1 c1_i32_79
  let c2_i32_80 : BitVec 32 := 2#32
  let c0_i32_55 : BitVec 32 := 0#32
  let c15_i32 : BitVec 32 := 15#32
  let v114 : BitVec 32 := Scalar.subi c15_i32 arg1
  let c0_i32_48 : BitVec 32 := 0#32
  let v116 : BitVec 1 := Scalar.cmpi .sgt v114 c0_i32_48
  let v117 : BitVec 32 := Scalar.extui v116
  let c0_i32_49 : BitVec 32 := 0#32
  let v118 : BitVec 1 := Scalar.cmpi .slt v114 c0_i32_49
  let v119 : BitVec 32 := Scalar.extui v118
  let v120 : BitVec 32 := Scalar.subi v117 v119
  let c2_i32 : BitVec 32 := 2#32
  let c0_i32_50 : BitVec 32 := 0#32
  let v121 : BitVec 1 := Scalar.cmpi .sgt c2_i32 c0_i32_50
  let v122 : BitVec 32 := Scalar.extui v121
  let c0_i32_51 : BitVec 32 := 0#32
  let v123 : BitVec 1 := Scalar.cmpi .slt c2_i32 c0_i32_51
  let v124 : BitVec 32 := Scalar.extui v123
  let v125 : BitVec 32 := Scalar.subi v122 v124
  let v126 : BitVec 1 := Scalar.cmpi .ne v120 v125
  let v127 : BitVec 32 := Scalar.remsi v114 c2_i32
  let c0_i32_52 : BitVec 32 := 0#32
  let v128 : BitVec 1 := Scalar.cmpi .ne v127 c0_i32_52
  let v129 : BitVec 1 := Scalar.andi v126 v128
  let v115 : BitVec 32 := Scalar.divsi v114 c2_i32
  let c1_i32_53 : BitVec 32 := 1#32
  let v130 : BitVec 32 := Scalar.subi v115 c1_i32_53
  let v131 : BitVec 32 := Scalar.select v129 v130 v115
  let v132 : BitVec 32 := Scalar.subi v131 c0_i32_55
  let c1_i32_56 : BitVec 32 := 1#32
  let v134 : BitVec 32 := Scalar.divsi v132 c1_i32_56
  let v135 : BitVec 32 := Scalar.muli v134 c1_i32_56
  let v136 : BitVec 32 := Scalar.addi c0_i32_55 v135
  let c1_i32_58 : BitVec 32 := 1#32
  let arg14 : BitVec 32 := Scf.iv v136 c1_i32_58 k0_t2
  let v165 : BitVec 32 := Scalar.muli c2_i32_80 arg14
  let v166 : BitVec 32 := Scalar.addi v164 v165
  let c512_i32_81 : BitVec 32 := 512#32
  let v167 : BitVec 32 := Scalar.muli v166 c512_i32_81
  v167
def k0_off9 (i : grid0.Coords) (k0_t2 : Fin (k0_t2_loop i).trips) (c1_i32_79 : BitVec 32) : Fin 3 → Nat :=
  let c0_82 : Index := 0#32
  let arg1 : BitVec 32 := BitVec.ofNat 32 (i 1).val
  let v164 : BitVec 32 := Scalar.addi arg1 c1_i32_79
  let c2_i32_80 : BitVec 32 := 2#32
  let c0_i32_55 : BitVec 32 := 0#32
  let c15_i32 : BitVec 32 := 15#32
  let v114 : BitVec 32 := Scalar.subi c15_i32 arg1
  let c0_i32_48 : BitVec 32 := 0#32
  let v116 : BitVec 1 := Scalar.cmpi .sgt v114 c0_i32_48
  let v117 : BitVec 32 := Scalar.extui v116
  let c0_i32_49 : BitVec 32 := 0#32
  let v118 : BitVec 1 := Scalar.cmpi .slt v114 c0_i32_49
  let v119 : BitVec 32 := Scalar.extui v118
  let v120 : BitVec 32 := Scalar.subi v117 v119
  let c2_i32 : BitVec 32 := 2#32
  let c0_i32_50 : BitVec 32 := 0#32
  let v121 : BitVec 1 := Scalar.cmpi .sgt c2_i32 c0_i32_50
  let v122 : BitVec 32 := Scalar.extui v121
  let c0_i32_51 : BitVec 32 := 0#32
  let v123 : BitVec 1 := Scalar.cmpi .slt c2_i32 c0_i32_51
  let v124 : BitVec 32 := Scalar.extui v123
  let v125 : BitVec 32 := Scalar.subi v122 v124
  let v126 : BitVec 1 := Scalar.cmpi .ne v120 v125
  let v127 : BitVec 32 := Scalar.remsi v114 c2_i32
  let c0_i32_52 : BitVec 32 := 0#32
  let v128 : BitVec 1 := Scalar.cmpi .ne v127 c0_i32_52
  let v129 : BitVec 1 := Scalar.andi v126 v128
  let v115 : BitVec 32 := Scalar.divsi v114 c2_i32
  let c1_i32_53 : BitVec 32 := 1#32
  let v130 : BitVec 32 := Scalar.subi v115 c1_i32_53
  let v131 : BitVec 32 := Scalar.select v129 v130 v115
  let v132 : BitVec 32 := Scalar.subi v131 c0_i32_55
  let c1_i32_56 : BitVec 32 := 1#32
  let v134 : BitVec 32 := Scalar.divsi v132 c1_i32_56
  let v135 : BitVec 32 := Scalar.muli v134 c1_i32_56
  let v136 : BitVec 32 := Scalar.addi c0_i32_55 v135
  let c1_i32_58 : BitVec 32 := 1#32
  let arg14 : BitVec 32 := Scf.iv v136 c1_i32_58 k0_t2
  let v165 : BitVec 32 := Scalar.muli c2_i32_80 arg14
  let v166 : BitVec 32 := Scalar.addi v164 v165
  let c512_i32_81 : BitVec 32 := 512#32
  let v167 : BitVec 32 := Scalar.muli v166 c512_i32_81
  let v168 : BitVec 32 := v167
  let v169 : Index := Scalar.indexCast v168
  let c0_83 : Index := 0#32
  ![0, v169.toNat, 0]
def k0_off10 (i : grid0.Coords) (k0_t2 : Fin (k0_t2_loop i).trips) (c1_i32_79 : BitVec 32) : Fin 2 → Nat :=
  let arg1 : BitVec 32 := BitVec.ofNat 32 (i 1).val
  let v164 : BitVec 32 := Scalar.addi arg1 c1_i32_79
  let c2_i32_80 : BitVec 32 := 2#32
  let c0_i32_55 : BitVec 32 := 0#32
  let c15_i32 : BitVec 32 := 15#32
  let v114 : BitVec 32 := Scalar.subi c15_i32 arg1
  let c0_i32_48 : BitVec 32 := 0#32
  let v116 : BitVec 1 := Scalar.cmpi .sgt v114 c0_i32_48
  let v117 : BitVec 32 := Scalar.extui v116
  let c0_i32_49 : BitVec 32 := 0#32
  let v118 : BitVec 1 := Scalar.cmpi .slt v114 c0_i32_49
  let v119 : BitVec 32 := Scalar.extui v118
  let v120 : BitVec 32 := Scalar.subi v117 v119
  let c2_i32 : BitVec 32 := 2#32
  let c0_i32_50 : BitVec 32 := 0#32
  let v121 : BitVec 1 := Scalar.cmpi .sgt c2_i32 c0_i32_50
  let v122 : BitVec 32 := Scalar.extui v121
  let c0_i32_51 : BitVec 32 := 0#32
  let v123 : BitVec 1 := Scalar.cmpi .slt c2_i32 c0_i32_51
  let v124 : BitVec 32 := Scalar.extui v123
  let v125 : BitVec 32 := Scalar.subi v122 v124
  let v126 : BitVec 1 := Scalar.cmpi .ne v120 v125
  let v127 : BitVec 32 := Scalar.remsi v114 c2_i32
  let c0_i32_52 : BitVec 32 := 0#32
  let v128 : BitVec 1 := Scalar.cmpi .ne v127 c0_i32_52
  let v129 : BitVec 1 := Scalar.andi v126 v128
  let v115 : BitVec 32 := Scalar.divsi v114 c2_i32
  let c1_i32_53 : BitVec 32 := 1#32
  let v130 : BitVec 32 := Scalar.subi v115 c1_i32_53
  let v131 : BitVec 32 := Scalar.select v129 v130 v115
  let v132 : BitVec 32 := Scalar.subi v131 c0_i32_55
  let c1_i32_56 : BitVec 32 := 1#32
  let v134 : BitVec 32 := Scalar.divsi v132 c1_i32_56
  let v135 : BitVec 32 := Scalar.muli v134 c1_i32_56
  let v136 : BitVec 32 := Scalar.addi c0_i32_55 v135
  let c1_i32_58 : BitVec 32 := 1#32
  let arg14 : BitVec 32 := Scf.iv v136 c1_i32_58 k0_t2
  let v165 : BitVec 32 := Scalar.muli c2_i32_80 arg14
  let v166 : BitVec 32 := Scalar.addi v164 v165
  let c512_i32_81 : BitVec 32 := 512#32
  let v167 : BitVec 32 := Scalar.muli v166 c512_i32_81
  let v168 : BitVec 32 := v167
  let v172 : Index := Scalar.indexCast v168
  let c0_84 : Index := 0#32
  ![v172.toNat, 0]
def k0_off11 (i : grid0.Coords) (k0_t2 : Fin (k0_t2_loop i).trips) (c1_i32_79 : BitVec 32) : Fin 4 → Nat :=
  let c0_86 : Index := 0#32
  let arg1 : BitVec 32 := BitVec.ofNat 32 (i 1).val
  let v164 : BitVec 32 := Scalar.addi arg1 c1_i32_79
  let c2_i32_80 : BitVec 32 := 2#32
  let c0_i32_55 : BitVec 32 := 0#32
  let c15_i32 : BitVec 32 := 15#32
  let v114 : BitVec 32 := Scalar.subi c15_i32 arg1
  let c0_i32_48 : BitVec 32 := 0#32
  let v116 : BitVec 1 := Scalar.cmpi .sgt v114 c0_i32_48
  let v117 : BitVec 32 := Scalar.extui v116
  let c0_i32_49 : BitVec 32 := 0#32
  let v118 : BitVec 1 := Scalar.cmpi .slt v114 c0_i32_49
  let v119 : BitVec 32 := Scalar.extui v118
  let v120 : BitVec 32 := Scalar.subi v117 v119
  let c2_i32 : BitVec 32 := 2#32
  let c0_i32_50 : BitVec 32 := 0#32
  let v121 : BitVec 1 := Scalar.cmpi .sgt c2_i32 c0_i32_50
  let v122 : BitVec 32 := Scalar.extui v121
  let c0_i32_51 : BitVec 32 := 0#32
  let v123 : BitVec 1 := Scalar.cmpi .slt c2_i32 c0_i32_51
  let v124 : BitVec 32 := Scalar.extui v123
  let v125 : BitVec 32 := Scalar.subi v122 v124
  let v126 : BitVec 1 := Scalar.cmpi .ne v120 v125
  let v127 : BitVec 32 := Scalar.remsi v114 c2_i32
  let c0_i32_52 : BitVec 32 := 0#32
  let v128 : BitVec 1 := Scalar.cmpi .ne v127 c0_i32_52
  let v129 : BitVec 1 := Scalar.andi v126 v128
  let v115 : BitVec 32 := Scalar.divsi v114 c2_i32
  let c1_i32_53 : BitVec 32 := 1#32
  let v130 : BitVec 32 := Scalar.subi v115 c1_i32_53
  let v131 : BitVec 32 := Scalar.select v129 v130 v115
  let v132 : BitVec 32 := Scalar.subi v131 c0_i32_55
  let c1_i32_56 : BitVec 32 := 1#32
  let v134 : BitVec 32 := Scalar.divsi v132 c1_i32_56
  let v135 : BitVec 32 := Scalar.muli v134 c1_i32_56
  let v136 : BitVec 32 := Scalar.addi c0_i32_55 v135
  let c1_i32_58 : BitVec 32 := 1#32
  let arg14 : BitVec 32 := Scf.iv v136 c1_i32_58 k0_t2
  let v165 : BitVec 32 := Scalar.muli c2_i32_80 arg14
  let v166 : BitVec 32 := Scalar.addi v164 v165
  let v176 : Index := Scalar.indexCast v166
  let c0_87 : Index := 0#32
  let c0_88 : Index := 0#32
  ![0, v176.toNat, 0, 0]
def k0_off12 (i : grid0.Coords) (k0_t2 : Fin (k0_t2_loop i).trips) (c1_i32_79 : BitVec 32) : Fin 2 → Nat :=
  let arg1 : BitVec 32 := BitVec.ofNat 32 (i 1).val
  let v164 : BitVec 32 := Scalar.addi arg1 c1_i32_79
  let c2_i32_80 : BitVec 32 := 2#32
  let c0_i32_55 : BitVec 32 := 0#32
  let c15_i32 : BitVec 32 := 15#32
  let v114 : BitVec 32 := Scalar.subi c15_i32 arg1
  let c0_i32_48 : BitVec 32 := 0#32
  let v116 : BitVec 1 := Scalar.cmpi .sgt v114 c0_i32_48
  let v117 : BitVec 32 := Scalar.extui v116
  let c0_i32_49 : BitVec 32 := 0#32
  let v118 : BitVec 1 := Scalar.cmpi .slt v114 c0_i32_49
  let v119 : BitVec 32 := Scalar.extui v118
  let v120 : BitVec 32 := Scalar.subi v117 v119
  let c2_i32 : BitVec 32 := 2#32
  let c0_i32_50 : BitVec 32 := 0#32
  let v121 : BitVec 1 := Scalar.cmpi .sgt c2_i32 c0_i32_50
  let v122 : BitVec 32 := Scalar.extui v121
  let c0_i32_51 : BitVec 32 := 0#32
  let v123 : BitVec 1 := Scalar.cmpi .slt c2_i32 c0_i32_51
  let v124 : BitVec 32 := Scalar.extui v123
  let v125 : BitVec 32 := Scalar.subi v122 v124
  let v126 : BitVec 1 := Scalar.cmpi .ne v120 v125
  let v127 : BitVec 32 := Scalar.remsi v114 c2_i32
  let c0_i32_52 : BitVec 32 := 0#32
  let v128 : BitVec 1 := Scalar.cmpi .ne v127 c0_i32_52
  let v129 : BitVec 1 := Scalar.andi v126 v128
  let v115 : BitVec 32 := Scalar.divsi v114 c2_i32
  let c1_i32_53 : BitVec 32 := 1#32
  let v130 : BitVec 32 := Scalar.subi v115 c1_i32_53
  let v131 : BitVec 32 := Scalar.select v129 v130 v115
  let v132 : BitVec 32 := Scalar.subi v131 c0_i32_55
  let c1_i32_56 : BitVec 32 := 1#32
  let v134 : BitVec 32 := Scalar.divsi v132 c1_i32_56
  let v135 : BitVec 32 := Scalar.muli v134 c1_i32_56
  let v136 : BitVec 32 := Scalar.addi c0_i32_55 v135
  let c1_i32_58 : BitVec 32 := 1#32
  let arg14 : BitVec 32 := Scf.iv v136 c1_i32_58 k0_t2
  let v165 : BitVec 32 := Scalar.muli c2_i32_80 arg14
  let v166 : BitVec 32 := Scalar.addi v164 v165
  let c512_i32_81 : BitVec 32 := 512#32
  let v167 : BitVec 32 := Scalar.muli v166 c512_i32_81
  let v168 : BitVec 32 := v167
  let v205 : Index := Scalar.indexCast v168
  let c0_103 : Index := 0#32
  ![v205.toNat, 0]
def k0_mult5 (i : grid0.Coords) (k0_t2 : Fin (k0_t2_loop i).trips) : BitVec 32 :=
  let arg1 : BitVec 32 := BitVec.ofNat 32 (i 1).val
  let c2_i32_106 : BitVec 32 := 2#32
  let v213 : BitVec 32 := Scalar.addi arg1 c2_i32_106
  let c2_i32_107 : BitVec 32 := 2#32
  let c0_i32_55 : BitVec 32 := 0#32
  let c15_i32 : BitVec 32 := 15#32
  let v114 : BitVec 32 := Scalar.subi c15_i32 arg1
  let c0_i32_48 : BitVec 32 := 0#32
  let v116 : BitVec 1 := Scalar.cmpi .sgt v114 c0_i32_48
  let v117 : BitVec 32 := Scalar.extui v116
  let c0_i32_49 : BitVec 32 := 0#32
  let v118 : BitVec 1 := Scalar.cmpi .slt v114 c0_i32_49
  let v119 : BitVec 32 := Scalar.extui v118
  let v120 : BitVec 32 := Scalar.subi v117 v119
  let c2_i32 : BitVec 32 := 2#32
  let c0_i32_50 : BitVec 32 := 0#32
  let v121 : BitVec 1 := Scalar.cmpi .sgt c2_i32 c0_i32_50
  let v122 : BitVec 32 := Scalar.extui v121
  let c0_i32_51 : BitVec 32 := 0#32
  let v123 : BitVec 1 := Scalar.cmpi .slt c2_i32 c0_i32_51
  let v124 : BitVec 32 := Scalar.extui v123
  let v125 : BitVec 32 := Scalar.subi v122 v124
  let v126 : BitVec 1 := Scalar.cmpi .ne v120 v125
  let v127 : BitVec 32 := Scalar.remsi v114 c2_i32
  let c0_i32_52 : BitVec 32 := 0#32
  let v128 : BitVec 1 := Scalar.cmpi .ne v127 c0_i32_52
  let v129 : BitVec 1 := Scalar.andi v126 v128
  let v115 : BitVec 32 := Scalar.divsi v114 c2_i32
  let c1_i32_53 : BitVec 32 := 1#32
  let v130 : BitVec 32 := Scalar.subi v115 c1_i32_53
  let v131 : BitVec 32 := Scalar.select v129 v130 v115
  let v132 : BitVec 32 := Scalar.subi v131 c0_i32_55
  let c1_i32_56 : BitVec 32 := 1#32
  let v134 : BitVec 32 := Scalar.divsi v132 c1_i32_56
  let v135 : BitVec 32 := Scalar.muli v134 c1_i32_56
  let v136 : BitVec 32 := Scalar.addi c0_i32_55 v135
  let c1_i32_58 : BitVec 32 := 1#32
  let arg14 : BitVec 32 := Scf.iv v136 c1_i32_58 k0_t2
  let v214 : BitVec 32 := Scalar.muli c2_i32_107 arg14
  let v215 : BitVec 32 := Scalar.addi v213 v214
  let c512_i32_108 : BitVec 32 := 512#32
  let v216 : BitVec 32 := Scalar.muli v215 c512_i32_108
  v216
def k0_cond2 (i : grid0.Coords) : BitVec 1 :=
  let c15_i32 : BitVec 32 := 15#32
  let arg1 : BitVec 32 := BitVec.ofNat 32 (i 1).val
  let v114 : BitVec 32 := Scalar.subi c15_i32 arg1
  let c2_i32_59 : BitVec 32 := 2#32
  let c0_i32_60 : BitVec 32 := 0#32
  let v137 : BitVec 1 := Scalar.cmpi .eq c2_i32_59 c0_i32_60
  let c1_i32_61 : BitVec 32 := 1#32
  let v138 : BitVec 32 := Scalar.select v137 c1_i32_61 c2_i32_59
  let v139 : BitVec 32 := Scalar.remsi v114 v138
  let c0_i32_63 : BitVec 32 := 0#32
  let v141 : BitVec 1 := Scalar.cmpi .slt v139 c0_i32_63
  let c0_i32_64 : BitVec 32 := 0#32
  let v142 : BitVec 1 := Scalar.cmpi .slt v138 c0_i32_64
  let v143 : BitVec 1 := Scalar.xori v141 v142
  let c0_i32_62 : BitVec 32 := 0#32
  let v140 : BitVec 1 := Scalar.cmpi .ne v139 c0_i32_62
  let v144 : BitVec 1 := Scalar.andi v143 v140
  let v145 : BitVec 32 := Scalar.addi v139 v138
  let v146 : BitVec 32 := Scalar.select v144 v145 v139
  let c1_i32_65 : BitVec 32 := 1#32
  let v147 : BitVec 1 := Scalar.cmpi .eq v146 c1_i32_65
  let v148 : BitVec 32 := Scalar.extui v147
  let c0_i32_66 : BitVec 32 := 0#32
  let v149 : BitVec 1 := Scalar.cmpi .ne v148 c0_i32_66
  v149

def k0_mult6 : BitVec 32 :=
  let c7680_i32 : BitVec 32 := 7680#32
  c7680_i32
def k0_cond3 (i : grid0.Coords) : BitVec 1 :=
  let arg1 : BitVec 32 := BitVec.ofNat 32 (i 1).val
  let c15_i32_77 : BitVec 32 := 15#32
  let v161 : BitVec 1 := Scalar.cmpi .eq arg1 c15_i32_77
  let v162 : BitVec 32 := Scalar.extui v161
  let c0_i32_78 : BitVec 32 := 0#32
  let v163 : BitVec 1 := Scalar.cmpi .ne v162 c0_i32_78
  v163

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8192x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8192x8x128 : Shape := ⟨3, ![8192, 8, 128]⟩
abbrev S8192x8x64 : Shape := ⟨3, ![8192, 8, 64]⟩
abbrev S8192x64 : Shape := ⟨2, ![8192, 64]⟩
abbrev S8192 : Shape := ⟨1, ![8192]⟩
abbrev S_ : Shape := ⟨0, ![]⟩
abbrev S8x8192x8192 : Shape := ⟨3, ![8, 8192, 8192]⟩
abbrev S8192x8192x8 : Shape := ⟨3, ![8192, 8192, 8]⟩
abbrev S8192x1 : Shape := ⟨2, ![8192, 1]⟩
abbrev S1x8192 : Shape := ⟨2, ![1, 8192]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8x8192x128 : Shape := ⟨3, ![8, 8192, 128]⟩

abbrev nBuf : Space → Nat
  | .hbm => 127
  | .vmem => 0
  | .smem => 0
  | _ => 0

abbrev bufTy : (tb : Table) → Fin (tcTables nBuf tb) → BufTy
  | .hbm, ⟨0, _⟩ => ⟨S8192x8x128, .bf16⟩
  | .hbm, ⟨1, _⟩ => ⟨S8192x8x64, .bf16⟩
  | .hbm, ⟨2, _⟩ => ⟨S8192x8x128, .bf16⟩
  | .hbm, ⟨3, _⟩ => ⟨S8192x64, .bf16⟩
  | .hbm, ⟨4, _⟩ => ⟨S8192x8x128, .bf16⟩
  | .hbm, ⟨5, _⟩ => ⟨S8192x8x128, .bf16⟩
  | .hbm, ⟨6, _⟩ => ⟨S8192, .i32⟩
  | .hbm, ⟨7, _⟩ => ⟨S_, .i32⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S_, .i32⟩
  | .hbm, ⟨13, _⟩ => ⟨S8192, .i32⟩
  | .hbm, ⟨14, _⟩ => ⟨S8192, .i1⟩
  | .hbm, ⟨15, _⟩ => ⟨S8192, .i32⟩
  | .hbm, ⟨16, _⟩ => ⟨S8192, .i32⟩
  | .hbm, ⟨17, _⟩ => ⟨S_, .i32⟩
  | .hbm, ⟨18, _⟩ => ⟨S8192, .i32⟩
  | .hbm, ⟨19, _⟩ => ⟨S8192, .i1⟩
  | .hbm, ⟨20, _⟩ => ⟨S8192, .i1⟩
  | .hbm, ⟨21, _⟩ => ⟨S_, .i32⟩
  | .hbm, ⟨22, _⟩ => ⟨S8192, .i32⟩
  | .hbm, ⟨23, _⟩ => ⟨S8192, .i32⟩
  | .hbm, ⟨24, _⟩ => ⟨S8192, .i32⟩
  | .hbm, ⟨25, _⟩ => ⟨S8192x8x128, .f32⟩
  | .hbm, ⟨26, _⟩ => ⟨S8192x8x128, .f32⟩
  | .hbm, ⟨27, _⟩ => ⟨S8x8192x8192, .f32⟩
  | .hbm, ⟨28, _⟩ => ⟨S8192x8x64, .f32⟩
  | .hbm, ⟨29, _⟩ => ⟨S8192x64, .f32⟩
  | .hbm, ⟨30, _⟩ => ⟨S8192x8192x8, .f32⟩
  | .hbm, ⟨31, _⟩ => ⟨S8x8192x8192, .f32⟩
  | .hbm, ⟨32, _⟩ => ⟨S8x8192x8192, .f32⟩
  | .hbm, ⟨33, _⟩ => ⟨S_, .f32⟩
  | .hbm, ⟨34, _⟩ => ⟨S8x8192x8192, .f32⟩
  | .hbm, ⟨35, _⟩ => ⟨S8x8192x8192, .f32⟩
  | .hbm, ⟨36, _⟩ => ⟨S8192x1, .i32⟩
  | .hbm, ⟨37, _⟩ => ⟨S1x8192, .i32⟩
  | .hbm, ⟨38, _⟩ => ⟨S8192x8192, .i32⟩
  | .hbm, ⟨39, _⟩ => ⟨S8192x8192, .i32⟩
  | .hbm, ⟨40, _⟩ => ⟨S8192x8192, .i1⟩
  | .hbm, ⟨41, _⟩ => ⟨S1x8192x8192, .i1⟩
  | .hbm, ⟨42, _⟩ => ⟨S_, .f32⟩
  | .hbm, ⟨43, _⟩ => ⟨S_, .f32⟩
  | .hbm, ⟨44, _⟩ => ⟨S8x8192x8192, .i1⟩
  | .hbm, ⟨45, _⟩ => ⟨S8x8192x8192, .f32⟩
  | .hbm, ⟨46, _⟩ => ⟨S8x8192x8192, .f32⟩
  | .hbm, ⟨47, _⟩ => ⟨S_, .f32⟩
  | .hbm, ⟨48, _⟩ => ⟨S8x8192x8192, .f32⟩
  | .hbm, ⟨49, _⟩ => ⟨S_, .f32⟩
  | .hbm, ⟨50, _⟩ => ⟨S8x8192, .f32⟩
  | .hbm, ⟨51, _⟩ => ⟨S8x8192x1, .f32⟩
  | .hbm, ⟨52, _⟩ => ⟨S8x8192x8192, .f32⟩
  | .hbm, ⟨53, _⟩ => ⟨S8x8192x8192, .i1⟩
  | .hbm, ⟨54, _⟩ => ⟨S8x8192x8192, .f32⟩
  | .hbm, ⟨55, _⟩ => ⟨S_, .f32⟩
  | .hbm, ⟨56, _⟩ => ⟨S8x8192, .f32⟩
  | .hbm, ⟨57, _⟩ => ⟨S_, .f32⟩
  | .hbm, ⟨58, _⟩ => ⟨S8x8192, .f32⟩
  | .hbm, ⟨59, _⟩ => ⟨S8x8192, .f32⟩
  | .hbm, ⟨60, _⟩ => ⟨S_, .f32⟩
  | .hbm, ⟨61, _⟩ => ⟨S8x8192, .f32⟩
  | .hbm, ⟨62, _⟩ => ⟨S8x8192, .i1⟩
  | .hbm, ⟨63, _⟩ => ⟨S_, .f32⟩
  | .hbm, ⟨64, _⟩ => ⟨S8x8192, .f32⟩
  | .hbm, ⟨65, _⟩ => ⟨S8x8192, .i1⟩
  | .hbm, ⟨66, _⟩ => ⟨S_, .f32⟩
  | .hbm, ⟨67, _⟩ => ⟨S8x8192, .f32⟩
  | .hbm, ⟨68, _⟩ => ⟨S_, .f32⟩
  | .hbm, ⟨69, _⟩ => ⟨S8x8192, .f32⟩
  | .hbm, ⟨70, _⟩ => ⟨S_, .f32⟩
  | .hbm, ⟨71, _⟩ => ⟨S8x8192, .f32⟩
  | .hbm, ⟨72, _⟩ => ⟨S8x8192, .f32⟩
  | .hbm, ⟨73, _⟩ => ⟨S8x8192, .f32⟩
  | .hbm, ⟨74, _⟩ => ⟨S8x8192x1, .f32⟩
  | .hbm, ⟨75, _⟩ => ⟨S8x8192x8192, .f32⟩
  | .hbm, ⟨76, _⟩ => ⟨S8x8192x8192, .f32⟩
  | .hbm, ⟨77, _⟩ => ⟨S8x8192x8192, .f32⟩
  | .hbm, ⟨78, _⟩ => ⟨S_, .f32⟩
  | .hbm, ⟨79, _⟩ => ⟨S8x8192, .f32⟩
  | .hbm, ⟨80, _⟩ => ⟨S8x8192x1, .f32⟩
  | .hbm, ⟨81, _⟩ => ⟨S8x8192x8192, .f32⟩
  | .hbm, ⟨82, _⟩ => ⟨S8x8192x8192, .f32⟩
  | .hbm, ⟨83, _⟩ => ⟨S8x8192x1, .f32⟩
  | .hbm, ⟨84, _⟩ => ⟨S_, .f32⟩
  | .hbm, ⟨85, _⟩ => ⟨S8x8192x1, .f32⟩
  | .hbm, ⟨86, _⟩ => ⟨S8x8192x1, .f32⟩
  | .hbm, ⟨87, _⟩ => ⟨S8192x8x128, .f32⟩
  | .hbm, ⟨88, _⟩ => ⟨S8x128x8192, .f32⟩
  | .hbm, ⟨89, _⟩ => ⟨S8192x8x128, .f32⟩
  | .hbm, ⟨90, _⟩ => ⟨S8192x8x128, .f32⟩
  | .hbm, ⟨91, _⟩ => ⟨S8x128x8192, .f32⟩
  | .hbm, ⟨92, _⟩ => ⟨S8x8192x8192, .f32⟩
  | .hbm, ⟨93, _⟩ => ⟨S8x128x8192, .f32⟩
  | .hbm, ⟨94, _⟩ => ⟨S8192x8x128, .f32⟩
  | .hbm, ⟨95, _⟩ => ⟨S8192x8x128, .bf16⟩
  | .hbm, ⟨96, _⟩ => ⟨S8x8192x8192, .f32⟩
  | .hbm, ⟨97, _⟩ => ⟨S8x8192x8192, .f32⟩
  | .hbm, ⟨98, _⟩ => ⟨S8x8192x8192, .f32⟩
  | .hbm, ⟨99, _⟩ => ⟨S_, .f32⟩
  | .hbm, ⟨100, _⟩ => ⟨S8x8192, .f32⟩
  | .hbm, ⟨101, _⟩ => ⟨S8x8192x1, .f32⟩
  | .hbm, ⟨102, _⟩ => ⟨S8x8192x1, .f32⟩
  | .hbm, ⟨103, _⟩ => ⟨S8x8192x8192, .f32⟩
  | .hbm, ⟨104, _⟩ => ⟨S8x8192x8192, .f32⟩
  | .hbm, ⟨105, _⟩ => ⟨S_, .f32⟩
  | .hbm, ⟨106, _⟩ => ⟨S8x8192, .f32⟩
  | .hbm, ⟨107, _⟩ => ⟨S8x8192x8192, .f32⟩
  | .hbm, ⟨108, _⟩ => ⟨S8x8192x8192, .f32⟩
  | .hbm, ⟨109, _⟩ => ⟨S8x8192x8192, .f32⟩
  | .hbm, ⟨110, _⟩ => ⟨S_, .f32⟩
  | .hbm, ⟨111, _⟩ => ⟨S8x8192x8192, .f32⟩
  | .hbm, ⟨112, _⟩ => ⟨S8x8192x8192, .f32⟩
  | .hbm, ⟨113, _⟩ => ⟨S_, .f32⟩
  | .hbm, ⟨114, _⟩ => ⟨S8x8192x8192, .f32⟩
  | .hbm, ⟨115, _⟩ => ⟨S8x8192x8192, .f32⟩
  | .hbm, ⟨116, _⟩ => ⟨S8192x8192x8, .f32⟩
  | .hbm, ⟨117, _⟩ => ⟨S8192x8x64, .f32⟩
  | .hbm, ⟨118, _⟩ => ⟨S8192x64, .f32⟩
  | .hbm, ⟨119, _⟩ => ⟨S8192x64, .bf16⟩
  | .hbm, ⟨120, _⟩ => ⟨S8192x8x64, .bf16⟩
  | .hbm, ⟨121, _⟩ => ⟨S8x8192x128, .f32⟩
  | .hbm, ⟨122, _⟩ => ⟨S8192x8x128, .f32⟩
  | .hbm, ⟨123, _⟩ => ⟨S8x8192x128, .f32⟩
  | .hbm, ⟨124, _⟩ => ⟨S8192x8x128, .f32⟩
  | .hbm, ⟨125, _⟩ => ⟨S8192x8x128, .bf16⟩
  | .hbm, ⟨126, _⟩ => ⟨S8192x8x128, .bf16⟩
  | _, _ => ⟨S8192x8x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_0 : Ref sig .tc := ⟨.hbm, 42, rfl⟩
abbrev main_call1_v0 : Ref sig .tc := ⟨.hbm, 43, rfl⟩
abbrev main_v18_1 : Ref sig .tc := ⟨.hbm, 44, rfl⟩
abbrev main_call1_v2 : Ref sig .tc := ⟨.hbm, 45, rfl⟩
abbrev main_v18_0 : Ref sig .tc := ⟨.hbm, 46, rfl⟩
abbrev main_call1_cst : Ref sig .tc := ⟨.hbm, 47, rfl⟩
abbrev main_v18_2 : Ref sig .tc := ⟨.hbm, 48, rfl⟩
abbrev main_cst_1 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_2 : Ref sig .tc := ⟨.hbm, 55, rfl⟩
abbrev main_v24 : Ref sig .tc := ⟨.hbm, 56, rfl⟩
abbrev main_cst_3 : Ref sig .tc := ⟨.hbm, 57, rfl⟩
abbrev main_v25 : Ref sig .tc := ⟨.hbm, 58, rfl⟩
abbrev main_v26 : Ref sig .tc := ⟨.hbm, 59, rfl⟩
abbrev main_cst_4 : Ref sig .tc := ⟨.hbm, 60, rfl⟩
abbrev main_v27 : Ref sig .tc := ⟨.hbm, 61, rfl⟩
abbrev main_v28 : Ref sig .tc := ⟨.hbm, 62, rfl⟩
abbrev main_cst_5 : Ref sig .tc := ⟨.hbm, 63, rfl⟩
abbrev main_v29 : Ref sig .tc := ⟨.hbm, 64, rfl⟩
abbrev main_v30 : Ref sig .tc := ⟨.hbm, 65, rfl⟩
abbrev main_cst_6 : Ref sig .tc := ⟨.hbm, 66, rfl⟩
abbrev main_v31 : Ref sig .tc := ⟨.hbm, 67, rfl⟩
abbrev main_cst_7 : Ref sig .tc := ⟨.hbm, 68, rfl⟩
abbrev main_v32 : Ref sig .tc := ⟨.hbm, 69, rfl⟩
abbrev main_cst_8 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst_9 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_cst_10 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_11 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_12 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_call2_cst : Ref sig .tc := ⟨.hbm, 110, rfl⟩
abbrev main_call2_v0 : Ref sig .tc := ⟨.hbm, 111, rfl⟩
abbrev main_v68 : Ref sig .tc := ⟨.hbm, 112, rfl⟩
abbrev main_cst_13 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩

abbrev nD : Nat := 1
abbrev τ : Topo := Topo.v7x

variable {F : FTy → Type} [FloatOps F]
-- ==== Kernel2.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8x128 : Shape := ⟨2, ![8, 128]⟩
abbrev S8x1024 : Shape := ⟨2, ![8, 1024]⟩
abbrev S256x1024 : Shape := ⟨2, ![256, 1024]⟩
abbrev S256x2816 : Shape := ⟨2, ![256, 2816]⟩
abbrev S3 : Shape := ⟨1, ![3]⟩
abbrev S1 : Shape := ⟨1, ![1]⟩
abbrev S256 : Shape := ⟨1, ![256]⟩
abbrev S256x1 : Shape := ⟨2, ![256, 1]⟩

abbrev nBuf : Space → Nat
  | .hbm => 40
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .bf16⟩
  | .hbm, ⟨25, _⟩ => ⟨S8192x2816, .bf16⟩
  | .hbm, ⟨26, _⟩ => ⟨S2816x1024, .f32⟩
  | .hbm, ⟨27, _⟩ => ⟨S2816x1024, .bf16⟩
  | .hbm, ⟨28, _⟩ => ⟨S2816x1024, .f32⟩
  | .hbm, ⟨29, _⟩ => ⟨S2816x1024, .bf16⟩
  | .hbm, ⟨30, _⟩ => ⟨S2816x1024, .bf16⟩
  | .hbm, ⟨31, _⟩ => ⟨S_, .f32⟩
  | .hbm, ⟨32, _⟩ => ⟨S8x128, .f32⟩
  | .hbm, ⟨33, _⟩ => ⟨S1x1024, .f32⟩
  | .hbm, ⟨34, _⟩ => ⟨S8192x1024, .f32⟩
  | .hbm, ⟨35, _⟩ => ⟨S8x1024, .f32⟩
  | .hbm, ⟨36, _⟩ => ⟨S8192x2816, .bf16⟩
  | .hbm, ⟨37, _⟩ => ⟨S8192x2816, .bf16⟩
  | .hbm, ⟨38, _⟩ => ⟨S8192x2816, .bf16⟩
  | .hbm, ⟨39, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S8x128, .f32⟩
  | .local _ .vmem, ⟨10, _⟩ => ⟨S256x1024, .f32⟩
  | .local _ .vmem, ⟨11, _⟩ => ⟨S256x1024, .f32⟩
  | .local _ .vmem, ⟨12, _⟩ => ⟨S8x1024, .f32⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x1024, .bf16⟩
  | .local _ .vmem, ⟨20, _⟩ => ⟨S256x1024, .bf16⟩
  | .local _ .vmem, ⟨21, _⟩ => ⟨S2816x1024, .bf16⟩
  | .local _ .vmem, ⟨22, _⟩ => ⟨S2816x1024, .bf16⟩
  | .local _ .vmem, ⟨23, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24_0 : Ref sig .tc := ⟨.hbm, 34, rfl⟩
abbrev main_v24_1 : Ref sig .tc := ⟨.hbm, 35, rfl⟩
abbrev main_v24_2 : Ref sig .tc := ⟨.hbm, 36, rfl⟩
abbrev main_v24_3 : Ref sig .tc := ⟨.hbm, 37, rfl⟩
abbrev main_v24_4 : Ref sig .tc := ⟨.hbm, 38, rfl⟩
abbrev main_v24_5 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8x1024 : Shape := ⟨2, ![8, 1024]⟩

abbrev nBuf : Space → Nat
  | .hbm => 151
  | .vmem => 0
  | .smem => 0
  | _ => 0

abbrev hbmTy0_0 (i : Nat) : BufTy := match i % 128 with
  | 0 => ⟨S8192x1024, .f32⟩
  | 1 => ⟨S1024, .f32⟩
  | 2 => ⟨S1024x2816, .f32⟩
  | 3 => ⟨S1024x2816, .f32⟩
  | 4 => ⟨S2816x1024, .f32⟩
  | 5 => ⟨S8192x1024, .f32⟩
  | 6 => ⟨S8192x1024, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1024, .f32⟩
  | 22 => ⟨S8192x1024, .f32⟩
  | 23 => ⟨S1x1024, .f32⟩
  | 24 => ⟨S8192x1024, .f32⟩
  | 25 => ⟨S8192x1024, .f32⟩
  | 26 => ⟨S8192x2816, .f32⟩
  | 27 => ⟨S8192x2816, .f32⟩
  | 28 => ⟨S8192x2816, .f32⟩
  | 29 => ⟨S8192x2816, .f32⟩
  | 30 => ⟨S_, .f32⟩
  | 31 => ⟨S8192x2816, .f32⟩
  | 32 => ⟨S8192x2816, .f32⟩
  | 33 => ⟨S_, .f32⟩
  | 34 => ⟨S8192x2816, .f32⟩
  | 35 => ⟨S8192x2816, .f32⟩
  | 36 => ⟨S_, .f32⟩
  | 37 => ⟨S8192x2816, .f32⟩
  | 38 => ⟨S8192x2816, .f32⟩
  | 39 => ⟨S8192x2816, .f32⟩
  | 40 => ⟨S8192x2816, .f32⟩
  | 41 => ⟨S8192x2816, .f32⟩
  | 42 => ⟨S8192x1024, .f32⟩
  | 43 => ⟨S_, .f32⟩
  | 44 => ⟨S8192x1024, .f32⟩
  | 45 => ⟨S8192x1024, .f32⟩
  | 46 => ⟨S8192x1024, .f32⟩
  | 47 => ⟨S8192x1024, .f32⟩
  | 48 => ⟨S_, .f32⟩
  | 49 => ⟨S8192x1024, .f32⟩
  | 50 => ⟨S8192x1024, .f32⟩
  | 51 => ⟨S8192x2816, .f32⟩
  | 52 => ⟨S8192x2816, .f32⟩
  | 53 => ⟨S8192x2816, .f32⟩
  | 54 => ⟨S8192x2816, .f32⟩
  | 55 => ⟨S8192x2816, .f32⟩
  | 56 => ⟨S8192x2816, .f32⟩
  | 57 => ⟨S8192x2816, .f32⟩
  | 58 => ⟨S8192x1024, .f32⟩
  | 59 => ⟨S8192x1024, .f32⟩
  | 60 => ⟨S8192x1024, .f32⟩
  | 61 => ⟨S8192x1024, .f32⟩
  | 62 => ⟨S_, .f32⟩
  | 63 => ⟨S1024, .f32⟩
  | 64 => ⟨S1x1024, .f32⟩
  | 65 => ⟨S8192x1024, .f32⟩
  | 66 => ⟨S8192x1024, .f32⟩
  | 67 => ⟨S_, .f32⟩
  | 68 => ⟨S1024, .f32⟩
  | 69 => ⟨S8192x1024, .f32⟩
  | 70 => ⟨S_, .f32⟩
  | 71 => ⟨S8192, .f32⟩
  | 72 => ⟨S8192x1, .f32⟩
  | 73 => ⟨S8192x1024, .f32⟩
  | 74 => ⟨S8192x1024, .f32⟩
  | 75 => ⟨S8192x1024, .f32⟩
  | 76 => ⟨S8192x1, .f32⟩
  | 77 => ⟨S_, .f32⟩
  | 78 => ⟨S8192x1, .f32⟩
  | 79 => ⟨S8192x1, .f32⟩
  | 80 => ⟨S_, .f32⟩
  | 81 => ⟨S8192, .f32⟩
  | 82 => ⟨S8192x1024, .f32⟩
  | 83 => ⟨S8192x1024, .f32⟩
  | 84 => ⟨S8192x1024, .f32⟩
  | 85 => ⟨S8192x1024, .f32⟩
  | 86 => ⟨S8192x1024, .f32⟩
  | 87 => ⟨S8192x1024, .f32⟩
  | 88 => ⟨S_, .f32⟩
  | 89 => ⟨S8192, .f32⟩
  | 90 => ⟨S8192x1, .f32⟩
  | 91 => ⟨S_, .f32⟩
  | 92 => ⟨S8192x1, .f32⟩
  | 93 => ⟨S8192x1, .f32⟩
  | 94 => ⟨S_, .f32⟩
  | 95 => ⟨S8192x1, .f32⟩
  | 96 => ⟨S8192x1, .f32⟩
  | 97 => ⟨S8192x1, .f32⟩
  | 98 => ⟨S8192x1024, .f32⟩
  | 99 => ⟨S8192x1024, .f32⟩
  | 100 => ⟨S1x1024, .f32⟩
  | 101 => ⟨S8192x1024, .f32⟩
  | 102 => ⟨S8192x1024, .f32⟩
  | 103 => ⟨S8192x2816, .f32⟩
  | 104 => ⟨S8192x2816, .f32⟩
  | 105 => ⟨S8192x2816, .f32⟩
  | 106 => ⟨S8192x2816, .f32⟩
  | 107 => ⟨S_, .f32⟩
  | 108 => ⟨S8192x2816, .f32⟩
  | 109 => ⟨S8192x2816, .f32⟩
  | 110 => ⟨S_, .f32⟩
  | 111 => ⟨S8192x2816, .f32⟩
  | 112 => ⟨S8192x2816, .f32⟩
  | 113 => ⟨S_, .f32⟩
  | 114 => ⟨S8192x2816, .f32⟩
  | 115 => ⟨S8192x2816, .f32⟩
  | 116 => ⟨S8192x2816, .f32⟩
  | 117 => ⟨S8192x2816, .f32⟩
  | 118 => ⟨S8192x2816, .f32⟩
  | 119 => ⟨S8192x1024, .f32⟩
  | 120 => ⟨S_, .f32⟩
  | 121 => ⟨S8192x1024, .f32⟩
  | 122 => ⟨S8192x1024, .f32⟩
  | 123 => ⟨S_, .f32⟩
  | 124 => ⟨S8192x1024, .f32⟩
  | 125 => ⟨S8192x1024, .f32⟩
  | 126 => ⟨S8192x2816, .f32⟩
  | 127 => ⟨S8192x2816, .f32⟩
  | _ => ⟨S8192x1024, .f32⟩

abbrev hbmTy0_1 (i : Nat) : BufTy := match i % 128 with
  | 0 => ⟨S8192x2816, .f32⟩
  | 1 => ⟨S8192x2816, .f32⟩
  | 2 => ⟨S8192x2816, .f32⟩
  | 3 => ⟨S8192x2816, .f32⟩
  | 4 => ⟨S8192x2816, .f32⟩
  | 5 => ⟨S8x1024, .f32⟩
  | 6 => ⟨S8192x2816, .bf16⟩
  | 7 => ⟨S8192x2816, .bf16⟩
  | 8 => ⟨S8192x2816, .f32⟩
  | 9 => ⟨S8192x2816, .f32⟩
  | 10 => ⟨S_, .f32⟩
  | 11 => ⟨S8192x2816, .f32⟩
  | 12 => ⟨S8192x2816, .f32⟩
  | 13 => ⟨S_, .f32⟩
  | 14 => ⟨S8192x2816, .f32⟩
  | 15 => ⟨S8192x2816, .f32⟩
  | 16 => ⟨S8192x2816, .f32⟩
  | 17 => ⟨S8192x2816, .f32⟩
  | 18 => ⟨S8192x2816, .bf16⟩
  | 19 => ⟨S_, .f32⟩
  | 20 => ⟨S8192x1024, .f32⟩
  | 21 => ⟨S8192x1024, .f32⟩
  | 22 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v18_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v18_1 : Ref sig .tc := ⟨.hbm, 39, rfl⟩
abbrev main_v18_0 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_cst_7 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_8 : Ref sig .tc := ⟨.hbm, 77, rfl⟩
abbrev main_v47 : Ref sig .tc := ⟨.hbm, 78, rfl⟩
abbrev main_v48 : Ref sig .tc := ⟨.hbm, 79, rfl⟩
abbrev main_cst_9 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_v57 : Ref sig .tc := ⟨.hbm, 90, rfl⟩
abbrev main_cst_11 : Ref sig .tc := ⟨.hbm, 91, rfl⟩
abbrev main_v58 : Ref sig .tc := ⟨.hbm, 92, rfl⟩
abbrev main_v59 : Ref sig .tc := ⟨.hbm, 93, rfl⟩
abbrev main_cst_12 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_call2_v0 : Ref sig .tc := ⟨.hbm, 105, rfl⟩
abbrev main_call2_v1 : Ref sig .tc := ⟨.hbm, 106, rfl⟩
abbrev main_call2_cst : Ref sig .tc := ⟨.hbm, 107, rfl⟩
abbrev main_call2_v2 : Ref sig .tc := ⟨.hbm, 108, rfl⟩
abbrev main_call2_v3 : Ref sig .tc := ⟨.hbm, 109, rfl⟩
abbrev main_call2_cst_0 : Ref sig .tc := ⟨.hbm, 110, rfl⟩
abbrev main_call2_v4 : Ref sig .tc := ⟨.hbm, 111, rfl⟩
abbrev main_v70_2 : Ref sig .tc := ⟨.hbm, 112, rfl⟩
abbrev main_call2_cst_1 : Ref sig .tc := ⟨.hbm, 113, rfl⟩
abbrev main_call2_v6 : Ref sig .tc := ⟨.hbm, 114, rfl⟩
abbrev main_call2_v7 : Ref sig .tc := ⟨.hbm, 115, rfl⟩
abbrev main_v70_1 : Ref sig .tc := ⟨.hbm, 116, rfl⟩
abbrev main_v70_0 : Ref sig .tc := ⟨.hbm, 117, rfl⟩
abbrev main_v71 : Ref sig .tc := ⟨.hbm, 118, rfl⟩
abbrev main_v72 : Ref sig .tc := ⟨.hbm, 119, rfl⟩
abbrev main_cst_13 : Ref sig .tc := ⟨.hbm, 120, rfl⟩
abbrev main_v73 : Ref sig .tc := ⟨.hbm, 121, rfl⟩
abbrev main_v74 : Ref sig .tc := ⟨.hbm, 122, rfl⟩
abbrev main_cst_14 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_call3_v0 : Ref sig .tc := ⟨.hbm, 129, rfl⟩
abbrev main_call3_v1 : Ref sig .tc := ⟨.hbm, 130, rfl⟩
abbrev main_call3_v2 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_call4_v0 : Ref sig .tc := ⟨.hbm, 136, rfl⟩
abbrev main_call4_v1 : Ref sig .tc := ⟨.hbm, 137, rfl⟩
abbrev main_call4_cst : Ref sig .tc := ⟨.hbm, 138, rfl⟩
abbrev main_call4_v2 : Ref sig .tc := ⟨.hbm, 139, rfl⟩
abbrev main_call4_v3 : Ref sig .tc := ⟨.hbm, 140, rfl⟩
abbrev main_call4_cst_0 : Ref sig .tc := ⟨.hbm, 141, rfl⟩
abbrev main_call4_v4 : Ref sig .tc := ⟨.hbm, 142, rfl⟩
abbrev main_call4_v5 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_cst_15 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩

abbrev nD : Nat := 1
abbrev τ : Topo := Topo.v7x

variable {F : FTy → Type} [FloatOps F]
-- ==== Kernel3.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 1, 4], ![false, false, false, false]⟩

def k0_cond2 (i : grid0.Coords) : BitVec 1 :=
  let arg3 : BitVec 32 := BitVec.ofNat 32 (i 3).val
  let c3_i32 : BitVec 32 := 3#32
  let v11 : BitVec 1 := Scalar.cmpi .eq arg3 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference3Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x128 : Shape := ⟨2, ![8, 128]⟩
abbrev S1x1024 : Shape := ⟨2, ![1, 1024]⟩
abbrev S8192x2816 : Shape := ⟨2, ![8192, 2816]⟩
abbrev S256x1024 : Shape := ⟨2, ![256, 1024]⟩
abbrev S256x2816 : Shape := ⟨2, ![256, 2816]⟩
abbrev S3 : Shape := ⟨1, ![3]⟩
abbrev S1 : Shape := ⟨1, ![1]⟩
abbrev S256 : Shape := ⟨1, ![256]⟩
abbrev S256x1 : Shape := ⟨2, ![256, 1]⟩

abbrev nBuf : Space → Nat
  | .hbm => 17
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .f32⟩
  | .hbm, ⟨6, _⟩ => ⟨S2816x1024, .bf16⟩
  | .hbm, ⟨7, _⟩ => ⟨S2816x1024, .f32⟩
  | .hbm, ⟨8, _⟩ => ⟨S2816x1024, .bf16⟩
  | .hbm, ⟨9, _⟩ => ⟨S2816x1024, .bf16⟩
  | .hbm, ⟨10, _⟩ => ⟨S_, .f32⟩
  | .hbm, ⟨11, _⟩ => ⟨S8x128, .f32⟩
  | .hbm, ⟨12, _⟩ => ⟨S1x1024, .f32⟩
  | .hbm, ⟨13, _⟩ => ⟨S8192x1024, .f32⟩
  | .hbm, ⟨14, _⟩ => ⟨S8192x1024, .bf16⟩
  | .hbm, ⟨15, _⟩ => ⟨S8192x2816, .bf16⟩
  | .hbm, ⟨16, _⟩ => ⟨S8192x2816, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S8x128, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S2816x1024, .bf16⟩
  | .local _ .vmem, ⟨13, _⟩ => ⟨S2816x1024, .bf16⟩
  | .local _ .vmem, ⟨14, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 59
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S_, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .bf16⟩
  | .hbm, ⟨55, _⟩ => ⟨S8192x2816, .f32⟩
  | .hbm, ⟨56, _⟩ => ⟨S8192x2816, .bf16⟩
  | .hbm, ⟨57, _⟩ => ⟨S8192x2816, .f32⟩
  | .hbm, ⟨58, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]
-- ==== Kernel5.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 8], ![false, false, false, false]⟩

def k0_cond2 (i : grid0.Coords) : BitVec 1 :=
  let arg3 : BitVec 32 := BitVec.ofNat 32 (i 3).val
  let c7_i32 : BitVec 32 := 7#32
  let v12 : BitVec 1 := Scalar.cmpi .eq arg3 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true, false]
-- ==== Reference5Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 8], ![false, false, false, false]⟩

def k0_cond2 (i : grid0.Coords) : BitVec 1 :=
  let arg3 : BitVec 32 := BitVec.ofNat 32 (i 3).val
  let c7_i32 : BitVec 32 := 7#32
  let v11 : BitVec 1 := Scalar.cmpi .eq arg3 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true, false]
-- ==== Reference6Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x512 : Shape := ⟨2, ![8192, 512]⟩
abbrev S8192x2048 : Shape := ⟨2, ![8192, 2048]⟩
abbrev S512x2048 : Shape := ⟨2, ![512, 2048]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S8192x2048, .bf16⟩
  | .hbm, ⟨2, _⟩ => ⟨S512x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 1, 2, 8], ![false, false, false, false]⟩

def k0_cond2 (i : grid0.Coords) : BitVec 1 :=
  let arg3 : BitVec 32 := BitVec.ofNat 32 (i 3).val
  let c7_i32 : BitVec 32 := 7#32
  let v11 : BitVec 1 := Scalar.cmpi .eq arg3 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference7Ideal.lean ====
abbrev S8192x512 : Shape := ⟨2, ![8192, 512]⟩
abbrev S8192x2048 : Shape := ⟨2, ![8192, 2048]⟩
abbrev S_ : Shape := ⟨0, ![]⟩
abbrev S512x2048 : Shape := ⟨2, ![512, 2048]⟩
abbrev S2048x512 : Shape := ⟨2, ![2048, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x2048, .bf16⟩
  | .hbm, ⟨2, _⟩ => ⟨S_, .f32⟩
  | .hbm, ⟨3, _⟩ => ⟨S512x2048, .f32⟩
  | .hbm, ⟨4, _⟩ => ⟨S8192x512, .f32⟩
  | .hbm, ⟨5, _⟩ => ⟨S8192x2048, .f32⟩
  | .hbm, ⟨6, _⟩ => ⟨S8192x2048, .f32⟩
  | .hbm, ⟨7, _⟩ => ⟨S2048x512, .f32⟩
  | .hbm, ⟨8, _⟩ => ⟨S512x2048, .f32⟩
  | .hbm, ⟨9, _⟩ => ⟨S512x2048, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8192x256 : Shape := ⟨2, ![8192, 256]⟩
abbrev S8192x2048 : Shape := ⟨2, ![8192, 2048]⟩
abbrev S256x2048 : Shape := ⟨2, ![256, 2048]⟩
abbrev S1024x256 : Shape := ⟨2, ![1024, 256]⟩
abbrev S1024x1024 : Shape := ⟨2, ![1024, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x256, .bf16⟩
  | .hbm, ⟨1, _⟩ => ⟨S8192x2048, .bf16⟩
  | .hbm, ⟨2, _⟩ => ⟨S256x2048, .bf16⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 1, 2, 8], ![false, false, false, false]⟩

def k0_cond2 (i : grid0.Coords) : BitVec 1 :=
  let arg3 : BitVec 32 := BitVec.ofNat 32 (i 3).val
  let c7_i32 : BitVec 32 := 7#32
  let v11 : BitVec 1 := Scalar.cmpi .eq arg3 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference8Ideal.lean ====
abbrev S8192x256 : Shape := ⟨2, ![8192, 256]⟩
abbrev S8192x2048 : Shape := ⟨2, ![8192, 2048]⟩
abbrev S_ : Shape := ⟨0, ![]⟩
abbrev S256x2048 : Shape := ⟨2, ![256, 2048]⟩
abbrev S2048x256 : Shape := ⟨2, ![2048, 256]⟩

abbrev nBuf : Space → Nat
  | .hbm => 10
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x2048, .bf16⟩
  | .hbm, ⟨2, _⟩ => ⟨S_, .f32⟩
  | .hbm, ⟨3, _⟩ => ⟨S256x2048, .f32⟩
  | .hbm, ⟨4, _⟩ => ⟨S8192x256, .f32⟩
  | .hbm, ⟨5, _⟩ => ⟨S8192x2048, .f32⟩
  | .hbm, ⟨6, _⟩ => ⟨S8192x2048, .f32⟩
  | .hbm, ⟨7, _⟩ => ⟨S2048x256, .f32⟩
  | .hbm, ⟨8, _⟩ => ⟨S256x2048, .f32⟩
  | .hbm, ⟨9, _⟩ => ⟨S256x2048, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S8192x1024 : Shape := ⟨2, ![8192, 1024]⟩
abbrev S8192x896 : Shape := ⟨2, ![8192, 896]⟩
abbrev S1024x896 : Shape := ⟨2, ![1024, 896]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x896, .bf16⟩
  | .hbm, ⟨2, _⟩ => ⟨S1024x896, .bf16⟩
  | .local _ .vmem, ⟨0, _⟩ => ⟨S1024x1024, .bf16⟩
  | .local _ .vmem, ⟨1, _⟩ => ⟨S1024x1024, .bf16⟩
  | .local _ .vmem, ⟨2, _⟩ => ⟨S1024x896, .bf16⟩
  | .local _ .vmem, ⟨3, _⟩ => ⟨S1024x896, .bf16⟩
  | .local _ .vmem, ⟨4, _⟩ => ⟨S1024x896, .bf16⟩
  | .local _ .vmem, ⟨5, _⟩ => ⟨S1024x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 8], ![false, false, false, false]⟩

def k0_cond2 (i : grid0.Coords) : BitVec 1 :=
  let arg3 : BitVec 32 := BitVec.ofNat 32 (i 3).val
  let c7_i32 : BitVec 32 := 7#32
  let v11 : BitVec 1 := Scalar.cmpi .eq arg3 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 1 → Memref sig .tc .vmem S1024x896 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true, false]
-- ==== Reference9Ideal.lean ====
abbrev S8192x1024 : Shape := ⟨2, ![8192, 1024]⟩
abbrev S8192x896 : Shape := ⟨2, ![8192, 896]⟩
abbrev S_ : Shape := ⟨0, ![]⟩
abbrev S1024x896 : Shape := ⟨2, ![1024, 896]⟩
abbrev S896x1024 : Shape := ⟨2, ![896, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x896, .bf16⟩
  | .hbm, ⟨2, _⟩ => ⟨S_, .f32⟩
  | .hbm, ⟨3, _⟩ => ⟨S1024x896, .f32⟩
  | .hbm, ⟨4, _⟩ => ⟨S8192x1024, .f32⟩
  | .hbm, ⟨5, _⟩ => ⟨S8192x896, .f32⟩
  | .hbm, ⟨6, _⟩ => ⟨S8192x896, .f32⟩
  | .hbm, ⟨7, _⟩ => ⟨S896x1024, .f32⟩
  | .hbm, ⟨8, _⟩ => ⟨S1024x896, .f32⟩
  | .hbm, ⟨9, _⟩ => ⟨S1024x896, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1024x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference10Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1024x1024, .bf16⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S8192x1024, .f32⟩
  | .hbm, ⟨9, _⟩ => ⟨S8192x1024, .bf16⟩
  | .hbm, ⟨10, _⟩ => ⟨S8192x1024, .bf16⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel11.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S8192x1024 : Shape := ⟨2, ![8192, 1024]⟩
abbrev S1024x1024 : Shape := ⟨2, ![1024, 1024]⟩
abbrev S_ : Shape := ⟨0, ![]⟩
abbrev S8x128 : Shape := ⟨2, ![8, 128]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S_, .f32⟩
  | .hbm, ⟨3, _⟩ => ⟨S8x128, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S8x128, .f32⟩
  | .local _ .vmem, ⟨4, _⟩ => ⟨S512x1024, .bf16⟩
  | .local _ .vmem, ⟨5, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S8192x1024 : Shape := ⟨2, ![8192, 1024]⟩
abbrev S1024x896 : Shape := ⟨2, ![1024, 896]⟩
abbrev S8192x896 : Shape := ⟨2, ![8192, 896]⟩
abbrev S512x1024 : Shape := ⟨2, ![512, 1024]⟩
abbrev S512x896 : Shape := ⟨2, ![512, 896]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x896, .bf16⟩
  | .hbm, ⟨2, _⟩ => ⟨S8192x896, .f32⟩
  | .local _ .vmem, ⟨0, _⟩ => ⟨S512x1024, .bf16⟩
  | .local _ .vmem, ⟨1, _⟩ => ⟨S512x1024, .bf16⟩
  | .local _ .vmem, ⟨2, _⟩ => ⟨S1024x896, .bf16⟩
  | .local _ .vmem, ⟨3, _⟩ => ⟨S512x896, .f32⟩
  | .local _ .vmem, ⟨4, _⟩ => ⟨S512x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S1024x896 : Shape := ⟨2, ![1024, 896]⟩
abbrev S8192x896 : Shape := ⟨2, ![8192, 896]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x896, .bf16⟩
  | .hbm, ⟨2, _⟩ => ⟨S8192x1024, .f32⟩
  | .hbm, ⟨3, _⟩ => ⟨S1024x896, .f32⟩
  | .hbm, ⟨4, _⟩ => ⟨S8192x896, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Flash.Offs.lean ====
/-
  The rectangles the inner loop's two steps address, in closed form, and how often the loops run.
-/
module

public import proofs.«01_k».proof.Proof.Gen.KernelIdeal.Frame
public import proofs.«01_k».proof.Proof.Gen.KernelIdeal.Loops

@[expose] public section

set_option maxRecDepth 16384

namespace Cert.Flash

open Cert.KernelIdeal Cert.KernelIdeal.Gen
open Idealize.ShloMosaic

/-- The loop over the later query blocks takes them in pairs. -/
theorem trips1 : ∀ i : grid0.Coords, (k0_t1_loop i).trips = (15 - (i 1).val) / 2 := by decide +kernel
/-- The loop the division left over runs no trip. -/
theorem trips2 : ∀ i : grid0.Coords, (k0_t2_loop i).trips = 0 := by decide +kernel

theorem off5_1 : ∀ (i : grid0.Coords) (k : Fin (k0_t1_loop i).trips), k0_off5 i k 1#32 = ![0, 512 * ((i 1).val + 1 + 2 * k.val), 0] := by decide +kernel
theorem off5_2 : ∀ (i : grid0.Coords) (k : Fin (k0_t1_loop i).trips), k0_off5 i k 2#32 = ![0, 512 * ((i 1).val + 2 + 2 * k.val), 0] := by decide +kernel
theorem off6_1 : ∀ (i : grid0.Coords) (k : Fin (k0_t1_loop i).trips), k0_off6 i k 1#32 = ![512 * ((i 1).val + 1 + 2 * k.val), 0] := by decide +kernel
theorem off6_2 : ∀ (i : grid0.Coords) (k : Fin (k0_t1_loop i).trips), k0_off6 i k 2#32 = ![512 * ((i 1).val + 2 + 2 * k.val), 0] := by decide +kernel
theorem off7_1 : ∀ (i : grid0.Coords) (k : Fin (k0_t1_loop i).trips), k0_off7 i k 1#32 = ![0, (i 1).val + 1 + 2 * k.val, 0, 0] := by decide +kernel
theorem off7_2 : ∀ (i : grid0.Coords) (k : Fin (k0_t1_loop i).trips), k0_off7 i k 2#32 = ![0, (i 1).val + 2 + 2 * k.val, 0, 0] := by decide +kernel
theorem off8_1 : ∀ (i : grid0.Coords) (k : Fin (k0_t1_loop i).trips), k0_off8 i k 1#32 = ![512 * ((i 1).val + 1 + 2 * k.val), 0] := by decide +kernel
theorem off8_2 : ∀ (i : grid0.Coords) (k : Fin (k0_t1_loop i).trips), k0_off8 i k 2#32 = ![512 * ((i 1).val + 2 + 2 * k.val), 0] := by decide +kernel

instance (i : grid0.Coords) (k : Fin (k0_t1_loop i).trips) : ClosedOff (k0_off5 i k 1#32) := ⟨_, off5_1 i k⟩
instance (i : grid0.Coords) (k : Fin (k0_t1_loop i).trips) : ClosedOff (k0_off5 i k 2#32) := ⟨_, off5_2 i k⟩
instance (i : grid0.Coords) (k : Fin (k0_t1_loop i).trips) : ClosedOff (k0_off6 i k 1#32) := ⟨_, off6_1 i k⟩
instance (i : grid0.Coords) (k : Fin (k0_t1_loop i).trips) : ClosedOff (k0_off6 i k 2#32) := ⟨_, off6_2 i k⟩
instance (i : grid0.Coords) (k : Fin (k0_t1_loop i).trips) : ClosedOff (k0_off7 i k 1#32) := ⟨_, off7_1 i k⟩
instance (i : grid0.Coords) (k : Fin (k0_t1_loop i).trips) : ClosedOff (k0_off7 i k 2#32) := ⟨_, off7_2 i k⟩
instance (i : grid0.Coords) (k : Fin (k0_t1_loop i).trips) : ClosedOff (k0_off8 i k 1#32) := ⟨_, off8_1 i k⟩
instance (i : grid0.Coords) (k : Fin (k0_t1_loop i).trips) : ClosedOff (k0_off8 i k 2#32) := ⟨_, off8_2 i k⟩

end Cert.Flash
-- ==== Proof.Flash.Steps.lean ====
/-
  One block step of the attention gradient as a plain function of vectors, at any float operations: what a pair
  (key block, query block) adds to the three accumulators — the queries' gradient `dq` (all the rows of a head), the
  keys' gradient `dk` and the transposed values' gradient `dvt` (one key block each).
-/
module

public import proofs.«01_k».proof.Proof.Flash.Offs
public import Idealize.ShloMosaic.Lib.VecWindow

@[expose] public section

set_option maxRecDepth 16384

noncomputable section

namespace Cert.Flash

open Cert.KernelIdeal Cert.KernelIdeal.Gen
open Idealize.ShloMosaic

variable {F : FTy → Type} [FloatOps F]

/-- The three accumulators. -/
structure St (F : FTy → Type) where
  dq : Vec F S8192x256 .f32
  dk : Vec F S512x256 .f32
  dvt : Vec F S128x512 .f32

/-- What a grid point reads of a head: the queries, the output's cotangent, the two row statistics, and one block
    each of keys and values. -/
structure Ins (F : FTy → Type) where
  q : Vec F S1x8192x256 .bf16
  kb : Vec F S1x512x256 .bf16
  vb : Vec F S1x512x128 .bf16
  d : Vec F S8192x128 .bf16
  lse : Vec F S1x16x8x512 .f32
  del : Vec F S1x16x8x512 .f32

theorem inbQ (n : Fin 16) : ∀ a, (![0, 512 * n.val, 0] : Fin 3 → ℕ) a + S1x512x256.size a ≤ S1x8192x256.size a := by
  revert n; decide
theorem inbD (n : Fin 16) : ∀ a, (![512 * n.val, 0] : Fin 2 → ℕ) a + S512x128.size a ≤ S8192x128.size a := by
  revert n; decide
theorem inbS (n : Fin 16) : ∀ a, (![0, n.val, 0, 0] : Fin 4 → ℕ) a + S1x1x8x512.size a ≤ S1x16x8x512.size a := by
  revert n; decide
theorem inbA (n : Fin 16) : ∀ a, (![512 * n.val, 0] : Fin 2 → ℕ) a + S512x256.size a ≤ S8192x256.size a := by
  revert n; decide

/-- Query block `n` of the queries, of the cotangent, of a row statistic, of the queries' gradient. -/
def qW (q : Vec F S1x8192x256 .bf16) (n : Fin 16) : Vec F S1x512x256 .bf16 := VecWindow.window q ![0, 512 * n.val, 0] S1x512x256.size (inbQ n)
def dW (d : Vec F S8192x128 .bf16) (n : Fin 16) : Vec F S512x128 .bf16 := VecWindow.window d ![512 * n.val, 0] S512x128.size (inbD n)
def sW (x : Vec F S1x16x8x512 .f32) (n : Fin 16) : Vec F S1x1x8x512 .f32 := VecWindow.window x ![0, n.val, 0, 0] S1x1x8x512.size (inbS n)
def aW (x : Vec F S8192x256 .f32) (n : Fin 16) : Vec F S512x256 .f32 := VecWindow.window x ![512 * n.val, 0] S512x256.size (inbA n)

/-- The probabilities of query block `n` against the key block (transposed: keys by queries). -/
def pU (x : Ins F) (n : Fin 16) : FVec F S512x512 .f32 := k0_pay13 (k0_pay35 x.kb) (qW x.q n) (sW x.lse n)
/-- The same, masked to the chunks a query sees: the step on the diagonal. -/
def pD (x : Ins F) (n : Fin 16) : FVec F S512x512 .f32 :=
  k0_pay44 (pU x n) (k0_pay40 (iota .tc S512x512 32 [0] iota_S512x512_d0_w32) 64#32) k0_pay41 k0_pay42 k0_pay43
/-- The cotangent of the probabilities less the row statistic `delta`. -/
def dpOf (x : Ins F) (n : Fin 16) : FVec F S512x512 .f32 := k0_pay14 (k0_pay36 x.vb) (dW x.d n) (sW x.del n)

/-- One step at the probabilities `p`. -/
def stepP (x : Ins F) (p : FVec F S512x512 .f32) (n : Fin 16) (s : St F) : St F where
  dq := VecWindow.put s.dq ![512 * n.val, 0] S512x256.size (k0_pay52 (k0_pay35 x.kb) p (dpOf x n) (aW s.dq n))
  dk := k0_pay51 (k0_pay11 (qW x.q n)) p (dpOf x n) s.dk
  dvt := k0_pay50 (k0_pay12 (dW x.d n)) p s.dvt

/-- The step of a query block that lies wholly after the key block. -/
def stepU (x : Ins F) (n : Fin 16) (s : St F) : St F := stepP x (pU x n) n s
/-- The step on the diagonal. -/
def stepD (x : Ins F) (n : Fin 16) (s : St F) : St F := stepP x (pD x n) n s

/-- The step at a number, nothing past the last block. -/
def stepN (x : Ins F) (n : ℕ) (s : St F) : St F := if h : n < 16 then stepU x ⟨n, h⟩ s else s
theorem stepN_of_lt (x : Ins F) {n : ℕ} (h : n < 16) (s : St F) : stepN x n s = stepU x ⟨n, h⟩ s := dif_pos h

/-- `m` steps over the query blocks after `j`. -/
def blocks (x : Ins F) (j : ℕ) : ℕ → St F → St F
  | 0, s => s
  | m + 1, s => stepN x (j + 1 + m) (blocks x j m s)

/-- Two steps at once, as a trip of the loop takes them. -/
theorem blocks_two (x : Ins F) (j k : ℕ) (s : St F) :
    blocks x j (2 * (k + 1)) s = stepN x (j + 2 + 2 * k) (stepN x (j + 1 + 2 * k) (blocks x j (2 * k) s)) := by
  rw [show 2 * (k + 1) = 2 * k + 1 + 1 by omega]
  show stepN x (j + 1 + (2 * k + 1)) (stepN x _ _) = _
  rw [show j + 1 + (2 * k + 1) = j + 2 + 2 * k by omega]

/-- What a grid point's body leaves: the diagonal step over zeroed key and value accumulators, then the later blocks. -/
def bodySt (x : Ins F) (j : Fin 16) (dq : Vec F S8192x256 .f32) : St F :=
  blocks x j.val (15 - j.val) (stepD x j ⟨dq, k0_pay33, k0_pay34⟩)

end Cert.Flash

end
-- ==== Proof.Flash.Trip.lean ====
/-
  One trip of the inner loop: two block steps.
-/
module

public import proofs.«01_k».proof.Proof.Flash.Steps
public import Idealize.ShloMosaic.Lib.Pipeline.TableIdle
public import Idealize.ShloMosaic.Lib.Tactic

@[expose] public section

set_option maxRecDepth 16384

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev 𝒱₀ : Variants := Variants.none
local notation "𝕄" => MT nD τ sig Unit (Elt F) ℕ (UR sig nD τ) ℕ

/-- A memref held whole at the values `X`. -/
abbrev at' (c : Dev nD) {sp : Space} {s : Shape} {e : EltTy} (m : Memref sig .tc sp s e) (X : s.Idx → Elt F e) : sProp 𝕄 :=
  m.view.loc (c : Thread nD τ) ↦[m.view.set]{fullShare} m.view.rep X

/-- Contents that read `X` are `X`'s own. -/
theorem at_of_read (c : Dev nD) {sp : Space} {s : Shape} {e : EltTy} (m : Memref sig .tc sp s e) (f : m.view.ty.Contents (Elt F))
    (X : s.Idx → Elt F e) (h : m.view.read (Elt F) f = X) :
    (m.view.loc (c : Thread nD τ) ↦[m.view.set]{fullShare} f : sProp 𝕄) ⊢ at' c m X := by
  unfold at'
  rw [← owns_eq_rep]
  unfold owns
  iintro H; iexists f; isplitr; · ipureintro; exact h
  iexact H

/-! The first half of a trip is written with operations of its own names; they are the second half's. -/
theorem pay10_eq (kj : FVec F S512x256 .bf16) (vj : FVec F S512x128 .bf16) (qi : Vec F S1x512x256 .bf16) (doi : Vec F S512x128 .bf16)
    (li di : Vec F S1x1x8x512 .f32) (o : Vec F S512x256 .f32) :
    k0_pay10 kj (k0_pay7 kj vj qi doi li di) o = k0_pay52 kj (k0_pay13 kj qi li) (k0_pay14 vj doi di) o := rfl
theorem pay9_eq (kj : FVec F S512x256 .bf16) (vj : FVec F S512x128 .bf16) (qi : Vec F S1x512x256 .bf16) (doi : Vec F S512x128 .bf16)
    (li di : Vec F S1x1x8x512 .f32) (o : Vec F S512x256 .f32) :
    k0_pay9 (k0_pay4 qi) (k0_pay7 kj vj qi doi li di) o (constant S512x256 .f32 0x00000000#32)
      = k0_pay51 (k0_pay11 qi) (k0_pay13 kj qi li) (k0_pay14 vj doi di) o := rfl
theorem pay8_eq (kj : FVec F S512x256 .bf16) (qi : Vec F S1x512x256 .bf16) (doi : Vec F S512x128 .bf16)
    (li : Vec F S1x1x8x512 .f32) (o : Vec F S128x512 .f32) :
    k0_pay8 kj qi doi li o = k0_pay50 (k0_pay12 doi) (k0_pay13 kj qi li) o := rfl

section Trip

variable (c : Dev nD) (i : grid0.Coords) (arg2 : Memref sig .tc .vmem S1x8192x256 .bf16) (harg2 : arg2.IsWhole) (arg3 : Memref sig .tc .vmem S1x512x256 .bf16) (harg3 : arg3.IsWhole) (arg4 : Memref sig .tc .vmem S1x512x128 .bf16) (harg4 : arg4.IsWhole) (arg5 : Memref sig .tc .vmem S8192x128 .bf16) (harg5 : arg5.IsWhole) (arg6 : Memref sig .tc .vmem S1x16x8x512 .f32) (harg6 : arg6.IsWhole) (arg7 : Memref sig .tc .vmem S1x16x8x512 .f32) (harg7 : arg7.IsWhole) (arg8 : Memref sig .tc .vmem S1x8192x256 .bf16) (harg8 : arg8.IsWhole) (arg9 : Memref sig .tc .vmem S1x512x256 .bf16) (harg9 : arg9.IsWhole) (arg10 : Memref sig .tc .vmem S1x512x128 .bf16) (harg10 : arg10.IsWhole) (arg11 : Memref sig .tc .vmem S8192x256 .f32) (harg11 : arg11.IsWhole) (arg12 : Memref sig .tc .vmem S512x256 .f32) (harg12 : arg12.IsWhole) (arg13 : Memref sig .tc .vmem S128x512 .f32) (harg13 : arg13.IsWhole)
  (x : Ins F) (v114 c2_i32 v115 : BitVec 32)

/-- What the trips touch: the queries, the cotangent and the statistics, only read, and the three accumulators. -/
abbrev Trip (s : St F) : sProp 𝕄 :=
  iprop(at' c arg2 x.q ∗ at' c arg5 x.d ∗ at' c arg6 x.lse ∗ at' c arg7 x.del ∗ at' c arg11 s.dq ∗ at' c arg12 s.dk ∗ at' c arg13 s.dvt)

abbrev tripG (k : Fin (k0_t1_loop i).trips) : Prog (TpuEff nD τ sig (Elt F) Λ₀ .tc) Unit :=
  k0_t1_body (F := F) i arg2 harg2 arg3 harg3 arg4 harg4 arg5 harg5 arg6 harg6 arg7 harg7 arg8 harg8 arg9 harg9 arg10 harg10 arg11 harg11 arg12 harg12 arg13 harg13 (BitVec.ofNat 32 (i 1).val) (k0_pay35 x.kb) (k0_pay36 x.vb) v114 c2_i32 v115 k ()

theorem trip (k : Fin (k0_t1_loop i).trips) (s : St F) :
    Trip c arg2 arg5 arg6 arg7 arg11 arg12 arg13 x s
      ⊢ wp Idealize.ShloMosaic.frame (wpE (defs₀ (F := F)) 𝒱₀ (c : Thread nD τ) none) Set.univ (tripG i arg2 harg2 arg3 harg3 arg4 harg4 arg5 harg5 arg6 harg6 arg7 harg7 arg8 harg8 arg9 harg9 arg10 harg10 arg11 harg11 arg12 harg12 arg13 harg13 x v114 c2_i32 v115 k)
        (fun _ => Trip c arg2 arg5 arg6 arg7 arg11 arg12 arg13 x (stepN x ((i 1).val + 2 + 2 * k.val) (stepN x ((i 1).val + 1 + 2 * k.val) s))) := by
  have hk : k.val < (15 - (i 1).val) / 2 := lt_of_lt_of_eq k.isLt (trips1 i)
  have h1 : (i 1).val + 1 + 2 * k.val < 16 := by omega
  have h2 : (i 1).val + 2 + 2 * k.val < 16 := by omega
  rw [stepN_of_lt x h1, stepN_of_lt x h2]
  have q1 := fun inb => View.readAt_rep_unit (Val := Elt F) arg2.view x.q inb (off5_1 i k) (inbQ ⟨_, h1⟩)
  have q2 := fun inb => View.readAt_rep_unit (Val := Elt F) arg2.view x.q inb (off5_2 i k) (inbQ ⟨_, h2⟩)
  have d1 := fun inb => View.readAt_rep_unit (Val := Elt F) arg5.view x.d inb (off6_1 i k) (inbD ⟨_, h1⟩)
  have d2 := fun inb => View.readAt_rep_unit (Val := Elt F) arg5.view x.d inb (off6_2 i k) (inbD ⟨_, h2⟩)
  have l1 := fun inb => View.readAt_rep_unit (Val := Elt F) arg6.view x.lse inb (off7_1 i k) (inbS ⟨_, h1⟩)
  have l2 := fun inb => View.readAt_rep_unit (Val := Elt F) arg6.view x.lse inb (off7_2 i k) (inbS ⟨_, h2⟩)
  have e1 := fun inb => View.readAt_rep_unit (Val := Elt F) arg7.view x.del inb (off7_1 i k) (inbS ⟨_, h1⟩)
  have e2 := fun inb => View.readAt_rep_unit (Val := Elt F) arg7.view x.del inb (off7_2 i k) (inbS ⟨_, h2⟩)
  have a1 := fun inb => View.readAt_rep_unit (Val := Elt F) arg11.view s.dq inb (off8_1 i k) (inbA ⟨_, h1⟩)
  have a2 := fun f inb => View.readAt_unit (Val := Elt F) arg11.view f inb (off8_2 i k) (inbA ⟨_, h2⟩)
  have w1 := fun f (inb : ∀ a, k0_off8 i k 1#32 a + S512x256.size a ≤ S8192x256.size a) w L => View.read_writes_cons_put (Val := Elt F) arg11.view f inb w L (off8_1 i k)
  have w2 := fun f (inb : ∀ a, k0_off8 i k 2#32 a + S512x256.size a ≤ S8192x256.size a) w L => View.read_writes_cons_put (Val := Elt F) arg11.view f inb w L (off8_2 i k)
  iintro ⟨H2, H5, H6, H7, H11, H12, H13⟩
  dsimp only [tripG]
  sl_unfold [k0_t1_body]
  sl_exec
  sl_step
  isplitl [H2]; · iexact H2
  isplitl [H5]; · iexact H5
  isplitl [H6]; · iexact H6
  isplitl [H7]; · iexact H7
  isplitl [H11]
  · iapply (at_of_read c arg11 _ _ ?_) $$ H11
    simp only [w1, w2, View.writes_nil, View.read_rep]
    refine congrArg (fun o => VecWindow.put (stepU x ⟨_, h1⟩ s).dq ![512 * ((i 1).val + 2 + 2 * k.val), 0] S512x256.size
      (k0_pay52 (F := F) (k0_pay35 x.kb) (pU x ⟨_, h2⟩) (dpOf x ⟨_, h2⟩) o)) ?_
    exact (VecWindow.window_put_of_disjoint s.dq _ _ _ _ (inbA ⟨_, h2⟩) _ 0 (Or.inr (by
      show 512 * ((i 1).val + 1 + 2 * k.val) + 512 ≤ 512 * ((i 1).val + 2 + 2 * k.val); omega))).symm
  isplitl [H12]
  · iapply (at_of_read c arg12 _ _ ?_) $$ H12
    refine (View.read_writes_full (Val := Elt F) arg12.view _ _ _ _).trans ?_
    delta trip.sl.v248 trip.sl.H12_1
    rw [View.readCov_full]
    delta trip.sl.r_2
    rw [View.readAt_rep_full]
    rfl
  · iapply (at_of_read c arg13 _ _ ?_) $$ H13
    refine (View.read_writes_full (Val := Elt F) arg13.view _ _ _ _).trans ?_
    delta trip.sl.v241 trip.sl.H13_1
    rw [View.readCov_full, View.readAt_rep_full]
    rfl

end Trip
end Cert.Flash
end
-- ==== Proof.Flash.Body.lean ====
/-
  The body of a grid point, from any contents of what it writes.
-/
module

public import proofs.«01_k».proof.Proof.Flash.Trip

@[expose] public section

set_option maxRecDepth 16384

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first branch: the first key block of a head. -/
def cond1 (i : grid0.Coords) : BitVec 1 := Scalar.cmpi .ne (Scalar.extui (Scalar.cmpi .eq (BitVec.ofNat 32 (i 1).val) 0#32) : BitVec 32) 0#32
theorem cond1_iff : ∀ i : grid0.Coords, cond1 i = 1#1 ↔ (i 1).val = 0 := by decide +kernel
theorem cond2_iff : ∀ i : grid0.Coords, k0_cond2 i = 1#1 ↔ (i 1).val % 2 = 0 := by decide +kernel
theorem cond3_iff : ∀ i : grid0.Coords, k0_cond3 i = 1#1 ↔ (i 1).val = 15 := by decide +kernel

section Body

variable (c : Dev nD) (i : grid0.Coords) (arg2 : Memref sig .tc .vmem S1x8192x256 .bf16) (harg2 : arg2.IsWhole) (arg3 : Memref sig .tc .vmem S1x512x256 .bf16) (harg3 : arg3.IsWhole) (arg4 : Memref sig .tc .vmem S1x512x128 .bf16) (harg4 : arg4.IsWhole) (arg5 : Memref sig .tc .vmem S8192x128 .bf16) (harg5 : arg5.IsWhole) (arg6 : Memref sig .tc .vmem S1x16x8x512 .f32) (harg6 : arg6.IsWhole) (arg7 : Memref sig .tc .vmem S1x16x8x512 .f32) (harg7 : arg7.IsWhole) (arg8 : Memref sig .tc .vmem S1x8192x256 .bf16) (harg8 : arg8.IsWhole) (arg9 : Memref sig .tc .vmem S1x512x256 .bf16) (harg9 : arg9.IsWhole) (arg10 : Memref sig .tc .vmem S1x512x128 .bf16) (harg10 : arg10.IsWhole) (arg11 : Memref sig .tc .vmem S8192x256 .f32) (harg11 : arg11.IsWhole) (arg12 : Memref sig .tc .vmem S512x256 .f32) (harg12 : arg12.IsWhole) (arg13 : Memref sig .tc .vmem S128x512 .f32) (harg13 : arg13.IsWhole)
  (x : Ins F)

/-- The queries' gradient accumulator as the diagonal step finds it: zeroed at the first key block. -/
def dq0 (a : Vec F S8192x256 .f32) : Vec F S8192x256 .f32 := if (i 1).val = 0 then k0_pay32 else a

/-- What a body leaves at the three accumulators. -/
def after' (a : Vec F S8192x256 .f32) : St F := bodySt x (i 1) (dq0 i a)

abbrev bodyG : Prog (TpuEff nD τ sig (Elt F) Λ₀ .tc) PUnit :=
  cc0_flash_bwd (F := F) i arg2 harg2 arg3 harg3 arg4 harg4 arg5 harg5 arg6 harg6 arg7 harg7 arg8 harg8 arg9 harg9 arg10 harg10 arg11 harg11 arg12 harg12 arg13 harg13

/-- What a body starts from: the inputs, and anything at what it writes. -/
abbrev Pre (d8 : Vec F S1x8192x256 .bf16) (d9 : Vec F S1x512x256 .bf16) (d10 : Vec F S1x512x128 .bf16)
    (a : Vec F S8192x256 .f32) (b : Vec F S512x256 .f32) (g : Vec F S128x512 .f32) : sProp 𝕄 :=
  iprop(at' c arg2 x.q ∗ at' c arg3 x.kb ∗ at' c arg4 x.vb ∗ at' c arg5 x.d ∗ at' c arg6 x.lse ∗ at' c arg7 x.del ∗ at' c arg8 d8 ∗ at' c arg9 d9 ∗ at' c arg10 d10
    ∗ at' c arg11 a ∗ at' c arg12 b ∗ at' c arg13 g)
/-- What it leaves. -/
abbrev Post (d8 : Vec F S1x8192x256 .bf16) (a : Vec F S8192x256 .f32) : sProp 𝕄 :=
  iprop(at' c arg2 x.q ∗ at' c arg3 x.kb ∗ at' c arg4 x.vb ∗ at' c arg5 x.d ∗ at' c arg6 x.lse ∗ at' c arg7 x.del
    ∗ at' c arg8 (if (i 1).val = 15 then k0_pay3 (after' i x a).dq else d8) ∗ at' c arg9 (k0_pay1 (k0_pay58 (after' i x a).dk)) ∗ at' c arg10 (k0_pay2 (after' i x a).dvt)
    ∗ at' c arg11 (after' i x a).dq ∗ at' c arg12 (after' i x a).dk ∗ at' c arg13 (after' i x a).dvt)

/-- The body at the first key block. -/
theorem body_first (h0 : (i 1).val = 0)
    (d8 : Vec F S1x8192x256 .bf16) (d9 : Vec F S1x512x256 .bf16) (d10 : Vec F S1x512x128 .bf16)
    (a : Vec F S8192x256 .f32) (b : Vec F S512x256 .f32) (g : Vec F S128x512 .f32) :
    Pre c arg2 arg3 arg4 arg5 arg6 arg7 arg8 arg9 arg10 arg11 arg12 arg13 x d8 d9 d10 a b g
      ⊢ wp Idealize.ShloMosaic.frame (wpE (defs₀ (F := F)) 𝒱₀ (c : Thread nD τ) none) Set.univ
        (bodyG i arg2 harg2 arg3 harg3 arg4 harg4 arg5 harg5 arg6 harg6 arg7 harg7 arg8 harg8 arg9 harg9 arg10 harg10 arg11 harg11 arg12 harg12 arg13 harg13)
        (fun _ => Post c i arg2 arg3 arg4 arg5 arg6 arg7 arg8 arg9 arg10 arg11 arg12 arg13 x d8 a) := by
  have hc1 : cond1 i = 1#1 := (cond1_iff i).mpr (by omega)
  have hc2 : k0_cond2 i = 1#1 := (cond2_iff i).mpr (by omega)
  have hc3 : ¬ k0_cond3 i = 1#1 := fun h => by have := (cond3_iff i).mp h; omega
  have hdq : dq0 i a = k0_pay32 := if_pos (by omega)
  unfold cond1 at hc1
  have r3 := fun inb => View.readAt_rep_full (Val := Elt F) arg3.view x.kb (off := ![0, 0, 0]) inb
  have r4 := fun inb => View.readAt_rep_full (Val := Elt F) arg4.view x.vb (off := ![0, 0, 0]) inb
  have q1 := fun inb => View.readAt_rep_unit (Val := Elt F) arg2.view x.q inb (k0_off1_eq i) (inbQ (i 1))
  have d1 := fun inb => View.readAt_rep_unit (Val := Elt F) arg5.view x.d inb (k0_off2_eq i) (inbD (i 1))
  have l1 := fun inb => View.readAt_rep_unit (Val := Elt F) arg6.view x.lse inb (k0_off3_eq i) (inbS (i 1))
  have e1 := fun inb => View.readAt_rep_unit (Val := Elt F) arg7.view x.del inb (k0_off3_eq i) (inbS (i 1))
  have a1 := fun f inb => View.readAt_unit (Val := Elt F) arg11.view f inb (k0_off4_eq i) (inbA (i 1))
  have w1 := fun f (inb : ∀ a, k0_off4 i a + S512x256.size a ≤ S8192x256.size a) w L => View.read_writes_cons_put (Val := Elt F) arg11.view f inb w L (k0_off4_eq i)
  have q15 := fun inb => View.readAt_rep_unit (Val := Elt F) arg2.view x.q (off := ![0, 7680, 0]) inb rfl (inbQ 15)
  have d15 := fun inb => View.readAt_rep_unit (Val := Elt F) arg5.view x.d (off := ![7680, 0]) inb rfl (inbD 15)
  have l15 := fun inb => View.readAt_rep_unit (Val := Elt F) arg6.view x.lse (off := ![0, 15, 0, 0]) inb rfl (inbS 15)
  have e15 := fun inb => View.readAt_rep_unit (Val := Elt F) arg7.view x.del (off := ![0, 15, 0, 0]) inb rfl (inbS 15)
  have a15 := fun f inb => View.readAt_unit (Val := Elt F) arg11.view f (off := ![7680, 0]) inb rfl (inbA 15)
  iintro ⟨H2, H3, H4, H5, H6, H7, H8, H9, H10, H11, H12, H13⟩
  dsimp only [bodyG, Post]
  sl_exec
  ihave H11 := (at_of_read c arg11 _ (stepD x (i 1) ⟨dq0 i a, k0_pay33, k0_pay34⟩).dq ?_) $$ H11
  · rw [hdq]
    delta body_first.sl.H11_1
    rw [w1, View.read_writes_full]
    rfl
  ihave H12 := (at_of_read c arg12 _ (stepD x (i 1) ⟨dq0 i a, k0_pay33, k0_pay34⟩).dk ?_) $$ H12
  · delta body_first.sl.H12_2
    refine (View.read_writes_full (Val := Elt F) arg12.view _ _ _ _).trans ?_
    delta body_first.sl.v100 body_first.sl.H12_1
    rw [View.readCov_full]
    rfl
  ihave H13 := (at_of_read c arg13 _ (stepD x (i 1) ⟨dq0 i a, k0_pay33, k0_pay34⟩).dvt ?_) $$ H13
  · delta body_first.sl.H13_2
    refine (View.read_writes_full (Val := Elt F) arg13.view _ _ _ _).trans ?_
    delta body_first.sl.v93 body_first.sl.H13_1
    rw [View.readCov_full]
    rfl
  generalize hs0 : stepD x (i 1) ⟨dq0 i a, k0_pay33, k0_pay34⟩ = s0
  sl_for (fun k (_ : Unit) => Trip c arg2 arg5 arg6 arg7 arg11 arg12 arg13 x (blocks x (i 1).val (2 * k) s0)) $$ [H2 H5 H6 H7 H11 H12 H13]
  case region =>
    intro k s
    rw [blocks_two]
    exact trip c i arg2 harg2 arg3 harg3 arg4 harg4 arg5 harg5 arg6 harg6 arg7 harg7 arg8 harg8 arg9 harg9 arg10 harg10 arg11 harg11 arg12 harg12 arg13 harg13 x _ _ _ k _
  · isplitl [H2]; · iexact H2
    isplitl [H5]; · iexact H5
    isplitl [H6]; · iexact H6
    isplitl [H7]; · iexact H7
    isplitl [H11]; · iexact H11
    isplitl [H12]; · iexact H12
    iexact H13
  iintro %s HI
  icases HI with ⟨H2, H5, H6, H7, H11, H12, H13⟩
  sl_for (fun k (_ : Unit) => (iprop(emp) : sProp 𝕄)) $$ []
  case region =>
    intro k s
    exact (Nat.not_lt_zero _ (Nat.lt_of_lt_of_eq k.isLt (trips2 i))).elim
  · iempintro
  iintro %s2 HI2
  iclear HI2
  rw [show Scf.trips (k0_t1_loop i).lb (k0_t1_loop i).ub (k0_t1_loop i).st = (15 - (i 1).val) / 2 from trips1 i]
  have haf : after' i x a = stepU x 15 (blocks x (i 1).val (2 * ((15 - (i 1).val) / 2)) s0) := by
    have hm : 15 - (i 1).val = 2 * ((15 - (i 1).val) / 2) + 1 := by have : (i 1).val < 16 := (i 1).isLt; omega
    have hn : (i 1).val + 1 + 2 * ((15 - (i 1).val) / 2) = 15 := by omega
    unfold after' bodySt
    rw [hs0]
    conv_lhs => rw [hm]
    show stepN x ((i 1).val + 1 + 2 * ((15 - (i 1).val) / 2)) _ = _
    rw [hn]
    exact stepN_of_lt x (by decide) _
  rw [haf]
  generalize blocks x (i 1).val (2 * ((15 - (i 1).val) / 2)) s0 = s1
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]
  · rw [if_neg (by omega)]
    iexact H8
  isplitl [H9]
  · iapply (at_of_read c arg9 _ _ ?_) $$ H9
    refine (View.read_writes_full (Val := Elt F) arg9.view _ _ _ _).trans ?_
    refine congrArg (fun z => k0_pay1 (k0_pay58 z)) ((View.readAt_full (Val := Elt F) arg12.view _ _).trans ?_)
    delta body_first.sl.H12_1_1
    refine (View.read_writes_full (Val := Elt F) arg12.view _ _ _ _).trans ?_
    exact congrArg (fun o => k0_pay51 (F := F) (k0_pay11 (qW x.q 15)) (pU x 15) (dpOf x 15) o) (View.readAt_rep_full (Val := Elt F) arg12.view s1.dk inb_S512x256_S512x256_0_0)
  isplitl [H10]
  · iapply (at_of_read c arg10 _ _ ?_) $$ H10
    refine (View.read_writes_full (Val := Elt F) arg10.view _ _ _ _).trans ?_
    refine congrArg k0_pay2 ((View.readAt_full (Val := Elt F) arg13.view _ _).trans ?_)
    delta body_first.sl.H13_1_1
    refine (View.read_writes_full (Val := Elt F) arg13.view _ _ _ _).trans ?_
    rw [View.readAt_rep_full]
    rfl
  isplitl [H11]
  · iapply (at_of_read c arg11 _ _ ?_) $$ H11
    rw [View.read_writes_cons_put (Val := Elt F) arg11.view _ _ _ _ rfl, View.writes_nil, View.read_rep]
    rfl
  isplitl [H12]
  · iapply (at_of_read c arg12 _ _ ?_) $$ H12
    delta body_first.sl.H12_1_1
    refine (View.read_writes_full (Val := Elt F) arg12.view _ _ _ _).trans ?_
    exact congrArg (fun o => k0_pay51 (F := F) (k0_pay11 (qW x.q 15)) (pU x 15) (dpOf x 15) o) (View.readAt_rep_full (Val := Elt F) arg12.view s1.dk inb_S512x256_S512x256_0_0)
  · iapply (at_of_read c arg13 _ _ ?_) $$ H13
    delta body_first.sl.H13_1_1
    refine (View.read_writes_full (Val := Elt F) arg13.view _ _ _ _).trans ?_
    rw [View.readAt_rep_full]
    rfl

/-- The body at a later key block of even number. -/
theorem body_even (h0 : 0 < (i 1).val) (h1 : (i 1).val % 2 = 0)
    (d8 : Vec F S1x8192x256 .bf16) (d9 : Vec F S1x512x256 .bf16) (d10 : Vec F S1x512x128 .bf16)
    (a : Vec F S8192x256 .f32) (b : Vec F S512x256 .f32) (g : Vec F S128x512 .f32) :
    Pre c arg2 arg3 arg4 arg5 arg6 arg7 arg8 arg9 arg10 arg11 arg12 arg13 x d8 d9 d10 a b g
      ⊢ wp Idealize.ShloMosaic.frame (wpE (defs₀ (F := F)) 𝒱₀ (c : Thread nD τ) none) Set.univ
        (bodyG i arg2 harg2 arg3 harg3 arg4 harg4 arg5 harg5 arg6 harg6 arg7 harg7 arg8 harg8 arg9 harg9 arg10 harg10 arg11 harg11 arg12 harg12 arg13 harg13)
        (fun _ => Post c i arg2 arg3 arg4 arg5 arg6 arg7 arg8 arg9 arg10 arg11 arg12 arg13 x d8 a) := by
  have hc1 : ¬ cond1 i = 1#1 := fun h => by have := (cond1_iff i).mp h; omega
  have hc2 : k0_cond2 i = 1#1 := (cond2_iff i).mpr (by omega)
  have hc3 : ¬ k0_cond3 i = 1#1 := fun h => by have := (cond3_iff i).mp h; omega
  have hdq : dq0 i a = a := if_neg (by omega)
  unfold cond1 at hc1
  have r3 := fun inb => View.readAt_rep_full (Val := Elt F) arg3.view x.kb (off := ![0, 0, 0]) inb
  have r4 := fun inb => View.readAt_rep_full (Val := Elt F) arg4.view x.vb (off := ![0, 0, 0]) inb
  have q1 := fun inb => View.readAt_rep_unit (Val := Elt F) arg2.view x.q inb (k0_off1_eq i) (inbQ (i 1))
  have d1 := fun inb => View.readAt_rep_unit (Val := Elt F) arg5.view x.d inb (k0_off2_eq i) (inbD (i 1))
  have l1 := fun inb => View.readAt_rep_unit (Val := Elt F) arg6.view x.lse inb (k0_off3_eq i) (inbS (i 1))
  have e1 := fun inb => View.readAt_rep_unit (Val := Elt F) arg7.view x.del inb (k0_off3_eq i) (inbS (i 1))
  have a1 := fun f inb => View.readAt_unit (Val := Elt F) arg11.view f inb (k0_off4_eq i) (inbA (i 1))
  have w1 := fun f (inb : ∀ a, k0_off4 i a + S512x256.size a ≤ S8192x256.size a) w L => View.read_writes_cons_put (Val := Elt F) arg11.view f inb w L (k0_off4_eq i)
  have q15 := fun inb => View.readAt_rep_unit (Val := Elt F) arg2.view x.q (off := ![0, 7680, 0]) inb rfl (inbQ 15)
  have d15 := fun inb => View.readAt_rep_unit (Val := Elt F) arg5.view x.d (off := ![7680, 0]) inb rfl (inbD 15)
  have l15 := fun inb => View.readAt_rep_unit (Val := Elt F) arg6.view x.lse (off := ![0, 15, 0, 0]) inb rfl (inbS 15)
  have e15 := fun inb => View.readAt_rep_unit (Val := Elt F) arg7.view x.del (off := ![0, 15, 0, 0]) inb rfl (inbS 15)
  have a15 := fun f inb => View.readAt_unit (Val := Elt F) arg11.view f (off := ![7680, 0]) inb rfl (inbA 15)
  iintro ⟨H2, H3, H4, H5, H6, H7, H8, H9, H10, H11, H12, H13⟩
  dsimp only [bodyG, Post]
  sl_exec
  ihave H11 := (at_of_read c arg11 _ (stepD x (i 1) ⟨dq0 i a, k0_pay33, k0_pay34⟩).dq ?_) $$ H11
  · rw [hdq]
    simp only [w1, View.writes_nil, View.read_rep]
    rfl
  ihave H12 := (at_of_read c arg12 _ (stepD x (i 1) ⟨dq0 i a, k0_pay33, k0_pay34⟩).dk ?_) $$ H12
  · delta body_even.sl.H12_2
    refine (View.read_writes_full (Val := Elt F) arg12.view _ _ _ _).trans ?_
    delta body_even.sl.v100 body_even.sl.H12_1
    rw [View.readCov_full]
    rfl
  ihave H13 := (at_of_read c arg13 _ (stepD x (i 1) ⟨dq0 i a, k0_pay33, k0_pay34⟩).dvt ?_) $$ H13
  · delta body_even.sl.H13_2
    refine (View.read_writes_full (Val := Elt F) arg13.view _ _ _ _).trans ?_
    delta body_even.sl.v93 body_even.sl.H13_1
    rw [View.readCov_full]
    rfl
  generalize hs0 : stepD x (i 1) ⟨dq0 i a, k0_pay33, k0_pay34⟩ = s0
  sl_for (fun k (_ : Unit) => Trip c arg2 arg5 arg6 arg7 arg11 arg12 arg13 x (blocks x (i 1).val (2 * k) s0)) $$ [H2 H5 H6 H7 H11 H12 H13]
  case region =>
    intro k s
    rw [blocks_two]
    exact trip c i arg2 harg2 arg3 harg3 arg4 harg4 arg5 harg5 arg6 harg6 arg7 harg7 arg8 harg8 arg9 harg9 arg10 harg10 arg11 harg11 arg12 harg12 arg13 harg13 x _ _ _ k _
  · isplitl [H2]; · iexact H2
    isplitl [H5]; · iexact H5
    isplitl [H6]; · iexact H6
    isplitl [H7]; · iexact H7
    isplitl [H11]; · iexact H11
    isplitl [H12]; · iexact H12
    iexact H13
  iintro %s HI
  icases HI with ⟨H2, H5, H6, H7, H11, H12, H13⟩
  sl_for (fun k (_ : Unit) => (iprop(emp) : sProp 𝕄)) $$ []
  case region =>
    intro k s
    exact (Nat.not_lt_zero _ (Nat.lt_of_lt_of_eq k.isLt (trips2 i))).elim
  · iempintro
  iintro %s2 HI2
  iclear HI2
  rw [show Scf.trips (k0_t1_loop i).lb (k0_t1_loop i).ub (k0_t1_loop i).st = (15 - (i 1).val) / 2 from trips1 i]
  have haf : after' i x a = stepU x 15 (blocks x (i 1).val (2 * ((15 - (i 1).val) / 2)) s0) := by
    have hm : 15 - (i 1).val = 2 * ((15 - (i 1).val) / 2) + 1 := by have : (i 1).val < 16 := (i 1).isLt; omega
    have hn : (i 1).val + 1 + 2 * ((15 - (i 1).val) / 2) = 15 := by omega
    unfold after' bodySt
    rw [hs0]
    conv_lhs => rw [hm]
    show stepN x ((i 1).val + 1 + 2 * ((15 - (i 1).val) / 2)) _ = _
    rw [hn]
    exact stepN_of_lt x (by decide) _
  rw [haf]
  generalize blocks x (i 1).val (2 * ((15 - (i 1).val) / 2)) s0 = s1
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]
  · rw [if_neg (by omega)]
    iexact H8
  isplitl [H9]
  · iapply (at_of_read c arg9 _ _ ?_) $$ H9
    refine (View.read_writes_full (Val := Elt F) arg9.view _ _ _ _).trans ?_
    refine congrArg (fun z => k0_pay1 (k0_pay58 z)) ((View.readAt_full (Val := Elt F) arg12.view _ _).trans ?_)
    delta body_even.sl.H12_1_1
    refine (View.read_writes_full (Val := Elt F) arg12.view _ _ _ _).trans ?_
    exact congrArg (fun o => k0_pay51 (F := F) (k0_pay11 (qW x.q 15)) (pU x 15) (dpOf x 15) o) (View.readAt_rep_full (Val := Elt F) arg12.view s1.dk inb_S512x256_S512x256_0_0)
  isplitl [H10]
  · iapply (at_of_read c arg10 _ _ ?_) $$ H10
    refine (View.read_writes_full (Val := Elt F) arg10.view _ _ _ _).trans ?_
    refine congrArg k0_pay2 ((View.readAt_full (Val := Elt F) arg13.view _ _).trans ?_)
    delta body_even.sl.H13_1_1
    refine (View.read_writes_full (Val := Elt F) arg13.view _ _ _ _).trans ?_
    rw [View.readAt_rep_full]
    rfl
  isplitl [H11]
  · iapply (at_of_read c arg11 _ _ ?_) $$ H11
    rw [View.read_writes_cons_put (Val := Elt F) arg11.view _ _ _ _ rfl, View.writes_nil, View.read_rep]
    rfl
  isplitl [H12]
  · iapply (at_of_read c arg12 _ _ ?_) $$ H12
    delta body_even.sl.H12_1_1
    refine (View.read_writes_full (Val := Elt F) arg12.view _ _ _ _).trans ?_
    exact congrArg (fun o => k0_pay51 (F := F) (k0_pay11 (qW x.q 15)) (pU x 15) (dpOf x 15) o) (View.readAt_rep_full (Val := Elt F) arg12.view s1.dk inb_S512x256_S512x256_0_0)
  · iapply (at_of_read c arg13 _ _ ?_) $$ H13
    delta body_even.sl.H13_1_1
    refine (View.read_writes_full (Val := Elt F) arg13.view _ _ _ _).trans ?_
    rw [View.readAt_rep_full]
    rfl

/-- The body at a key block of odd number before the last. -/
theorem body_odd (h0 : (i 1).val < 15) (h1 : (i 1).val % 2 = 1)
    (d8 : Vec F S1x8192x256 .bf16) (d9 : Vec F S1x512x256 .bf16) (d10 : Vec F S1x512x128 .bf16)
    (a : Vec F S8192x256 .f32) (b : Vec F S512x256 .f32) (g : Vec F S128x512 .f32) :
    Pre c arg2 arg3 arg4 arg5 arg6 arg7 arg8 arg9 arg10 arg11 arg12 arg13 x d8 d9 d10 a b g
      ⊢ wp Idealize.ShloMosaic.frame (wpE (defs₀ (F := F)) 𝒱₀ (c : Thread nD τ) none) Set.univ
        (bodyG i arg2 harg2 arg3 harg3 arg4 harg4 arg5 harg5 arg6 harg6 arg7 harg7 arg8 harg8 arg9 harg9 arg10 harg10 arg11 harg11 arg12 harg12 arg13 harg13)
        (fun _ => Post c i arg2 arg3 arg4 arg5 arg6 arg7 arg8 arg9 arg10 arg11 arg12 arg13 x d8 a) := by
  have hc1 : ¬ cond1 i = 1#1 := fun h => by have := (cond1_iff i).mp h; omega
  have hc2 : ¬ k0_cond2 i = 1#1 := fun h => by have := (cond2_iff i).mp h; omega
  have hc3 : ¬ k0_cond3 i = 1#1 := fun h => by have := (cond3_iff i).mp h; omega
  have hdq : dq0 i a = a := if_neg (by omega)
  unfold cond1 at hc1
  have r3 := fun inb => View.readAt_rep_full (Val := Elt F) arg3.view x.kb (off := ![0, 0, 0]) inb
  have r4 := fun inb => View.readAt_rep_full (Val := Elt F) arg4.view x.vb (off := ![0, 0, 0]) inb
  have q1 := fun inb => View.readAt_rep_unit (Val := Elt F) arg2.view x.q inb (k0_off1_eq i) (inbQ (i 1))
  have d1 := fun inb => View.readAt_rep_unit (Val := Elt F) arg5.view x.d inb (k0_off2_eq i) (inbD (i 1))
  have l1 := fun inb => View.readAt_rep_unit (Val := Elt F) arg6.view x.lse inb (k0_off3_eq i) (inbS (i 1))
  have e1 := fun inb => View.readAt_rep_unit (Val := Elt F) arg7.view x.del inb (k0_off3_eq i) (inbS (i 1))
  have a1 := fun f inb => View.readAt_unit (Val := Elt F) arg11.view f inb (k0_off4_eq i) (inbA (i 1))
  have w1 := fun f (inb : ∀ a, k0_off4 i a + S512x256.size a ≤ S8192x256.size a) w L => View.read_writes_cons_put (Val := Elt F) arg11.view f inb w L (k0_off4_eq i)
  iintro ⟨H2, H3, H4, H5, H6, H7, H8, H9, H10, H11, H12, H13⟩
  dsimp only [bodyG, Post]
  sl_exec
  ihave H11 := (at_of_read c arg11 _ (stepD x (i 1) ⟨dq0 i a, k0_pay33, k0_pay34⟩).dq ?_) $$ H11
  · rw [hdq]
    simp only [w1, View.writes_nil, View.read_rep]
    rfl
  ihave H12 := (at_of_read c arg12 _ (stepD x (i 1) ⟨dq0 i a, k0_pay33, k0_pay34⟩).dk ?_) $$ H12
  · delta body_odd.sl.H12_2
    refine (View.read_writes_full (Val := Elt F) arg12.view _ _ _ _).trans ?_
    delta body_odd.sl.v100 body_odd.sl.H12_1
    rw [View.readCov_full]
    rfl
  ihave H13 := (at_of_read c arg13 _ (stepD x (i 1) ⟨dq0 i a, k0_pay33, k0_pay34⟩).dvt ?_) $$ H13
  · delta body_odd.sl.H13_2
    refine (View.read_writes_full (Val := Elt F) arg13.view _ _ _ _).trans ?_
    delta body_odd.sl.v93 body_odd.sl.H13_1
    rw [View.readCov_full]
    rfl
  generalize hs0 : stepD x (i 1) ⟨dq0 i a, k0_pay33, k0_pay34⟩ = s0
  sl_for (fun k (_ : Unit) => Trip c arg2 arg5 arg6 arg7 arg11 arg12 arg13 x (blocks x (i 1).val (2 * k) s0)) $$ [H2 H5 H6 H7 H11 H12 H13]
  case region =>
    intro k s
    rw [blocks_two]
    exact trip c i arg2 harg2 arg3 harg3 arg4 harg4 arg5 harg5 arg6 harg6 arg7 harg7 arg8 harg8 arg9 harg9 arg10 harg10 arg11 harg11 arg12 harg12 arg13 harg13 x _ _ _ k _
  · isplitl [H2]; · iexact H2
    isplitl [H5]; · iexact H5
    isplitl [H6]; · iexact H6
    isplitl [H7]; · iexact H7
    isplitl [H11]; · iexact H11
    isplitl [H12]; · iexact H12
    iexact H13
  iintro %s HI
  icases HI with ⟨H2, H5, H6, H7, H11, H12, H13⟩
  sl_for (fun k (_ : Unit) => (iprop(emp) : sProp 𝕄)) $$ []
  case region =>
    intro k s
    exact (Nat.not_lt_zero _ (Nat.lt_of_lt_of_eq k.isLt (trips2 i))).elim
  · iempintro
  iintro %s2 HI2
  iclear HI2
  rw [show Scf.trips (k0_t1_loop i).lb (k0_t1_loop i).ub (k0_t1_loop i).st = (15 - (i 1).val) / 2 from trips1 i]
  have haf : after' i x a = blocks x (i 1).val (2 * ((15 - (i 1).val) / 2)) s0 := by
    have hm : 15 - (i 1).val = 2 * ((15 - (i 1).val) / 2) := by have : (i 1).val < 16 := (i 1).isLt; omega
    unfold after' bodySt
    rw [hs0]
    conv_lhs => rw [hm]
  rw [haf]
  generalize blocks x (i 1).val (2 * ((15 - (i 1).val) / 2)) s0 = s1
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]
  · rw [if_neg (by omega)]
    iexact H8
  isplitl [H9]
  · iapply (at_of_read c arg9 _ _ ?_) $$ H9
    refine (View.read_writes_full (Val := Elt F) arg9.view _ _ _ _).trans ?_
    exact congrArg (fun z => k0_pay1 (k0_pay58 z)) (View.readAt_rep_full (Val := Elt F) arg12.view _ _)
  isplitl [H10]
  · iapply (at_of_read c arg10 _ _ ?_) $$ H10
    refine (View.read_writes_full (Val := Elt F) arg10.view _ _ _ _).trans ?_
    exact congrArg k0_pay2 (View.readAt_rep_full (Val := Elt F) arg13.view _ _)
  isplitl [H11]; · iexact H11
  isplitl [H12]; · iexact H12
  iexact H13

/-- The body at the last key block. -/
theorem body_last (h0 : (i 1).val = 15)
    (d8 : Vec F S1x8192x256 .bf16) (d9 : Vec F S1x512x256 .bf16) (d10 : Vec F S1x512x128 .bf16)
    (a : Vec F S8192x256 .f32) (b : Vec F S512x256 .f32) (g : Vec F S128x512 .f32) :
    Pre c arg2 arg3 arg4 arg5 arg6 arg7 arg8 arg9 arg10 arg11 arg12 arg13 x d8 d9 d10 a b g
      ⊢ wp Idealize.ShloMosaic.frame (wpE (defs₀ (F := F)) 𝒱₀ (c : Thread nD τ) none) Set.univ
        (bodyG i arg2 harg2 arg3 harg3 arg4 harg4 arg5 harg5 arg6 harg6 arg7 harg7 arg8 harg8 arg9 harg9 arg10 harg10 arg11 harg11 arg12 harg12 arg13 harg13)
        (fun _ => Post c i arg2 arg3 arg4 arg5 arg6 arg7 arg8 arg9 arg10 arg11 arg12 arg13 x d8 a) := by
  have hc1 : ¬ cond1 i = 1#1 := fun h => by have := (cond1_iff i).mp h; omega
  have hc2 : ¬ k0_cond2 i = 1#1 := fun h => by have := (cond2_iff i).mp h; omega
  have hc3 : k0_cond3 i = 1#1 := (cond3_iff i).mpr (by omega)
  have hdq : dq0 i a = a := if_neg (by omega)
  unfold cond1 at hc1
  have r3 := fun inb => View.readAt_rep_full (Val := Elt F) arg3.view x.kb (off := ![0, 0, 0]) inb
  have r4 := fun inb => View.readAt_rep_full (Val := Elt F) arg4.view x.vb (off := ![0, 0, 0]) inb
  have q1 := fun inb => View.readAt_rep_unit (Val := Elt F) arg2.view x.q inb (k0_off1_eq i) (inbQ (i 1))
  have d1 := fun inb => View.readAt_rep_unit (Val := Elt F) arg5.view x.d inb (k0_off2_eq i) (inbD (i 1))
  have l1 := fun inb => View.readAt_rep_unit (Val := Elt F) arg6.view x.lse inb (k0_off3_eq i) (inbS (i 1))
  have e1 := fun inb => View.readAt_rep_unit (Val := Elt F) arg7.view x.del inb (k0_off3_eq i) (inbS (i 1))
  have a1 := fun f inb => View.readAt_unit (Val := Elt F) arg11.view f inb (k0_off4_eq i) (inbA (i 1))
  have w1 := fun f (inb : ∀ a, k0_off4 i a + S512x256.size a ≤ S8192x256.size a) w L => View.read_writes_cons_put (Val := Elt F) arg11.view f inb w L (k0_off4_eq i)
  iintro ⟨H2, H3, H4, H5, H6, H7, H8, H9, H10, H11, H12, H13⟩
  dsimp only [bodyG, Post]
  sl_exec
  ihave H11 := (at_of_read c arg11 _ (stepD x (i 1) ⟨dq0 i a, k0_pay33, k0_pay34⟩).dq ?_) $$ H11
  · rw [hdq]
    simp only [w1, View.writes_nil, View.read_rep]
    rfl
  ihave H12 := (at_of_read c arg12 _ (stepD x (i 1) ⟨dq0 i a, k0_pay33, k0_pay34⟩).dk ?_) $$ H12
  · delta body_last.sl.H12_2
    refine (View.read_writes_full (Val := Elt F) arg12.view _ _ _ _).trans ?_
    delta body_last.sl.v100 body_last.sl.H12_1
    rw [View.readCov_full]
    rfl
  ihave H13 := (at_of_read c arg13 _ (stepD x (i 1) ⟨dq0 i a, k0_pay33, k0_pay34⟩).dvt ?_) $$ H13
  · delta body_last.sl.H13_2
    refine (View.read_writes_full (Val := Elt F) arg13.view _ _ _ _).trans ?_
    delta body_last.sl.v93 body_last.sl.H13_1
    rw [View.readCov_full]
    rfl
  generalize hs0 : stepD x (i 1) ⟨dq0 i a, k0_pay33, k0_pay34⟩ = s0
  sl_for (fun k (_ : Unit) => Trip c arg2 arg5 arg6 arg7 arg11 arg12 arg13 x (blocks x (i 1).val (2 * k) s0)) $$ [H2 H5 H6 H7 H11 H12 H13]
  case region =>
    intro k s
    rw [blocks_two]
    exact trip c i arg2 harg2 arg3 harg3 arg4 harg4 arg5 harg5 arg6 harg6 arg7 harg7 arg8 harg8 arg9 harg9 arg10 harg10 arg11 harg11 arg12 harg12 arg13 harg13 x _ _ _ k _
  · isplitl [H2]; · iexact H2
    isplitl [H5]; · iexact H5
    isplitl [H6]; · iexact H6
    isplitl [H7]; · iexact H7
    isplitl [H11]; · iexact H11
    isplitl [H12]; · iexact H12
    iexact H13
  iintro %s HI
  icases HI with ⟨H2, H5, H6, H7, H11, H12, H13⟩
  sl_for (fun k (_ : Unit) => (iprop(emp) : sProp 𝕄)) $$ []
  case region =>
    intro k s
    exact (Nat.not_lt_zero _ (Nat.lt_of_lt_of_eq k.isLt (trips2 i))).elim
  · iempintro
  iintro %s2 HI2
  iclear HI2
  rw [show Scf.trips (k0_t1_loop i).lb (k0_t1_loop i).ub (k0_t1_loop i).st = (15 - (i 1).val) / 2 from trips1 i]
  have haf : after' i x a = blocks x (i 1).val (2 * ((15 - (i 1).val) / 2)) s0 := by
    have hm : 15 - (i 1).val = 2 * ((15 - (i 1).val) / 2) := by have : (i 1).val < 16 := (i 1).isLt; omega
    unfold after' bodySt
    rw [hs0]
    conv_lhs => rw [hm]
  rw [haf]
  generalize blocks x (i 1).val (2 * ((15 - (i 1).val) / 2)) s0 = s1
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]
  · rw [if_pos h0]
    iapply (at_of_read c arg8 _ _ ?_) $$ H8
    refine (View.read_writes_full (Val := Elt F) arg8.view _ _ _ _).trans ?_
    rw [View.readAt_rep_full]
  isplitl [H9]
  · iapply (at_of_read c arg9 _ _ ?_) $$ H9
    refine (View.read_writes_full (Val := Elt F) arg9.view _ _ _ _).trans ?_
    exact congrArg (fun z => k0_pay1 (k0_pay58 z)) (View.readAt_rep_full (Val := Elt F) arg12.view _ _)
  isplitl [H10]
  · iapply (at_of_read c arg10 _ _ ?_) $$ H10
    refine (View.read_writes_full (Val := Elt F) arg10.view _ _ _ _).trans ?_
    exact congrArg k0_pay2 (View.readAt_rep_full (Val := Elt F) arg13.view _ _)
  isplitl [H11]; · iexact H11
  isplitl [H12]; · iexact H12
  iexact H13

end Body
end Cert.Flash
end
-- ==== Proof.Flash.Run.lean ====
/-
  The run of the call: what each buffer holds at each grid point, the body's obligation, and the frame.
-/
module

public import Idealize.ShloMosaic.Lib.Pipeline.Quiescent
public import proofs.«01_k».proof.Proof.Flash.Body

@[expose] public section

set_option maxRecDepth 16384

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem coord1 : ∀ t : Fin cfg0.N, (grid0.coords t 1).val = t.val % 16 := by decide +kernel

/-- The body's triple at any grid point. -/
theorem body_core (c : Dev nD) (i : grid0.Coords) (arg2 : Memref sig .tc .vmem S1x8192x256 .bf16) (harg2 : arg2.IsWhole) (arg3 : Memref sig .tc .vmem S1x512x256 .bf16) (harg3 : arg3.IsWhole) (arg4 : Memref sig .tc .vmem S1x512x128 .bf16) (harg4 : arg4.IsWhole) (arg5 : Memref sig .tc .vmem S8192x128 .bf16) (harg5 : arg5.IsWhole) (arg6 : Memref sig .tc .vmem S1x16x8x512 .f32) (harg6 : arg6.IsWhole) (arg7 : Memref sig .tc .vmem S1x16x8x512 .f32) (harg7 : arg7.IsWhole) (arg8 : Memref sig .tc .vmem S1x8192x256 .bf16) (harg8 : arg8.IsWhole) (arg9 : Memref sig .tc .vmem S1x512x256 .bf16) (harg9 : arg9.IsWhole) (arg10 : Memref sig .tc .vmem S1x512x128 .bf16) (harg10 : arg10.IsWhole) (arg11 : Memref sig .tc .vmem S8192x256 .f32) (harg11 : arg11.IsWhole) (arg12 : Memref sig .tc .vmem S512x256 .f32) (harg12 : arg12.IsWhole) (arg13 : Memref sig .tc .vmem S128x512 .f32) (harg13 : arg13.IsWhole)
    (x : Ins F) (d8 : Vec F S1x8192x256 .bf16) (d9 : Vec F S1x512x256 .bf16) (d10 : Vec F S1x512x128 .bf16)
    (a : Vec F S8192x256 .f32) (b : Vec F S512x256 .f32) (g : Vec F S128x512 .f32) :
    Pre c arg2 arg3 arg4 arg5 arg6 arg7 arg8 arg9 arg10 arg11 arg12 arg13 x d8 d9 d10 a b g
      ⊢ wp Idealize.ShloMosaic.frame (wpE (defs₀ (F := F)) 𝒱₀ (c : Thread nD τ) none) Set.univ
        (bodyG i arg2 harg2 arg3 harg3 arg4 harg4 arg5 harg5 arg6 harg6 arg7 harg7 arg8 harg8 arg9 harg9 arg10 harg10 arg11 harg11 arg12 harg12 arg13 harg13)
        (fun _ => Post c i arg2 arg3 arg4 arg5 arg6 arg7 arg8 arg9 arg10 arg11 arg12 arg13 x d8 a) := by
  have hi : (i 1).val < 16 := (i 1).isLt
  rcases Nat.eq_zero_or_pos (i 1).val with h0 | h0
  · exact body_first c i arg2 harg2 arg3 harg3 arg4 harg4 arg5 harg5 arg6 harg6 arg7 harg7 arg8 harg8 arg9 harg9 arg10 harg10 arg11 harg11 arg12 harg12 arg13 harg13 x h0 d8 d9 d10 a b g
  rcases Nat.mod_two_eq_zero_or_one (i 1).val with h1 | h1
  · exact body_even c i arg2 harg2 arg3 harg3 arg4 harg4 arg5 harg5 arg6 harg6 arg7 harg7 arg8 harg8 arg9 harg9 arg10 harg10 arg11 harg11 arg12 harg12 arg13 harg13 x h0 h1 d8 d9 d10 a b g
  rcases Nat.lt_or_ge (i 1).val 15 with h2 | h2
  · exact body_odd c i arg2 harg2 arg3 harg3 arg4 harg4 arg5 harg5 arg6 harg6 arg7 harg7 arg8 harg8 arg9 harg9 arg10 harg10 arg11 harg11 arg12 harg12 arg13 harg13 x h2 h1 d8 d9 d10 a b g
  · exact body_last c i arg2 harg2 arg3 harg3 arg4 harg4 arg5 harg5 arg6 harg6 arg7 harg7 arg8 harg8 arg9 harg9 arg10 harg10 arg11 harg11 arg12 harg12 arg13 harg13 x (by omega) d8 d9 d10 a b g

/-- The same with the windows' buffers as the pipeline states them. -/
theorem body_owns (c : Dev nD) (i : grid0.Coords) (arg2 : Memref sig .tc .vmem S1x8192x256 .bf16) (harg2 : arg2.IsWhole) (arg3 : Memref sig .tc .vmem S1x512x256 .bf16) (harg3 : arg3.IsWhole) (arg4 : Memref sig .tc .vmem S1x512x128 .bf16) (harg4 : arg4.IsWhole) (arg5 : Memref sig .tc .vmem S8192x128 .bf16) (harg5 : arg5.IsWhole) (arg6 : Memref sig .tc .vmem S1x16x8x512 .f32) (harg6 : arg6.IsWhole) (arg7 : Memref sig .tc .vmem S1x16x8x512 .f32) (harg7 : arg7.IsWhole) (arg8 : Memref sig .tc .vmem S1x8192x256 .bf16) (harg8 : arg8.IsWhole) (arg9 : Memref sig .tc .vmem S1x512x256 .bf16) (harg9 : arg9.IsWhole) (arg10 : Memref sig .tc .vmem S1x512x128 .bf16) (harg10 : arg10.IsWhole) (arg11 : Memref sig .tc .vmem S8192x256 .f32) (harg11 : arg11.IsWhole) (arg12 : Memref sig .tc .vmem S512x256 .f32) (harg12 : arg12.IsWhole) (arg13 : Memref sig .tc .vmem S128x512 .f32) (harg13 : arg13.IsWhole)
    (x : Ins F) (d8 : Vec F S1x8192x256 .bf16) (d9 : Vec F S1x512x256 .bf16) (d10 : Vec F S1x512x128 .bf16)
    (a : Vec F S8192x256 .f32) (b : Vec F S512x256 .f32) (g : Vec F S128x512 .f32) :
    iprop(owns (c : Thread nD τ) arg2 fullShare x.q ∗ owns (c : Thread nD τ) arg3 fullShare x.kb ∗ owns (c : Thread nD τ) arg4 fullShare x.vb ∗ owns (c : Thread nD τ) arg5 fullShare x.d ∗ owns (c : Thread nD τ) arg6 fullShare x.lse ∗ owns (c : Thread nD τ) arg7 fullShare x.del ∗ owns (c : Thread nD τ) arg8 fullShare d8 ∗ owns (c : Thread nD τ) arg9 fullShare d9 ∗ owns (c : Thread nD τ) arg10 fullShare d10
      ∗ at' c arg11 a ∗ at' c arg12 b ∗ at' c arg13 g)
      ⊢ wp Idealize.ShloMosaic.frame (wpE (defs₀ (F := F)) 𝒱₀ (c : Thread nD τ) none) Set.univ
        (bodyG i arg2 harg2 arg3 harg3 arg4 harg4 arg5 harg5 arg6 harg6 arg7 harg7 arg8 harg8 arg9 harg9 arg10 harg10 arg11 harg11 arg12 harg12 arg13 harg13)
        (fun _ => iprop(owns (c : Thread nD τ) arg2 fullShare x.q ∗ owns (c : Thread nD τ) arg3 fullShare x.kb ∗ owns (c : Thread nD τ) arg4 fullShare x.vb ∗ owns (c : Thread nD τ) arg5 fullShare x.d ∗ owns (c : Thread nD τ) arg6 fullShare x.lse ∗ owns (c : Thread nD τ) arg7 fullShare x.del ∗ owns (c : Thread nD τ) arg8 fullShare (if (i 1).val = 15 then k0_pay3 (after' i x a).dq else d8) ∗ owns (c : Thread nD τ) arg9 fullShare (k0_pay1 (k0_pay58 (after' i x a).dk)) ∗ owns (c : Thread nD τ) arg10 fullShare (k0_pay2 (after' i x a).dvt)
          ∗ at' c arg11 (after' i x a).dq ∗ at' c arg12 (after' i x a).dk ∗ at' c arg13 (after' i x a).dvt)) := by
  simp only [owns_eq_rep]
  exact body_core c i arg2 harg2 arg3 harg3 arg4 harg4 arg5 harg5 arg6 harg6 arg7 harg7 arg8 harg8 arg9 harg9 arg10 harg10 arg11 harg11 arg12 harg12 arg13 harg13 x d8 d9 d10 a b g

/-- What the body reads at a point. -/
def xAt (c : Dev nD) (t : Fin cfg0.N) : Ins F where
  q := iblk m c 0 t
  kb := iblk m c 1 t
  vb := iblk m c 2 t
  d := iblk m c 3 t
  lse := iblk m c 4 t
  del := iblk m c 5 t

/-- The queries' gradient accumulator after `n` points. -/
def dqAt (c : Dev nD) : ℕ → Vec F S8192x256 .f32
  | 0 => k0_pay32
  | n + 1 => if h : n < cfg0.N then (after' (grid0.coords ⟨n, h⟩) (xAt m c ⟨n, h⟩) (dqAt c n)).dq else dqAt c n

/-- The accumulators after point `t`. -/
def stAt (c : Dev nD) (t : Fin cfg0.N) : St F := after' (grid0.coords t) (xAt m c t) (dqAt m c t.val)

theorem dqAt_succ (c : Dev nD) (t : Fin cfg0.N) : dqAt m c (t.val + 1) = (stAt m c t).dq := dif_pos t.isLt

/-- What the accumulator holds before a head's first point does not matter. -/
theorem after'_held (c : Dev nD) (t : Fin cfg0.N) (a : Vec F S8192x256 .f32) (h : t.val % 16 ≠ 0 → a = dqAt m c t.val) :
    after' (grid0.coords t) (xAt m c t) a = stAt m c t := by
  by_cases h0 : t.val % 16 = 0
  · unfold stAt after' dq0
    rw [if_pos ((coord1 t).trans h0), if_pos ((coord1 t).trans h0)]
  · rw [h h0]; rfl

/-- The invariant after `n` points: the accumulators, the first at its contents within a head. -/
def PhiS (c : Dev nD) (n : ℕ) (_ : n ≤ cfg0.N) : sProp 𝕄 :=
  iprop(((∃ a, ⌜n % 16 ≠ 0 → a = dqAt m c n⌝ ∗ at' c (Memref.whole cc0_scratch0) a)
    ∗ (∃ b, at' c (Memref.whole cc0_scratch1) b) ∗ (∃ g, at' c (Memref.whole cc0_scratch2) g)) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay3 (stAt m c t).dq
    | ⟨7, _⟩ => k0_pay1 (k0_pay58 (stAt m c t).dk)
    | ⟨8, _⟩ => k0_pay2 (stAt m c t).dvt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem xAt0 (c : Dev nD) (t : Fin cfg0.N) : iblk m c 0 t = (xAt m c t).q := rfl
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem xAt1 (c : Dev nD) (t : Fin cfg0.N) : iblk m c 1 t = (xAt m c t).kb := rfl
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem xAt2 (c : Dev nD) (t : Fin cfg0.N) : iblk m c 2 t = (xAt m c t).vb := rfl
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem xAt3 (c : Dev nD) (t : Fin cfg0.N) : iblk m c 3 t = (xAt m c t).d := rfl
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem xAt4 (c : Dev nD) (t : Fin cfg0.N) : iblk m c 4 t = (xAt m c t).lse := rfl
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d
theorem xAt5 (c : Dev nD) (t : Fin cfg0.N) : iblk m c 5 t = (xAt m c t).del := rfl
theorem after6 (c : Dev nD) (t : Fin cfg0.N) : (dats m 0 c).after 6 t = k0_pay3 (stAt m c t).dq := by dsimp only [dats]
theorem after7 (c : Dev nD) (t : Fin cfg0.N) : (dats m 0 c).after 7 t = k0_pay1 (k0_pay58 (stAt m c t).dk) := by dsimp only [dats]
theorem after8 (c : Dev nD) (t : Fin cfg0.N) : (dats m 0 c).after 8 t = k0_pay2 (stAt m c t).dvt := by dsimp only [dats]
theorem Phi_castSucc (c : Dev nD) (t : Fin cfg0.N) : (dats m 0 c).Φ t.castSucc = PhiS m c t.val (Nat.le_of_lt t.isLt) := by
  dsimp only [dats]; exact Pipeline.Dat.Φ_castSucc (PhiS m c) t
theorem Phi_succ (c : Dev nD) (t : Fin cfg0.N) : (dats m 0 c).Φ t.succ = PhiS m c (t.val + 1) t.isLt := by
  dsimp only [dats]; rfl

/-- The queries' gradient block as the obligation takes it back: left as found before a head's last point. -/
def leaves6 (c : Dev nD) (t : Fin cfg0.N) : sProp 𝕄 :=
  match cfg0.idle 6 (cfg0.grid.coords t) with
  | true =>
    match (cfg0.win 6).flush t with
    | false => iprop(∃ d, owns (c : Thread nD τ) (st0_6 t) fullShare ((dats m 0 c).before 6 t d))
    | true => owns (c : Thread nD τ) (st0_6 t) fullShare ((dats m 0 c).after 6 t)
  | false => owns (c : Thread nD τ) (st0_6 t) fullShare ((dats m 0 c).after 6 t)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ leaves6 m c t
    ∗ owns (c : Thread nD τ) (st0_7 t) fullShare ((dats m 0 c).after 7 t)
    ∗ owns (c : Thread nD τ) (st0_8 t) fullShare ((dats m 0 c).after 8 t))

/-- What the body leaves at the queries' gradient block is what the obligation takes back. -/
theorem leaves6_of (c : Dev nD) (t : Fin cfg0.N) (d : Vec F S1x8192x256 .bf16) :
    owns (c : Thread nD τ) (st0_6 t) fullShare (if (grid0.coords t 1).val = 15 then k0_pay3 (stAt m c t).dq else (dats m 0 c).before 6 t d)
      ⊢ leaves6 m c t := by
  unfold leaves6
  by_cases h : (grid0.coords t 1).val = 15
  · have hid : cfg0.idle 6 (cfg0.grid.coords t) = false := by
      show (!(k0_cond3 (grid0.coords t) == 1#1)) = false
      rw [(cond3_iff (grid0.coords t)).mpr h]; rfl
    rw [hid, if_pos h, after6]
  · have hid : cfg0.idle 6 (cfg0.grid.coords t) = true := by
      show (!(k0_cond3 (grid0.coords t) == 1#1)) = true
      rw [Bool.not_eq_true', beq_eq_false_iff_ne]
      exact fun h' => h ((cond3_iff (grid0.coords t)).mp h')
    have hfl : (cfg0.win 6).flush t = false := by
      rw [Bool.eq_false_iff]
      exact fun h' => h ((coord1 t).trans ((flush0_6 t).mp h'))
    rw [hid, hfl, if_neg h]
    iintro H; iexists d; iexact H

theorem sound_body (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost bodyAt0
  simp only [before0, before1, before2, before3, before4, before5, xAt0, xAt1, xAt2, xAt3, xAt4, xAt5,
    after0, after1, after2, after3, after4, after5, after7, after8, Phi_castSucc, Phi_succ]
  unfold Dat.owesAt Pipeline.owesWithin
  rw [show (dats m 0 c).owed t.castSucc = 0 from rfl, show (dats m 0 c).owed t.succ = 0 from rfl]
  unfold PhiS
  iintro ⟨⟨⟨⟨%a, %ha, S0⟩, ⟨%b, S1⟩, ⟨%g, S2⟩⟩, Hr⟩, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hst := after'_held m c t a ha
  iapply (wp_wand_r Idealize.ShloMosaic.frame (wpE (defs₀ (F := F)) 𝒱₀ (c : Thread nD τ) none) Set.univ)
  isplitl [S0 S1 S2 H0 H1 H2 H3 H4 H5 H6 H7 H8]
  · iapply (body_owns c (grid0.coords t) _ _ _ _ _ _ _ _ _ _ _ _ _ _ _ _ _ _ _ _ _ _ _ _ (xAt m c t) ((dats m 0 c).before 6 t d6) ((dats m 0 c).before 7 t d7) ((dats m 0 c).before 8 t d8) a b g)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    isplitl [S1]; · iexact S1
    iexact S2
  iintro %_ ⟨H0, H1, H2, H3, H4, H5, H6, H7, H8, S0, S1, S2⟩
  rw [hst]
  isplitl [S0 S1 S2 Hr]
  · isplitl [S0 S1 S2]
    · isplitl [S0]
      · iexists _; isplitr
        swap; · iexact S0
        ipureintro; exact fun _ => (dqAt_succ m c t).symm
      isplitl [S1]; · iexists _; iexact S1
      iexists _; iexact S2
    iexact Hr
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iapply (leaves6_of m c t d6); iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- A whole buffer at contents `X` is its memref at `X`. -/
theorem at_whole (c : Dev nD) (b : Ref sig .tc) (X : b.ty.Contents (Elt F)) :
    (((c : Thread nD τ).loc b) ↦{fullShare} X : sProp 𝕄) = at' c (Memref.whole b) X := by
  rw [at', ← owns_eq_rep, owns_whole_eq]
  refine Entails.antisymm (show _ ⊢ iprop(∃ f, ⌜f = X⌝ ∗ ((c : Thread nD τ).loc b ↦{fullShare} f)) from ?_) (show iprop(∃ f, ⌜f = X⌝ ∗ ((c : Thread nD τ).loc b ↦{fullShare} f)) ⊢ _ from ?_)
  · iintro H; iexists X; isplitr; · ipureintro; rfl
    iexact H
  · iintro ⟨%f, %hf, H⟩; rw [← hf]; iexact H

theorem Phi_in (c : Dev nD) : Pipeline.ΦA spec0 c ⊢ (dats m 0 c).Φ 0 := by
  show _ ⊢ PhiS m c 0 (Nat.zero_le _)
  unfold Pipeline.ΦA PhiS
  rw [scopedRest0_eq]
  iintro ⟨⟨⟨%f0, S0⟩, ⟨%f1, S1⟩, ⟨%f2, S2⟩⟩, Hr⟩
  isplitr [Hr]
  · isplitl [S0]
    · iexists f0; isplitr; · ipureintro; exact fun h => absurd rfl h
      iapply (Entails.of_eq (at_whole c cc0_scratch0 f0)); iexact S0
    isplitl [S1]; · iexists f1; iapply (Entails.of_eq (at_whole c cc0_scratch1 f1)); iexact S1
    iexists f2; iapply (Entails.of_eq (at_whole c cc0_scratch2 f2)); iexact S2
  iexact Hr

theorem Phi_out (c : Dev nD) : (dats m 0 c).Φ (Fin.last cfg0.N) ⊢ Pipeline.ΦA spec0 c := by
  show PhiS m c cfg0.N le_rfl ⊢ _
  unfold Pipeline.ΦA PhiS
  rw [scopedRest0_eq]
  iintro ⟨⟨⟨%f0, -, S0⟩, ⟨%f1, S1⟩, ⟨%f2, S2⟩⟩, Hr⟩
  isplitr [Hr]
  · isplitl [S0]; · iexists f0; iapply (Entails.of_eq (at_whole c cc0_scratch0 f0).symm); iexact S0
    isplitl [S1]; · iexists f1; iapply (Entails.of_eq (at_whole c cc0_scratch1 f1).symm); iexact S1
    iexists f2; iapply (Entails.of_eq (at_whole c cc0_scratch2 f2).symm); iexact S2
  iexact Hr

set_option backward.isDefEq.respectTransparency.types false in
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := Phi_in m) (hout := Phi_out m) (Q' := _)

/-- The frame at any float operations. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_with_sems (frame_of m ρ (dats m) (A_eq m)) (run_main m ρ)

end Cert.Flash
end
-- ==== Proof.Flash.Same.lean ====
/-
  The printed program and its idealisation are one text: read at bits, their body tables and their host lines are the
  same terms. So a run of the idealised program at bits is a run of the printed one.
-/
module

public import proofs.«01_k».proof.Defs
public import proofs.«01_k».proof.Proof.Gen.Kernel
public import proofs.«01_k».proof.Proof.Gen.KernelIdeal

@[expose] public section

set_option maxRecDepth 16384

noncomputable section

namespace Cert.Flash

open Idealize.ShloMosaic Idealize.SL.Sem

theorem bind_congr' {m : Type → Type 1} [Monad m] {α β : Type} {x y : m α} {f g : α → m β} (h : x = y)
    (k : ∀ a, f a = g a) : (x >>= f) = (y >>= g) := by rw [h, funext k]

/-- Programs of the kernel's body. -/
abbrev BodyProg : Type → Type 1 :=
  Prog (TpuEff Cert.KernelIdeal.nD Cert.KernelIdeal.τ Cert.KernelIdeal.sig (Elt Bits) Cert.KernelIdeal.Λ₀ .tc)

set_option maxHeartbeats 1000000 in
/-- The two body tables agree, part by part. -/
theorem bodies_same : @Cert.Kernel.defs₀ Bits _ _ = @Cert.KernelIdeal.defs₀ Bits _ _ := by
  refine congrArg Defs.onTc (funext fun l => funext fun a => ?_)
  match l, a with
  | 0, (t, s) =>
    dsimp only
    unfold Cert.Kernel.cc0_flash_bwd Cert.KernelIdeal.cc0_flash_bwd
    refine bind_congr' (m := BodyProg) rfl fun x => ?_
    obtain ⟨_, _, _, _, _, _, _, _, _⟩ := x
    dsimp only
    refine bind_congr' (m := BodyProg) rfl fun x => ?_
    obtain ⟨_, _, _, _⟩ := x
    dsimp only
    refine bind_congr' (m := BodyProg) rfl fun x => ?_
    obtain ⟨_, _, _⟩ := x
    dsimp only
    refine bind_congr' (m := BodyProg) rfl fun x => ?_
    rfl

theorem pcfgs_same : @Cert.Kernel.pcfgs Bits _ = @Cert.KernelIdeal.pcfgs Bits _ := rfl

set_option maxHeartbeats 4000000 in
theorem defs_same : @Cert.Kernel.defs Bits _ _ = @Cert.KernelIdeal.defs Bits _ _ := by
  show Pipeline.defs (Cert.KernelIdeal.pcfgs (F := Bits)) (@Cert.Kernel.defs₀ Bits _ _)
    = Pipeline.defs (Cert.KernelIdeal.pcfgs (F := Bits)) (@Cert.KernelIdeal.defs₀ Bits _ _)
  rw [bodies_same]

set_option backward.isDefEq.respectTransparency false in
set_option maxHeartbeats 4000000 in
theorem part0_same (c) : @Cert.Kernel.main_part0 Bits _ _ c = @Cert.KernelIdeal.main_part0 Bits _ _ c := rfl

set_option backward.isDefEq.respectTransparency false in
set_option maxHeartbeats 4000000 in
theorem part1_same (c) : @Cert.Kernel.main_part1 Bits _ _ c = @Cert.KernelIdeal.main_part1 Bits _ _ c := rfl

/-- Programs of the host's lines. -/
abbrev MainProg : Type → Type 1 :=
  Prog (TpuEff Cert.KernelIdeal.nD Cert.KernelIdeal.τ Cert.KernelIdeal.sig (Elt Bits)
    (Pipeline.Sig Cert.KernelIdeal.Λ₀ (Fin 1) fun p => (Cert.KernelIdeal.pcfgs (F := Bits) p).Adm) .tc)

set_option maxHeartbeats 4000000 in
theorem main_same (c) : @Cert.Kernel.main Bits _ _ c = @Cert.KernelIdeal.main Bits _ _ c := by
  unfold Cert.Kernel.main Cert.KernelIdeal.main
  exact bind_congr' (m := MainProg) (part0_same c) fun _ => part1_same c

end Cert.Flash

end
-- ==== Proof.Flash.PrepRead.lean ====
/- The host operations before the kernel call, one at a time: `val_<buffer>` is what the operation writes, as a function of
   the arguments; `val_<buffer>_apply` reads it at an index. The scores and their mask are the reference's, so they are named
   through the reference's values. -/
module

public import proofs.«01_k».proof.Proof.Gen.KernelIdeal
public import proofs.«01_k».proof.Proof.Gen.ReferenceIdeal.Read
public import Idealize.ShloMosaic.PureOps.Ideal.Laws
public import Idealize.ShloMosaic.Lib.ValueIdx
public import Idealize.ShloMosaic.Lib.Pipeline.Value

@[expose] public section

noncomputable section

namespace Cert.KernelIdeal.Prep

open Cert.KernelIdeal Cert.KernelIdeal.Gen Idealize.ShloMosaic Idealize.ShloMosaic.TcCoe Idealize.SL.Sem Idealize.ShloMosaic.StableHlo

variable {F : FTy → Type} [FloatOps F]

/-- The masked scores: the same operations in the kernel's host code and in the reference. -/
def val_main_v18 (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) : (⟨S8x8192x8192, .f32⟩ : BufTy).Contents (Elt F) :=
  Cert.ReferenceIdeal.Read.val_main_v18_0 (F := F) x0 x1 x2 x3

-- %cst_1 = stablehlo.constant dense<0xFF800000> : tensor<f32>
def val_main_cst_1 : (⟨S_, .f32⟩ : BufTy).Contents (Elt F) :=
  constant S_ .f32 0xFF800000#32
theorem val_main_cst_1_apply (i : S_.Idx) :
    val_main_cst_1 (F := F) i = FloatOps.ofBits .f32 0xFF800000#32 := rfl

-- %19 = stablehlo.reduce(%18 init: %cst_1) applies stablehlo.maximum across dimensions = [2] : (tensor<8x8192x8192xf32>, tensor<f32>) -> tensor<8x8192xf32> {
def val_main_v19 (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) : (⟨S8x8192, .f32⟩ : BufTy).Contents (Elt F) :=
  Host.reduce FloatOps.maximumf (val_main_v18 (F := F) x0 x1 x2 x3) (val_main_cst_1 (F := F)) reducesTo_S8x8192x8192_S8x8192_d2 h_S_

-- %20 = stablehlo.broadcast_in_dim %19, dims = [0, 1] : (tensor<8x8192xf32>) -> tensor<8x8192x1xf32>
def val_main_v20 (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) : (⟨S8x8192x1, .f32⟩ : BufTy).Contents (Elt F) :=
  broadcastInDim S8x8192x1 ![0, 1] bcast_S8x8192_S8x8192x1_0_1 (val_main_v19 (F := F) x0 x1 x2 x3)
abbrev idx_main_v20 (i : S8x8192x1.Idx) : S8x8192.Idx := fun a => match a with
  | ⟨0, _⟩ => ⟨(i 0).val, (i 0).isLt⟩
  | ⟨1, _⟩ => ⟨(i 1).val, (i 1).isLt⟩
theorem val_main_v20_apply (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (i : S8x8192x1.Idx) :
    val_main_v20 (F := F) x0 x1 x2 x3 i = val_main_v19 (F := F) x0 x1 x2 x3 (idx_main_v20 i) := by
  unfold val_main_v20
  generalize val_main_v19 (F := F) x0 x1 x2 x3 = y
  exact broadcastInDim_apply _ bcast_S8x8192_S8x8192x1_0_1 y i (idx_main_v20 i) (fun a => match a with
    | ⟨0, _⟩ => by show (i 0).val = if (8 : Nat) = 1 then 0 else (i 0).val; rw [if_neg (by decide)]
    | ⟨1, _⟩ => by show (i 1).val = if (8192 : Nat) = 1 then 0 else (i 1).val; rw [if_neg (by decide)])

-- %21 = stablehlo.broadcast_in_dim %20, dims = [0, 1, 2] : (tensor<8x8192x1xf32>) -> tensor<8x8192x8192xf32>
def val_main_v21 (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) : (⟨S8x8192x8192, .f32⟩ : BufTy).Contents (Elt F) :=
  broadcastInDim S8x8192x8192 ![0, 1, 2] bcast_S8x8192x1_S8x8192x8192_0_1_2 (val_main_v20 (F := F) x0 x1 x2 x3)
abbrev idx_main_v21 (i : S8x8192x8192.Idx) : S8x8192x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v21_apply (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (i : S8x8192x8192.Idx) :
    val_main_v21 (F := F) x0 x1 x2 x3 i = val_main_v20 (F := F) x0 x1 x2 x3 (idx_main_v21 i) := by
  unfold val_main_v21
  generalize val_main_v20 (F := F) x0 x1 x2 x3 = y
  exact broadcastInDim_apply _ bcast_S8x8192x1_S8x8192x8192_0_1_2 y i (idx_main_v21 i) (fun a => match a with
    | ⟨0, _⟩ => by show (i 0).val = if (8 : Nat) = 1 then 0 else (i 0).val; rw [if_neg (by decide)]
    | ⟨1, _⟩ => by show (i 1).val = if (8192 : Nat) = 1 then 0 else (i 1).val; rw [if_neg (by decide)]
    | ⟨2, _⟩ => by show 0 = if (1 : Nat) = 1 then 0 else (i 2).val; rw [if_pos rfl])

-- %22 = stablehlo.subtract %18, %21 : tensor<8x8192x8192xf32>
def val_main_v22 (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) : (⟨S8x8192x8192, .f32⟩ : BufTy).Contents (Elt F) :=
  subf (val_main_v18 (F := F) x0 x1 x2 x3) (val_main_v21 (F := F) x0 x1 x2 x3)
theorem val_main_v22_apply (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (i : S8x8192x8192.Idx) :
    val_main_v22 (F := F) x0 x1 x2 x3 i = FloatOps.subf (val_main_v18 (F := F) x0 x1 x2 x3 i) (val_main_v21 (F := F) x0 x1 x2 x3 i) := rfl

-- %23 = stablehlo.exponential %22 : tensor<8x8192x8192xf32>
def val_main_v23 (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) : (⟨S8x8192x8192, .f32⟩ : BufTy).Contents (Elt F) :=
  Host.exp (val_main_v22 (F := F) x0 x1 x2 x3)
theorem val_main_v23_apply (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (i : S8x8192x8192.Idx) :
    val_main_v23 (F := F) x0 x1 x2 x3 i = FloatOps.hostUnary .exp (val_main_v22 (F := F) x0 x1 x2 x3 i) := rfl

-- %cst_2 = stablehlo.constant dense<0.000000e+00> : tensor<f32>
def val_main_cst_2 : (⟨S_, .f32⟩ : BufTy).Contents (Elt F) :=
  constant S_ .f32 0x00000000#32
theorem val_main_cst_2_apply (i : S_.Idx) :
    val_main_cst_2 (F := F) i = FloatOps.ofBits .f32 0x00000000#32 := rfl

-- %24 = stablehlo.reduce(%23 init: %cst_2) applies stablehlo.add across dimensions = [2] : (tensor<8x8192x8192xf32>, tensor<f32>) -> tensor<8x8192xf32> {
def val_main_v24 (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) : (⟨S8x8192, .f32⟩ : BufTy).Contents (Elt F) :=
  Host.reduceAdd (val_main_v23 (F := F) x0 x1 x2 x3) (val_main_cst_2 (F := F)) reducesTo_S8x8192x8192_S8x8192_d2 h_S_
abbrev idx_main_v24 (i : S8x8192.Idx) (k : Fin 8192) : S8x8192x8192.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_v24_apply (x0 : (⟨S8192x8x128, .bf16⟩ : BufTy).Contents (Elt Ideal)) (x1 : (⟨S8192x8x64, .bf16⟩ : BufTy).Contents (Elt Ideal)) (x2 : (⟨S8192x8x128, .bf16⟩ : BufTy).Contents (Elt Ideal)) (x3 : (⟨S8192x64, .bf16⟩ : BufTy).Contents (Elt Ideal)) (i : S8x8192.Idx) :
    val_main_v24 (F := Ideal) x0 x1 x2 x3 i = (val_main_cst_2 (F := Ideal)) (Shape.Idx.first h_S_) + ∑ k : Fin 8192, (val_main_v23 (F := Ideal) x0 x1 x2 x3) (idx_main_v24 i k) := by
  unfold val_main_v24
  generalize val_main_v23 (F := Ideal) x0 x1 x2 x3 = y0
  simp only [Host.reduceAdd, Ideal.hostReduceAdd_def]
  rw [Ideal.hostReduceAdd_single reducesTo_S8x8192x8192_S8x8192_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- %25 = stablehlo.broadcast_in_dim %24, dims = [0, 1] : (tensor<8x8192xf32>) -> tensor<8x8192x1xf32>
def val_main_v25 (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) : (⟨S8x8192x1, .f32⟩ : BufTy).Contents (Elt F) :=
  broadcastInDim S8x8192x1 ![0, 1] bcast_S8x8192_S8x8192x1_0_1 (val_main_v24 (F := F) x0 x1 x2 x3)
abbrev idx_main_v25 (i : S8x8192x1.Idx) : S8x8192.Idx := fun a => match a with
  | ⟨0, _⟩ => ⟨(i 0).val, (i 0).isLt⟩
  | ⟨1, _⟩ => ⟨(i 1).val, (i 1).isLt⟩
theorem val_main_v25_apply (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (i : S8x8192x1.Idx) :
    val_main_v25 (F := F) x0 x1 x2 x3 i = val_main_v24 (F := F) x0 x1 x2 x3 (idx_main_v25 i) := by
  unfold val_main_v25
  generalize val_main_v24 (F := F) x0 x1 x2 x3 = y
  exact broadcastInDim_apply _ bcast_S8x8192_S8x8192x1_0_1 y i (idx_main_v25 i) (fun a => match a with
    | ⟨0, _⟩ => by show (i 0).val = if (8 : Nat) = 1 then 0 else (i 0).val; rw [if_neg (by decide)]
    | ⟨1, _⟩ => by show (i 1).val = if (8192 : Nat) = 1 then 0 else (i 1).val; rw [if_neg (by decide)])

-- %26 = stablehlo.log %25 : tensor<8x8192x1xf32>
def val_main_v26 (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) : (⟨S8x8192x1, .f32⟩ : BufTy).Contents (Elt F) :=
  Host.log (val_main_v25 (F := F) x0 x1 x2 x3)
theorem val_main_v26_apply (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (i : S8x8192x1.Idx) :
    val_main_v26 (F := F) x0 x1 x2 x3 i = FloatOps.hostUnary .log (val_main_v25 (F := F) x0 x1 x2 x3 i) := rfl

-- %27 = stablehlo.add %20, %26 : tensor<8x8192x1xf32>
def val_main_v27 (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) : (⟨S8x8192x1, .f32⟩ : BufTy).Contents (Elt F) :=
  addf (val_main_v20 (F := F) x0 x1 x2 x3) (val_main_v26 (F := F) x0 x1 x2 x3)
theorem val_main_v27_apply (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (i : S8x8192x1.Idx) :
    val_main_v27 (F := F) x0 x1 x2 x3 i = FloatOps.addf (val_main_v20 (F := F) x0 x1 x2 x3 i) (val_main_v26 (F := F) x0 x1 x2 x3 i) := rfl

-- %28 = stablehlo.reshape %27 : (tensor<8x8192x1xf32>) -> tensor<8x8192xf32>
def val_main_v28 (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) : (⟨S8x8192, .f32⟩ : BufTy).Contents (Elt F) :=
  shapeCast _ (val_main_v27 (F := F) x0 x1 x2 x3) shapeCasts_S8x8192x1_S8x8192
set_option backward.proofsInPublic true in
abbrev idx_main_v28 (i : S8x8192.Idx) : S8x8192x1.Idx := fun a => match a with
  | ⟨0, _⟩ => ⟨((i 0).val * 8192 + (i 1).val) / 8192, by have h0 : (i 0).val < 8 := (i 0).isLt; have h1 : (i 1).val < 8192 := (i 1).isLt; show ((i 0).val * 8192 + (i 1).val) / 8192 < 8; omega⟩
  | ⟨1, _⟩ => ⟨((i 0).val * 8192 + (i 1).val) / 1 % 8192, by have h0 : (i 0).val < 8 := (i 0).isLt; have h1 : (i 1).val < 8192 := (i 1).isLt; show ((i 0).val * 8192 + (i 1).val) / 1 % 8192 < 8192; omega⟩
  | ⟨2, _⟩ => ⟨0, Nat.one_pos⟩
theorem val_main_v28_apply (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (i : S8x8192.Idx) :
    val_main_v28 (F := F) x0 x1 x2 x3 i = val_main_v27 (F := F) x0 x1 x2 x3 (idx_main_v28 i) := by
  unfold val_main_v28
  generalize val_main_v27 (F := F) x0 x1 x2 x3 = y
  exact shapeCast_apply y shapeCasts_S8x8192x1_S8x8192 i (idx_main_v28 i)
    (by rewrite [Shape.rowMajor_val_three, Shape.rowMajor_val_two]; have h0 : (i 0).val < 8 := (i 0).isLt; have h1 : (i 1).val < 8192 := (i 1).isLt; show (((i 0).val * 8192 + (i 1).val) / 8192 * 8192 + ((i 0).val * 8192 + (i 1).val) / 1 % 8192) * 1 + 0 = (i 0).val * 8192 + (i 1).val; omega)

-- %29 = stablehlo.broadcast_in_dim %25, dims = [0, 1, 2] : (tensor<8x8192x1xf32>) -> tensor<8x8192x8192xf32>
def val_main_v29 (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) : (⟨S8x8192x8192, .f32⟩ : BufTy).Contents (Elt F) :=
  broadcastInDim S8x8192x8192 ![0, 1, 2] bcast_S8x8192x1_S8x8192x8192_0_1_2 (val_main_v25 (F := F) x0 x1 x2 x3)
abbrev idx_main_v29 (i : S8x8192x8192.Idx) : S8x8192x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v29_apply (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (i : S8x8192x8192.Idx) :
    val_main_v29 (F := F) x0 x1 x2 x3 i = val_main_v25 (F := F) x0 x1 x2 x3 (idx_main_v29 i) := by
  unfold val_main_v29
  generalize val_main_v25 (F := F) x0 x1 x2 x3 = y
  exact broadcastInDim_apply _ bcast_S8x8192x1_S8x8192x8192_0_1_2 y i (idx_main_v29 i) (fun a => match a with
    | ⟨0, _⟩ => by show (i 0).val = if (8 : Nat) = 1 then 0 else (i 0).val; rw [if_neg (by decide)]
    | ⟨1, _⟩ => by show (i 1).val = if (8192 : Nat) = 1 then 0 else (i 1).val; rw [if_neg (by decide)]
    | ⟨2, _⟩ => by show 0 = if (1 : Nat) = 1 then 0 else (i 2).val; rw [if_pos rfl])

-- %30 = stablehlo.divide %23, %29 : tensor<8x8192x8192xf32>
def val_main_v30 (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) : (⟨S8x8192x8192, .f32⟩ : BufTy).Contents (Elt F) :=
  Host.divf (val_main_v23 (F := F) x0 x1 x2 x3) (val_main_v29 (F := F) x0 x1 x2 x3)
theorem val_main_v30_apply (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (i : S8x8192x8192.Idx) :
    val_main_v30 (F := F) x0 x1 x2 x3 i = FloatOps.hostDivf (val_main_v23 (F := F) x0 x1 x2 x3 i) (val_main_v29 (F := F) x0 x1 x2 x3 i) := rfl

-- %31 = stablehlo.convert %arg4 : (tensor<8192x8x128xbf16>) -> tensor<8192x8x128xf32>
def val_main_v31 (x4 : (⟨S8192x8x128, .bf16⟩ : BufTy).Contents (Elt F)) : (⟨S8192x8x128, .f32⟩ : BufTy).Contents (Elt F) :=
  extf .f32 (x4) bitsLt_bf16_f32
theorem val_main_v31_apply (x4 : (⟨S8192x8x128, .bf16⟩ : BufTy).Contents (Elt F)) (i : S8192x8x128.Idx) :
    val_main_v31 (F := F) x4 i = FloatOps.extf .f32 bitsLt_bf16_f32 (x4 i) := rfl

-- %32 = stablehlo.dot_general %31, %30, batching_dims = [1] x [0], contracting_dims = [0] x [2], precision = [DEFAULT, DEFAULT] : (tensor<8192x8x128xf32>, tensor<8x8192x8192xf32>) -> tensor<8x128x8192xf32>
def val_main_v32 (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (x4 : (⟨S8192x8x128, .bf16⟩ : BufTy).Contents (Elt F)) : (⟨S8x128x8192, .f32⟩ : BufTy).Contents (Elt F) :=
  Host.dotGeneral dot_S8192x8x128_S8x8192x8192_S8x128x8192_0_2_2_1_1_0 none (val_main_v31 (F := F) x4) (val_main_v30 (F := F) x0 x1 x2 x3)
theorem lhs_main_v32_0 (i : S8x128x8192.Idx) (q : dot_S8192x8x128_S8x8192x8192_S8x128x8192_0_2_2_1_1_0.contr.Idx) :
    (dot_S8192x8x128_S8x8192x8192_S8x128x8192_0_2_2_1_1_0.lhsIdx i q 0).val = (q ⟨0, by decide⟩).val :=
  dot_S8192x8x128_S8x8192x8192_S8x128x8192_0_2_2_1_1_0.lhsIdx_val_of_single rfl i q
theorem lhs_main_v32_1 (i : S8x128x8192.Idx) (q : dot_S8192x8x128_S8x8192x8192_S8x128x8192_0_2_2_1_1_0.contr.Idx) :
    (dot_S8192x8x128_S8x8192x8192_S8x128x8192_0_2_2_1_1_0.lhsIdx i q 1).val = (i 0).val := by
  unfold DotDims.lhsIdx
  rw [dif_pos (show (1 : Fin S8192x8x128.rank) ∈ dot_S8192x8x128_S8x8192x8192_S8x128x8192_0_2_2_1_1_0.lhsBatch by decide)]
  rfl
theorem lhs_main_v32_2 (i : S8x128x8192.Idx) (q : dot_S8192x8x128_S8x8192x8192_S8x128x8192_0_2_2_1_1_0.contr.Idx) :
    (dot_S8192x8x128_S8x8192x8192_S8x128x8192_0_2_2_1_1_0.lhsIdx i q 2).val = (i 1).val := by
  unfold DotDims.lhsIdx
  rw [dif_neg (show ¬(2 : Fin S8192x8x128.rank) ∈ dot_S8192x8x128_S8x8192x8192_S8x128x8192_0_2_2_1_1_0.lhsBatch by decide), dif_pos (show (2 : Fin S8192x8x128.rank) ∈ dot_S8192x8x128_S8x8192x8192_S8x128x8192_0_2_2_1_1_0.lhsNonContracting by decide)]
  rfl
theorem rhs_main_v32_0 (i : S8x128x8192.Idx) (q : dot_S8192x8x128_S8x8192x8192_S8x128x8192_0_2_2_1_1_0.contr.Idx) :
    (dot_S8192x8x128_S8x8192x8192_S8x128x8192_0_2_2_1_1_0.rhsIdx i q 0).val = (i 0).val := by
  unfold DotDims.rhsIdx
  rw [dif_pos (show (0 : Fin S8x8192x8192.rank) ∈ dot_S8192x8x128_S8x8192x8192_S8x128x8192_0_2_2_1_1_0.rhsBatch by decide)]
  rfl
theorem rhs_main_v32_1 (i : S8x128x8192.Idx) (q : dot_S8192x8x128_S8x8192x8192_S8x128x8192_0_2_2_1_1_0.contr.Idx) :
    (dot_S8192x8x128_S8x8192x8192_S8x128x8192_0_2_2_1_1_0.rhsIdx i q 1).val = (i 2).val := by
  unfold DotDims.rhsIdx
  rw [dif_neg (show ¬(1 : Fin S8x8192x8192.rank) ∈ dot_S8192x8x128_S8x8192x8192_S8x128x8192_0_2_2_1_1_0.rhsBatch by decide), dif_pos (show (1 : Fin S8x8192x8192.rank) ∈ dot_S8192x8x128_S8x8192x8192_S8x128x8192_0_2_2_1_1_0.rhsNonContracting by decide)]
  rfl
theorem rhs_main_v32_2 (i : S8x128x8192.Idx) (q : dot_S8192x8x128_S8x8192x8192_S8x128x8192_0_2_2_1_1_0.contr.Idx) :
    (dot_S8192x8x128_S8x8192x8192_S8x128x8192_0_2_2_1_1_0.rhsIdx i q 2).val = (q ⟨0, by decide⟩).val :=
  dot_S8192x8x128_S8x8192x8192_S8x128x8192_0_2_2_1_1_0.rhsIdx_val_of_single rfl i q
abbrev lidx_main_v32 (i : S8x128x8192.Idx) (k : Fin 8192) : S8192x8x128.Idx := fun a => match a with
  | ⟨0, _⟩ => ⟨k.val, k.isLt⟩
  | ⟨1, _⟩ => ⟨(i 0).val, (i 0).isLt⟩
  | ⟨2, _⟩ => ⟨(i 1).val, (i 1).isLt⟩
abbrev ridx_main_v32 (i : S8x128x8192.Idx) (k : Fin 8192) : S8x8192x8192.Idx := fun a => match a with
  | ⟨0, _⟩ => ⟨(i 0).val, (i 0).isLt⟩
  | ⟨1, _⟩ => ⟨(i 2).val, (i 2).isLt⟩
  | ⟨2, _⟩ => ⟨k.val, k.isLt⟩
/-- Stated at `F := Ideal`, where the host's `dot_general` is this sum; at a bit-exact instance it is an opaque function of its operands. -/
theorem val_main_v32_apply (x0 : (⟨S8192x8x128, .bf16⟩ : BufTy).Contents (Elt Ideal)) (x1 : (⟨S8192x8x64, .bf16⟩ : BufTy).Contents (Elt Ideal)) (x2 : (⟨S8192x8x128, .bf16⟩ : BufTy).Contents (Elt Ideal)) (x3 : (⟨S8192x64, .bf16⟩ : BufTy).Contents (Elt Ideal)) (x4 : (⟨S8192x8x128, .bf16⟩ : BufTy).Contents (Elt Ideal)) (i : S8x128x8192.Idx) :
    val_main_v32 (F := Ideal) x0 x1 x2 x3 x4 i = ∑ k : Fin 8192, (val_main_v31 (F := Ideal) x4) (lidx_main_v32 i k) * (val_main_v30 (F := Ideal) x0 x1 x2 x3) (ridx_main_v32 i k) := by
  unfold val_main_v32
  generalize val_main_v31 (F := Ideal) x4 = y0
  generalize val_main_v30 (F := Ideal) x0 x1 x2 x3 = y1
  simp only [Host.dotGeneral]
  rw [Ideal.dotGeneral_apply, ← Equiv.sum_comp (ValueIdx.contrEquiv1 dot_S8192x8x128_S8x8192x8192_S8x128x8192_0_2_2_1_1_0 8192 rfl rfl).symm]
  refine Finset.sum_congr rfl fun k _ => ?_
  have hk := ValueIdx.contrEquiv1_symm_val dot_S8192x8x128_S8x8192x8192_S8x128x8192_0_2_2_1_1_0 8192 rfl rfl k
  have el : dot_S8192x8x128_S8x8192x8192_S8x128x8192_0_2_2_1_1_0.lhsIdx i ((ValueIdx.contrEquiv1 dot_S8192x8x128_S8x8192x8192_S8x128x8192_0_2_2_1_1_0 8192 rfl rfl).symm k) = lidx_main_v32 i k := funext fun a => Fin.ext (by
    match a with
    | ⟨0, _⟩ => exact (lhs_main_v32_0 _ _).trans hk
    | ⟨1, _⟩ => exact lhs_main_v32_1 _ _
    | ⟨2, _⟩ => exact lhs_main_v32_2 _ _)
  have er : dot_S8192x8x128_S8x8192x8192_S8x128x8192_0_2_2_1_1_0.rhsIdx i ((ValueIdx.contrEquiv1 dot_S8192x8x128_S8x8192x8192_S8x128x8192_0_2_2_1_1_0 8192 rfl rfl).symm k) = ridx_main_v32 i k := funext fun a => Fin.ext (by
    match a with
    | ⟨0, _⟩ => exact rhs_main_v32_0 _ _
    | ⟨1, _⟩ => exact rhs_main_v32_1 _ _
    | ⟨2, _⟩ => exact (rhs_main_v32_2 _ _).trans hk)
  rw [el, er]

-- %33 = stablehlo.transpose %32, dims = [2, 0, 1] : (tensor<8x128x8192xf32>) -> tensor<8192x8x128xf32>
def val_main_v33 (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (x4 : (⟨S8192x8x128, .bf16⟩ : BufTy).Contents (Elt F)) : (⟨S8192x8x128, .f32⟩ : BufTy).Contents (Elt F) :=
  transpose S8192x8x128 [2, 0, 1] (val_main_v32 (F := F) x0 x1 x2 x3 x4) transposes_S8x128x8192_S8192x8x128_2_0_1
abbrev idx_main_v33 (i : S8192x8x128.Idx) : S8x128x8192.Idx := fun a => match a with
  | ⟨0, _⟩ => ⟨(i 1).val, (i 1).isLt⟩
  | ⟨1, _⟩ => ⟨(i 2).val, (i 2).isLt⟩
  | ⟨2, _⟩ => ⟨(i 0).val, (i 0).isLt⟩
theorem val_main_v33_apply (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (x4 : (⟨S8192x8x128, .bf16⟩ : BufTy).Contents (Elt F)) (i : S8192x8x128.Idx) :
    val_main_v33 (F := F) x0 x1 x2 x3 x4 i = val_main_v32 (F := F) x0 x1 x2 x3 x4 (idx_main_v33 i) := by
  unfold val_main_v33
  generalize val_main_v32 (F := F) x0 x1 x2 x3 x4 = y
  exact transpose_apply [2, 0, 1] y transposes_S8x128x8192_S8192x8x128_2_0_1 i (idx_main_v33 i) (fun b => match b with
    | ⟨0, _⟩ => rfl
    | ⟨1, _⟩ => rfl
    | ⟨2, _⟩ => rfl)

-- %34 = stablehlo.convert %arg5 : (tensor<8192x8x128xbf16>) -> tensor<8192x8x128xf32>
def val_main_v34 (x5 : (⟨S8192x8x128, .bf16⟩ : BufTy).Contents (Elt F)) : (⟨S8192x8x128, .f32⟩ : BufTy).Contents (Elt F) :=
  extf .f32 (x5) bitsLt_bf16_f32
theorem val_main_v34_apply (x5 : (⟨S8192x8x128, .bf16⟩ : BufTy).Contents (Elt F)) (i : S8192x8x128.Idx) :
    val_main_v34 (F := F) x5 i = FloatOps.extf .f32 bitsLt_bf16_f32 (x5 i) := rfl

-- %35 = stablehlo.multiply %34, %33 : tensor<8192x8x128xf32>
def val_main_v35 (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (x4 x5 : (⟨S8192x8x128, .bf16⟩ : BufTy).Contents (Elt F)) : (⟨S8192x8x128, .f32⟩ : BufTy).Contents (Elt F) :=
  mulf (val_main_v34 (F := F) x5) (val_main_v33 (F := F) x0 x1 x2 x3 x4)
theorem val_main_v35_apply (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (x4 x5 : (⟨S8192x8x128, .bf16⟩ : BufTy).Contents (Elt F)) (i : S8192x8x128.Idx) :
    val_main_v35 (F := F) x0 x1 x2 x3 x4 x5 i = FloatOps.mulf (val_main_v34 (F := F) x5 i) (val_main_v33 (F := F) x0 x1 x2 x3 x4 i) := rfl

-- %cst_3 = stablehlo.constant dense<0.000000e+00> : tensor<f32>
def val_main_cst_3 : (⟨S_, .f32⟩ : BufTy).Contents (Elt F) :=
  constant S_ .f32 0x00000000#32
theorem val_main_cst_3_apply (i : S_.Idx) :
    val_main_cst_3 (F := F) i = FloatOps.ofBits .f32 0x00000000#32 := rfl

-- %36 = stablehlo.reduce(%35 init: %cst_3) applies stablehlo.add across dimensions = [2] : (tensor<8192x8x128xf32>, tensor<f32>) -> tensor<8192x8xf32> {
def val_main_v36 (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (x4 x5 : (⟨S8192x8x128, .bf16⟩ : BufTy).Contents (Elt F)) : (⟨S8192x8, .f32⟩ : BufTy).Contents (Elt F) :=
  Host.reduceAdd (val_main_v35 (F := F) x0 x1 x2 x3 x4 x5) (val_main_cst_3 (F := F)) reducesTo_S8192x8x128_S8192x8_d2 h_S_
abbrev idx_main_v36 (i : S8192x8.Idx) (k : Fin 128) : S8192x8x128.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_v36_apply (x0 : (⟨S8192x8x128, .bf16⟩ : BufTy).Contents (Elt Ideal)) (x1 : (⟨S8192x8x64, .bf16⟩ : BufTy).Contents (Elt Ideal)) (x2 : (⟨S8192x8x128, .bf16⟩ : BufTy).Contents (Elt Ideal)) (x3 : (⟨S8192x64, .bf16⟩ : BufTy).Contents (Elt Ideal)) (x4 x5 : (⟨S8192x8x128, .bf16⟩ : BufTy).Contents (Elt Ideal)) (i : S8192x8.Idx) :
    val_main_v36 (F := Ideal) x0 x1 x2 x3 x4 x5 i = (val_main_cst_3 (F := Ideal)) (Shape.Idx.first h_S_) + ∑ k : Fin 128, (val_main_v35 (F := Ideal) x0 x1 x2 x3 x4 x5) (idx_main_v36 i k) := by
  unfold val_main_v36
  generalize val_main_v35 (F := Ideal) x0 x1 x2 x3 x4 x5 = y0
  simp only [Host.reduceAdd, Ideal.hostReduceAdd_def]
  rw [Ideal.hostReduceAdd_single reducesTo_S8192x8x128_S8192x8_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- %37 = stablehlo.transpose %36, dims = [1, 0] : (tensor<8192x8xf32>) -> tensor<8x8192xf32>
def val_main_v37 (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (x4 x5 : (⟨S8192x8x128, .bf16⟩ : BufTy).Contents (Elt F)) : (⟨S8x8192, .f32⟩ : BufTy).Contents (Elt F) :=
  transpose S8x8192 [1, 0] (val_main_v36 (F := F) x0 x1 x2 x3 x4 x5) transposes_S8192x8_S8x8192_1_0
abbrev idx_main_v37 (i : S8x8192.Idx) : S8192x8.Idx := fun a => match a with
  | ⟨0, _⟩ => ⟨(i 1).val, (i 1).isLt⟩
  | ⟨1, _⟩ => ⟨(i 0).val, (i 0).isLt⟩
theorem val_main_v37_apply (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (x4 x5 : (⟨S8192x8x128, .bf16⟩ : BufTy).Contents (Elt F)) (i : S8x8192.Idx) :
    val_main_v37 (F := F) x0 x1 x2 x3 x4 x5 i = val_main_v36 (F := F) x0 x1 x2 x3 x4 x5 (idx_main_v37 i) := by
  unfold val_main_v37
  generalize val_main_v36 (F := F) x0 x1 x2 x3 x4 x5 = y
  exact transpose_apply [1, 0] y transposes_S8192x8_S8x8192_1_0 i (idx_main_v37 i) (fun b => match b with
    | ⟨0, _⟩ => rfl
    | ⟨1, _⟩ => rfl)

-- %cst_4 = stablehlo.constant dense<0.000000e+00> : tensor<f32>
def val_main_cst_4 : (⟨S_, .f32⟩ : BufTy).Contents (Elt F) :=
  constant S_ .f32 0x00000000#32
theorem val_main_cst_4_apply (i : S_.Idx) :
    val_main_cst_4 (F := F) i = FloatOps.ofBits .f32 0x00000000#32 := rfl

-- %38 = stablehlo.broadcast_in_dim %cst_4, dims = [] : (tensor<f32>) -> tensor<8192x8x64xf32>
def val_main_v38 : (⟨S8192x8x64, .f32⟩ : BufTy).Contents (Elt F) :=
  broadcastInDim S8192x8x64 ![] bcast_S_S8192x8x64 (val_main_cst_4 (F := F))
abbrev idx_main_v38 (i : S8192x8x64.Idx) : S_.Idx := fun a => a.elim0
theorem val_main_v38_apply (i : S8192x8x64.Idx) :
    val_main_v38 (F := F) i = val_main_cst_4 (F := F) (idx_main_v38 i) := by
  unfold val_main_v38
  generalize val_main_cst_4 (F := F) = y
  exact broadcastInDim_apply _ bcast_S_S8192x8x64 y i (idx_main_v38 i) (fun a => a.elim0)

-- %39 = stablehlo.convert %arg0 : (tensor<8192x8x128xbf16>) -> tensor<8192x8x128xf32>
def val_main_v39 (x0 : (⟨S8192x8x128, .bf16⟩ : BufTy).Contents (Elt F)) : (⟨S8192x8x128, .f32⟩ : BufTy).Contents (Elt F) :=
  extf .f32 (x0) bitsLt_bf16_f32
theorem val_main_v39_apply (x0 : (⟨S8192x8x128, .bf16⟩ : BufTy).Contents (Elt F)) (i : S8192x8x128.Idx) :
    val_main_v39 (F := F) x0 i = FloatOps.extf .f32 bitsLt_bf16_f32 (x0 i) := rfl

-- %40 = stablehlo.convert %arg1 : (tensor<8192x8x64xbf16>) -> tensor<8192x8x64xf32>
def val_main_v40 (x1 : (⟨S8192x8x64, .bf16⟩ : BufTy).Contents (Elt F)) : (⟨S8192x8x64, .f32⟩ : BufTy).Contents (Elt F) :=
  extf .f32 (x1) bitsLt_bf16_f32
theorem val_main_v40_apply (x1 : (⟨S8192x8x64, .bf16⟩ : BufTy).Contents (Elt F)) (i : S8192x8x64.Idx) :
    val_main_v40 (F := F) x1 i = FloatOps.extf .f32 bitsLt_bf16_f32 (x1 i) := rfl

-- %41 = stablehlo.concatenate %39, %40, %38, dim = 2 : (tensor<8192x8x128xf32>, tensor<8192x8x64xf32>, tensor<8192x8x64xf32>) -> tensor<8192x8x256xf32>
def val_main_v41 (x0 : (⟨S8192x8x128, .bf16⟩ : BufTy).Contents (Elt F)) (x1 : (⟨S8192x8x64, .bf16⟩ : BufTy).Contents (Elt F)) : (⟨S8192x8x256, .f32⟩ : BufTy).Contents (Elt F) :=
  (concatenate S8192x8x256 2 [⟨S8192x8x128, ((val_main_v39 (F := F) x0) : (⟨S8192x8x128, .f32⟩ : BufTy).Contents (Elt F))⟩, ⟨S8192x8x64, ((val_main_v40 (F := F) x1) : (⟨S8192x8x64, .f32⟩ : BufTy).Contents (Elt F))⟩, ⟨S8192x8x64, ((val_main_v38 (F := F)) : (⟨S8192x8x64, .f32⟩ : BufTy).Contents (Elt F))⟩] concatenates_S8192x8x128_S8192x8x64_S8192x8x64_S8192x8x256_d2 : (⟨S8192x8x256, .f32⟩ : BufTy).Contents (Elt F))

-- %cst_5 = stablehlo.constant dense<0.0721687824> : tensor<f32>
def val_main_cst_5 : (⟨S_, .f32⟩ : BufTy).Contents (Elt F) :=
  constant S_ .f32 0x3D93CD3A#32
theorem val_main_cst_5_apply (i : S_.Idx) :
    val_main_cst_5 (F := F) i = FloatOps.ofBits .f32 0x3D93CD3A#32 := rfl

-- %42 = stablehlo.broadcast_in_dim %cst_5, dims = [] : (tensor<f32>) -> tensor<8192x8x256xf32>
def val_main_v42 : (⟨S8192x8x256, .f32⟩ : BufTy).Contents (Elt F) :=
  broadcastInDim S8192x8x256 ![] bcast_S_S8192x8x256 (val_main_cst_5 (F := F))
abbrev idx_main_v42 (i : S8192x8x256.Idx) : S_.Idx := fun a => a.elim0
theorem val_main_v42_apply (i : S8192x8x256.Idx) :
    val_main_v42 (F := F) i = val_main_cst_5 (F := F) (idx_main_v42 i) := by
  unfold val_main_v42
  generalize val_main_cst_5 (F := F) = y
  exact broadcastInDim_apply _ bcast_S_S8192x8x256 y i (idx_main_v42 i) (fun a => a.elim0)

-- %43 = stablehlo.multiply %41, %42 : tensor<8192x8x256xf32>
def val_main_v43 (x0 : (⟨S8192x8x128, .bf16⟩ : BufTy).Contents (Elt F)) (x1 : (⟨S8192x8x64, .bf16⟩ : BufTy).Contents (Elt F)) : (⟨S8192x8x256, .f32⟩ : BufTy).Contents (Elt F) :=
  mulf (val_main_v41 (F := F) x0 x1) (val_main_v42 (F := F))
theorem val_main_v43_apply (x0 : (⟨S8192x8x128, .bf16⟩ : BufTy).Contents (Elt F)) (x1 : (⟨S8192x8x64, .bf16⟩ : BufTy).Contents (Elt F)) (i : S8192x8x256.Idx) :
    val_main_v43 (F := F) x0 x1 i = FloatOps.mulf (val_main_v41 (F := F) x0 x1 i) (val_main_v42 (F := F) i) := rfl

-- %44 = stablehlo.convert %arg3 : (tensor<8192x64xbf16>) -> tensor<8192x64xf32>
def val_main_v44 (x3 : (⟨S8192x64, .bf16⟩ : BufTy).Contents (Elt F)) : (⟨S8192x64, .f32⟩ : BufTy).Contents (Elt F) :=
  extf .f32 (x3) bitsLt_bf16_f32
theorem val_main_v44_apply (x3 : (⟨S8192x64, .bf16⟩ : BufTy).Contents (Elt F)) (i : S8192x64.Idx) :
    val_main_v44 (F := F) x3 i = FloatOps.extf .f32 bitsLt_bf16_f32 (x3 i) := rfl

-- %45 = stablehlo.broadcast_in_dim %44, dims = [0, 2] : (tensor<8192x64xf32>) -> tensor<8192x1x64xf32>
def val_main_v45 (x3 : (⟨S8192x64, .bf16⟩ : BufTy).Contents (Elt F)) : (⟨S8192x1x64, .f32⟩ : BufTy).Contents (Elt F) :=
  broadcastInDim S8192x1x64 ![0, 2] bcast_S8192x64_S8192x1x64_0_2 (val_main_v44 (F := F) x3)
abbrev idx_main_v45 (i : S8192x1x64.Idx) : S8192x64.Idx := fun a => match a with
  | ⟨0, _⟩ => ⟨(i 0).val, (i 0).isLt⟩
  | ⟨1, _⟩ => ⟨(i 2).val, (i 2).isLt⟩
theorem val_main_v45_apply (x3 : (⟨S8192x64, .bf16⟩ : BufTy).Contents (Elt F)) (i : S8192x1x64.Idx) :
    val_main_v45 (F := F) x3 i = val_main_v44 (F := F) x3 (idx_main_v45 i) := by
  unfold val_main_v45
  generalize val_main_v44 (F := F) x3 = y
  exact broadcastInDim_apply _ bcast_S8192x64_S8192x1x64_0_2 y i (idx_main_v45 i) (fun a => match a with
    | ⟨0, _⟩ => by show (i 0).val = if (8192 : Nat) = 1 then 0 else (i 0).val; rw [if_neg (by decide)]
    | ⟨1, _⟩ => by show (i 2).val = if (64 : Nat) = 1 then 0 else (i 2).val; rw [if_neg (by decide)])

-- %46 = stablehlo.broadcast_in_dim %45, dims = [0, 1, 2] : (tensor<8192x1x64xf32>) -> tensor<8192x8x64xf32>
def val_main_v46 (x3 : (⟨S8192x64, .bf16⟩ : BufTy).Contents (Elt F)) : (⟨S8192x8x64, .f32⟩ : BufTy).Contents (Elt F) :=
  broadcastInDim S8192x8x64 ![0, 1, 2] bcast_S8192x1x64_S8192x8x64_0_1_2 (val_main_v45 (F := F) x3)
abbrev idx_main_v46 (i : S8192x8x64.Idx) : S8192x1x64.Idx := fun a => match a with
  | ⟨0, _⟩ => ⟨(i 0).val, (i 0).isLt⟩
  | ⟨1, _⟩ => ⟨0, Nat.one_pos⟩
  | ⟨2, _⟩ => ⟨(i 2).val, (i 2).isLt⟩
theorem val_main_v46_apply (x3 : (⟨S8192x64, .bf16⟩ : BufTy).Contents (Elt F)) (i : S8192x8x64.Idx) :
    val_main_v46 (F := F) x3 i = val_main_v45 (F := F) x3 (idx_main_v46 i) := by
  unfold val_main_v46
  generalize val_main_v45 (F := F) x3 = y
  exact broadcastInDim_apply _ bcast_S8192x1x64_S8192x8x64_0_1_2 y i (idx_main_v46 i) (fun a => match a with
    | ⟨0, _⟩ => by show (i 0).val = if (8192 : Nat) = 1 then 0 else (i 0).val; rw [if_neg (by decide)]
    | ⟨1, _⟩ => by show 0 = if (1 : Nat) = 1 then 0 else (i 1).val; rw [if_pos rfl]
    | ⟨2, _⟩ => by show (i 2).val = if (64 : Nat) = 1 then 0 else (i 2).val; rw [if_neg (by decide)])

-- %47 = stablehlo.convert %arg2 : (tensor<8192x8x128xbf16>) -> tensor<8192x8x128xf32>
def val_main_v47 (x2 : (⟨S8192x8x128, .bf16⟩ : BufTy).Contents (Elt F)) : (⟨S8192x8x128, .f32⟩ : BufTy).Contents (Elt F) :=
  extf .f32 (x2) bitsLt_bf16_f32
theorem val_main_v47_apply (x2 : (⟨S8192x8x128, .bf16⟩ : BufTy).Contents (Elt F)) (i : S8192x8x128.Idx) :
    val_main_v47 (F := F) x2 i = FloatOps.extf .f32 bitsLt_bf16_f32 (x2 i) := rfl

-- %48 = stablehlo.concatenate %47, %46, %38, dim = 2 : (tensor<8192x8x128xf32>, tensor<8192x8x64xf32>, tensor<8192x8x64xf32>) -> tensor<8192x8x256xf32>
def val_main_v48 (x2 : (⟨S8192x8x128, .bf16⟩ : BufTy).Contents (Elt F)) (x3 : (⟨S8192x64, .bf16⟩ : BufTy).Contents (Elt F)) : (⟨S8192x8x256, .f32⟩ : BufTy).Contents (Elt F) :=
  (concatenate S8192x8x256 2 [⟨S8192x8x128, ((val_main_v47 (F := F) x2) : (⟨S8192x8x128, .f32⟩ : BufTy).Contents (Elt F))⟩, ⟨S8192x8x64, ((val_main_v46 (F := F) x3) : (⟨S8192x8x64, .f32⟩ : BufTy).Contents (Elt F))⟩, ⟨S8192x8x64, ((val_main_v38 (F := F)) : (⟨S8192x8x64, .f32⟩ : BufTy).Contents (Elt F))⟩] concatenates_S8192x8x128_S8192x8x64_S8192x8x64_S8192x8x256_d2 : (⟨S8192x8x256, .f32⟩ : BufTy).Contents (Elt F))

-- %49 = stablehlo.transpose %43, dims = [1, 0, 2] : (tensor<8192x8x256xf32>) -> tensor<8x8192x256xf32>
def val_main_v49 (x0 : (⟨S8192x8x128, .bf16⟩ : BufTy).Contents (Elt F)) (x1 : (⟨S8192x8x64, .bf16⟩ : BufTy).Contents (Elt F)) : (⟨S8x8192x256, .f32⟩ : BufTy).Contents (Elt F) :=
  transpose S8x8192x256 [1, 0, 2] (val_main_v43 (F := F) x0 x1) transposes_S8192x8x256_S8x8192x256_1_0_2
abbrev idx_main_v49 (i : S8x8192x256.Idx) : S8192x8x256.Idx := fun a => match a with
  | ⟨0, _⟩ => ⟨(i 1).val, (i 1).isLt⟩
  | ⟨1, _⟩ => ⟨(i 0).val, (i 0).isLt⟩
  | ⟨2, _⟩ => ⟨(i 2).val, (i 2).isLt⟩
theorem val_main_v49_apply (x0 : (⟨S8192x8x128, .bf16⟩ : BufTy).Contents (Elt F)) (x1 : (⟨S8192x8x64, .bf16⟩ : BufTy).Contents (Elt F)) (i : S8x8192x256.Idx) :
    val_main_v49 (F := F) x0 x1 i = val_main_v43 (F := F) x0 x1 (idx_main_v49 i) := by
  unfold val_main_v49
  generalize val_main_v43 (F := F) x0 x1 = y
  exact transpose_apply [1, 0, 2] y transposes_S8192x8x256_S8x8192x256_1_0_2 i (idx_main_v49 i) (fun b => match b with
    | ⟨0, _⟩ => rfl
    | ⟨1, _⟩ => rfl
    | ⟨2, _⟩ => rfl)

-- %50 = stablehlo.convert %49 : (tensor<8x8192x256xf32>) -> tensor<8x8192x256xbf16>
def val_main_v50 (x0 : (⟨S8192x8x128, .bf16⟩ : BufTy).Contents (Elt F)) (x1 : (⟨S8192x8x64, .bf16⟩ : BufTy).Contents (Elt F)) : (⟨S8x8192x256, .bf16⟩ : BufTy).Contents (Elt F) :=
  truncf .bf16 (val_main_v49 (F := F) x0 x1) bitsLt_bf16_f32
theorem val_main_v50_apply (x0 : (⟨S8192x8x128, .bf16⟩ : BufTy).Contents (Elt F)) (x1 : (⟨S8192x8x64, .bf16⟩ : BufTy).Contents (Elt F)) (i : S8x8192x256.Idx) :
    val_main_v50 (F := F) x0 x1 i = FloatOps.truncf .bf16 bitsLt_bf16_f32 (val_main_v49 (F := F) x0 x1 i) := rfl

-- %51 = stablehlo.transpose %48, dims = [1, 0, 2] : (tensor<8192x8x256xf32>) -> tensor<8x8192x256xf32>
def val_main_v51 (x2 : (⟨S8192x8x128, .bf16⟩ : BufTy).Contents (Elt F)) (x3 : (⟨S8192x64, .bf16⟩ : BufTy).Contents (Elt F)) : (⟨S8x8192x256, .f32⟩ : BufTy).Contents (Elt F) :=
  transpose S8x8192x256 [1, 0, 2] (val_main_v48 (F := F) x2 x3) transposes_S8192x8x256_S8x8192x256_1_0_2
abbrev idx_main_v51 (i : S8x8192x256.Idx) : S8192x8x256.Idx := fun a => match a with
  | ⟨0, _⟩ => ⟨(i 1).val, (i 1).isLt⟩
  | ⟨1, _⟩ => ⟨(i 0).val, (i 0).isLt⟩
  | ⟨2, _⟩ => ⟨(i 2).val, (i 2).isLt⟩
theorem val_main_v51_apply (x2 : (⟨S8192x8x128, .bf16⟩ : BufTy).Contents (Elt F)) (x3 : (⟨S8192x64, .bf16⟩ : BufTy).Contents (Elt F)) (i : S8x8192x256.Idx) :
    val_main_v51 (F := F) x2 x3 i = val_main_v48 (F := F) x2 x3 (idx_main_v51 i) := by
  unfold val_main_v51
  generalize val_main_v48 (F := F) x2 x3 = y
  exact transpose_apply [1, 0, 2] y transposes_S8192x8x256_S8x8192x256_1_0_2 i (idx_main_v51 i) (fun b => match b with
    | ⟨0, _⟩ => rfl
    | ⟨1, _⟩ => rfl
    | ⟨2, _⟩ => rfl)

-- %52 = stablehlo.convert %51 : (tensor<8x8192x256xf32>) -> tensor<8x8192x256xbf16>
def val_main_v52 (x2 : (⟨S8192x8x128, .bf16⟩ : BufTy).Contents (Elt F)) (x3 : (⟨S8192x64, .bf16⟩ : BufTy).Contents (Elt F)) : (⟨S8x8192x256, .bf16⟩ : BufTy).Contents (Elt F) :=
  truncf .bf16 (val_main_v51 (F := F) x2 x3) bitsLt_bf16_f32
theorem val_main_v52_apply (x2 : (⟨S8192x8x128, .bf16⟩ : BufTy).Contents (Elt F)) (x3 : (⟨S8192x64, .bf16⟩ : BufTy).Contents (Elt F)) (i : S8x8192x256.Idx) :
    val_main_v52 (F := F) x2 x3 i = FloatOps.truncf .bf16 bitsLt_bf16_f32 (val_main_v51 (F := F) x2 x3 i) := rfl

-- %53 = stablehlo.transpose %arg4, dims = [1, 0, 2] : (tensor<8192x8x128xbf16>) -> tensor<8x8192x128xbf16>
def val_main_v53 (x4 : (⟨S8192x8x128, .bf16⟩ : BufTy).Contents (Elt F)) : (⟨S8x8192x128, .bf16⟩ : BufTy).Contents (Elt F) :=
  transpose S8x8192x128 [1, 0, 2] (x4) transposes_S8192x8x128_S8x8192x128_1_0_2
abbrev idx_main_v53 (i : S8x8192x128.Idx) : S8192x8x128.Idx := fun a => match a with
  | ⟨0, _⟩ => ⟨(i 1).val, (i 1).isLt⟩
  | ⟨1, _⟩ => ⟨(i 0).val, (i 0).isLt⟩
  | ⟨2, _⟩ => ⟨(i 2).val, (i 2).isLt⟩
theorem val_main_v53_apply (x4 : (⟨S8192x8x128, .bf16⟩ : BufTy).Contents (Elt F)) (i : S8x8192x128.Idx) :
    val_main_v53 (F := F) x4 i = x4 (idx_main_v53 i) := by
  unfold val_main_v53
  exact transpose_apply [1, 0, 2] x4 transposes_S8192x8x128_S8x8192x128_1_0_2 i (idx_main_v53 i) (fun b => match b with
    | ⟨0, _⟩ => rfl
    | ⟨1, _⟩ => rfl
    | ⟨2, _⟩ => rfl)

-- %54 = stablehlo.reshape %arg5 : (tensor<8192x8x128xbf16>) -> tensor<8192x1024xbf16>
def val_main_v54 (x5 : (⟨S8192x8x128, .bf16⟩ : BufTy).Contents (Elt F)) : (⟨S8192x1024, .bf16⟩ : BufTy).Contents (Elt F) :=
  shapeCast _ (x5) shapeCasts_S8192x8x128_S8192x1024
set_option backward.proofsInPublic true in
abbrev idx_main_v54 (i : S8192x1024.Idx) : S8192x8x128.Idx := fun a => match a with
  | ⟨0, _⟩ => ⟨((i 0).val * 1024 + (i 1).val) / 1024, by have h0 : (i 0).val < 8192 := (i 0).isLt; have h1 : (i 1).val < 1024 := (i 1).isLt; show ((i 0).val * 1024 + (i 1).val) / 1024 < 8192; omega⟩
  | ⟨1, _⟩ => ⟨((i 0).val * 1024 + (i 1).val) / 128 % 8, by have h0 : (i 0).val < 8192 := (i 0).isLt; have h1 : (i 1).val < 1024 := (i 1).isLt; show ((i 0).val * 1024 + (i 1).val) / 128 % 8 < 8; omega⟩
  | ⟨2, _⟩ => ⟨((i 0).val * 1024 + (i 1).val) % 128, by have h0 : (i 0).val < 8192 := (i 0).isLt; have h1 : (i 1).val < 1024 := (i 1).isLt; show ((i 0).val * 1024 + (i 1).val) % 128 < 128; omega⟩
theorem val_main_v54_apply (x5 : (⟨S8192x8x128, .bf16⟩ : BufTy).Contents (Elt F)) (i : S8192x1024.Idx) :
    val_main_v54 (F := F) x5 i = x5 (idx_main_v54 i) := by
  unfold val_main_v54
  exact shapeCast_apply x5 shapeCasts_S8192x8x128_S8192x1024 i (idx_main_v54 i)
    (by rewrite [Shape.rowMajor_val_three, Shape.rowMajor_val_two]; have h0 : (i 0).val < 8192 := (i 0).isLt; have h1 : (i 1).val < 1024 := (i 1).isLt; show (((i 0).val * 1024 + (i 1).val) / 1024 * 8 + ((i 0).val * 1024 + (i 1).val) / 128 % 8) * 128 + ((i 0).val * 1024 + (i 1).val) % 128 = (i 0).val * 1024 + (i 1).val; omega)

-- %55 = stablehlo.reshape %28 : (tensor<8x8192xf32>) -> tensor<8x16x1x512xf32>
def val_main_v55 (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) : (⟨S8x16x1x512, .f32⟩ : BufTy).Contents (Elt F) :=
  shapeCast _ (val_main_v28 (F := F) x0 x1 x2 x3) shapeCasts_S8x8192_S8x16x1x512
set_option backward.proofsInPublic true in
abbrev idx_main_v55 (i : S8x16x1x512.Idx) : S8x8192.Idx := fun a => match a with
  | ⟨0, _⟩ => ⟨((((i 0).val * 16 + (i 1).val) * 1 + (i 2).val) * 512 + (i 3).val) / 8192, by have h0 : (i 0).val < 8 := (i 0).isLt; have h1 : (i 1).val < 16 := (i 1).isLt; have h2 : (i 2).val < 1 := (i 2).isLt; have h3 : (i 3).val < 512 := (i 3).isLt; show ((((i 0).val * 16 + (i 1).val) * 1 + (i 2).val) * 512 + (i 3).val) / 8192 < 8; omega⟩
  | ⟨1, _⟩ => ⟨((((i 0).val * 16 + (i 1).val) * 1 + (i 2).val) * 512 + (i 3).val) % 8192, by have h0 : (i 0).val < 8 := (i 0).isLt; have h1 : (i 1).val < 16 := (i 1).isLt; have h2 : (i 2).val < 1 := (i 2).isLt; have h3 : (i 3).val < 512 := (i 3).isLt; show ((((i 0).val * 16 + (i 1).val) * 1 + (i 2).val) * 512 + (i 3).val) % 8192 < 8192; omega⟩
theorem val_main_v55_apply (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (i : S8x16x1x512.Idx) :
    val_main_v55 (F := F) x0 x1 x2 x3 i = val_main_v28 (F := F) x0 x1 x2 x3 (idx_main_v55 i) := by
  unfold val_main_v55
  generalize val_main_v28 (F := F) x0 x1 x2 x3 = y
  exact shapeCast_apply y shapeCasts_S8x8192_S8x16x1x512 i (idx_main_v55 i)
    (by rewrite [Shape.rowMajor_val_two, Shape.rowMajor_val_four]; have h0 : (i 0).val < 8 := (i 0).isLt; have h1 : (i 1).val < 16 := (i 1).isLt; have h2 : (i 2).val < 1 := (i 2).isLt; have h3 : (i 3).val < 512 := (i 3).isLt; show ((((i 0).val * 16 + (i 1).val) * 1 + (i 2).val) * 512 + (i 3).val) / 8192 * 8192 + ((((i 0).val * 16 + (i 1).val) * 1 + (i 2).val) * 512 + (i 3).val) % 8192 = (((i 0).val * 16 + (i 1).val) * 1 + (i 2).val) * 512 + (i 3).val; omega)

-- %56 = stablehlo.broadcast_in_dim %55, dims = [0, 1, 2, 3] : (tensor<8x16x1x512xf32>) -> tensor<8x16x8x512xf32>
def val_main_v56 (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) : (⟨S8x16x8x512, .f32⟩ : BufTy).Contents (Elt F) :=
  broadcastInDim S8x16x8x512 ![0, 1, 2, 3] bcast_S8x16x1x512_S8x16x8x512_0_1_2_3 (val_main_v55 (F := F) x0 x1 x2 x3)
abbrev idx_main_v56 (i : S8x16x8x512.Idx) : S8x16x1x512.Idx := fun a => match a with
  | ⟨0, _⟩ => ⟨(i 0).val, (i 0).isLt⟩
  | ⟨1, _⟩ => ⟨(i 1).val, (i 1).isLt⟩
  | ⟨2, _⟩ => ⟨0, Nat.one_pos⟩
  | ⟨3, _⟩ => ⟨(i 3).val, (i 3).isLt⟩
theorem val_main_v56_apply (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (i : S8x16x8x512.Idx) :
    val_main_v56 (F := F) x0 x1 x2 x3 i = val_main_v55 (F := F) x0 x1 x2 x3 (idx_main_v56 i) := by
  unfold val_main_v56
  generalize val_main_v55 (F := F) x0 x1 x2 x3 = y
  exact broadcastInDim_apply _ bcast_S8x16x1x512_S8x16x8x512_0_1_2_3 y i (idx_main_v56 i) (fun a => match a with
    | ⟨0, _⟩ => by show (i 0).val = if (8 : Nat) = 1 then 0 else (i 0).val; rw [if_neg (by decide)]
    | ⟨1, _⟩ => by show (i 1).val = if (16 : Nat) = 1 then 0 else (i 1).val; rw [if_neg (by decide)]
    | ⟨2, _⟩ => by show 0 = if (1 : Nat) = 1 then 0 else (i 2).val; rw [if_pos rfl]
    | ⟨3, _⟩ => by show (i 3).val = if (512 : Nat) = 1 then 0 else (i 3).val; rw [if_neg (by decide)])

-- %57 = stablehlo.reshape %37 : (tensor<8x8192xf32>) -> tensor<8x16x1x512xf32>
def val_main_v57 (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (x4 x5 : (⟨S8192x8x128, .bf16⟩ : BufTy).Contents (Elt F)) : (⟨S8x16x1x512, .f32⟩ : BufTy).Contents (Elt F) :=
  shapeCast _ (val_main_v37 (F := F) x0 x1 x2 x3 x4 x5) shapeCasts_S8x8192_S8x16x1x512
set_option backward.proofsInPublic true in
abbrev idx_main_v57 (i : S8x16x1x512.Idx) : S8x8192.Idx := fun a => match a with
  | ⟨0, _⟩ => ⟨((((i 0).val * 16 + (i 1).val) * 1 + (i 2).val) * 512 + (i 3).val) / 8192, by have h0 : (i 0).val < 8 := (i 0).isLt; have h1 : (i 1).val < 16 := (i 1).isLt; have h2 : (i 2).val < 1 := (i 2).isLt; have h3 : (i 3).val < 512 := (i 3).isLt; show ((((i 0).val * 16 + (i 1).val) * 1 + (i 2).val) * 512 + (i 3).val) / 8192 < 8; omega⟩
  | ⟨1, _⟩ => ⟨((((i 0).val * 16 + (i 1).val) * 1 + (i 2).val) * 512 + (i 3).val) % 8192, by have h0 : (i 0).val < 8 := (i 0).isLt; have h1 : (i 1).val < 16 := (i 1).isLt; have h2 : (i 2).val < 1 := (i 2).isLt; have h3 : (i 3).val < 512 := (i 3).isLt; show ((((i 0).val * 16 + (i 1).val) * 1 + (i 2).val) * 512 + (i 3).val) % 8192 < 8192; omega⟩
theorem val_main_v57_apply (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (x4 x5 : (⟨S8192x8x128, .bf16⟩ : BufTy).Contents (Elt F)) (i : S8x16x1x512.Idx) :
    val_main_v57 (F := F) x0 x1 x2 x3 x4 x5 i = val_main_v37 (F := F) x0 x1 x2 x3 x4 x5 (idx_main_v57 i) := by
  unfold val_main_v57
  generalize val_main_v37 (F := F) x0 x1 x2 x3 x4 x5 = y
  exact shapeCast_apply y shapeCasts_S8x8192_S8x16x1x512 i (idx_main_v57 i)
    (by rewrite [Shape.rowMajor_val_two, Shape.rowMajor_val_four]; have h0 : (i 0).val < 8 := (i 0).isLt; have h1 : (i 1).val < 16 := (i 1).isLt; have h2 : (i 2).val < 1 := (i 2).isLt; have h3 : (i 3).val < 512 := (i 3).isLt; show ((((i 0).val * 16 + (i 1).val) * 1 + (i 2).val) * 512 + (i 3).val) / 8192 * 8192 + ((((i 0).val * 16 + (i 1).val) * 1 + (i 2).val) * 512 + (i 3).val) % 8192 = (((i 0).val * 16 + (i 1).val) * 1 + (i 2).val) * 512 + (i 3).val; omega)

-- %58 = stablehlo.broadcast_in_dim %57, dims = [0, 1, 2, 3] : (tensor<8x16x1x512xf32>) -> tensor<8x16x8x512xf32>
def val_main_v58 (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (x4 x5 : (⟨S8192x8x128, .bf16⟩ : BufTy).Contents (Elt F)) : (⟨S8x16x8x512, .f32⟩ : BufTy).Contents (Elt F) :=
  broadcastInDim S8x16x8x512 ![0, 1, 2, 3] bcast_S8x16x1x512_S8x16x8x512_0_1_2_3 (val_main_v57 (F := F) x0 x1 x2 x3 x4 x5)
abbrev idx_main_v58 (i : S8x16x8x512.Idx) : S8x16x1x512.Idx := fun a => match a with
  | ⟨0, _⟩ => ⟨(i 0).val, (i 0).isLt⟩
  | ⟨1, _⟩ => ⟨(i 1).val, (i 1).isLt⟩
  | ⟨2, _⟩ => ⟨0, Nat.one_pos⟩
  | ⟨3, _⟩ => ⟨(i 3).val, (i 3).isLt⟩
theorem val_main_v58_apply (x0 : (⟨S8192x8x128, .bf16⟩ : BufTy).Contents (Elt F)) (x1 : (⟨S8192x8x64, .bf16⟩ : BufTy).Contents (Elt F)) (x2 : (⟨S8192x8x128, .bf16⟩ : BufTy).Contents (Elt F)) (x3 : (⟨S8192x64, .bf16⟩ : BufTy).Contents (Elt F)) (x4 x5 : (⟨S8192x8x128, .bf16⟩ : BufTy).Contents (Elt F)) (i : S8x16x8x512.Idx) :
    val_main_v58 (F := F) x0 x1 x2 x3 x4 x5 i = val_main_v57 (F := F) x0 x1 x2 x3 x4 x5 (idx_main_v58 i) := by
  unfold val_main_v58
  generalize val_main_v57 (F := F) x0 x1 x2 x3 x4 x5 = y
  exact broadcastInDim_apply _ bcast_S8x16x1x512_S8x16x8x512_0_1_2_3 y i (idx_main_v58 i) (fun a => match a with
    | ⟨0, _⟩ => by show (i 0).val = if (8 : Nat) = 1 then 0 else (i 0).val; rw [if_neg (by decide)]
    | ⟨1, _⟩ => by show (i 1).val = if (16 : Nat) = 1 then 0 else (i 1).val; rw [if_neg (by decide)]
    | ⟨2, _⟩ => by show 0 = if (1 : Nat) = 1 then 0 else (i 2).val; rw [if_pos rfl]
    | ⟨3, _⟩ => by show (i 3).val = if (512 : Nat) = 1 then 0 else (i 3).val; rw [if_neg (by decide)])

end Cert.KernelIdeal.Prep

end
-- ==== Proof.Flash.PostRead.lean ====
/- The host operations after the kernel call, one at a time, as functions of the call's three results: the packed gradients
   of the queries (`x0`), of the keys (`x1`) and of the values (`x2`). -/
module

public import proofs.«01_k».proof.Proof.Gen.KernelIdeal
public import proofs.«01_k».proof.Proof.Gen.ReferenceIdeal.Read
public import Idealize.ShloMosaic.PureOps.Ideal.Laws
public import Idealize.ShloMosaic.Lib.ValueIdx
public import Idealize.ShloMosaic.Lib.Pipeline.Value

@[expose] public section

noncomputable section

namespace Cert.KernelIdeal.Post

open Cert.KernelIdeal Cert.KernelIdeal.Gen Idealize.ShloMosaic Idealize.ShloMosaic.TcCoe Idealize.SL.Sem Idealize.ShloMosaic.StableHlo

variable {F : FTy → Type} [FloatOps F]

-- %0 = stablehlo.convert %arg0 : (tensor<8x8192x256xbf16>) -> tensor<8x8192x256xf32>
def val_main_v0 (x0 : (⟨S8x8192x256, .bf16⟩ : BufTy).Contents (Elt F)) : (⟨S8x8192x256, .f32⟩ : BufTy).Contents (Elt F) :=
  extf .f32 (x0) bitsLt_bf16_f32
theorem val_main_v0_apply (x0 : (⟨S8x8192x256, .bf16⟩ : BufTy).Contents (Elt F)) (i : S8x8192x256.Idx) :
    val_main_v0 (F := F) x0 i = FloatOps.extf .f32 bitsLt_bf16_f32 (x0 i) := rfl

-- %1 = stablehlo.transpose %0, dims = [1, 0, 2] : (tensor<8x8192x256xf32>) -> tensor<8192x8x256xf32>
def val_main_v1 (x0 : (⟨S8x8192x256, .bf16⟩ : BufTy).Contents (Elt F)) : (⟨S8192x8x256, .f32⟩ : BufTy).Contents (Elt F) :=
  transpose S8192x8x256 [1, 0, 2] (val_main_v0 (F := F) x0) transposes_S8x8192x256_S8192x8x256_1_0_2
abbrev idx_main_v1 (i : S8192x8x256.Idx) : S8x8192x256.Idx := fun a => match a with
  | ⟨0, _⟩ => ⟨(i 1).val, (i 1).isLt⟩
  | ⟨1, _⟩ => ⟨(i 0).val, (i 0).isLt⟩
  | ⟨2, _⟩ => ⟨(i 2).val, (i 2).isLt⟩
theorem val_main_v1_apply (x0 : (⟨S8x8192x256, .bf16⟩ : BufTy).Contents (Elt F)) (i : S8192x8x256.Idx) :
    val_main_v1 (F := F) x0 i = val_main_v0 (F := F) x0 (idx_main_v1 i) := by
  unfold val_main_v1
  generalize val_main_v0 (F := F) x0 = y
  exact transpose_apply [1, 0, 2] y transposes_S8x8192x256_S8192x8x256_1_0_2 i (idx_main_v1 i) (fun b => match b with
    | ⟨0, _⟩ => rfl
    | ⟨1, _⟩ => rfl
    | ⟨2, _⟩ => rfl)

-- %cst = stablehlo.constant dense<0.0721687824> : tensor<f32>
def val_main_cst : (⟨S_, .f32⟩ : BufTy).Contents (Elt F) :=
  constant S_ .f32 0x3D93CD3A#32
theorem val_main_cst_apply (i : S_.Idx) :
    val_main_cst (F := F) i = FloatOps.ofBits .f32 0x3D93CD3A#32 := rfl

-- %2 = stablehlo.broadcast_in_dim %cst, dims = [] : (tensor<f32>) -> tensor<8192x8x256xf32>
def val_main_v2 : (⟨S8192x8x256, .f32⟩ : BufTy).Contents (Elt F) :=
  broadcastInDim S8192x8x256 ![] bcast_S_S8192x8x256 (val_main_cst (F := F))
abbrev idx_main_v2 (i : S8192x8x256.Idx) : S_.Idx := fun a => a.elim0
theorem val_main_v2_apply (i : S8192x8x256.Idx) :
    val_main_v2 (F := F) i = val_main_cst (F := F) (idx_main_v2 i) := by
  unfold val_main_v2
  generalize val_main_cst (F := F) = y
  exact broadcastInDim_apply _ bcast_S_S8192x8x256 y i (idx_main_v2 i) (fun a => a.elim0)

-- %3 = stablehlo.multiply %1, %2 : tensor<8192x8x256xf32>
def val_main_v3 (x0 : (⟨S8x8192x256, .bf16⟩ : BufTy).Contents (Elt F)) : (⟨S8192x8x256, .f32⟩ : BufTy).Contents (Elt F) :=
  mulf (val_main_v1 (F := F) x0) (val_main_v2 (F := F))
theorem val_main_v3_apply (x0 : (⟨S8x8192x256, .bf16⟩ : BufTy).Contents (Elt F)) (i : S8192x8x256.Idx) :
    val_main_v3 (F := F) x0 i = FloatOps.mulf (val_main_v1 (F := F) x0 i) (val_main_v2 (F := F) i) := rfl

-- %4 = stablehlo.convert %arg1 : (tensor<8x8192x256xbf16>) -> tensor<8x8192x256xf32>
def val_main_v4 (x1 : (⟨S8x8192x256, .bf16⟩ : BufTy).Contents (Elt F)) : (⟨S8x8192x256, .f32⟩ : BufTy).Contents (Elt F) :=
  extf .f32 (x1) bitsLt_bf16_f32
theorem val_main_v4_apply (x1 : (⟨S8x8192x256, .bf16⟩ : BufTy).Contents (Elt F)) (i : S8x8192x256.Idx) :
    val_main_v4 (F := F) x1 i = FloatOps.extf .f32 bitsLt_bf16_f32 (x1 i) := rfl

-- %5 = stablehlo.transpose %4, dims = [1, 0, 2] : (tensor<8x8192x256xf32>) -> tensor<8192x8x256xf32>
def val_main_v5 (x1 : (⟨S8x8192x256, .bf16⟩ : BufTy).Contents (Elt F)) : (⟨S8192x8x256, .f32⟩ : BufTy).Contents (Elt F) :=
  transpose S8192x8x256 [1, 0, 2] (val_main_v4 (F := F) x1) transposes_S8x8192x256_S8192x8x256_1_0_2
abbrev idx_main_v5 (i : S8192x8x256.Idx) : S8x8192x256.Idx := fun a => match a with
  | ⟨0, _⟩ => ⟨(i 1).val, (i 1).isLt⟩
  | ⟨1, _⟩ => ⟨(i 0).val, (i 0).isLt⟩
  | ⟨2, _⟩ => ⟨(i 2).val, (i 2).isLt⟩
theorem val_main_v5_apply (x1 : (⟨S8x8192x256, .bf16⟩ : BufTy).Contents (Elt F)) (i : S8192x8x256.Idx) :
    val_main_v5 (F := F) x1 i = val_main_v4 (F := F) x1 (idx_main_v5 i) := by
  unfold val_main_v5
  generalize val_main_v4 (F := F) x1 = y
  exact transpose_apply [1, 0, 2] y transposes_S8x8192x256_S8192x8x256_1_0_2 i (idx_main_v5 i) (fun b => match b with
    | ⟨0, _⟩ => rfl
    | ⟨1, _⟩ => rfl
    | ⟨2, _⟩ => rfl)

-- %6 = stablehlo.slice %5 [0:8192, 0:8, 128:192] : (tensor<8192x8x256xf32>) -> tensor<8192x8x64xf32>
def val_main_v6 (x1 : (⟨S8x8192x256, .bf16⟩ : BufTy).Contents (Elt F)) : (⟨S8192x8x64, .f32⟩ : BufTy).Contents (Elt F) :=
  extractStridedSlice S8192x8x64 ![0, 0, 128] (val_main_v5 (F := F) x1) slices_S8192x8x256_S8192x8x64_0_0_128
set_option backward.proofsInPublic true in
abbrev idx_main_v6 (i : S8192x8x64.Idx) : S8192x8x256.Idx := fun a => match a with
  | ⟨0, _⟩ => ⟨(i 0).val, (i 0).isLt⟩
  | ⟨1, _⟩ => ⟨(i 1).val, (i 1).isLt⟩
  | ⟨2, _⟩ => ⟨128 + (i 2).val, by have h2 : (i 2).val < 64 := (i 2).isLt; show 128 + (i 2).val < 256; omega⟩
theorem val_main_v6_apply (x1 : (⟨S8x8192x256, .bf16⟩ : BufTy).Contents (Elt F)) (i : S8192x8x64.Idx) :
    val_main_v6 (F := F) x1 i = val_main_v5 (F := F) x1 (idx_main_v6 i) := by
  unfold val_main_v6
  generalize val_main_v5 (F := F) x1 = y
  exact extractStridedSlice_apply ![0, 0, 128] y slices_S8192x8x256_S8192x8x64_0_0_128 i (idx_main_v6 i) (fun a => match a with
    | ⟨0, _⟩ => by show (i 0).val = 0 + (i 0).val; omega
    | ⟨1, _⟩ => by show (i 1).val = 0 + (i 1).val; omega
    | ⟨2, _⟩ => by show 128 + (i 2).val = 128 + (i 2).val; omega)

-- %cst_0 = stablehlo.constant dense<0.000000e+00> : tensor<f32>
def val_main_cst_0 : (⟨S_, .f32⟩ : BufTy).Contents (Elt F) :=
  constant S_ .f32 0x00000000#32
theorem val_main_cst_0_apply (i : S_.Idx) :
    val_main_cst_0 (F := F) i = FloatOps.ofBits .f32 0x00000000#32 := rfl

-- %7 = stablehlo.reduce(%6 init: %cst_0) applies stablehlo.add across dimensions = [1] : (tensor<8192x8x64xf32>, tensor<f32>) -> tensor<8192x64xf32> {
def val_main_v7 (x1 : (⟨S8x8192x256, .bf16⟩ : BufTy).Contents (Elt F)) : (⟨S8192x64, .f32⟩ : BufTy).Contents (Elt F) :=
  Host.reduceAdd (val_main_v6 (F := F) x1) (val_main_cst_0 (F := F)) reducesTo_S8192x8x64_S8192x64_d1 h_S_
abbrev idx_main_v7 (i : S8192x64.Idx) (k : Fin 8) : S8192x8x64.Idx := fun a => match a with
  | ⟨0, _⟩ => ⟨(i 0).val, (i 0).isLt⟩
  | ⟨1, _⟩ => ⟨k.val, k.isLt⟩
  | ⟨2, _⟩ => ⟨(i 1).val, (i 1).isLt⟩
/-- Stated at `F := Ideal`, where the host's float sum is this sum; at a bit-exact instance it is an opaque function of its operand. -/
theorem val_main_v7_apply (x1 : (⟨S8x8192x256, .bf16⟩ : BufTy).Contents (Elt Ideal)) (i : S8192x64.Idx) :
    val_main_v7 (F := Ideal) x1 i = (val_main_cst_0 (F := Ideal)) (Shape.Idx.first h_S_) + ∑ k : Fin 8, (val_main_v6 (F := Ideal) x1) (idx_main_v7 i k) := by
  unfold val_main_v7
  generalize val_main_v6 (F := Ideal) x1 = y0
  simp only [Host.reduceAdd, Ideal.hostReduceAdd_def]
  rw [Ideal.hostReduceAdd_single reducesTo_S8192x8x64_S8192x64_d1 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- %8 = stablehlo.slice %3 [0:8192, 0:8, 0:128] : (tensor<8192x8x256xf32>) -> tensor<8192x8x128xf32>
def val_main_v8 (x0 : (⟨S8x8192x256, .bf16⟩ : BufTy).Contents (Elt F)) : (⟨S8192x8x128, .f32⟩ : BufTy).Contents (Elt F) :=
  extractStridedSlice S8192x8x128 ![0, 0, 0] (val_main_v3 (F := F) x0) slices_S8192x8x256_S8192x8x128_0_0_0
set_option backward.proofsInPublic true in
abbrev idx_main_v8 (i : S8192x8x128.Idx) : S8192x8x256.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 128 := (i 2).isLt; show (i 2).val < 256; omega⟩
theorem val_main_v8_apply (x0 : (⟨S8x8192x256, .bf16⟩ : BufTy).Contents (Elt F)) (i : S8192x8x128.Idx) :
    val_main_v8 (F := F) x0 i = val_main_v3 (F := F) x0 (idx_main_v8 i) := by
  unfold val_main_v8
  generalize val_main_v3 (F := F) x0 = y
  exact extractStridedSlice_apply ![0, 0, 0] y slices_S8192x8x256_S8192x8x128_0_0_0 i (idx_main_v8 i) (fun a => match a with
    | ⟨0, _⟩ => by show (i 0).val = 0 + (i 0).val; omega
    | ⟨1, _⟩ => by show (i 1).val = 0 + (i 1).val; omega
    | ⟨2, _⟩ => by show (i 2).val = 0 + (i 2).val; omega)

-- %9 = stablehlo.convert %8 : (tensor<8192x8x128xf32>) -> tensor<8192x8x128xbf16>
def val_main_v9 (x0 : (⟨S8x8192x256, .bf16⟩ : BufTy).Contents (Elt F)) : (⟨S8192x8x128, .bf16⟩ : BufTy).Contents (Elt F) :=
  truncf .bf16 (val_main_v8 (F := F) x0) bitsLt_bf16_f32
theorem val_main_v9_apply (x0 : (⟨S8x8192x256, .bf16⟩ : BufTy).Contents (Elt F)) (i : S8192x8x128.Idx) :
    val_main_v9 (F := F) x0 i = FloatOps.truncf .bf16 bitsLt_bf16_f32 (val_main_v8 (F := F) x0 i) := rfl

-- %10 = stablehlo.slice %3 [0:8192, 0:8, 128:192] : (tensor<8192x8x256xf32>) -> tensor<8192x8x64xf32>
def val_main_v10 (x0 : (⟨S8x8192x256, .bf16⟩ : BufTy).Contents (Elt F)) : (⟨S8192x8x64, .f32⟩ : BufTy).Contents (Elt F) :=
  extractStridedSlice S8192x8x64 ![0, 0, 128] (val_main_v3 (F := F) x0) slices_S8192x8x256_S8192x8x64_0_0_128
set_option backward.proofsInPublic true in
abbrev idx_main_v10 (i : S8192x8x64.Idx) : S8192x8x256.Idx := fun a => match a with
  | ⟨0, _⟩ => ⟨(i 0).val, (i 0).isLt⟩
  | ⟨1, _⟩ => ⟨(i 1).val, (i 1).isLt⟩
  | ⟨2, _⟩ => ⟨128 + (i 2).val, by have h2 : (i 2).val < 64 := (i 2).isLt; show 128 + (i 2).val < 256; omega⟩
theorem val_main_v10_apply (x0 : (⟨S8x8192x256, .bf16⟩ : BufTy).Contents (Elt F)) (i : S8192x8x64.Idx) :
    val_main_v10 (F := F) x0 i = val_main_v3 (F := F) x0 (idx_main_v10 i) := by
  unfold val_main_v10
  generalize val_main_v3 (F := F) x0 = y
  exact extractStridedSlice_apply ![0, 0, 128] y slices_S8192x8x256_S8192x8x64_0_0_128 i (idx_main_v10 i) (fun a => match a with
    | ⟨0, _⟩ => by show (i 0).val = 0 + (i 0).val; omega
    | ⟨1, _⟩ => by show (i 1).val = 0 + (i 1).val; omega
    | ⟨2, _⟩ => by show 128 + (i 2).val = 128 + (i 2).val; omega)

-- %11 = stablehlo.convert %10 : (tensor<8192x8x64xf32>) -> tensor<8192x8x64xbf16>
def val_main_v11 (x0 : (⟨S8x8192x256, .bf16⟩ : BufTy).Contents (Elt F)) : (⟨S8192x8x64, .bf16⟩ : BufTy).Contents (Elt F) :=
  truncf .bf16 (val_main_v10 (F := F) x0) bitsLt_bf16_f32
theorem val_main_v11_apply (x0 : (⟨S8x8192x256, .bf16⟩ : BufTy).Contents (Elt F)) (i : S8192x8x64.Idx) :
    val_main_v11 (F := F) x0 i = FloatOps.truncf .bf16 bitsLt_bf16_f32 (val_main_v10 (F := F) x0 i) := rfl

-- %12 = stablehlo.slice %5 [0:8192, 0:8, 0:128] : (tensor<8192x8x256xf32>) -> tensor<8192x8x128xf32>
def val_main_v12 (x1 : (⟨S8x8192x256, .bf16⟩ : BufTy).Contents (Elt F)) : (⟨S8192x8x128, .f32⟩ : BufTy).Contents (Elt F) :=
  extractStridedSlice S8192x8x128 ![0, 0, 0] (val_main_v5 (F := F) x1) slices_S8192x8x256_S8192x8x128_0_0_0
set_option backward.proofsInPublic true in
abbrev idx_main_v12 (i : S8192x8x128.Idx) : S8192x8x256.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 128 := (i 2).isLt; show (i 2).val < 256; omega⟩
theorem val_main_v12_apply (x1 : (⟨S8x8192x256, .bf16⟩ : BufTy).Contents (Elt F)) (i : S8192x8x128.Idx) :
    val_main_v12 (F := F) x1 i = val_main_v5 (F := F) x1 (idx_main_v12 i) := by
  unfold val_main_v12
  generalize val_main_v5 (F := F) x1 = y
  exact extractStridedSlice_apply ![0, 0, 0] y slices_S8192x8x256_S8192x8x128_0_0_0 i (idx_main_v12 i) (fun a => match a with
    | ⟨0, _⟩ => by show (i 0).val = 0 + (i 0).val; omega
    | ⟨1, _⟩ => by show (i 1).val = 0 + (i 1).val; omega
    | ⟨2, _⟩ => by show (i 2).val = 0 + (i 2).val; omega)

-- %13 = stablehlo.convert %12 : (tensor<8192x8x128xf32>) -> tensor<8192x8x128xbf16>
def val_main_v13 (x1 : (⟨S8x8192x256, .bf16⟩ : BufTy).Contents (Elt F)) : (⟨S8192x8x128, .bf16⟩ : BufTy).Contents (Elt F) :=
  truncf .bf16 (val_main_v12 (F := F) x1) bitsLt_bf16_f32
theorem val_main_v13_apply (x1 : (⟨S8x8192x256, .bf16⟩ : BufTy).Contents (Elt F)) (i : S8192x8x128.Idx) :
    val_main_v13 (F := F) x1 i = FloatOps.truncf .bf16 bitsLt_bf16_f32 (val_main_v12 (F := F) x1 i) := rfl

-- %14 = stablehlo.convert %7 : (tensor<8192x64xf32>) -> tensor<8192x64xbf16>
def val_main_v14 (x1 : (⟨S8x8192x256, .bf16⟩ : BufTy).Contents (Elt F)) : (⟨S8192x64, .bf16⟩ : BufTy).Contents (Elt F) :=
  truncf .bf16 (val_main_v7 (F := F) x1) bitsLt_bf16_f32
theorem val_main_v14_apply (x1 : (⟨S8x8192x256, .bf16⟩ : BufTy).Contents (Elt F)) (i : S8192x64.Idx) :
    val_main_v14 (F := F) x1 i = FloatOps.truncf .bf16 bitsLt_bf16_f32 (val_main_v7 (F := F) x1 i) := rfl

-- %15 = stablehlo.transpose %arg2, dims = [1, 0, 2] : (tensor<8x8192x128xbf16>) -> tensor<8192x8x128xbf16>
def val_main_v15 (x2 : (⟨S8x8192x128, .bf16⟩ : BufTy).Contents (Elt F)) : (⟨S8192x8x128, .bf16⟩ : BufTy).Contents (Elt F) :=
  transpose S8192x8x128 [1, 0, 2] (x2) transposes_S8x8192x128_S8192x8x128_1_0_2
abbrev idx_main_v15 (i : S8192x8x128.Idx) : S8x8192x128.Idx := fun a => match a with
  | ⟨0, _⟩ => ⟨(i 1).val, (i 1).isLt⟩
  | ⟨1, _⟩ => ⟨(i 0).val, (i 0).isLt⟩
  | ⟨2, _⟩ => ⟨(i 2).val, (i 2).isLt⟩
theorem val_main_v15_apply (x2 : (⟨S8x8192x128, .bf16⟩ : BufTy).Contents (Elt F)) (i : S8192x8x128.Idx) :
    val_main_v15 (F := F) x2 i = x2 (idx_main_v15 i) := by
  unfold val_main_v15
  exact transpose_apply [1, 0, 2] x2 transposes_S8x8192x128_S8192x8x128_1_0_2 i (idx_main_v15 i) (fun b => match b with
    | ⟨0, _⟩ => rfl
    | ⟨1, _⟩ => rfl
    | ⟨2, _⟩ => rfl)

end Cert.KernelIdeal.Post

end
-- ==== Proof.Flash.Host.lean ====
/-
  The arrays the kernel call reads, as functions of the arguments, and the results of @main, as functions of the arrays the
  call leaves.
-/
module

public import proofs.«01_k».proof.Proof.Gen.KernelIdeal.Frame
public import proofs.«01_k».proof.Proof.Flash.PrepRead
public import proofs.«01_k».proof.Proof.Flash.PostRead

@[expose] public section

set_option maxRecDepth 16384

noncomputable section

namespace Cert.Flash

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

set_option maxHeartbeats 4000000 in
theorem V_q : V m c main_v50 = Prep.val_main_v50 (m ((c : Thread nD τ).loc main_arg0)) (m ((c : Thread nD τ).loc main_arg1)) := by
  simp only [V, V0, hostOps0, hostOps0_1, hostOps0_2, hostOps0_3, hostOps0_4, List.flatten_cons, List.flatten_nil, List.cons_append, List.nil_append, List.append_nil, TRef.binary, TRef.nullary, TRef.ternary, TRef.unary, TRef.toBuf, TRef.ofBuf, cast_eq]
  after_results_simp <;> rfl

set_option maxHeartbeats 4000000 in
theorem V_k : V m c main_v52 = Prep.val_main_v52 (m ((c : Thread nD τ).loc main_arg2)) (m ((c : Thread nD τ).loc main_arg3)) := by
  simp only [V, V0, hostOps0, hostOps0_1, hostOps0_2, hostOps0_3, hostOps0_4, List.flatten_cons, List.flatten_nil, List.cons_append, List.nil_append, List.append_nil, TRef.binary, TRef.nullary, TRef.ternary, TRef.unary, TRef.toBuf, TRef.ofBuf, cast_eq]
  after_results_simp <;> rfl

set_option maxHeartbeats 4000000 in
theorem V_v : V m c main_v53 = Prep.val_main_v53 (m ((c : Thread nD τ).loc main_arg4)) := by
  simp only [V, V0, hostOps0, hostOps0_1, hostOps0_2, hostOps0_3, hostOps0_4, List.flatten_cons, List.flatten_nil, List.cons_append, List.nil_append, List.append_nil, TRef.binary, TRef.nullary, TRef.ternary, TRef.unary, TRef.toBuf, TRef.ofBuf, cast_eq]
  after_results_simp <;> rfl

set_option maxHeartbeats 4000000 in
theorem V_do : V m c main_v54 = Prep.val_main_v54 (m ((c : Thread nD τ).loc main_arg5)) := by
  simp only [V, V0, hostOps0, hostOps0_1, hostOps0_2, hostOps0_3, hostOps0_4, List.flatten_cons, List.flatten_nil, List.cons_append, List.nil_append, List.append_nil, TRef.binary, TRef.nullary, TRef.ternary, TRef.unary, TRef.toBuf, TRef.ofBuf, cast_eq]
  after_results_simp <;> rfl

set_option maxHeartbeats 4000000 in
theorem V_lse : V m c main_v56 = Prep.val_main_v56 (m ((c : Thread nD τ).loc main_arg0)) (m ((c : Thread nD τ).loc main_arg1)) (m ((c : Thread nD τ).loc main_arg2)) (m ((c : Thread nD τ).loc main_arg3)) := by
  simp only [V, V0, hostOps0, hostOps0_1, hostOps0_2, hostOps0_3, hostOps0_4, List.flatten_cons, List.flatten_nil, List.cons_append, List.nil_append, List.append_nil, TRef.binary, TRef.nullary, TRef.ternary, TRef.unary, TRef.toBuf, TRef.ofBuf, cast_eq]
  after_results_simp <;> rfl

set_option maxHeartbeats 4000000 in
theorem V_del : V m c main_v58 = Prep.val_main_v58 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  simp only [V, V0, hostOps0, hostOps0_1, hostOps0_2, hostOps0_3, hostOps0_4, List.flatten_cons, List.flatten_nil, List.cons_append, List.nil_append, List.append_nil, TRef.binary, TRef.nullary, TRef.ternary, TRef.unary, TRef.toBuf, TRef.ofBuf, cast_eq]
  after_results_simp <;> rfl

variable (W : Valuation τ sig (Elt F))

theorem tail_v69 : StableHlo.after hostOps1 W (Proc.devRef .tc main_v69) = Post.val_main_v9 (W (Proc.devRef .tc main_v59_0)) := by
  simp only [hostOps1, TRef.binary, TRef.nullary, TRef.ternary, TRef.unary, TRef.toBuf, TRef.ofBuf, cast_eq]
  after_results_simp <;> rfl
theorem tail_v71 : StableHlo.after hostOps1 W (Proc.devRef .tc main_v71) = Post.val_main_v11 (W (Proc.devRef .tc main_v59_0)) := by
  simp only [hostOps1, TRef.binary, TRef.nullary, TRef.ternary, TRef.unary, TRef.toBuf, TRef.ofBuf, cast_eq]
  after_results_simp <;> rfl
theorem tail_v73 : StableHlo.after hostOps1 W (Proc.devRef .tc main_v73) = Post.val_main_v13 (W (Proc.devRef .tc main_v59_1)) := by
  simp only [hostOps1, TRef.binary, TRef.nullary, TRef.ternary, TRef.unary, TRef.toBuf, TRef.ofBuf, cast_eq]
  after_results_simp <;> rfl
theorem tail_v74 : StableHlo.after hostOps1 W (Proc.devRef .tc main_v74) = Post.val_main_v14 (W (Proc.devRef .tc main_v59_1)) := by
  simp only [hostOps1, TRef.binary, TRef.nullary, TRef.ternary, TRef.unary, TRef.toBuf, TRef.ofBuf, cast_eq]
  after_results_simp <;> rfl
theorem tail_v75 : StableHlo.after hostOps1 W (Proc.devRef .tc main_v75) = Post.val_main_v15 (W (Proc.devRef .tc main_v59_2)) := by
  simp only [hostOps1, TRef.binary, TRef.nullary, TRef.ternary, TRef.unary, TRef.toBuf, TRef.ofBuf, cast_eq]
  after_results_simp <;> rfl

end Cert.Flash
end
-- ==== Proof.Flash.PayRead.lean ====
/-
  The block step's arithmetic read at an index, over the extended reals.
-/
module

public import proofs.«01_k».proof.Proof.Flash.Steps
public import Idealize.ShloMosaic.Lib.Pointwise

@[expose] public section

set_option maxRecDepth 16384

noncomputable section

namespace Cert.Flash.Pay

open Cert.KernelIdeal Cert.KernelIdeal.Gen
open Idealize.ShloMosaic
open scoped BigOperators

/-- The probabilities before the mask. -/
theorem scores (kb qb : Vec Ideal S1x512x256 .bf16) (l : Vec Ideal S1x1x8x512 .f32) (r c : Fin 512) :
    k0_pay13 (k0_pay35 kb) qb l (ix2 r c)
      = Ideal.exp ((∑ x : Fin 256, kb (ix3 0 r x) * qb (ix3 0 c x)) - l (ix4 0 0 0 c)) := by
  pointwise [k0_pay13, k0_pay35, k0_pay11]

/-- The cotangent of the probabilities less the row statistic. -/
theorem cot (vb : Vec Ideal S1x512x128 .bf16) (d : Vec Ideal S512x128 .bf16) (l : Vec Ideal S1x1x8x512 .f32) (r c : Fin 512) :
    k0_pay14 (k0_pay36 vb) d l (ix2 r c)
      = (∑ x : Fin 128, vb (ix3 0 r x) * d (ix2 c x)) - l (ix4 0 0 0 c) := by
  pointwise [k0_pay14, k0_pay36, k0_pay12]

/-- The chunk of a row of the block, as the kernel's floor division writes it. -/
theorem chunkR : ∀ n : Fin 512, k0_pay40 (fun _ => BitVec.ofNat 32 n.val) 64#32 (ix2 0 0) = BitVec.ofNat 32 (n.val / 64) := by
  decide +kernel
/-- The kernel's sign comparison of a lane number and 64, and its remainder. -/
def signs (w : BitVec 32) : BitVec 1 :=
  IntOp.andi (IntOp.cmpi .ne (IntOp.subi ((IntOp.cmpi .sgt w 0#32).setWidth 32) ((IntOp.cmpi .slt w 0#32).setWidth 32)) 1#32)
    (IntOp.cmpi .ne (IntOp.remsi .vector w 64#32) 0#32)
/-- The mask's bit at a row and a lane of the diagonal block. -/
theorem chunkC : ∀ n : Fin 512, Scalar.select (signs (BitVec.ofNat 32 n.val)) (IntOp.subi (IntOp.divsi .vector (BitVec.ofNat 32 n.val) 64#32) 1#32)
    (IntOp.divsi .vector (BitVec.ofNat 32 n.val) 64#32) = BitVec.ofNat 32 (n.val / 64) := by
  decide +kernel
theorem sge8 : ∀ a b : Fin 8, IntOp.cmpi .sge (BitVec.ofNat 32 a.val) (BitVec.ofNat 32 b.val) = if b.val ≤ a.val then 1#1 else 0#1 := by
  decide +kernel

theorem pay40_at (v : IVec S512x512 32) (i : S512x512.Idx) : k0_pay40 v 64#32 i = k0_pay40 (fun _ => v i) 64#32 (ix2 0 0) := by
  simp only [k0_pay40]; rfl
theorem pay42_at (i : S512x512.Idx) : k0_pay42 i = signs (iota .tc S512x512 32 [1] iota_S512x512_d1_w32 i) := by
  simp only [k0_pay42]
  generalize iota .tc S512x512 32 [1] iota_S512x512_d1_w32 = v
  rfl
theorem pay41_at (i : S512x512.Idx) : k0_pay41 i = IntOp.divsi .vector (iota .tc S512x512 32 [1] iota_S512x512_d1_w32 i) 64#32 := by
  simp only [k0_pay41]
  generalize iota .tc S512x512 32 [1] iota_S512x512_d1_w32 = v
  rfl
theorem pay44_at (p : FVec Ideal S512x512 .f32) (v55 v58 v78 : IVec S512x512 32) (v77 : IVec S512x512 1) (i : S512x512.Idx) :
    k0_pay44 p v55 v58 v77 v78 i = Scalar.select (IntOp.cmpi .sge (Scalar.select (v77 i) (IntOp.subi (v58 i) (v78 i)) (v58 i)) (v55 i))
      (p i) (Ideal.ofBits .f32 0x00000000#32) := by
  simp only [k0_pay44]; rfl
theorem pay43_at (i : S512x512.Idx) : k0_pay43 i = 1#32 := by
  simp only [k0_pay43]; rfl

/-- The mask on the diagonal block. -/
theorem masked (p : FVec Ideal S512x512 .f32) (r c : Fin 512) :
    k0_pay44 p (k0_pay40 (iota .tc S512x512 32 [0] iota_S512x512_d0_w32) 64#32) k0_pay41 k0_pay42 k0_pay43 (ix2 r c)
      = if r.val / 64 ≤ c.val / 64 then p (ix2 r c) else 0 := by
  have i0 : iota .tc S512x512 32 [0] iota_S512x512_d0_w32 (ix2 r c) = BitVec.ofNat 32 r.val := by pointwise []
  have i1 : iota .tc S512x512 32 [1] iota_S512x512_d1_w32 (ix2 r c) = BitVec.ofNat 32 c.val := by pointwise []
  rw [pay44_at, pay40_at, pay41_at, pay42_at, pay43_at, i0, i1, chunkR, chunkC, Ideal.ofBits_zero_f32]
  have e4 := sge8 ⟨c.val / 64, by omega⟩ ⟨r.val / 64, by omega⟩
  rw [show IntOp.cmpi .sge (BitVec.ofNat 32 (c.val / 64)) (BitVec.ofNat 32 (r.val / 64)) = _ from e4]
  by_cases h : r.val / 64 ≤ c.val / 64
  · rw [if_pos h, if_pos h]; rfl
  · rw [if_neg h, if_neg h]; rfl

theorem dvt (d : Vec Ideal S512x128 .bf16) (p : FVec Ideal S512x512 .f32) (s : Vec Ideal S128x512 .f32) (x : Fin 128) (r : Fin 512) :
    k0_pay50 (k0_pay12 d) p s (ix2 x r) = s (ix2 x r) + ∑ c : Fin 512, d (ix2 c x) * p (ix2 r c) := by
  pointwise [k0_pay50, k0_pay12]

theorem dk (qb : Vec Ideal S1x512x256 .bf16) (p dp : FVec Ideal S512x512 .f32) (s : Vec Ideal S512x256 .f32) (r : Fin 512) (x : Fin 256) :
    k0_pay51 (k0_pay11 qb) p dp s (ix2 r x) = s (ix2 r x) + ∑ c : Fin 512, (p (ix2 r c) * dp (ix2 r c)) * qb (ix3 0 c x) := by
  pointwise [k0_pay51, k0_pay49, k0_pay11]

theorem dq (kb : Vec Ideal S1x512x256 .bf16) (p dp : FVec Ideal S512x512 .f32) (s : Vec Ideal S512x256 .f32) (c : Fin 512) (x : Fin 256) :
    k0_pay52 (k0_pay35 kb) p dp s (ix2 c x) = s (ix2 c x) + ∑ r : Fin 512, (p (ix2 r c) * dp (ix2 r c)) * kb (ix3 0 r x) := by
  pointwise [k0_pay52, k0_pay49, k0_pay35]

theorem zeroQ (i : S8192x256.Idx) : k0_pay32 (F := Ideal) i = 0 := by pointwise [k0_pay32]
theorem zeroK (i : S512x256.Idx) : k0_pay33 (F := Ideal) i = 0 := by pointwise [k0_pay33]
theorem zeroV (i : S128x512.Idx) : k0_pay34 (F := Ideal) i = 0 := by pointwise [k0_pay34]

theorem outQ (s : Vec Ideal S8192x256 .f32) (r : Fin 8192) (x : Fin 256) : k0_pay3 s (ix3 0 r x) = s (ix2 r x) := by
  pointwise [k0_pay3]
theorem outK (s : Vec Ideal S512x256 .f32) (r : Fin 512) (x : Fin 256) : k0_pay1 (k0_pay58 s) (ix3 0 r x) = s (ix2 r x) := by
  pointwise [k0_pay1, k0_pay58]
theorem outV (s : Vec Ideal S128x512 .f32) (r : Fin 512) (x : Fin 128) : k0_pay2 s (ix3 0 r x) = s (ix2 x r) := by
  pointwise [k0_pay2]

end Cert.Flash.Pay
end
-- ==== Proof.Flash.Spec.lean ====
/-
  The gradient of the attention over the reals: the probabilities, their gradient, and the five gradients as sums.
-/
module

public import Mathlib.Analysis.SpecialFunctions.Log.Basic
public import Mathlib.Data.EReal.Operations
public import Mathlib.Algebra.BigOperators.Fin

@[expose] public section

noncomputable section

namespace Cert.Flash

open scoped BigOperators

/-- A sum of reals read in the extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The arguments as reals: queries, keys, values and the output's gradient, the score scale, and for each row a number
    subtracted from its scores (the row's largest score in the programs; the probabilities do not depend on it). -/
structure Args where
  qn : Fin 8192 → Fin 8 → Fin 128 → ℝ
  qr : Fin 8192 → Fin 8 → Fin 64 → ℝ
  kn : Fin 8192 → Fin 8 → Fin 128 → ℝ
  kr : Fin 8192 → Fin 64 → ℝ
  v : Fin 8192 → Fin 8 → Fin 128 → ℝ
  g : Fin 8192 → Fin 8 → Fin 128 → ℝ
  c : ℝ
  mx : Fin 8 → Fin 8192 → ℝ

/-- Query `q` may attend to key `k`: the key's chunk is not after the query's. -/
def ok (q k : Fin 8192) : Prop := k.val / 64 ≤ q.val / 64

instance (q k : Fin 8192) : Decidable (ok q k) := by unfold ok; infer_instance

namespace Args

variable (A : Args)

/-- The scaled score. -/
def s (h : Fin 8) (q k : Fin 8192) : ℝ :=
  (∑ d, A.qn q h d * A.kn k h d + ∑ r, A.kr k r * A.qr q h r) * A.c
/-- The exponential of the score less the row's number, zero where masked. -/
def e (h : Fin 8) (q k : Fin 8192) : ℝ := if ok q k then Real.exp (A.s h q k - A.mx h q) else 0
def l (h : Fin 8) (q : Fin 8192) : ℝ := ∑ k, A.e h q k
/-- The probability. -/
def p (h : Fin 8) (q k : Fin 8192) : ℝ := A.e h q k / A.l h q
/-- The probability's gradient. -/
def dp (h : Fin 8) (q k : Fin 8192) : ℝ := ∑ d, A.g q h d * A.v k h d
def del (h : Fin 8) (q : Fin 8192) : ℝ := ∑ k, A.p h q k * A.dp h q k
/-- The score's gradient. -/
def ds (h : Fin 8) (q k : Fin 8192) : ℝ := A.p h q k * (A.dp h q k - A.del h q)
def lse (h : Fin 8) (q : Fin 8192) : ℝ := A.mx h q + Real.log (A.l h q)

def dqn (q : Fin 8192) (h : Fin 8) (d : Fin 128) : ℝ := ∑ k, A.ds h q k * A.c * A.kn k h d
def dqr (q : Fin 8192) (h : Fin 8) (r : Fin 64) : ℝ := ∑ k, A.ds h q k * A.c * A.kr k r
def dkn (k : Fin 8192) (h : Fin 8) (d : Fin 128) : ℝ := ∑ q, A.ds h q k * A.c * A.qn q h d
def dkr (k : Fin 8192) (r : Fin 64) : ℝ := ∑ q, ∑ h, A.ds h q k * A.c * A.qr q h r
def dv (k : Fin 8192) (h : Fin 8) (d : Fin 128) : ℝ := ∑ q, A.g q h d * A.p h q k

theorem e_nonneg (h : Fin 8) (q k : Fin 8192) : 0 ≤ A.e h q k := by
  unfold e; split
  · exact (Real.exp_pos _).le
  · exact le_rfl

theorem l_pos (h : Fin 8) (q : Fin 8192) : 0 < A.l h q := by
  unfold l
  refine lt_of_lt_of_le ?_ (Finset.single_le_sum (f := fun k => A.e h q k) (fun k _ => A.e_nonneg h q k) (Finset.mem_univ q))
  show 0 < A.e h q q
  unfold e; rw [if_pos (by unfold ok; exact le_rfl)]; exact Real.exp_pos _

theorem l_ne (h : Fin 8) (q : Fin 8192) : A.l h q ≠ 0 := (A.l_pos h q).ne'

theorem e_of_not (h : Fin 8) {q k : Fin 8192} (hk : ¬ ok q k) : A.e h q k = 0 := if_neg hk
theorem p_of_not (h : Fin 8) {q k : Fin 8192} (hk : ¬ ok q k) : A.p h q k = 0 := by rw [p, e_of_not A h hk, zero_div]
theorem ds_of_not (h : Fin 8) {q k : Fin 8192} (hk : ¬ ok q k) : A.ds h q k = 0 := by rw [ds, p_of_not A h hk, zero_mul]

/-- The exponential of the score less the row's log-sum-exp is the probability. -/
theorem exp_lse (h : Fin 8) {q k : Fin 8192} (hk : ok q k) : Real.exp (A.s h q k - A.lse h q) = A.p h q k := by
  rw [p, e, if_pos hk, lse, ← sub_sub, Real.exp_sub, Real.exp_log (A.l_pos h q)]

/-- The gradient as the reference forms it. -/
theorem ds_ref (h : Fin 8) (q k : Fin 8192) :
    (A.dp h q k / A.l h q + -(∑ j, A.dp h q j * (1 / (A.l h q * A.l h q)) * A.e h q j)) * A.e h q k = A.ds h q k := by
  have hl := A.l_ne h q
  have : ∑ j, A.dp h q j * (1 / (A.l h q * A.l h q)) * A.e h q j = A.del h q / A.l h q := by
    rw [del, eq_div_iff hl, Finset.sum_mul]
    refine Finset.sum_congr rfl fun j _ => ?_
    rw [p]; field_simp
  rw [this, ds, p]; field_simp; ring

/-- The row sum of the output times its gradient. -/
theorem del_out (h : Fin 8) (q : Fin 8192) : ∑ d, A.g q h d * (∑ k, A.v k h d * A.p h q k) = A.del h q := by
  simp only [del, dp, Finset.mul_sum]
  rw [Finset.sum_comm]
  refine Finset.sum_congr rfl fun k _ => Finset.sum_congr rfl fun d _ => ?_
  ring

end Args

end Cert.Flash
end
-- ==== Proof.Flash.RefScore.lean ====
/-
  The reference's scores, their mask, the row maxima and the exponentials, as reals.
-/
module

public import proofs.«01_k».proof.Proof.Gen.ReferenceIdeal.Read
public import proofs.«01_k».proof.Proof.Flash.Spec
public import Idealize.ShloMosaic.Lib.IdealHost

@[expose] public section

set_option maxRecDepth 16384

noncomputable section

namespace Cert.Flash.Ref

open Cert.ReferenceIdeal Cert.ReferenceIdeal.Gen Cert.ReferenceIdeal.Read
open Idealize.ShloMosaic Idealize.ShloMosaic.TcCoe Idealize.SL.Sem Idealize.ShloMosaic.StableHlo
open scoped BigOperators

abbrev T128 : Type := (⟨S8192x8x128, .bf16⟩ : BufTy).Contents (Elt Ideal)
abbrev T64 : Type := (⟨S8192x8x64, .bf16⟩ : BufTy).Contents (Elt Ideal)
abbrev R64 : Type := (⟨S8192x64, .bf16⟩ : BufTy).Contents (Elt Ideal)

/-- The arrays hold the reals of `A`, and `A`'s scale and row numbers are the programs'. -/
structure Held (A : Args) (x0 : T128) (x1 : T64) (x2 : T128) (x3 : R64) (x4 x5 : T128) : Prop where
  qn : ∀ i, x0 i = ((A.qn (i 0) (i 1) (i 2) : ℝ) : EReal)
  qr : ∀ i, x1 i = ((A.qr (i 0) (i 1) (i 2) : ℝ) : EReal)
  kn : ∀ i, x2 i = ((A.kn (i 0) (i 1) (i 2) : ℝ) : EReal)
  kr : ∀ i, x3 i = ((A.kr (i 0) (i 1) : ℝ) : EReal)
  v : ∀ i, x4 i = ((A.v (i 0) (i 1) (i 2) : ℝ) : EReal)
  g : ∀ i, x5 i = ((A.g (i 0) (i 1) (i 2) : ℝ) : EReal)
  c : Ideal.ofBits .f32 0x3D93CD3A#32 = ((A.c : ℝ) : EReal)

/-- … and the reference's row maxima. -/
structure Holds (A : Args) (x0 : T128) (x1 : T64) (x2 : T128) (x3 : R64) (x4 x5 : T128) : Prop extends Held A x0 x1 x2 x3 x4 x5 where
  mx : ∀ i, val_main_v19 (F := Ideal) x0 x1 x2 x3 i = ((A.mx (i 0) (i 1) : ℝ) : EReal)

theorem ofBits_neg_inf : Ideal.ofBits .f32 0xFF800000#32 = ⊥ := by
  simp [Ideal.ofBits, Ideal.ieee]

/-- The sign of a word. -/
def sgn (x : BitVec 32) : BitVec 32 := if x = 0 then 0 else if x.msb then -1 else 1

/-- The chunk of a position below 8192, as the host's floor division writes it. -/
theorem chunk_word : ∀ n : Fin 8192,
    Scalar.select (IntOp.andi (IntOp.cmpi .ne (sgn (BitVec.ofNat 32 n.val)) (sgn 64#32))
        (IntOp.cmpi .ne (IntOp.remsi .host (BitVec.ofNat 32 n.val) 64#32) 0#32))
      (IntOp.subi (IntOp.divsi .host (BitVec.ofNat 32 n.val) 64#32) 1#32) (IntOp.divsi .host (BitVec.ofNat 32 n.val) 64#32)
      = BitVec.ofNat 32 (n.val / 64) := by decide +kernel

theorem v1 (i : S8192.Idx) : val_main_v1 (F := Ideal) i = BitVec.ofNat 32 ((i 0).val / 64) := by
  refine Eq.trans ?_ (chunk_word (i 0))
  rw [val_main_v1_apply, val_main_call0_v11_apply, val_main_call0_v13_apply, val_main_call0_v6_apply, val_main_call0_v10_apply,
    val_main_call0_v12_apply, val_main_call0_v2_apply, val_main_call0_v8_apply, val_main_call0_v9_apply, val_main_call0_v7_apply,
    val_main_call0_v5_apply, val_main_call0_v1_apply]
  rfl

/-- The mask's bit, and the masked score. -/
def bit (q k : Fin 8192) : BitVec 1 := if ok q k then 1#1 else 0#1
def msc (A : Args) (h : Fin 8) (q k : Fin 8192) : EReal := if ok q k then ((A.s h q k : ℝ) : EReal) else ⊥

theorem sge_word : ∀ a b : Fin 128, IntOp.cmpi .sge (BitVec.ofNat 32 a.val) (BitVec.ofNat 32 b.val) = if b.val ≤ a.val then 1#1 else 0#1 := by
  decide +kernel

theorem mask (i : S8x8192x8192.Idx) : val_main_v18_1 (F := Ideal) i = bit (i 1) (i 2) := by
  rw [val_main_v18_1_apply, val_main_v17_apply, val_main_v16_apply, val_main_v14_apply, val_main_v15_apply, val_main_v12_apply,
    val_main_v13_apply, v1, v1]
  have h1 : (i 1).val < 8192 := (i 1).isLt
  have h2 : (i 2).val < 8192 := (i 2).isLt
  exact sge_word ⟨(i 1).val / 64, by omega⟩ ⟨(i 2).val / 64, by omega⟩

theorem v2 {A : Args} {x0 : T128} {x1 : T64} {x2 : T128} {x3 : R64} {x4 x5 : T128} (H : Held A x0 x1 x2 x3 x4 x5) (i : S8192x8x128.Idx) : val_main_v2 (F := Ideal) x0 i = ((A.qn (i 0) (i 1) (i 2) : ℝ) : EReal) := by
  rw [val_main_v2_apply]; exact H.qn i
theorem v3 {A : Args} {x0 : T128} {x1 : T64} {x2 : T128} {x3 : R64} {x4 x5 : T128} (H : Held A x0 x1 x2 x3 x4 x5) (i : S8192x8x128.Idx) : val_main_v3 (F := Ideal) x2 i = ((A.kn (i 0) (i 1) (i 2) : ℝ) : EReal) := by
  rw [val_main_v3_apply]; exact H.kn i
theorem v5 {A : Args} {x0 : T128} {x1 : T64} {x2 : T128} {x3 : R64} {x4 x5 : T128} (H : Held A x0 x1 x2 x3 x4 x5) (i : S8192x8x64.Idx) : val_main_v5 (F := Ideal) x1 i = ((A.qr (i 0) (i 1) (i 2) : ℝ) : EReal) := by
  rw [val_main_v5_apply]; exact H.qr i
theorem v6 {A : Args} {x0 : T128} {x1 : T64} {x2 : T128} {x3 : R64} {x4 x5 : T128} (H : Held A x0 x1 x2 x3 x4 x5) (i : S8192x64.Idx) : val_main_v6 (F := Ideal) x3 i = ((A.kr (i 0) (i 1) : ℝ) : EReal) := by
  rw [val_main_v6_apply]; exact H.kr i
theorem v4 {A : Args} {x0 : T128} {x1 : T64} {x2 : T128} {x3 : R64} {x4 x5 : T128} (H : Held A x0 x1 x2 x3 x4 x5) (i : S8x8192x8192.Idx) : val_main_v4 (F := Ideal) x0 x2 i = ((∑ d, A.qn (i 1) (i 0) d * A.kn (i 2) (i 0) d : ℝ) : EReal) := by
  rw [val_main_v4_apply, coe_sum]
  refine Finset.sum_congr rfl fun d _ => ?_
  rw [v2 H, v3 H, EReal.coe_mul]; rfl
theorem v8 {A : Args} {x0 : T128} {x1 : T64} {x2 : T128} {x3 : R64} {x4 x5 : T128} (H : Held A x0 x1 x2 x3 x4 x5) (i : S8x8192x8192.Idx) : val_main_v8 (F := Ideal) x1 x3 i = ((∑ r, A.kr (i 2) r * A.qr (i 1) (i 0) r : ℝ) : EReal) := by
  rw [val_main_v8_apply, val_main_v7_apply, coe_sum]
  refine Finset.sum_congr rfl fun d _ => ?_
  rw [v5 H, v6 H, EReal.coe_mul]; rfl
theorem v11 {A : Args} {x0 : T128} {x1 : T64} {x2 : T128} {x3 : R64} {x4 x5 : T128} (H : Held A x0 x1 x2 x3 x4 x5) (i : S8x8192x8192.Idx) : val_main_v11 (F := Ideal) x0 x1 x2 x3 i = ((A.s (i 0) (i 1) (i 2) : ℝ) : EReal) := by
  rw [val_main_v11_apply, val_main_v9_apply, val_main_v10_apply, v4 H, v8 H, val_main_cst_apply, Ideal.ofBits_def, H.c,
    Ideal.mulf_def, Ideal.addf_def, ← EReal.coe_add, ← EReal.coe_mul]
  rfl
/-- The masked score. -/
theorem v18 {A : Args} {x0 : T128} {x1 : T64} {x2 : T128} {x3 : R64} {x4 x5 : T128} (H : Held A x0 x1 x2 x3 x4 x5) (i : S8x8192x8192.Idx) : val_main_v18_0 (F := Ideal) x0 x1 x2 x3 i
    = msc A (i 0) (i 1) (i 2) := by
  rw [val_main_v18_0_apply, mask, v11 H, val_main_call1_v2_apply]
  unfold bit msc
  split
  · rfl
  · exact ofBits_neg_inf

/-- The exponential of a masked score less the row's number. -/
theorem exp_sub (A : Args) (h : Fin 8) (q k : Fin 8192) :
    Ideal.exp (msc A h q k - ((A.mx h q : ℝ) : EReal)) = ((A.e h q k : ℝ) : EReal) := by
  unfold Args.e msc
  split
  · rw [← EReal.coe_sub]; rfl
  · rw [EReal.bot_sub]; rfl

end Cert.Flash.Ref
end
-- ==== Proof.Flash.RefValue.lean ====
/-
  The reference's gradients as reals: its probabilities, the gradient of its scores, and the five products.
-/
module

public import proofs.«01_k».proof.Proof.Flash.RefScore
public import Idealize.ShloMosaic.Lib.TwoAxisContraction

@[expose] public section

set_option maxRecDepth 16384

noncomputable section

namespace Cert.Flash.Ref

open Cert.ReferenceIdeal Cert.ReferenceIdeal.Gen Cert.ReferenceIdeal.Read
open Idealize.ShloMosaic Idealize.ShloMosaic.TcCoe Idealize.SL.Sem Idealize.ShloMosaic.StableHlo
open scoped BigOperators

/-- A quotient of reals whose divisor is not zero. -/
theorem div_real (x : ℝ) {y : ℝ} (h : y ≠ 0) : Ideal.div (x : EReal) (y : EReal) = ((x / y : ℝ) : EReal) := by
  rw [Ideal.div_coe h, ← EReal.coe_mul, mul_one_div]

theorem v26 {A : Args} {x0 : T128} {x1 : T64} {x2 : T128} {x3 : R64} {x4 x5 : T128} (H : Holds A x0 x1 x2 x3 x4 x5) (i : S8x8192.Idx) : val_main_v26 (F := Ideal) x0 x1 x2 x3 i = ((A.mx (i 0) (i 1) : ℝ) : EReal) := by
  rw [val_main_v26_apply, val_main_v25_apply, val_main_cst_3_apply, H.mx, Ideal.ofBits_def, ofBits_neg_inf, Ideal.maximumf_def]
  exact max_eq_right bot_le
theorem v39 {A : Args} {x0 : T128} {x1 : T64} {x2 : T128} {x3 : R64} {x4 x5 : T128} (H : Holds A x0 x1 x2 x3 x4 x5) (i : S8x8192x8192.Idx) : val_main_v39 (F := Ideal) x0 x1 x2 x3 i = ((A.e (i 0) (i 1) (i 2) : ℝ) : EReal) := by
  rw [val_main_v39_apply, val_main_v38_apply, val_main_v37_apply, val_main_v36_apply, v26 H, v18 H.toHeld]
  exact exp_sub A (i 0) (i 1) (i 2)
theorem v40 {A : Args} {x0 : T128} {x1 : T64} {x2 : T128} {x3 : R64} {x4 x5 : T128} (H : Holds A x0 x1 x2 x3 x4 x5) (i : S8x8192.Idx) : val_main_v40 (F := Ideal) x0 x1 x2 x3 i = ((A.l (i 0) (i 1) : ℝ) : EReal) := by
  rw [val_main_v40_apply, val_main_cst_9_apply, Ideal.ofBits_def, Ideal.ofBits_zero_f32, zero_add]
  refine Eq.trans ?_ (coe_sum Finset.univ _).symm
  exact Finset.sum_congr rfl fun k _ => v39 H _
theorem v41 {A : Args} {x0 : T128} {x1 : T64} {x2 : T128} {x3 : R64} {x4 x5 : T128} (H : Holds A x0 x1 x2 x3 x4 x5) (i : S8x8192x1.Idx) : val_main_v41 (F := Ideal) x0 x1 x2 x3 i = ((A.l (i 0) (i 1) : ℝ) : EReal) := by
  rw [val_main_v41_apply]; exact v40 H _
theorem v43 {A : Args} {x0 : T128} {x1 : T64} {x2 : T128} {x3 : R64} {x4 x5 : T128} (H : Holds A x0 x1 x2 x3 x4 x5) (i : S8x8192x8192.Idx) : val_main_v43 (F := Ideal) x0 x1 x2 x3 i = ((A.p (i 0) (i 1) (i 2) : ℝ) : EReal) := by
  rw [val_main_v43_apply, val_main_v42_apply, v41 H, v39 H, Ideal.hostDivf_def]
  exact div_real _ (A.l_ne _ _)
theorem v46 {A : Args} {x0 : T128} {x1 : T64} {x2 : T128} {x3 : R64} {x4 x5 : T128} (H : Holds A x0 x1 x2 x3 x4 x5) (i : S8x8192x1.Idx) : val_main_v46 (F := Ideal) x0 x1 x2 x3 i
    = ((1 / (A.l (i 0) (i 1) * A.l (i 0) (i 1)) : ℝ) : EReal) := by
  rw [val_main_v46_apply, val_main_v45_apply, val_main_cst_10_apply, val_main_v44_apply, v41 H, Ideal.hostDivf_def, Ideal.mulf_def,
    Ideal.ofBits_def, Ideal.ofBits_one_f32, ← EReal.coe_mul, ← EReal.coe_one]
  exact div_real _ (mul_ne_zero (A.l_ne _ _) (A.l_ne _ _))
theorem v47 {A : Args} {x0 : T128} {x1 : T64} {x2 : T128} {x3 : R64} {x4 x5 : T128} (H : Holds A x0 x1 x2 x3 x4 x5) (i : S8192x8x128.Idx) : val_main_v47 (F := Ideal) x4 i = ((A.v (i 0) (i 1) (i 2) : ℝ) : EReal) := by
  rw [val_main_v47_apply]; exact H.v i
theorem v51 {A : Args} {x0 : T128} {x1 : T64} {x2 : T128} {x3 : R64} {x4 x5 : T128} (H : Holds A x0 x1 x2 x3 x4 x5) (i : S8x128x8192.Idx) : val_main_v51 (F := Ideal) x5 i = ((A.g (i 2) (i 0) (i 1) : ℝ) : EReal) := by
  rw [val_main_v51_apply, val_main_v50_apply]; exact H.g _
theorem v52 {A : Args} {x0 : T128} {x1 : T64} {x2 : T128} {x3 : R64} {x4 x5 : T128} (H : Holds A x0 x1 x2 x3 x4 x5) (i : S8x8192x8192.Idx) : val_main_v52 (F := Ideal) x4 x5 i = ((A.dp (i 0) (i 1) (i 2) : ℝ) : EReal) := by
  rw [val_main_v52_apply]
  refine Eq.trans ?_ (coe_sum Finset.univ _).symm
  refine Finset.sum_congr rfl fun d _ => ?_
  rw [v51 H, v47 H, EReal.coe_mul]; rfl
theorem v58 {A : Args} {x0 : T128} {x1 : T64} {x2 : T128} {x3 : R64} {x4 x5 : T128} (H : Holds A x0 x1 x2 x3 x4 x5) (i : S8x8192x8192.Idx) : val_main_v58 (F := Ideal) x0 x1 x2 x3 x4 x5 i
    = ((A.dp (i 0) (i 1) (i 2) * (1 / (A.l (i 0) (i 1) * A.l (i 0) (i 1))) * A.e (i 0) (i 1) (i 2) : ℝ) : EReal) := by
  rw [val_main_v58_apply, val_main_v57_apply, val_main_v56_apply, v46 H, v52 H, v39 H, Ideal.mulf_def, Ideal.mulf_def, ← EReal.coe_mul,
    ← EReal.coe_mul]
  rfl
/-- The sum the division's denominator takes of the gradient. -/
def dl (A : Args) (h : Fin 8) (q : Fin 8192) : ℝ := ∑ j, A.dp h q j * (1 / (A.l h q * A.l h q)) * A.e h q j
theorem v59 {A : Args} {x0 : T128} {x1 : T64} {x2 : T128} {x3 : R64} {x4 x5 : T128} (H : Holds A x0 x1 x2 x3 x4 x5) (i : S8x8192.Idx) : val_main_v59 (F := Ideal) x0 x1 x2 x3 x4 x5 i = ((dl A (i 0) (i 1) : ℝ) : EReal) := by
  rw [val_main_v59_apply, val_main_cst_11_apply, Ideal.ofBits_def, Ideal.ofBits_zero_f32, zero_add]
  refine Eq.trans ?_ (coe_sum Finset.univ _).symm
  exact Finset.sum_congr rfl fun k _ => v58 H _
theorem idx_v60 (i : S8x8192x1.Idx) : idx_main_v60 i = fun a => match a with
    | ⟨0, _⟩ => ⟨(i 0).val, (i 0).isLt⟩
    | ⟨1, _⟩ => ⟨(i 1).val, (i 1).isLt⟩ := by
  have h0 : (i 0).val < 8 := (i 0).isLt
  have h1 : (i 1).val < 8192 := (i 1).isLt
  have h2 : (i 2).val < 1 := (i 2).isLt
  funext a
  match a with
  | ⟨0, _⟩ => apply Fin.ext; show (((i 0).val * 8192 + (i 1).val) * 1 + (i 2).val) / 8192 = (i 0).val; omega
  | ⟨1, _⟩ => apply Fin.ext; show (((i 0).val * 8192 + (i 1).val) * 1 + (i 2).val) % 8192 = (i 1).val; omega
theorem v61 {A : Args} {x0 : T128} {x1 : T64} {x2 : T128} {x3 : R64} {x4 x5 : T128} (H : Holds A x0 x1 x2 x3 x4 x5) (i : S8x8192x1.Idx) : val_main_v61 (F := Ideal) x0 x1 x2 x3 x4 x5 i = ((-dl A (i 0) (i 1) : ℝ) : EReal) := by
  rw [val_main_v61_apply, val_main_v60_apply, idx_v60, v59 H, EReal.coe_neg]; rfl
theorem v65 {A : Args} {x0 : T128} {x1 : T64} {x2 : T128} {x3 : R64} {x4 x5 : T128} (H : Holds A x0 x1 x2 x3 x4 x5) (i : S8x8192x8192.Idx) : val_main_v65 (F := Ideal) x0 x1 x2 x3 x4 x5 i = ((-dl A (i 0) (i 1) : ℝ) : EReal) := by
  rw [val_main_v65_apply, val_main_v64_apply, val_main_cst_12_apply, Ideal.ofBits_def, Ideal.ofBits_zero_f32, zero_add,
    Fin.sum_univ_one, v61 H]
  rfl
theorem v67 {A : Args} {x0 : T128} {x1 : T64} {x2 : T128} {x3 : R64} {x4 x5 : T128} (H : Holds A x0 x1 x2 x3 x4 x5) (i : S8x8192x8192.Idx) : val_main_v67 (F := Ideal) x0 x1 x2 x3 x4 x5 i = ((A.ds (i 0) (i 1) (i 2) : ℝ) : EReal) := by
  rw [val_main_v67_apply, val_main_v66_apply, val_main_v63_apply, val_main_v62_apply, v65 H, v41 H, v52 H, v39 H, Ideal.mulf_def,
    Ideal.addf_def, Ideal.hostDivf_def]
  refine (congrArg (fun z : EReal => (z + ((-dl A (i 0) (i 1) : ℝ) : EReal)) * ((A.e (i 0) (i 1) (i 2) : ℝ) : EReal))
    (div_real (A.dp (i 0) (i 1) (i 2)) (A.l_ne (i 0) (i 1)))).trans ?_
  rw [← EReal.coe_add, ← EReal.coe_mul]
  exact congrArg _ (A.ds_ref (i 0) (i 1) (i 2))
theorem v70 {A : Args} {x0 : T128} {x1 : T64} {x2 : T128} {x3 : R64} {x4 x5 : T128} (H : Holds A x0 x1 x2 x3 x4 x5) (i : S8x8192x8192.Idx) : val_main_v70 (F := Ideal) x0 x1 x2 x3 x4 x5 i = ((A.ds (i 0) (i 1) (i 2) * A.c : ℝ) : EReal) := by
  rw [val_main_v70_apply, val_main_v68_apply, val_main_v69_apply, val_main_cst_13_apply, mask, v67 H, val_main_call2_v0_apply,
    Ideal.ofBits_def, H.c, Ideal.mulf_def, EReal.coe_mul]
  refine congrArg (· * ((A.c : ℝ) : EReal)) ?_
  unfold bit
  split
  · rfl
  · next hn => exact Ideal.ofBits_zero_f32.trans (congrArg (fun z : ℝ => (z : EReal)) (A.ds_of_not (i 0) hn)).symm
theorem v71 {A : Args} {x0 : T128} {x1 : T64} {x2 : T128} {x3 : R64} {x4 x5 : T128} (H : Holds A x0 x1 x2 x3 x4 x5) (i : S8192x8192x8.Idx) : val_main_v71 (F := Ideal) x0 x1 x2 x3 x4 x5 i = ((A.ds (i 2) (i 1) (i 0) * A.c : ℝ) : EReal) := by
  rw [val_main_v71_apply]; exact v70 H _

/-- The gradient of the rotary queries. -/
theorem dqr {A : Args} {x0 : T128} {x1 : T64} {x2 : T128} {x3 : R64} {x4 x5 : T128} (H : Holds A x0 x1 x2 x3 x4 x5) (i : S8192x8x64.Idx) : val_main_v75 (F := Ideal) x0 x1 x2 x3 x4 x5 i = ((A.dqr (i 0) (i 1) (i 2) : ℝ) : EReal) := by
  rw [val_main_v75_apply, Ideal.truncf_def, val_main_v72_apply]
  refine Eq.trans ?_ (coe_sum Finset.univ _).symm
  refine Finset.sum_congr rfl fun k _ => ?_
  rw [v71 H, v6 H.toHeld, EReal.coe_mul]; rfl
/-- The gradient of the plain keys. -/
theorem dkn {A : Args} {x0 : T128} {x1 : T64} {x2 : T128} {x3 : R64} {x4 x5 : T128} (H : Holds A x0 x1 x2 x3 x4 x5) (i : S8192x8x128.Idx) : val_main_v80 (F := Ideal) x0 x1 x2 x3 x4 x5 i = ((A.dkn (i 0) (i 1) (i 2) : ℝ) : EReal) := by
  rw [val_main_v80_apply, Ideal.truncf_def, val_main_v77_apply, val_main_v76_apply]
  refine Eq.trans ?_ (coe_sum Finset.univ _).symm
  refine Finset.sum_congr rfl fun k _ => ?_
  rw [v70 H, v2 H.toHeld, EReal.coe_mul]; rfl
/-- The gradient of the plain queries. -/
theorem dqn {A : Args} {x0 : T128} {x1 : T64} {x2 : T128} {x3 : R64} {x4 x5 : T128} (H : Holds A x0 x1 x2 x3 x4 x5) (i : S8192x8x128.Idx) : val_main_v81 (F := Ideal) x0 x1 x2 x3 x4 x5 i = ((A.dqn (i 0) (i 1) (i 2) : ℝ) : EReal) := by
  rw [val_main_v81_apply, Ideal.truncf_def, val_main_v79_apply, val_main_v78_apply]
  refine Eq.trans ?_ (coe_sum Finset.univ _).symm
  refine Finset.sum_congr rfl fun k _ => ?_
  rw [v70 H, v3 H.toHeld, EReal.coe_mul]; rfl
/-- The gradient of the values. -/
theorem dv {A : Args} {x0 : T128} {x1 : T64} {x2 : T128} {x3 : R64} {x4 x5 : T128} (H : Holds A x0 x1 x2 x3 x4 x5) (i : S8192x8x128.Idx) : val_main_v55 (F := Ideal) x0 x1 x2 x3 x5 i = ((A.dv (i 0) (i 1) (i 2) : ℝ) : EReal) := by
  rw [val_main_v55_apply, Ideal.truncf_def, val_main_v54_apply, val_main_v53_apply]
  refine Eq.trans ?_ (coe_sum Finset.univ _).symm
  refine Finset.sum_congr rfl fun k _ => ?_
  rw [v51 H, v43 H, EReal.coe_mul]; rfl

abbrev D73 := dot_S8192x8192x8_S8192x8x64_S8192x64_12_01_0_2_n_n
theorem lhs73 (i : S8192x64.Idx) (a : Fin 8192) (b : Fin 8) :
    D73.lhsIdx i ((ValueIdx.contrEquiv2 D73 8192 8 rfl rfl rfl).symm (a, b)) = ValueIdx.ix3 ⟨(i 0).val, (i 0).isLt⟩ a b := by
  funext x; apply Fin.ext
  match x with
  | ⟨0, _⟩ => rfl
  | ⟨1, _⟩ => rfl
  | ⟨2, _⟩ => rfl
theorem rhs73 (i : S8192x64.Idx) (a : Fin 8192) (b : Fin 8) :
    D73.rhsIdx i ((ValueIdx.contrEquiv2 D73 8192 8 rfl rfl rfl).symm (a, b)) = ValueIdx.ix3 a b ⟨(i 1).val, (i 1).isLt⟩ := by
  funext x; apply Fin.ext
  match x with
  | ⟨0, _⟩ => rfl
  | ⟨1, _⟩ => rfl
  | ⟨2, _⟩ => rfl
/-- The gradient of the rotary keys, which the heads share. -/
theorem dkr {A : Args} {x0 : T128} {x1 : T64} {x2 : T128} {x3 : R64} {x4 x5 : T128} (H : Holds A x0 x1 x2 x3 x4 x5) (i : S8192x64.Idx) : val_main_v74 (F := Ideal) x0 x1 x2 x3 x4 x5 i = ((A.dkr (i 0) (i 1) : ℝ) : EReal) := by
  rw [val_main_v74_apply, Ideal.truncf_def, val_main_v73]
  simp only [Host.dotGeneral]
  rw [Ideal.dotGeneral_apply, ValueIdx.sum_contr2 D73 8192 8 rfl rfl rfl]
  refine Eq.trans ?_ (coe_sum Finset.univ _).symm
  refine Finset.sum_congr rfl fun q _ => ?_
  refine Eq.trans ?_ (coe_sum Finset.univ _).symm
  refine Finset.sum_congr rfl fun h _ => ?_
  rw [lhs73, rhs73]
  exact (congrArg₂ (fun y z : EReal => y * z) (v71 H _) (v5 H.toHeld _)).trans (EReal.coe_mul _ _).symm

end Cert.Flash.Ref
end
-- ==== Proof.Flash.PrepValue.lean ====
/-
  What the host code hands the kernel, as reals: the packed queries and keys, the values, the output's gradient, the
  log-sum-exp of the rows and the rows' sums of output times gradient.
-/
module

public import proofs.«01_k».proof.Proof.Flash.RefValue
public import proofs.«01_k».proof.Proof.Flash.PrepRead

@[expose] public section

set_option maxRecDepth 16384

noncomputable section

namespace Cert.Flash

open scoped BigOperators

/-- Plain, rotary and padding columns of a row of 256 as one. -/
def pack (a : Fin 128 → ℝ) (b : Fin 64 → ℝ) (x : Fin 256) : ℝ :=
  if h : x.val < 128 then a ⟨x.val, h⟩ else if h' : x.val < 192 then b ⟨x.val - 128, by omega⟩ else 0

theorem pack_a (a : Fin 128 → ℝ) (b : Fin 64 → ℝ) {x : Fin 256} (h : x.val < 128) : pack a b x = a ⟨x.val, h⟩ := dif_pos h
theorem pack_b (a : Fin 128 → ℝ) (b : Fin 64 → ℝ) {x : Fin 256} (h : ¬ x.val < 128) (h' : x.val < 192) :
    pack a b x = b ⟨x.val - 128, by omega⟩ := (dif_neg h).trans (dif_pos h')
theorem pack_z (a : Fin 128 → ℝ) (b : Fin 64 → ℝ) {x : Fin 256} (h : ¬ x.val < 128) (h' : ¬ x.val < 192) :
    pack a b x = 0 := (dif_neg h).trans (dif_neg h')

/-- The product of two packed rows is the sum of the products of their parts. -/
theorem sum_pack (a a' : Fin 128 → ℝ) (b b' : Fin 64 → ℝ) :
    ∑ x, pack a b x * pack a' b' x = ∑ d, a d * a' d + ∑ r, b r * b' r := by
  have e : ∑ x : Fin 256, pack a b x * pack a' b' x = ∑ x : Fin (128 + (64 + 64)), pack a b x * pack a' b' x := rfl
  rw [e, Fin.sum_univ_add, Fin.sum_univ_add]
  have z : ∀ i : Fin 64, pack a b (Fin.natAdd 128 (Fin.natAdd 64 i) : Fin (128 + (64 + 64))) * pack a' b' (Fin.natAdd 128 (Fin.natAdd 64 i) : Fin (128 + (64 + 64))) = 0 := by
    intro i
    have h1 : ¬ (Fin.natAdd 128 (Fin.natAdd 64 i) : Fin (128 + (64 + 64))).val < 128 := by simp
    have h2 : ¬ (Fin.natAdd 128 (Fin.natAdd 64 i) : Fin (128 + (64 + 64))).val < 192 := by simp only [Fin.val_natAdd]; omega
    rw [pack_z a b h1 h2, zero_mul]
  rw [Finset.sum_congr rfl fun i _ => z i, Finset.sum_const_zero, add_zero]
  refine congrArg₂ (· + ·) (Finset.sum_congr rfl fun d _ => ?_) (Finset.sum_congr rfl fun r _ => ?_)
  · have h : (Fin.castAdd (64 + 64) d : Fin (128 + (64 + 64))).val < 128 := by simp
    rw [pack_a a b h, pack_a a' b' h]; rfl
  · have h1 : ¬ (Fin.natAdd 128 (Fin.castAdd 64 r) : Fin (128 + (64 + 64))).val < 128 := by simp
    have h2 : (Fin.natAdd 128 (Fin.castAdd 64 r) : Fin (128 + (64 + 64))).val < 192 := by simp only [Fin.val_natAdd, Fin.val_castAdd]; omega
    rw [pack_b a b h1 h2, pack_b a' b' h1 h2]
    have e : (⟨(Fin.natAdd 128 (Fin.castAdd 64 r) : Fin (128 + (64 + 64))).val - 128, by simp⟩ : Fin 64) = r := by
      apply Fin.ext; simp
    rw [e]

/-- The packed queries, scaled, and the packed keys. -/
def Args.qp (A : Args) (h : Fin 8) (q : Fin 8192) (x : Fin 256) : ℝ := pack (fun d => A.qn q h d * A.c) (fun r => A.qr q h r * A.c) x
def Args.kp (A : Args) (h : Fin 8) (k : Fin 8192) (x : Fin 256) : ℝ := pack (A.kn k h) (A.kr k) x

/-- The product of a packed key and a packed query is the scaled score. -/
theorem Args.sum_kq (A : Args) (h : Fin 8) (q k : Fin 8192) : ∑ x, A.kp h k x * A.qp h q x = A.s h q k := by
  unfold Args.kp Args.qp
  rw [sum_pack, Args.s, add_mul, Finset.sum_mul, Finset.sum_mul]
  refine congrArg₂ (· + ·) (Finset.sum_congr rfl fun d _ => ?_) (Finset.sum_congr rfl fun r _ => ?_) <;> ring

namespace PrepV

open Cert.KernelIdeal Cert.KernelIdeal.Gen Cert.KernelIdeal.Prep Cert.Flash.Ref
open Idealize.ShloMosaic Idealize.ShloMosaic.TcCoe Idealize.SL.Sem Idealize.ShloMosaic.StableHlo

theorem v19 {A : Args} {x0 : T128} {x1 : T64} {x2 : T128} {x3 : R64} {x4 x5 : T128} (H : Holds A x0 x1 x2 x3 x4 x5) (i : S8x8192.Idx) : Prep.val_main_v19 (F := Ideal) x0 x1 x2 x3 i = ((A.mx (i 0) (i 1) : ℝ) : EReal) := H.mx i
theorem v20 {A : Args} {x0 : T128} {x1 : T64} {x2 : T128} {x3 : R64} {x4 x5 : T128} (H : Holds A x0 x1 x2 x3 x4 x5) (i : S8x8192x1.Idx) : Prep.val_main_v20 (F := Ideal) x0 x1 x2 x3 i = ((A.mx (i 0) (i 1) : ℝ) : EReal) := by
  rw [Prep.val_main_v20_apply, v19 H]; rfl
theorem v23 {A : Args} {x0 : T128} {x1 : T64} {x2 : T128} {x3 : R64} {x4 x5 : T128} (H : Holds A x0 x1 x2 x3 x4 x5) (i : S8x8192x8192.Idx) : Prep.val_main_v23 (F := Ideal) x0 x1 x2 x3 i = ((A.e (i 0) (i 1) (i 2) : ℝ) : EReal) := by
  rw [Prep.val_main_v23_apply, Prep.val_main_v22_apply, Prep.val_main_v21_apply, v20 H]
  refine Eq.trans (congrArg (fun z : EReal => Ideal.exp (z - ((A.mx (i 0) (i 1) : ℝ) : EReal))) (Ref.v18 H.toHeld i)) ?_
  exact Ref.exp_sub A (i 0) (i 1) (i 2)
theorem v24 {A : Args} {x0 : T128} {x1 : T64} {x2 : T128} {x3 : R64} {x4 x5 : T128} (H : Holds A x0 x1 x2 x3 x4 x5) (i : S8x8192.Idx) : Prep.val_main_v24 (F := Ideal) x0 x1 x2 x3 i = ((A.l (i 0) (i 1) : ℝ) : EReal) := by
  rw [Prep.val_main_v24_apply, Prep.val_main_cst_2_apply, Ideal.ofBits_def, Ideal.ofBits_zero_f32, zero_add]
  refine Eq.trans ?_ (coe_sum Finset.univ _).symm
  exact Finset.sum_congr rfl fun k _ => v23 H _
theorem v25 {A : Args} {x0 : T128} {x1 : T64} {x2 : T128} {x3 : R64} {x4 x5 : T128} (H : Holds A x0 x1 x2 x3 x4 x5) (i : S8x8192x1.Idx) : Prep.val_main_v25 (F := Ideal) x0 x1 x2 x3 i = ((A.l (i 0) (i 1) : ℝ) : EReal) := by
  rw [Prep.val_main_v25_apply]; exact v24 H _
theorem v27 {A : Args} {x0 : T128} {x1 : T64} {x2 : T128} {x3 : R64} {x4 x5 : T128} (H : Holds A x0 x1 x2 x3 x4 x5) (i : S8x8192x1.Idx) : Prep.val_main_v27 (F := Ideal) x0 x1 x2 x3 i = ((A.lse (i 0) (i 1) : ℝ) : EReal) := by
  rw [Prep.val_main_v27_apply, Prep.val_main_v26_apply, v20 H, v25 H, Ideal.addf_def, Ideal.hostUnary_log_def, Ideal.log_coe]
  refine (congrArg (fun z : EReal => ((A.mx (i 0) (i 1) : ℝ) : EReal) + z) (if_neg (not_le.2 (A.l_pos (i 0) (i 1))))).trans ?_
  exact (EReal.coe_add _ _).symm
theorem v28 {A : Args} {x0 : T128} {x1 : T64} {x2 : T128} {x3 : R64} {x4 x5 : T128} (H : Holds A x0 x1 x2 x3 x4 x5) (i : S8x8192.Idx) : Prep.val_main_v28 (F := Ideal) x0 x1 x2 x3 i = ((A.lse (i 0) (i 1) : ℝ) : EReal) := by
  have h0 : (i 0).val < 8 := (i 0).isLt
  have h1 : (i 1).val < 8192 := (i 1).isLt
  rw [Prep.val_main_v28_apply, v27 H]
  refine congrArg (fun z : ℝ => (z : EReal)) (congrArg₂ A.lse (Fin.ext ?_) (Fin.ext ?_))
  · show ((i 0).val * 8192 + (i 1).val) / 8192 = (i 0).val; omega
  · show ((i 0).val * 8192 + (i 1).val) / 1 % 8192 = (i 1).val; omega
theorem v30 {A : Args} {x0 : T128} {x1 : T64} {x2 : T128} {x3 : R64} {x4 x5 : T128} (H : Holds A x0 x1 x2 x3 x4 x5) (i : S8x8192x8192.Idx) : Prep.val_main_v30 (F := Ideal) x0 x1 x2 x3 i = ((A.p (i 0) (i 1) (i 2) : ℝ) : EReal) := by
  rw [Prep.val_main_v30_apply, Prep.val_main_v29_apply, v25 H, v23 H, Ideal.hostDivf_def]
  exact div_real _ (A.l_ne _ _)
theorem v33 {A : Args} {x0 : T128} {x1 : T64} {x2 : T128} {x3 : R64} {x4 x5 : T128} (H : Holds A x0 x1 x2 x3 x4 x5) (i : S8192x8x128.Idx) : Prep.val_main_v33 (F := Ideal) x0 x1 x2 x3 x4 i
    = ((∑ k, A.v k (i 1) (i 2) * A.p (i 1) (i 0) k : ℝ) : EReal) := by
  rw [Prep.val_main_v33_apply, Prep.val_main_v32_apply]
  refine Eq.trans ?_ (coe_sum Finset.univ _).symm
  refine Finset.sum_congr rfl fun k _ => ?_
  rw [v30 H, Prep.val_main_v31_apply, Ideal.extf_def, H.v, EReal.coe_mul]; rfl
theorem v36 {A : Args} {x0 : T128} {x1 : T64} {x2 : T128} {x3 : R64} {x4 x5 : T128} (H : Holds A x0 x1 x2 x3 x4 x5) (i : S8192x8.Idx) : Prep.val_main_v36 (F := Ideal) x0 x1 x2 x3 x4 x5 i = ((A.del (i 1) (i 0) : ℝ) : EReal) := by
  rw [Prep.val_main_v36_apply, Prep.val_main_cst_3_apply, Ideal.ofBits_def, Ideal.ofBits_zero_f32, zero_add]
  refine Eq.trans ?_ (congrArg (fun z : ℝ => (z : EReal)) (A.del_out (i 1) (i 0)))
  refine Eq.trans ?_ (coe_sum Finset.univ _).symm
  refine Finset.sum_congr rfl fun k _ => ?_
  rw [Prep.val_main_v35_apply, v33 H, Prep.val_main_v34_apply, Ideal.extf_def, H.g, Ideal.mulf_def, EReal.coe_mul]; rfl
theorem v37 {A : Args} {x0 : T128} {x1 : T64} {x2 : T128} {x3 : R64} {x4 x5 : T128} (H : Holds A x0 x1 x2 x3 x4 x5) (i : S8x8192.Idx) : Prep.val_main_v37 (F := Ideal) x0 x1 x2 x3 x4 x5 i = ((A.del (i 0) (i 1) : ℝ) : EReal) := by
  rw [Prep.val_main_v37_apply]; exact v36 H _

/-- The row a block's lane stands for. -/
def row (n : Fin 16) (c : Fin 512) : Fin 8192 := ⟨512 * n.val + c.val, by omega⟩

theorem lse {A : Args} {x0 : T128} {x1 : T64} {x2 : T128} {x3 : R64} {x4 x5 : T128} (H : Holds A x0 x1 x2 x3 x4 x5) (i : S8x16x8x512.Idx) : Prep.val_main_v56 (F := Ideal) x0 x1 x2 x3 i = ((A.lse (i 0) (row (i 1) (i 3)) : ℝ) : EReal) := by
  have h0 : (i 0).val < 8 := (i 0).isLt
  have h1 : (i 1).val < 16 := (i 1).isLt
  have h3 : (i 3).val < 512 := (i 3).isLt
  rw [Prep.val_main_v56_apply, Prep.val_main_v55_apply, v28 H]
  refine congrArg (fun z : ℝ => (z : EReal)) (congrArg₂ A.lse (Fin.ext ?_) (Fin.ext ?_))
  · show ((((i 0).val * 16 + (i 1).val) * 1 + 0) * 512 + (i 3).val) / 8192 = (i 0).val; omega
  · show ((((i 0).val * 16 + (i 1).val) * 1 + 0) * 512 + (i 3).val) % 8192 = 512 * (i 1).val + (i 3).val; omega
theorem del {A : Args} {x0 : T128} {x1 : T64} {x2 : T128} {x3 : R64} {x4 x5 : T128} (H : Holds A x0 x1 x2 x3 x4 x5) (i : S8x16x8x512.Idx) : Prep.val_main_v58 (F := Ideal) x0 x1 x2 x3 x4 x5 i = ((A.del (i 0) (row (i 1) (i 3)) : ℝ) : EReal) := by
  have h0 : (i 0).val < 8 := (i 0).isLt
  have h1 : (i 1).val < 16 := (i 1).isLt
  have h3 : (i 3).val < 512 := (i 3).isLt
  rw [Prep.val_main_v58_apply, Prep.val_main_v57_apply, v37 H]
  refine congrArg (fun z : ℝ => (z : EReal)) (congrArg₂ A.del (Fin.ext ?_) (Fin.ext ?_))
  · show ((((i 0).val * 16 + (i 1).val) * 1 + 0) * 512 + (i 3).val) / 8192 = (i 0).val; omega
  · show ((((i 0).val * 16 + (i 1).val) * 1 + 0) * 512 + (i 3).val) % 8192 = 512 * (i 1).val + (i 3).val; omega
theorem v {A : Args} {x0 : T128} {x1 : T64} {x2 : T128} {x3 : R64} {x4 x5 : T128} (H : Holds A x0 x1 x2 x3 x4 x5) (i : S8x8192x128.Idx) : Prep.val_main_v53 (F := Ideal) x4 i = ((A.v (i 1) (i 0) (i 2) : ℝ) : EReal) := by
  rw [Prep.val_main_v53_apply]; exact H.v _
theorem g {A : Args} {x0 : T128} {x1 : T64} {x2 : T128} {x3 : R64} {x4 x5 : T128} (H : Holds A x0 x1 x2 x3 x4 x5) (i : S8192x1024.Idx) (h : Fin 8) (d : Fin 128) (hi : (i 1).val = 128 * h.val + d.val) :
    Prep.val_main_v54 (F := Ideal) x5 i = ((A.g (i 0) h d : ℝ) : EReal) := by
  have h0 : (i 0).val < 8192 := (i 0).isLt
  rw [Prep.val_main_v54_apply, H.g]
  refine congrArg (fun z : ℝ => (z : EReal)) ?_
  have e0 : Prep.idx_main_v54 i 0 = i 0 := by apply Fin.ext; show ((i 0).val * 1024 + (i 1).val) / 1024 = (i 0).val; omega
  have e1 : Prep.idx_main_v54 i 1 = h := by apply Fin.ext; show ((i 0).val * 1024 + (i 1).val) / 128 % 8 = h.val; omega
  have e2 : Prep.idx_main_v54 i 2 = d := by apply Fin.ext; show ((i 0).val * 1024 + (i 1).val) % 128 = d.val; omega
  exact (congrArg (fun z => A.g z _ _) e0).trans ((congrArg (fun z => A.g _ z _) e1).trans (congrArg (fun z => A.g _ _ z) e2))

theorem cat (y1 : S8192x8x128.Idx → EReal) (y2 y3 : S8192x8x64.Idx → EReal) (i : S8192x8x256.Idx) (a : Fin 128 → ℝ) (b : Fin 64 → ℝ)
    (ha : ∀ j : S8192x8x128.Idx, (j 0).val = (i 0).val → (j 1).val = (i 1).val → y1 j = ((a (j 2) : ℝ) : EReal))
    (hb : ∀ j : S8192x8x64.Idx, (j 0).val = (i 0).val → (j 1).val = (i 1).val → y2 j = ((b (j 2) : ℝ) : EReal))
    (hz : ∀ j : S8192x8x64.Idx, y3 j = 0) :
    concatenate S8192x8x256 2 [⟨S8192x8x128, y1⟩, ⟨S8192x8x64, y2⟩, ⟨S8192x8x64, y3⟩]
      concatenates_S8192x8x128_S8192x8x64_S8192x8x64_S8192x8x256_d2 i = ((pack a b (i 2) : ℝ) : EReal) := by
  have h2 : (i 2).val < 256 := (i 2).isLt
  have off : ∀ (n : ℕ) (j : (⟨3, ![8192, 8, n]⟩ : Shape).Idx), (j 0).val = (i 0).val → (j 1).val = (i 1).val →
      ∀ b : Fin 3, b ≠ 2 → (j b).val = (i b).val := by
    intro n j e0 e1 b hb
    match b with
    | ⟨0, _⟩ => exact e0
    | ⟨1, _⟩ => exact e1
    | ⟨2, _⟩ => exact absurd rfl hb
  by_cases hA : (i 2).val < 128
  · let j : S8192x8x128.Idx := ValueIdx.ix3 ⟨(i 0).val, (i 0).isLt⟩ ⟨(i 1).val, (i 1).isLt⟩ ⟨(i 2).val, hA⟩
    rw [concatenate_apply_piece 2 [⟨S8192x8x128, y1⟩, ⟨S8192x8x64, y2⟩, ⟨S8192x8x64, y3⟩] concatenates_S8192x8x128_S8192x8x64_S8192x8x64_S8192x8x256_d2 i 0 (show 0 < 3 by decide) S8192x8x128 y1 rfl rfl 0 rfl j
      (off 128 j rfl rfl) (by show 0 + (i 2).val = (i 2).val; omega), ha j rfl rfl]
    exact congrArg (fun z : ℝ => (z : EReal)) (pack_a a b (x := i 2) hA).symm
  · by_cases hB : (i 2).val < 192
    · let j : S8192x8x64.Idx := ValueIdx.ix3 ⟨(i 0).val, (i 0).isLt⟩ ⟨(i 1).val, (i 1).isLt⟩ ⟨(i 2).val - 128, by omega⟩
      rw [concatenate_apply_piece 2 [⟨S8192x8x128, y1⟩, ⟨S8192x8x64, y2⟩, ⟨S8192x8x64, y3⟩] concatenates_S8192x8x128_S8192x8x64_S8192x8x64_S8192x8x256_d2 i 1 (show 1 < 3 by decide) S8192x8x64 y2 rfl rfl 128 rfl j
        (off 64 j rfl rfl) (by show 128 + ((i 2).val - 128) = (i 2).val; omega), hb j rfl rfl]
      exact congrArg (fun z : ℝ => (z : EReal)) (pack_b a b (x := i 2) hA hB).symm
    · let j : S8192x8x64.Idx := ValueIdx.ix3 ⟨(i 0).val, (i 0).isLt⟩ ⟨(i 1).val, (i 1).isLt⟩ ⟨(i 2).val - 192, by omega⟩
      rw [concatenate_apply_piece 2 [⟨S8192x8x128, y1⟩, ⟨S8192x8x64, y2⟩, ⟨S8192x8x64, y3⟩] concatenates_S8192x8x128_S8192x8x64_S8192x8x64_S8192x8x256_d2 i 2 (show 2 < 3 by decide) S8192x8x64 y3 rfl rfl 192 rfl j
        (off 64 j rfl rfl) (by show 192 + ((i 2).val - 192) = (i 2).val; omega), hz j]
      exact congrArg (fun z : ℝ => (z : EReal)) (pack_z a b (x := i 2) hA hB).symm

theorem v38 (i : S8192x8x64.Idx) : Prep.val_main_v38 (F := Ideal) i = 0 := by
  rw [Prep.val_main_v38_apply, Prep.val_main_cst_4_apply, Ideal.ofBits_def, Ideal.ofBits_zero_f32]

theorem q {A : Args} {x0 : T128} {x1 : T64} {x2 : T128} {x3 : R64} {x4 x5 : T128} (H : Holds A x0 x1 x2 x3 x4 x5) (i : S8x8192x256.Idx) : Prep.val_main_v50 (F := Ideal) x0 x1 i = ((A.qp (i 0) (i 1) (i 2) : ℝ) : EReal) := by
  rw [Prep.val_main_v50_apply, Ideal.truncf_def, Prep.val_main_v49_apply, Prep.val_main_v43_apply, Prep.val_main_v42_apply,
    Prep.val_main_cst_5_apply, Ideal.ofBits_def, H.c, Ideal.mulf_def, Prep.val_main_v41]
  refine (congrArg (fun z : EReal => z * ((A.c : ℝ) : EReal)) (cat _ _ _ (Prep.idx_main_v49 i) (A.qn (i 1) (i 0)) (A.qr (i 1) (i 0)) ?_ ?_ v38)).trans ?_
  · intro j e0 e1
    rw [Prep.val_main_v39_apply, Ideal.extf_def, H.qn]
    exact congrArg (fun z : ℝ => (z : EReal)) (congrArg₂ (fun y z => A.qn y z (j 2)) (Fin.ext e0) (Fin.ext e1))
  · intro j e0 e1
    rw [Prep.val_main_v40_apply, Ideal.extf_def, H.qr]
    exact congrArg (fun z : ℝ => (z : EReal)) (congrArg₂ (fun y z => A.qr y z (j 2)) (Fin.ext e0) (Fin.ext e1))
  · rw [← EReal.coe_mul]
    refine congrArg (fun z : ℝ => (z : EReal)) ?_
    unfold Args.qp pack
    split
    · rfl
    · split
      · rfl
      · exact zero_mul _
theorem k {A : Args} {x0 : T128} {x1 : T64} {x2 : T128} {x3 : R64} {x4 x5 : T128} (H : Holds A x0 x1 x2 x3 x4 x5) (i : S8x8192x256.Idx) : Prep.val_main_v52 (F := Ideal) x2 x3 i = ((A.kp (i 0) (i 1) (i 2) : ℝ) : EReal) := by
  rw [Prep.val_main_v52_apply, Ideal.truncf_def, Prep.val_main_v51_apply, Prep.val_main_v48]
  refine cat _ _ _ (Prep.idx_main_v51 i) (A.kn (i 1) (i 0)) (A.kr (i 1)) ?_ ?_ v38
  · intro j e0 e1
    rw [Prep.val_main_v47_apply, Ideal.extf_def, H.kn]
    exact congrArg (fun z : ℝ => (z : EReal)) (congrArg₂ (fun y z => A.kn y z (j 2)) (Fin.ext e0) (Fin.ext e1))
  · intro j e0 e1
    rw [Prep.val_main_v46_apply, Prep.val_main_v45_apply, Prep.val_main_v44_apply, Ideal.extf_def, H.kr]
    exact congrArg (fun z : ℝ => (z : EReal)) (congrArg (fun y => A.kr y (j 2)) (Fin.ext e0))

end PrepV
end Cert.Flash
end
-- ==== Proof.Flash.StepValue.lean ====
/-
  The block step over the reals: what a pair of blocks adds to the three accumulators, and the sums a grid point's steps make.
-/
module

public import proofs.«01_k».proof.Proof.Flash.PayRead
public import proofs.«01_k».proof.Proof.Flash.PrepValue

@[expose] public section

set_option maxRecDepth 16384

noncomputable section

namespace Cert.Flash

open Cert.KernelIdeal Cert.KernelIdeal.Gen
open Idealize.ShloMosaic
open Cert.Flash.PrepV (row)
open scoped BigOperators

/-- What a grid point of head `h` and key block `j` reads, as reals. -/
structure Pt (A : Args) (h : Fin 8) (j : Fin 16) (x : Ins Ideal) : Prop where
  q : ∀ (r : Fin 8192) (e : Fin 256), x.q (ix3 0 r e) = ((A.qp h r e : ℝ) : EReal)
  k : ∀ (r : Fin 512) (e : Fin 256), x.kb (ix3 0 r e) = ((A.kp h (row j r) e : ℝ) : EReal)
  v : ∀ (r : Fin 512) (d : Fin 128), x.vb (ix3 0 r d) = ((A.v (row j r) h d : ℝ) : EReal)
  d : ∀ (r : Fin 8192) (d : Fin 128), x.d (ix2 r d) = ((A.g r h d : ℝ) : EReal)
  lse : ∀ (n : Fin 16) (c : Fin 512), x.lse (ix4 0 n 0 c) = ((A.lse h (row n c) : ℝ) : EReal)
  del : ∀ (n : Fin 16) (c : Fin 512), x.del (ix4 0 n 0 c) = ((A.del h (row n c) : ℝ) : EReal)

/-- What a pair of blocks adds. -/
def cq (A : Args) (h : Fin 8) (j n : Fin 16) (c : Fin 512) (e : Fin 256) : ℝ := ∑ r, A.ds h (row n c) (row j r) * A.kp h (row j r) e
def ck (A : Args) (h : Fin 8) (j n : Fin 16) (r : Fin 512) (e : Fin 256) : ℝ := ∑ c, A.ds h (row n c) (row j r) * A.qp h (row n c) e
def cv (A : Args) (h : Fin 8) (j n : Fin 16) (r : Fin 512) (d : Fin 128) : ℝ := ∑ c, A.g (row n c) h d * A.p h (row n c) (row j r)

/-- The accumulators hold these reals. -/
structure IsSt (s : St Ideal) (q : Fin 16 → Fin 512 → Fin 256 → ℝ) (k : Fin 512 → Fin 256 → ℝ) (v : Fin 512 → Fin 128 → ℝ) : Prop where
  dq : ∀ n c e, s.dq (ix2 (row n c) e) = ((q n c e : ℝ) : EReal)
  dk : ∀ r e, s.dk (ix2 r e) = ((k r e : ℝ) : EReal)
  dvt : ∀ r d, s.dvt (ix2 d r) = ((v r d : ℝ) : EReal)

theorem qW_at (q : Vec Ideal S1x8192x256 .bf16) (n : Fin 16) (c : Fin 512) (e : Fin 256) : qW q n (ix3 0 c e) = q (ix3 0 (row n c) e) := by
  refine congrArg q (funext fun a => Fin.ext ?_)
  match a with
  | ⟨0, _⟩ => rfl
  | ⟨1, _⟩ => show 512 * n.val + 1 * c.val = 512 * n.val + c.val; omega
  | ⟨2, _⟩ => show 0 + 1 * e.val = e.val; omega
theorem dW_at (d : Vec Ideal S8192x128 .bf16) (n : Fin 16) (c : Fin 512) (e : Fin 128) : dW d n (ix2 c e) = d (ix2 (row n c) e) := by
  refine congrArg d (funext fun a => Fin.ext ?_)
  match a with
  | ⟨0, _⟩ => show 512 * n.val + 1 * c.val = 512 * n.val + c.val; omega
  | ⟨1, _⟩ => show 0 + 1 * e.val = e.val; omega
theorem sW_at (x : Vec Ideal S1x16x8x512 .f32) (n : Fin 16) (c : Fin 512) : sW x n (ix4 0 0 0 c) = x (ix4 0 n 0 c) := by
  refine congrArg x (funext fun a => Fin.ext ?_)
  match a with
  | ⟨0, _⟩ => rfl
  | ⟨1, _⟩ => show n.val + 1 * 0 = n.val; omega
  | ⟨2, _⟩ => rfl
  | ⟨3, _⟩ => show 0 + 1 * c.val = c.val; omega
theorem aW_at (x : Vec Ideal S8192x256 .f32) (n : Fin 16) (c : Fin 512) (e : Fin 256) : aW x n (ix2 c e) = x (ix2 (row n c) e) := by
  refine congrArg x (funext fun a => Fin.ext ?_)
  match a with
  | ⟨0, _⟩ => show 512 * n.val + 1 * c.val = 512 * n.val + c.val; omega
  | ⟨1, _⟩ => show 0 + 1 * e.val = e.val; omega

/-- The written block's rows read the payload, the others what was there. -/
theorem put_at (x : Vec Ideal S8192x256 .f32) (n n' : Fin 16) (w : Vec Ideal S512x256 .f32) (c : Fin 512) (e : Fin 256) :
    VecWindow.put x ![512 * n.val, 0] S512x256.size w (ix2 (row n' c) e) = if n' = n then w (ix2 c e) else x (ix2 (row n' c) e) := by
  by_cases hn : n' = n
  · subst hn
    rw [if_pos rfl]
    refine (aW_at _ n' c e).symm.trans ?_
    exact congrFun (VecWindow.window_put_same x _ _ (inbA n') w) _
  · rw [if_neg hn]
    refine ((aW_at _ n' c e).symm.trans ?_).trans (aW_at x n' c e)
    refine congrFun (VecWindow.window_put_of_disjoint x _ _ _ _ (inbA n') w 0 ?_) _
    show 512 * n'.val + 512 ≤ 512 * n.val ∨ 512 * n.val + 512 ≤ 512 * n'.val
    have : n'.val ≠ n.val := fun h => hn (Fin.ext h)
    omega

variable {A : Args} {h : Fin 8} {j : Fin 16} {x : Ins Ideal}

theorem pU_at (X : Pt A h j x) (n : Fin 16) (r c : Fin 512) :
    pU x n (ix2 r c) = ((Real.exp (A.s h (row n c) (row j r) - A.lse h (row n c)) : ℝ) : EReal) := by
  rw [pU, Pay.scores, sW_at, X.lse]
  have e : ∑ y : Fin 256, x.kb (ix3 0 r y) * qW x.q n (ix3 0 c y) = ((A.s h (row n c) (row j r) : ℝ) : EReal) := by
    rw [← A.sum_kq, coe_sum]
    refine Finset.sum_congr rfl fun y _ => ?_
    rw [qW_at, X.q, X.k, EReal.coe_mul]
  rw [e, ← EReal.coe_sub, Ideal.exp_coe]

theorem dpOf_at (X : Pt A h j x) (n : Fin 16) (r c : Fin 512) :
    dpOf x n (ix2 r c) = ((A.dp h (row n c) (row j r) - A.del h (row n c) : ℝ) : EReal) := by
  rw [dpOf, Pay.cot, sW_at, X.del]
  have e : ∑ y : Fin 128, x.vb (ix3 0 r y) * dW x.d n (ix2 c y) = ((A.dp h (row n c) (row j r) : ℝ) : EReal) := by
    rw [Args.dp, coe_sum]
    refine Finset.sum_congr rfl fun y _ => ?_
    rw [dW_at, X.d, X.v, ← EReal.coe_mul, mul_comm]
  rw [e, ← EReal.coe_sub]

theorem ok_after {n : Fin 16} (hn : j.val < n.val) (r c : Fin 512) : ok (row n c) (row j r) := by
  show (512 * j.val + r.val) / 64 ≤ (512 * n.val + c.val) / 64
  omega
theorem not_ok_before {n : Fin 16} (hn : n.val < j.val) (r c : Fin 512) : ¬ ok (row n c) (row j r) := by
  show ¬ (512 * j.val + r.val) / 64 ≤ (512 * n.val + c.val) / 64
  omega

theorem pU_p (X : Pt A h j x) {n : Fin 16} (hn : j.val < n.val) (r c : Fin 512) :
    pU x n (ix2 r c) = ((A.p h (row n c) (row j r) : ℝ) : EReal) := by
  rw [pU_at X, A.exp_lse h (ok_after hn r c)]

theorem pD_p (X : Pt A h j x) (r c : Fin 512) : pD x j (ix2 r c) = ((A.p h (row j c) (row j r) : ℝ) : EReal) := by
  rw [pD, Pay.masked, pU_at X]
  by_cases hk : ok (row j c) (row j r)
  · have : r.val / 64 ≤ c.val / 64 := by
      have : (512 * j.val + r.val) / 64 ≤ (512 * j.val + c.val) / 64 := hk
      omega
    rw [if_pos this, A.exp_lse h hk]
  · have : ¬ r.val / 64 ≤ c.val / 64 := by
      have : ¬ (512 * j.val + r.val) / 64 ≤ (512 * j.val + c.val) / 64 := hk
      omega
    rw [if_neg this, A.p_of_not h hk, EReal.coe_zero]

/-- One step adds its pair's share. -/
theorem stepP_is (X : Pt A h j x) (n : Fin 16) (p : FVec Ideal S512x512 .f32)
    (hp : ∀ r c : Fin 512, p (ix2 r c) = ((A.p h (row n c) (row j r) : ℝ) : EReal))
    {s : St Ideal} {q : Fin 16 → Fin 512 → Fin 256 → ℝ} {k : Fin 512 → Fin 256 → ℝ} {v : Fin 512 → Fin 128 → ℝ} (S : IsSt s q k v) :
    IsSt (stepP x p n s) (fun n' c e => q n' c e + if n' = n then cq A h j n c e else 0)
      (fun r e => k r e + ck A h j n r e) (fun r d => v r d + cv A h j n r d) := by
  have hds : ∀ r c : Fin 512, p (ix2 r c) * dpOf x n (ix2 r c) = ((A.ds h (row n c) (row j r) : ℝ) : EReal) := by
    intro r c
    rw [hp, dpOf_at X, ← EReal.coe_mul]; rfl
  refine ⟨fun n' c e => ?_, fun r e => ?_, fun r d => ?_⟩
  · show VecWindow.put s.dq _ _ _ _ = _
    rw [put_at]
    by_cases hn : n' = n
    · subst hn
      rw [if_pos rfl, if_pos rfl, Pay.dq, aW_at, S.dq, EReal.coe_add, cq, coe_sum]
      refine congrArg _ (Finset.sum_congr rfl fun r _ => ?_)
      rw [hds, X.k, EReal.coe_mul]
    · rw [if_neg hn, if_neg hn, add_zero, S.dq]
  · show k0_pay51 _ _ _ _ _ = _
    rw [Pay.dk, S.dk, EReal.coe_add, ck, coe_sum]
    refine congrArg _ (Finset.sum_congr rfl fun c _ => ?_)
    rw [hds, qW_at, X.q, EReal.coe_mul]
  · show k0_pay50 _ _ _ _ = _
    rw [Pay.dvt, S.dvt, EReal.coe_add, cv, coe_sum]
    refine congrArg _ (Finset.sum_congr rfl fun c _ => ?_)
    rw [hp, dW_at, X.d, EReal.coe_mul]

/-- Blocks before the key block add nothing. -/
theorem cq_before {n : Fin 16} (hn : n.val < j.val) (c : Fin 512) (e : Fin 256) : cq A h j n c e = 0 :=
  Finset.sum_eq_zero fun r _ => by rw [A.ds_of_not h (not_ok_before hn r c), zero_mul]
theorem ck_before {n : Fin 16} (hn : n.val < j.val) (r : Fin 512) (e : Fin 256) : ck A h j n r e = 0 :=
  Finset.sum_eq_zero fun c _ => by rw [A.ds_of_not h (not_ok_before hn r c), zero_mul]
theorem cv_before {n : Fin 16} (hn : n.val < j.val) (r : Fin 512) (d : Fin 128) : cv A h j n r d = 0 :=
  Finset.sum_eq_zero fun c _ => by rw [A.p_of_not h (not_ok_before hn r c), mul_zero]

/-- The sum over the blocks up to `m`. -/
def upto (f : Fin 16 → ℝ) (m : ℕ) : ℝ := ∑ n, if n.val ≤ m then f n else 0

theorem upto_first (f : Fin 16 → ℝ) (hf : ∀ n : Fin 16, n.val < j.val → f n = 0) : upto f j.val = f j := by
  unfold upto
  rw [Finset.sum_eq_single j]
  · exact if_pos le_rfl
  · intro n _ hn
    have : n.val ≠ j.val := fun e => hn (Fin.ext e)
    split
    · exact hf n (by omega)
    · rfl
  · intro hj; exact absurd (Finset.mem_univ j) hj

theorem upto_succ (f : Fin 16 → ℝ) {m : ℕ} (hm : m + 1 < 16) : upto f (m + 1) = upto f m + f ⟨m + 1, hm⟩ := by
  unfold upto
  have e : ∀ n : Fin 16, (if n.val ≤ m + 1 then f n else 0) = (if n.val ≤ m then f n else 0) + if n = ⟨m + 1, hm⟩ then f n else 0 := by
    intro n
    by_cases h1 : n.val ≤ m
    · have h2 : n ≠ ⟨m + 1, hm⟩ := fun e => by rw [e] at h1; exact absurd h1 (by simp)
      rw [if_pos h1, if_pos (by omega), if_neg h2, add_zero]
    · by_cases h2 : n = ⟨m + 1, hm⟩
      · rw [if_neg h1, if_pos h2, if_pos (by rw [h2]), zero_add]
      · have h3 : n.val ≠ m + 1 := fun e => h2 (Fin.ext e)
        rw [if_neg h1, if_neg h2, if_neg (by omega), add_zero]
  rw [Finset.sum_congr rfl fun n _ => e n, Finset.sum_add_distrib, Finset.sum_ite_eq', if_pos (Finset.mem_univ _)]

theorem upto_last (f : Fin 16 → ℝ) : upto f 15 = ∑ n, f n :=
  Finset.sum_congr rfl fun n _ => if_pos (by omega)

variable {q : Fin 16 → Fin 512 → Fin 256 → ℝ}

/-- After the diagonal step and `m` more. -/
theorem blocks_is (X : Pt A h j x) {dq : Vec Ideal S8192x256 .f32}
    (hq : ∀ n c e, dq (ix2 (row n c) e) = ((q n c e : ℝ) : EReal)) : ∀ m : ℕ, j.val + m < 16 →
    IsSt (blocks x j.val m (stepD x j ⟨dq, k0_pay33 (F := Ideal), k0_pay34 (F := Ideal)⟩))
      (fun n c e => q n c e + if n.val ≤ j.val + m then cq A h j n c e else 0)
      (fun r e => upto (fun n => ck A h j n r e) (j.val + m)) (fun r d => upto (fun n => cv A h j n r d) (j.val + m)) := by
  intro m
  induction m with
  | zero =>
    intro _
    have S := stepP_is X j (pD x j) (pD_p X) (s := (⟨dq, k0_pay33 (F := Ideal), k0_pay34 (F := Ideal)⟩ : St Ideal)) (q := q) (k := fun _ _ => 0) (v := fun _ _ => 0)
      ⟨hq, fun r e => (Pay.zeroK (ix2 r e)).trans EReal.coe_zero.symm, fun r d => (Pay.zeroV (ix2 d r)).trans EReal.coe_zero.symm⟩
    refine ⟨fun n c e => (S.dq n c e).trans ?_, fun r e => (S.dk r e).trans ?_, fun r d => (S.dvt r d).trans ?_⟩
    · refine congrArg _ (congrArg _ ?_)
      by_cases h1 : n = j
      · rw [if_pos h1, if_pos (by rw [h1]; omega), h1]
      · have h2 : n.val ≠ j.val := fun e => h1 (Fin.ext e)
        rw [if_neg h1]
        split
        · exact (cq_before (by omega) c e).symm
        · rfl
    · exact congrArg _ ((zero_add _).trans (upto_first _ fun n hn => ck_before hn r e).symm)
    · exact congrArg _ ((zero_add _).trans (upto_first _ fun n hn => cv_before hn r d).symm)
  | succ m ih =>
    intro hm
    have hlt : j.val + 1 + m < 16 := by omega
    have S := stepP_is X ⟨j.val + 1 + m, hlt⟩ (pU x ⟨j.val + 1 + m, hlt⟩) (pU_p X (by show j.val < j.val + 1 + m; omega)) (ih (by omega))
    have E : blocks x j.val (m + 1) (stepD x j ⟨dq, k0_pay33 (F := Ideal), k0_pay34 (F := Ideal)⟩)
        = stepP x (pU x ⟨j.val + 1 + m, hlt⟩) ⟨j.val + 1 + m, hlt⟩ (blocks x j.val m (stepD x j ⟨dq, k0_pay33 (F := Ideal), k0_pay34 (F := Ideal)⟩)) :=
      stepN_of_lt x hlt _
    have e1 : (⟨j.val + m + 1, by omega⟩ : Fin 16) = ⟨j.val + 1 + m, hlt⟩ := Fin.ext (by show j.val + m + 1 = j.val + 1 + m; omega)
    rw [E]
    refine ⟨fun n c e => (S.dq n c e).trans ?_, fun r e => (S.dk r e).trans ?_, fun r d => (S.dvt r d).trans ?_⟩
    · refine congrArg _ ?_
      by_cases h1 : n = ⟨j.val + 1 + m, hlt⟩
      · have h2 : n.val = j.val + 1 + m := by rw [h1]
        rw [if_pos h1, if_neg (by omega), if_pos (by omega), add_zero, ← h1]
      · have h2 : n.val ≠ j.val + 1 + m := fun e => h1 (Fin.ext e)
        rw [if_neg h1, add_zero]
        by_cases h3 : n.val ≤ j.val + m
        · rw [if_pos h3, if_pos (by omega)]
        · rw [if_neg h3, if_neg (by omega)]
    · refine congrArg _ ?_
      show _ = upto _ (j.val + m + 1)
      rw [upto_succ _ (by omega), e1]
    · refine congrArg _ ?_
      show _ = upto _ (j.val + m + 1)
      rw [upto_succ _ (by omega), e1]

/-- What a grid point leaves: the query rows gain the key block's share, and the key block's own sums run over all the
    query blocks. -/
theorem bodySt_is (X : Pt A h j x) {dq : Vec Ideal S8192x256 .f32}
    (hq : ∀ n c e, dq (ix2 (row n c) e) = ((q n c e : ℝ) : EReal)) :
    IsSt (bodySt x j dq) (fun n c e => q n c e + cq A h j n c e)
      (fun r e => ∑ n, ck A h j n r e) (fun r d => ∑ n, cv A h j n r d) := by
  have S := blocks_is X hq (15 - j.val) (by omega)
  have e : j.val + (15 - j.val) = 15 := by omega
  refine ⟨fun n c y => (S.dq n c y).trans ?_, fun r y => (S.dk r y).trans ?_, fun r d => (S.dvt r d).trans ?_⟩
  · refine congrArg _ ?_
    rw [if_pos (by omega)]
  · refine congrArg _ ?_
    rw [e, upto_last]
  · refine congrArg _ ?_
    rw [e, upto_last]

/-- A sum over the rows, block by block. -/
theorem sum_rows (f : Fin 8192 → ℝ) : ∑ q, f q = ∑ n : Fin 16, ∑ c : Fin 512, f (row n c) := by
  rw [← Fintype.sum_prod_type' (f := fun n c => f (row n c))]
  refine (Equiv.sum_comp (finProdFinEquiv (m := 16) (n := 512)) f).symm.trans (Finset.sum_congr rfl fun y _ => congrArg f (Fin.ext ?_))
  show y.2.val + 512 * y.1.val = 512 * y.1.val + y.2.val
  omega

theorem ck_total (r : Fin 512) (e : Fin 256) : ∑ n, ck A h j n r e = ∑ q, A.ds h q (row j r) * A.qp h q e :=
  (sum_rows fun q => A.ds h q (row j r) * A.qp h q e).symm
theorem cv_total (r : Fin 512) (d : Fin 128) : ∑ n, cv A h j n r d = A.dv (row j r) h d :=
  (sum_rows fun q => A.g q h d * A.p h q (row j r)).symm
theorem cq_total (n : Fin 16) (c : Fin 512) (e : Fin 256) : ∑ j, cq A h j n c e = ∑ k, A.ds h (row n c) k * A.kp h k e :=
  (sum_rows fun k => A.ds h (row n c) k * A.kp h k e).symm

end Cert.Flash
end
-- ==== Proof.Flash.Grid.lean ====
/-
  The grid over the reals: what each point reads, the queries' gradient accumulated over a head's key blocks, and what the three
  written arrays hold at the end.
-/
module

public import Idealize.ShloMosaic.Lib.Pipeline.ValueKit
public import proofs.«01_k».proof.Proof.Flash.Run
public import proofs.«01_k».proof.Proof.Flash.Host
public import proofs.«01_k».proof.Proof.Flash.StepValue

@[expose] public section

set_option maxRecDepth 16384

noncomputable section

namespace Cert.Flash

open Cert.KernelIdeal Cert.KernelIdeal.Gen
open Idealize.ShloMosaic Idealize.ShloMosaic.TcCoe
open Cert.Flash.PrepV (row)
open scoped BigOperators

theorem coord0 : ∀ t : Fin cfg0.N, (grid0.coords t 0).val = t.val / 16 := by decide +kernel

/-- The point of head `h` and key block `j`. -/
def pt (h : Fin 8) (j : Fin 16) : Fin cfg0.N := ⟨16 * h.val + j.val, by show 16 * h.val + j.val < 128; omega⟩

theorem pt_0 (h : Fin 8) (j : Fin 16) : (grid0.coords (pt h j) 0).val = h.val := by
  rw [coord0]; show (16 * h.val + j.val) / 16 = h.val; omega
theorem pt_1 (h : Fin 8) (j : Fin 16) : (grid0.coords (pt h j) 1).val = j.val := by
  rw [coord1]; show (16 * h.val + j.val) % 16 = j.val; omega

theorem toNat_small (n : ℕ) (h : n < 16) : (BitVec.ofNat 32 n).toNat = n := by
  rw [BitVec.toNat_ofNat]; exact Nat.mod_eq_of_lt (by omega)

theorem pt_0n (h : Fin 8) (j : Fin 16) : (BitVec.ofNat 32 (grid0.coords (pt h j) 0).val).toNat = h.val := by
  rw [pt_0]; exact toNat_small _ (by omega)
theorem pt_1n (h : Fin 8) (j : Fin 16) : (BitVec.ofNat 32 (grid0.coords (pt h j) 1).val).toNat = j.val := by
  rw [pt_1]; exact toNat_small _ j.isLt

variable (m : (ℓ : Loc nD τ sig) → Buf (Elt Ideal) ℓ) (c : Dev nD)

/-! ## The blocks read -/

theorem blk_q (X : Vec Ideal S8x8192x256 .bf16) (h : Fin 8) (j : Fin 16) (r : Fin 8192) (e : Fin 256) :
    ((cfg0.win 0).blk (pt h j)).view.read (Elt Ideal) X (ix3 0 r e) = X (ix3 h r e) := by
  refine congrArg X (funext fun a => Fin.ext ?_)
  match a with
  | ⟨0, _⟩ => show (BitVec.ofNat 32 (grid0.coords (pt h j) 0).val).toNat * 1 + 1 * 0 = h.val; rw [pt_0n]; omega
  | ⟨1, _⟩ => show 0 * 8192 + 1 * r.val = r.val; omega
  | ⟨2, _⟩ => show 0 * 256 + 1 * e.val = e.val; omega
theorem read_q (h : Fin 8) (j : Fin 16) (r : Fin 8192) (e : Fin 256) : (xAt m c (pt h j)).q (ix3 0 r e) = V m c main_v50 (ix3 h r e) :=
  blk_q (V m c main_v50) h j r e
theorem blk_k (X : Vec Ideal S8x8192x256 .bf16) (h : Fin 8) (j : Fin 16) (r : Fin 512) (e : Fin 256) :
    ((cfg0.win 1).blk (pt h j)).view.read (Elt Ideal) X (ix3 0 r e) = X (ix3 h (row j r) e) := by
  refine congrArg X (funext fun a => Fin.ext ?_)
  match a with
  | ⟨0, _⟩ => show (BitVec.ofNat 32 (grid0.coords (pt h j) 0).val).toNat * 1 + 1 * 0 = h.val; rw [pt_0n]; omega
  | ⟨1, _⟩ => show (BitVec.ofNat 32 (grid0.coords (pt h j) 1).val).toNat * 512 + 1 * r.val = 512 * j.val + r.val; rw [pt_1n]; omega
  | ⟨2, _⟩ => show 0 * 256 + 1 * e.val = e.val; omega
theorem read_k (h : Fin 8) (j : Fin 16) (r : Fin 512) (e : Fin 256) : (xAt m c (pt h j)).kb (ix3 0 r e) = V m c main_v52 (ix3 h (row j r) e) :=
  blk_k (V m c main_v52) h j r e
theorem blk_v (X : Vec Ideal S8x8192x128 .bf16) (h : Fin 8) (j : Fin 16) (r : Fin 512) (e : Fin 128) :
    ((cfg0.win 2).blk (pt h j)).view.read (Elt Ideal) X (ix3 0 r e) = X (ix3 h (row j r) e) := by
  refine congrArg X (funext fun a => Fin.ext ?_)
  match a with
  | ⟨0, _⟩ => show (BitVec.ofNat 32 (grid0.coords (pt h j) 0).val).toNat * 1 + 1 * 0 = h.val; rw [pt_0n]; omega
  | ⟨1, _⟩ => show (BitVec.ofNat 32 (grid0.coords (pt h j) 1).val).toNat * 512 + 1 * r.val = 512 * j.val + r.val; rw [pt_1n]; omega
  | ⟨2, _⟩ => show 0 * 128 + 1 * e.val = e.val; omega
theorem read_v (h : Fin 8) (j : Fin 16) (r : Fin 512) (e : Fin 128) : (xAt m c (pt h j)).vb (ix3 0 r e) = V m c main_v53 (ix3 h (row j r) e) :=
  blk_v (V m c main_v53) h j r e
theorem blk_d (X : Vec Ideal S8192x1024 .bf16) (h : Fin 8) (j : Fin 16) (r : Fin 8192) (e : Fin 128) :
    ((cfg0.win 3).blk (pt h j)).view.read (Elt Ideal) X (ix2 r e) = X (ix2 r (⟨128 * h.val + e.val, by omega⟩ : Fin 1024)) := by
  refine congrArg X (funext fun a => Fin.ext ?_)
  match a with
  | ⟨0, _⟩ => show 0 * 8192 + 1 * r.val = r.val; omega
  | ⟨1, _⟩ => show (BitVec.ofNat 32 (grid0.coords (pt h j) 0).val).toNat * 128 + 1 * e.val = 128 * h.val + e.val; rw [pt_0n]; omega
theorem read_d (h : Fin 8) (j : Fin 16) (r : Fin 8192) (e : Fin 128) : (xAt m c (pt h j)).d (ix2 r e) = V m c main_v54 (ix2 r (⟨128 * h.val + e.val, by omega⟩ : Fin 1024)) :=
  blk_d (V m c main_v54) h j r e
theorem blk_lse (X : Vec Ideal S8x16x8x512 .f32) (h : Fin 8) (j : Fin 16) (n : Fin 16) (s : Fin 512) :
    ((cfg0.win 4).blk (pt h j)).view.read (Elt Ideal) X (ix4 0 n 0 s) = X (ix4 h n 0 s) := by
  refine congrArg X (funext fun a => Fin.ext ?_)
  match a with
  | ⟨0, _⟩ => show (BitVec.ofNat 32 (grid0.coords (pt h j) 0).val).toNat * 1 + 1 * 0 = h.val; rw [pt_0n]; omega
  | ⟨1, _⟩ => show 0 * 16 + 1 * n.val = n.val; omega
  | ⟨2, _⟩ => show 0 * 8 + 1 * 0 = 0; omega
  | ⟨3, _⟩ => show 0 * 512 + 1 * s.val = s.val; omega
theorem read_lse (h : Fin 8) (j : Fin 16) (n : Fin 16) (s : Fin 512) : (xAt m c (pt h j)).lse (ix4 0 n 0 s) = V m c main_v56 (ix4 h n 0 s) :=
  blk_lse (V m c main_v56) h j n s
theorem blk_del (X : Vec Ideal S8x16x8x512 .f32) (h : Fin 8) (j : Fin 16) (n : Fin 16) (s : Fin 512) :
    ((cfg0.win 5).blk (pt h j)).view.read (Elt Ideal) X (ix4 0 n 0 s) = X (ix4 h n 0 s) := by
  refine congrArg X (funext fun a => Fin.ext ?_)
  match a with
  | ⟨0, _⟩ => show (BitVec.ofNat 32 (grid0.coords (pt h j) 0).val).toNat * 1 + 1 * 0 = h.val; rw [pt_0n]; omega
  | ⟨1, _⟩ => show 0 * 16 + 1 * n.val = n.val; omega
  | ⟨2, _⟩ => show 0 * 8 + 1 * 0 = 0; omega
  | ⟨3, _⟩ => show 0 * 512 + 1 * s.val = s.val; omega
theorem read_del (h : Fin 8) (j : Fin 16) (n : Fin 16) (s : Fin 512) : (xAt m c (pt h j)).del (ix4 0 n 0 s) = V m c main_v58 (ix4 h n 0 s) :=
  blk_del (V m c main_v58) h j n s

/-- What the call's arguments hold, as reals. -/
abbrev HoldsAt (A : Args) : Prop :=
  Ref.Holds A (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

variable {m c} {A : Args}

theorem pt_is (H : HoldsAt m c A) (h : Fin 8) (j : Fin 16) : Pt A h j (xAt m c (pt h j)) where
  q r e := by rw [read_q, V_q]; exact PrepV.q H _
  k r e := by rw [read_k, V_k]; exact PrepV.k H _
  v r d := by rw [read_v, V_v]; exact PrepV.v H _
  d r d := by rw [read_d, V_do]; exact PrepV.g H _ h d rfl
  lse n s := by rw [read_lse, V_lse]; exact PrepV.lse H _
  del n s := by rw [read_del, V_del]; exact PrepV.del H _

/-! ## The queries' accumulator over a head's key blocks -/

theorem coords1_eq (h : Fin 8) (j : Fin 16) : (grid0.coords (pt h j) 1 : Fin 16) = j := Fin.ext (pt_1 h j)

theorem stAt_eq (h : Fin 8) (j : Fin 16) :
    stAt m c (pt h j) = bodySt (xAt m c (pt h j)) j (if j.val = 0 then k0_pay32 (F := Ideal) else dqAt m c (16 * h.val + j.val)) := by
  have E : ∀ k : Fin 16, k = j → bodySt (xAt m c (pt h j)) k (if k.val = 0 then k0_pay32 (F := Ideal) else dqAt m c (16 * h.val + j.val))
      = bodySt (xAt m c (pt h j)) j (if j.val = 0 then k0_pay32 (F := Ideal) else dqAt m c (16 * h.val + j.val)) := by
    rintro _ rfl; rfl
  exact E _ (coords1_eq h j)

/-- The share of the key blocks before `n`. -/
def before (A : Args) (h : Fin 8) (n : ℕ) (b : Fin 16) (s : Fin 512) (e : Fin 256) : ℝ := ∑ j : Fin 16, if j.val < n then cq A h j b s e else 0

theorem before_succ (h : Fin 8) (j : Fin 16) (b : Fin 16) (s : Fin 512) (e : Fin 256) :
    before A h j.val b s e + cq A h j b s e = before A h (j.val + 1) b s e := by
  unfold before
  have E : ∀ k : Fin 16, (if k.val < j.val + 1 then cq A h k b s e else 0) = (if k.val < j.val then cq A h k b s e else 0) + if k = j then cq A h k b s e else 0 := by
    intro k
    by_cases h1 : k.val < j.val
    · have h2 : k ≠ j := fun e => by rw [e] at h1; exact absurd h1 (lt_irrefl _)
      rw [if_pos h1, if_pos (by omega), if_neg h2, add_zero]
    · by_cases h2 : k = j
      · rw [if_neg h1, if_pos h2, if_pos (by rw [h2]; omega), zero_add]
      · have h3 : k.val ≠ j.val := fun e => h2 (Fin.ext e)
        rw [if_neg h1, if_neg h2, if_neg (by omega), add_zero]
  rw [Finset.sum_congr rfl fun k _ => E k, Finset.sum_add_distrib, Finset.sum_ite_eq', if_pos (Finset.mem_univ _)]

theorem before_zero (h : Fin 8) (b : Fin 16) (s : Fin 512) (e : Fin 256) : before A h 0 b s e = 0 :=
  Finset.sum_eq_zero fun j _ => if_neg (Nat.not_lt_zero _)

theorem before_all (h : Fin 8) (b : Fin 16) (s : Fin 512) (e : Fin 256) :
    before A h 16 b s e = ∑ k, A.ds h (row b s) k * A.kp h k e :=
  (Finset.sum_congr rfl fun j _ => if_pos j.isLt).trans (cq_total b s e)

theorem stAt_is (H : HoldsAt m c A) (h : Fin 8) : ∀ (n : ℕ) (hn : n < 16),
    IsSt (stAt m c (pt h ⟨n, hn⟩)) (fun b s e => before A h (n + 1) b s e)
      (fun r e => ∑ q, A.ds h q (row ⟨n, hn⟩ r) * A.qp h q e) (fun r d => A.dv (row ⟨n, hn⟩ r) h d) := by
  intro n
  induction n with
  | zero =>
    intro hn
    have S := bodySt_is (pt_is H h ⟨0, hn⟩) (dq := k0_pay32 (F := Ideal)) (q := fun _ _ _ => 0)
      (fun b s e => (Pay.zeroQ (ix2 (row b s) e)).trans EReal.coe_zero.symm)
    rw [stAt_eq, if_pos rfl]
    refine ⟨fun b s e => (S.dq b s e).trans ?_, fun r e => (S.dk r e).trans ?_, fun r d => (S.dvt r d).trans ?_⟩
    · refine congrArg _ ?_
      rw [← before_succ h ⟨0, hn⟩]
      exact congrArg (· + _) (before_zero h b s e).symm
    · rw [ck_total]
    · rw [cv_total]
  | succ n ih =>
    intro hn
    have P := ih (by omega)
    have E : dqAt m c (16 * h.val + (n + 1)) = (stAt m c (pt h ⟨n, by omega⟩)).dq := dqAt_succ m c (pt h ⟨n, by omega⟩)
    have S := bodySt_is (pt_is H h ⟨n + 1, hn⟩) P.dq
    rw [stAt_eq, if_neg (Nat.succ_ne_zero n), E]
    refine ⟨fun b s e => (S.dq b s e).trans ?_, fun r e => (S.dk r e).trans ?_, fun r d => (S.dvt r d).trans ?_⟩
    · exact congrArg _ (before_succ h ⟨n + 1, hn⟩ b s e)
    · rw [ck_total]
    · rw [cv_total]

/-! ## The arrays written -/

/-- The queries' packed gradient. -/
def Gq (A : Args) : S8x8192x256.Idx → EReal := fun i => ((∑ k, A.ds (i 0) (i 1) k * A.kp (i 0) k (i 2) : ℝ) : EReal)
/-- The keys' packed gradient. -/
def Gk (A : Args) : S8x8192x256.Idx → EReal := fun i => ((∑ q, A.ds (i 0) q (i 1) * A.qp (i 0) q (i 2) : ℝ) : EReal)
/-- The values' gradient. -/
def Gv (A : Args) : S8x8192x128.Idx → EReal := fun i => ((A.dv (i 1) (i 0) (i 2) : ℝ) : EReal)

theorem t_pt (t : Fin cfg0.N) : ∃ (h : Fin 8) (j : Fin 16), t = pt h j :=
  have ht : t.val < 128 := t.isLt
  ⟨⟨t.val / 16, by omega⟩, ⟨t.val % 16, by omega⟩, Fin.ext (by show t.val = 16 * (t.val / 16) + t.val % 16; omega)⟩

theorem emb_q (h : Fin 8) (j : Fin 16) (y : S1x8192x256.Idx) :
    ((cfg0.win 6).blk (pt h j)).view.emb y = (ix3 h (y 1) (y 2) : S8x8192x256.Idx) := by
  have hy : (y 0).val < 1 := (y 0).isLt
  refine funext fun a => Fin.ext ?_
  match a with
  | ⟨0, _⟩ => show (BitVec.ofNat 32 (grid0.coords (pt h j) 0).val).toNat * 1 + 1 * (y 0).val = h.val; rw [pt_0n]; omega
  | ⟨1, _⟩ => show 0 * 8192 + 1 * (y 1).val = (y 1).val; omega
  | ⟨2, _⟩ => show 0 * 256 + 1 * (y 2).val = (y 2).val; omega
theorem emb_k (h : Fin 8) (j : Fin 16) (y : S1x512x256.Idx) :
    ((cfg0.win 7).blk (pt h j)).view.emb y = (ix3 h (row j (y 1)) (y 2) : S8x8192x256.Idx) := by
  have hy : (y 0).val < 1 := (y 0).isLt
  refine funext fun a => Fin.ext ?_
  match a with
  | ⟨0, _⟩ => show (BitVec.ofNat 32 (grid0.coords (pt h j) 0).val).toNat * 1 + 1 * (y 0).val = h.val; rw [pt_0n]; omega
  | ⟨1, _⟩ => show (BitVec.ofNat 32 (grid0.coords (pt h j) 1).val).toNat * 512 + 1 * (y 1).val = 512 * j.val + (y 1).val; rw [pt_1n]; omega
  | ⟨2, _⟩ => show 0 * 256 + 1 * (y 2).val = (y 2).val; omega
theorem emb_v (h : Fin 8) (j : Fin 16) (y : S1x512x128.Idx) :
    ((cfg0.win 8).blk (pt h j)).view.emb y = (ix3 h (row j (y 1)) (y 2) : S8x8192x128.Idx) := by
  have hy : (y 0).val < 1 := (y 0).isLt
  refine funext fun a => Fin.ext ?_
  match a with
  | ⟨0, _⟩ => show (BitVec.ofNat 32 (grid0.coords (pt h j) 0).val).toNat * 1 + 1 * (y 0).val = h.val; rw [pt_0n]; omega
  | ⟨1, _⟩ => show (BitVec.ofNat 32 (grid0.coords (pt h j) 1).val).toNat * 512 + 1 * (y 1).val = 512 * j.val + (y 1).val; rw [pt_1n]; omega
  | ⟨2, _⟩ => show 0 * 128 + 1 * (y 2).val = (y 2).val; omega

/-- An index of a block of one leading row. -/
theorem ix3_lead {a b : ℕ} (y : (⟨3, ![1, a, b]⟩ : Shape).Idx) : y = ix3 0 (y 1) (y 2) := by
  have hy : (y 0).val < 1 := (y 0).isLt
  refine funext fun k => Fin.ext ?_
  match k with
  | ⟨0, _⟩ => show (y 0).val = 0; omega
  | ⟨1, _⟩ => rfl
  | ⟨2, _⟩ => rfl

/-- A row is a row of its block. -/
theorem row_div (r : Fin 8192) : r = row ⟨r.val / 512, by omega⟩ ⟨r.val % 512, by omega⟩ :=
  Fin.ext (by show r.val = 512 * (r.val / 512) + r.val % 512; omega)

theorem left_q (H : HoldsAt m c A) (h : Fin 8) (r : Fin 8192) (e : Fin 256) :
    k0_pay3 (stAt m c (pt h 15)).dq (ix3 0 r e) = Gq A (ix3 h r e) := by
  rw [Pay.outQ, row_div r]
  exact ((stAt_is H h 15 (by decide)).dq _ _ _).trans (congrArg _ (before_all _ _ _ _))
theorem left_k (H : HoldsAt m c A) (h : Fin 8) (j : Fin 16) (r : Fin 512) (e : Fin 256) :
    k0_pay1 (k0_pay58 (stAt m c (pt h j)).dk) (ix3 0 r e) = Gk A (ix3 h (row j r) e) := by
  rw [Pay.outK]; exact (stAt_is H h j.val j.isLt).dk r e
theorem left_v (H : HoldsAt m c A) (h : Fin 8) (j : Fin 16) (r : Fin 512) (e : Fin 128) :
    k0_pay2 (stAt m c (pt h j)).dvt (ix3 0 r e) = Gv A (ix3 h (row j r) e) := by
  rw [Pay.outV]; exact (stAt_is H h j.val j.isLt).dvt r e

theorem arr_q (H : HoldsAt m c A) : (dats m 0 c).arrAt 6 cfg0.N = Gq A := by
  refine (dats m 0 c).arrAt_eq_of_covers 6 _ (by decide +kernel) fun t hf y => ?_
  obtain ⟨h, j, rfl⟩ := t_pt t
  have hj : j = 15 := Fin.ext (by
    have := (flush0_6 _).mp hf
    have e : (16 * h.val + j.val) % 16 = 15 := this
    show j.val = 15; omega)
  subst hj
  refine (?_ : _ = _).trans (congrArg (Gq A) (emb_q h 15 y)).symm
  refine (congrArg (k0_pay3 (stAt m c (pt h 15)).dq) (ix3_lead y)).trans (left_q H h (y 1) (y 2))
theorem arr_k (H : HoldsAt m c A) : (dats m 0 c).arrAt 7 cfg0.N = Gk A := by
  refine (dats m 0 c).arrAt_eq_of_covers 7 _ (by decide +kernel) fun t hf y => ?_
  obtain ⟨h, j, rfl⟩ := t_pt t
  refine (?_ : _ = _).trans (congrArg (Gk A) (emb_k h j y)).symm
  refine (congrArg (k0_pay1 (k0_pay58 (stAt m c (pt h j)).dk)) (ix3_lead y)).trans (left_k H h j (y 1) (y 2))
theorem arr_v (H : HoldsAt m c A) : (dats m 0 c).arrAt 8 cfg0.N = Gv A := by
  refine (dats m 0 c).arrAt_eq_of_covers 8 _ (by decide +kernel) fun t hf y => ?_
  obtain ⟨h, j, rfl⟩ := t_pt t
  refine (?_ : _ = _).trans (congrArg (Gv A) (emb_v h j y)).symm
  refine (congrArg (k0_pay2 (stAt m c (pt h j)).dvt) (ix3_lead y)).trans (left_v H h j (y 1) (y 2))

end Cert.Flash
end
-- ==== Proof.Flash.Value.lean ====
/-
  What the call's results hold: the host's last lines read the three arrays into the five gradients.
-/
module

public import proofs.«01_k».proof.Proof.Flash.Grid
public import proofs.«01_k».proof.Proof.Flash.PostRead
public import proofs.«01_k».proof.Proof.Flash.RefValue

@[expose] public section

set_option maxRecDepth 16384

noncomputable section

namespace Cert.Flash

open Cert.KernelIdeal Cert.KernelIdeal.Gen
open Idealize.ShloMosaic Idealize.ShloMosaic.TcCoe Idealize.SL.Sem
open scoped BigOperators

/-! ## The packed sums are the gradients -/

theorem pack_lo (a : Fin 128 → ℝ) (b : Fin 64 → ℝ) (d : Fin 128) (x : Fin 256) (hx : x.val = d.val) : pack a b x = a d :=
  (pack_a a b (by omega)).trans (congrArg a (Fin.ext hx))
theorem pack_hi (a : Fin 128 → ℝ) (b : Fin 64 → ℝ) (r : Fin 64) (x : Fin 256) (hx : x.val = 128 + r.val) : pack a b x = b r :=
  (pack_b a b (by omega) (by omega)).trans (congrArg b (Fin.ext (by show x.val - 128 = r.val; omega)))

variable {A : Args}

theorem dq_lo (h : Fin 8) (q : Fin 8192) (d : Fin 128) (x : Fin 256) (hx : x.val = d.val) :
    (∑ k, A.ds h q k * A.kp h k x) * A.c = A.dqn q h d := by
  rw [Args.dqn, Finset.sum_mul]
  exact Finset.sum_congr rfl fun k _ => by rw [Args.kp, pack_lo _ _ d x hx]; ring
theorem dq_hi (h : Fin 8) (q : Fin 8192) (r : Fin 64) (x : Fin 256) (hx : x.val = 128 + r.val) :
    (∑ k, A.ds h q k * A.kp h k x) * A.c = A.dqr q h r := by
  rw [Args.dqr, Finset.sum_mul]
  exact Finset.sum_congr rfl fun k _ => by rw [Args.kp, pack_hi _ _ r x hx]; ring
theorem dk_lo (h : Fin 8) (k : Fin 8192) (d : Fin 128) (x : Fin 256) (hx : x.val = d.val) :
    ∑ q, A.ds h q k * A.qp h q x = A.dkn k h d :=
  Finset.sum_congr rfl fun q _ => by rw [Args.qp, pack_lo _ _ d x hx]; ring
theorem dk_hi (k : Fin 8192) (r : Fin 64) (x : Fin 256) (hx : x.val = 128 + r.val) :
    ∑ h, ∑ q, A.ds h q k * A.qp h q x = A.dkr k r := by
  rw [Args.dkr, Finset.sum_comm]
  exact Finset.sum_congr rfl fun q _ => Finset.sum_congr rfl fun h _ => by rw [Args.qp, pack_hi _ _ r x hx]; ring

/-! ## The five results -/

/-- The gradients of the queries' two parts, of the keys' two parts, and of the values. -/
def Rqn (A : Args) : S8192x8x128.Idx → EReal := fun i => ((A.dqn (i 0) (i 1) (i 2) : ℝ) : EReal)
def Rqr (A : Args) : S8192x8x64.Idx → EReal := fun i => ((A.dqr (i 0) (i 1) (i 2) : ℝ) : EReal)
def Rkn (A : Args) : S8192x8x128.Idx → EReal := fun i => ((A.dkn (i 0) (i 1) (i 2) : ℝ) : EReal)
def Rkr (A : Args) : S8192x64.Idx → EReal := fun i => ((A.dkr (i 0) (i 1) : ℝ) : EReal)
def Rv (A : Args) : S8192x8x128.Idx → EReal := fun i => ((A.dv (i 0) (i 1) (i 2) : ℝ) : EReal)

/-- A real with a real scale. -/
theorem scaled {a c r : ℝ} {x y : EReal} (hx : x = ((a : ℝ) : EReal)) (hy : y = ((c : ℝ) : EReal)) (h : a * c = r) : x * y = ((r : ℝ) : EReal) := by
  rw [hx, hy, ← EReal.coe_mul, h]

variable {m : (ℓ : Loc nD τ sig) → Buf (Elt Ideal) ℓ} {c : Dev nD}

theorem post_qn (hc : Ideal.ofBits .f32 0x3D93CD3A#32 = ((A.c : ℝ) : EReal)) : Post.val_main_v9 (F := Ideal) (Gq A) = Rqn A := by
  funext i
  rw [Post.val_main_v9_apply, Ideal.truncf_def, Post.val_main_v8_apply, Post.val_main_v3_apply, Post.val_main_v1_apply, Post.val_main_v0_apply,
    Post.val_main_v2_apply, Post.val_main_cst_apply, Ideal.ofBits_def, Ideal.mulf_def, Ideal.extf_def]
  exact scaled rfl hc (dq_lo _ _ (i 2) _ (by show _ = (i 2).val; rfl))
theorem post_qr (hc : Ideal.ofBits .f32 0x3D93CD3A#32 = ((A.c : ℝ) : EReal)) : Post.val_main_v11 (F := Ideal) (Gq A) = Rqr A := by
  funext i
  rw [Post.val_main_v11_apply, Ideal.truncf_def, Post.val_main_v10_apply, Post.val_main_v3_apply, Post.val_main_v1_apply, Post.val_main_v0_apply,
    Post.val_main_v2_apply, Post.val_main_cst_apply, Ideal.ofBits_def, Ideal.mulf_def, Ideal.extf_def]
  exact scaled rfl hc (dq_hi _ _ (i 2) _ (by show _ = 128 + (i 2).val; rfl))
theorem post_kn : Post.val_main_v13 (F := Ideal) (Gk A) = Rkn A := by
  funext i
  rw [Post.val_main_v13_apply, Ideal.truncf_def, Post.val_main_v12_apply, Post.val_main_v5_apply, Post.val_main_v4_apply, Ideal.extf_def]
  exact congrArg (fun z : ℝ => (z : EReal)) (dk_lo _ _ (i 2) _ (by show _ = (i 2).val; rfl))
theorem post_kr : Post.val_main_v14 (F := Ideal) (Gk A) = Rkr A := by
  funext i
  rw [Post.val_main_v14_apply, Ideal.truncf_def, Post.val_main_v7_apply, Post.val_main_cst_0_apply, Ideal.ofBits_def, Ideal.ofBits_zero_f32, zero_add]
  refine Eq.trans ?_ (congrArg (fun z : ℝ => (z : EReal)) (dk_hi (i 0) (i 1) ⟨128 + (i 1).val, by have : (i 1).val < 64 := (i 1).isLt; omega⟩ rfl))
  refine Eq.trans ?_ (coe_sum Finset.univ _).symm
  refine Finset.sum_congr rfl fun h _ => ?_
  rw [Post.val_main_v6_apply, Post.val_main_v5_apply, Post.val_main_v4_apply, Ideal.extf_def]
  rfl
theorem post_v : Post.val_main_v15 (F := Ideal) (Gv A) = Rv A := by
  funext i
  rw [Post.val_main_v15_apply]
  rfl

/-! ## The run -/

/-- The buffers after the region and before the host's last lines. -/
abbrev W1 (m : (ℓ : Loc nD τ sig) → Buf (Elt Ideal) ℓ) (c : Dev nD) : Valuation τ sig (Elt Ideal) :=
  Pipeline.withArrays (cfgs 0).spec c (V0 m c) fun w => (dats m 0 c).arrAt w (cfgs 0).N

theorem W1_q (H : HoldsAt m c A) : W1 m c (Proc.devRef .tc main_v59_0) = Gq A :=
  (Pipeline.withArrays_arr spec0 winFacts0.arr_inj c (V0 m c) _ 6).trans (arr_q H)
theorem W1_k (H : HoldsAt m c A) : W1 m c (Proc.devRef .tc main_v59_1) = Gk A :=
  (Pipeline.withArrays_arr spec0 winFacts0.arr_inj c (V0 m c) _ 7).trans (arr_k H)
theorem W1_v (H : HoldsAt m c A) : W1 m c (Proc.devRef .tc main_v59_2) = Gv A :=
  (Pipeline.withArrays_arr spec0 winFacts0.arr_inj c (V0 m c) _ 8).trans (arr_v H)

theorem tail_eq (b : Ref sig .tc) :
    Pipeline.afterTail₀ cfgs (dats m) 0 (V0 m) [hostOps1] c b = StableHlo.after hostOps1 (W1 m c) (Proc.devRef .tc b) := by
  unfold Pipeline.afterTail₀
  rw [List.flatten_cons, List.flatten_nil, List.append_nil]

theorem end_qn (H : HoldsAt m c A) : Pipeline.afterTail₀ cfgs (dats m) 0 (V0 m) [hostOps1] c main_v69 = Rqn A := by
  rw [tail_eq, tail_v69, W1_q H]; exact post_qn H.c
theorem end_qr (H : HoldsAt m c A) : Pipeline.afterTail₀ cfgs (dats m) 0 (V0 m) [hostOps1] c main_v71 = Rqr A := by
  rw [tail_eq, tail_v71, W1_q H]; exact post_qr H.c
theorem end_kn (H : HoldsAt m c A) : Pipeline.afterTail₀ cfgs (dats m) 0 (V0 m) [hostOps1] c main_v73 = Rkn A := by
  rw [tail_eq, tail_v73, W1_k H]; exact post_kn
theorem end_kr (H : HoldsAt m c A) : Pipeline.afterTail₀ cfgs (dats m) 0 (V0 m) [hostOps1] c main_v74 = Rkr A := by
  rw [tail_eq, tail_v74, W1_k H]; exact post_kr
theorem end_v (H : HoldsAt m c A) : Pipeline.afterTail₀ cfgs (dats m) 0 (V0 m) [hostOps1] c main_v75 = Rv A := by
  rw [tail_eq, tail_v75, W1_v H]; exact post_v

/-- The kernel's results over the reals. -/
theorem run_value (m : (ℓ : Loc nD τ sig) → Buf (Elt Ideal) ℓ) (ρ : Dev nD → PrngReg) (A : Dev nD → Args) (H : ∀ c, HoldsAt m c (A c)) :
    θ_run defs (onTc (τ := τ) (main (F := Ideal))) ⟨m, fun _ => 0, ρ⟩ (fun r => ∀ c : Dev nD,
      r.2.mem ((c.tc : Thread nD τ).loc main_v69) = Rqn (A c)
      ∧ r.2.mem ((c.tc : Thread nD τ).loc main_v71) = Rqr (A c)
      ∧ r.2.mem ((c.tc : Thread nD τ).loc main_v73) = Rkn (A c)
      ∧ r.2.mem ((c.tc : Thread nD τ).loc main_v74) = Rkr (A c)
      ∧ r.2.mem ((c.tc : Thread nD τ).loc main_v75) = Rv (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
    ((h.1 c).2 main_v69 (Pipeline.mem_restRefs_of main_v69 (by decide) (by decide))).trans (end_qn (H c)),
    ((h.1 c).2 main_v71 (Pipeline.mem_restRefs_of main_v71 (by decide) (by decide))).trans (end_qr (H c)),
    ((h.1 c).2 main_v73 (Pipeline.mem_restRefs_of main_v73 (by decide) (by decide))).trans (end_kn (H c)),
    ((h.1 c).2 main_v74 (Pipeline.mem_restRefs_of main_v74 (by decide) (by decide))).trans (end_kr (H c)),
    ((h.1 c).2 main_v75 (Pipeline.mem_restRefs_of main_v75 (by decide) (by decide))).trans (end_v (H c)),
    ((h.1 c).2 main_arg0 (Pipeline.mem_restRefs_of main_arg0 (by decide) (by decide))).trans (W_main_arg0 m (dats m) c),
    ((h.1 c).2 main_arg1 (Pipeline.mem_restRefs_of main_arg1 (by decide) (by decide))).trans (W_main_arg1 m (dats m) c),
    ((h.1 c).2 main_arg2 (Pipeline.mem_restRefs_of main_arg2 (by decide) (by decide))).trans (W_main_arg2 m (dats m) c),
    ((h.1 c).2 main_arg3 (Pipeline.mem_restRefs_of main_arg3 (by decide) (by decide))).trans (W_main_arg3 m (dats m) c),
    ((h.1 c).2 main_arg4 (Pipeline.mem_restRefs_of main_arg4 (by decide) (by decide))).trans (W_main_arg4 m (dats m) c),
    ((h.1 c).2 main_arg5 (Pipeline.mem_restRefs_of main_arg5 (by decide) (by decide))).trans (W_main_arg5 m (dats m) c)⟩) (run_main m ρ)

end Cert.Flash
end
-- ==== Proof.Flash.Finite.lean ====
/-
  Finite arguments are reals, and so are the reference's row maxima: every row has an allowed key.
-/
module

public import Idealize.ShloMosaic.Lib.Pointwise
public import proofs.«01_k».proof.Proof.Flash.PrepValue
public import proofs.«01_k».proof.Proof.Gen.Pre_finite
public import proofs.«01_k».proof.Defs

@[expose] public section

set_option maxRecDepth 16384

noncomputable section

namespace Cert.Flash.Ref

open Cert.ReferenceIdeal Cert.ReferenceIdeal.Gen Cert.ReferenceIdeal.Value Cert.ReferenceIdeal.Read
open Idealize.ShloMosaic Idealize.ShloMosaic.TcCoe
open scoped BigOperators

/-- A number whose absolute value is below the format's infinity is a real. -/
theorem real_of (x : EReal) (h : Ideal.cmp .olt (max x (-x)) (Ideal.ofBits .f32 0x7F800000#32) = 1#1) : ((x.toReal : ℝ) : EReal) = x := by
  have htop : Ideal.ofBits .f32 0x7F800000#32 = ⊤ := by simp [Ideal.ofBits, Ideal.ieee]
  rw [htop] at h
  refine EReal.coe_toReal ?_ ?_ <;> (rintro rfl; exact absurd h (by simp [Ideal.cmp]))

theorem scale_real : (((Ideal.ofBits .f32 0x3D93CD3A#32).toReal : ℝ) : EReal) = Ideal.ofBits .f32 0x3D93CD3A#32 := by
  have e : Ideal.ofBits .f32 0x3D93CD3A#32 = Ideal.ieee 8 23 0x3D93CD3A#32 := rfl
  rw [e]
  unfold Ideal.ieee
  dsimp only
  rw [if_neg (by decide), if_neg (by decide)]
  exact EReal.coe_toReal (EReal.coe_ne_top _) (EReal.coe_ne_bot _)

/-- A maximum over a list is not above what all its terms are below, and not below any term. -/
theorem foldl_max_lt_top {ι : Type} (f : ι → EReal) : ∀ (l : List ι) (b : EReal), b < ⊤ → (∀ i ∈ l, f i < ⊤) → l.foldl (fun r i => max r (f i)) b < ⊤
  | [], _, hb, _ => hb
  | a :: l, b, hb, h => foldl_max_lt_top f l _ (max_lt hb (h a (List.mem_cons_self ..))) fun i hi => h i (List.mem_cons_of_mem _ hi)
theorem le_foldl_max {ι : Type} (f : ι → EReal) : ∀ (l : List ι) (b : EReal), b ≤ l.foldl (fun r i => max r (f i)) b
  | [], _ => le_rfl
  | _ :: l, _ => (le_max_left _ _).trans (le_foldl_max f l _)
theorem mem_le_foldl_max {ι : Type} (f : ι → EReal) : ∀ (l : List ι) (b : EReal) (i : ι), i ∈ l → f i ≤ l.foldl (fun r i => max r (f i)) b
  | a :: l, b, i, hi => by
    rcases List.mem_cons.1 hi with rfl | hi
    · exact (le_max_right _ _).trans (le_foldl_max f l _)
    · exact mem_le_foldl_max f l _ i hi

theorem msc_lt_top (A : Args) (h : Fin 8) (q k : Fin 8192) : msc A h q k < ⊤ := by
  unfold msc; split
  · exact EReal.coe_lt_top _
  · exact bot_lt_top

variable {A : Args} {x0 : T128} {x1 : T64} {x2 : T128} {x3 : R64} {x4 x5 : T128}

/-- A row's maximum is a real: no masked score is `⊤`, and the diagonal's is not `⊥`. -/
theorem max_real (H : Held A x0 x1 x2 x3 x4 x5) (j : S8x8192.Idx) :
    (((val_main_v19 (F := Ideal) x0 x1 x2 x3 j).toReal : ℝ) : EReal) = val_main_v19 (F := Ideal) x0 x1 x2 x3 j := by
  have key : val_main_v19 (F := Ideal) x0 x1 x2 x3 j
      = (((List.finRange S8x8192x8192.numel).map S8x8192x8192.rowMajor.symm).filter fun i => reducesTo_S8x8192x8192_S8x8192_d2.drop i = j).foldl
          (fun r i => max r (msc A (i 0) (i 1) (i 2))) ⊥ := by
    unfold val_main_v19
    rw [Host.reduce_eq_foldl]
    have e : ∀ i, val_main_v18_0 (F := Ideal) x0 x1 x2 x3 i = msc A (i 0) (i 1) (i 2) := v18 H
    rw [show val_main_v18_0 (F := Ideal) x0 x1 x2 x3 = fun i => msc A (i 0) (i 1) (i 2) from funext e,
      show val_main_cst_1 (F := Ideal) (Shape.Idx.first h_S_) = (⊥ : EReal) from ofBits_neg_inf]
    rfl
  rw [key]
  refine EReal.coe_toReal ?_ ?_
  · exact ne_of_lt (foldl_max_lt_top _ _ _ bot_lt_top fun i _ => msc_lt_top A _ _ _)
  · have hm : (ix3 (j 0) (j 1) (j 1) : S8x8192x8192.Idx)
        ∈ ((List.finRange S8x8192x8192.numel).map S8x8192x8192.rowMajor.symm).filter fun i => reducesTo_S8x8192x8192_S8x8192_d2.drop i = j := by
      rw [List.mem_filter]
      refine ⟨List.mem_map.2 ⟨S8x8192x8192.rowMajor (ix3 (j 0) (j 1) (j 1)), List.mem_finRange _, Equiv.symm_apply_apply _ _⟩, ?_⟩
      rw [decide_eq_true_iff]
      refine funext fun a => Fin.ext ?_
      match a with
      | ⟨0, _⟩ => exact Shape.ReducesTo.drop_apply_val_of_eq reducesTo_S8x8192x8192_S8x8192_d2 _ 0 0
      | ⟨1, _⟩ => exact Shape.ReducesTo.drop_apply_val_of_eq reducesTo_S8x8192x8192_S8x8192_d2 _ 1 1
    have hd : msc A (j 0) (j 1) (j 1) = ((A.s (j 0) (j 1) (j 1) : ℝ) : EReal) := by
      have : ok (j 1 : Fin 8192) (j 1 : Fin 8192) := le_rfl
      unfold msc; exact if_pos this
    have hle := mem_le_foldl_max (fun i : S8x8192x8192.Idx => msc A (i 0) (i 1) (i 2)) _ ⊥ _ hm
    intro hb
    rw [hb, le_bot_iff] at hle
    exact EReal.coe_ne_bot _ (hd.symm.trans hle)

/-- The reals that arrays hold. -/
def argsOf (y : S8x8192.Idx → EReal) (x0 : T128) (x1 : T64) (x2 : T128) (x3 : R64) (x4 x5 : T128) : Args where
  qn q h d := EReal.toReal (x0 (ix3 q h d))
  qr q h d := EReal.toReal (x1 (ix3 q h d))
  kn q h d := EReal.toReal (x2 (ix3 q h d))
  kr q d := EReal.toReal (x3 (ix2 q d))
  v q h d := EReal.toReal (x4 (ix3 q h d))
  g q h d := EReal.toReal (x5 (ix3 q h d))
  c := EReal.toReal (Ideal.ofBits .f32 0x3D93CD3A#32)
  mx h q := EReal.toReal (y (ix2 h q))

theorem eta3 {a b c : ℕ} (i : (⟨3, ![a, b, c]⟩ : Shape).Idx) : ix3 (i 0) (i 1) (i 2) = i := by
  refine funext fun k => ?_
  match k with
  | ⟨0, _⟩ => rfl
  | ⟨1, _⟩ => rfl
  | ⟨2, _⟩ => rfl
theorem eta2 {a b : ℕ} (i : (⟨2, ![a, b]⟩ : Shape).Idx) : ix2 (i 0) (i 1) = i := by
  refine funext fun k => ?_
  match k with
  | ⟨0, _⟩ => rfl
  | ⟨1, _⟩ => rfl

/-- An array of reals is its reals. -/
theorem of3 {a b c : ℕ} (x : (⟨3, ![a, b, c]⟩ : Shape).Idx → EReal) (h : ∀ i, ((EReal.toReal (x i) : ℝ) : EReal) = x i) (i) :
    x i = ((EReal.toReal (x (ix3 (i 0) (i 1) (i 2))) : ℝ) : EReal) :=
  (h i).symm.trans (congrArg (fun z => ((EReal.toReal (x z) : ℝ) : EReal)) (eta3 i).symm)
theorem of2 {a b : ℕ} (x : (⟨2, ![a, b]⟩ : Shape).Idx → EReal) (h : ∀ i, ((EReal.toReal (x i) : ℝ) : EReal) = x i) (i) :
    x i = ((EReal.toReal (x (ix2 (i 0) (i 1))) : ℝ) : EReal) :=
  (h i).symm.trans (congrArg (fun z => ((EReal.toReal (x z) : ℝ) : EReal)) (eta2 i).symm)

theorem mx_of (y : S8x8192.Idx → EReal) (hy : ∀ i, ((EReal.toReal (y i) : ℝ) : EReal) = y i)
    (x0 : T128) (x1 : T64) (x2 : T128) (x3 : R64) (x4 x5 : T128) (i : S8x8192.Idx) : y i = (((argsOf y x0 x1 x2 x3 x4 x5).mx (i 0) (i 1) : ℝ) : EReal) :=
  of2 (a := 8) (b := 8192) y hy i

theorem holds_of
    (h0 : ∀ i, ((EReal.toReal (x0 i) : ℝ) : EReal) = x0 i) (h1 : ∀ i, ((EReal.toReal (x1 i) : ℝ) : EReal) = x1 i)
    (h2 : ∀ i, ((EReal.toReal (x2 i) : ℝ) : EReal) = x2 i) (h3 : ∀ i, ((EReal.toReal (x3 i) : ℝ) : EReal) = x3 i)
    (h4 : ∀ i, ((EReal.toReal (x4 i) : ℝ) : EReal) = x4 i) (h5 : ∀ i, ((EReal.toReal (x5 i) : ℝ) : EReal) = x5 i) :
    Holds (argsOf (val_main_v19 (F := Ideal) x0 x1 x2 x3) x0 x1 x2 x3 x4 x5) x0 x1 x2 x3 x4 x5 := by
  have H : Held (argsOf (val_main_v19 (F := Ideal) x0 x1 x2 x3) x0 x1 x2 x3 x4 x5) x0 x1 x2 x3 x4 x5 :=
    ⟨of3 x0 h0, of3 x1 h1, of3 x2 h2, of2 x3 h3, of3 x4 h4, of3 x5 h5, scale_real.symm⟩
  exact ⟨H, mx_of _ (max_real H) x0 x1 x2 x3 x4 x5⟩

/-- The precondition says it of the call's arguments. -/
theorem holds_of_finite (m : (ℓ : Loc Cert.KernelIdeal.nD Cert.KernelIdeal.τ Cert.KernelIdeal.sig) → Buf (Elt Ideal) ℓ)
    (hp : Cert.Pre_KernelIdeal_finite m) (c : Dev Cert.KernelIdeal.nD) :
    ∃ A, Holds A (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) := by
  obtain ⟨h0, h1, h2, h3, h4, h5⟩ := hp c
  exact ⟨_, holds_of (fun i => real_of _ (congrFun h0 i)) (fun i => real_of _ (congrFun h1 i)) (fun i => real_of _ (congrFun h2 i))
    (fun i => real_of _ (congrFun h3 i)) (fun i => real_of _ (congrFun h4 i)) (fun i => real_of _ (congrFun h5 i))⟩

end Cert.Flash.Ref
end
-- ==== Proof.Flash.Equal.lean ====
/-
  The kernel's five results are the reference's: both are the gradients over the reals, index by index.
-/
module

public import proofs.«01_k».proof.Proof.Flash.Value
public import proofs.«01_k».proof.Proof.Flash.Finite
public import proofs.«01_k».proof.Proof.Gen.ReferenceIdeal.Run

@[expose] public section

set_option maxRecDepth 16384

noncomputable section

namespace Cert.Flash

open Idealize.ShloMosaic Idealize.SL.Sem
open Cert.ReferenceIdeal (S8192x8x128 S8192x8x64 S8192x64)

variable {A : Args} {x0 : S8192x8x128.Idx → EReal} {x1 : S8192x8x64.Idx → EReal} {x2 : S8192x8x128.Idx → EReal}
  {x3 : S8192x64.Idx → EReal} {x4 x5 : S8192x8x128.Idx → EReal}

theorem ref_qn (H : Ref.Holds A x0 x1 x2 x3 x4 x5) : Cert.ReferenceIdeal.Read.val_main_v81 (F := Ideal) x0 x1 x2 x3 x4 x5 = Rqn A :=
  funext fun i => Ref.dqn H i
theorem ref_qr (H : Ref.Holds A x0 x1 x2 x3 x4 x5) : Cert.ReferenceIdeal.Read.val_main_v75 (F := Ideal) x0 x1 x2 x3 x4 x5 = Rqr A :=
  funext fun i => Ref.dqr H i
theorem ref_kn (H : Ref.Holds A x0 x1 x2 x3 x4 x5) : Cert.ReferenceIdeal.Read.val_main_v80 (F := Ideal) x0 x1 x2 x3 x4 x5 = Rkn A :=
  funext fun i => Ref.dkn H i
theorem ref_kr (H : Ref.Holds A x0 x1 x2 x3 x4 x5) : Cert.ReferenceIdeal.Read.val_main_v74 (F := Ideal) x0 x1 x2 x3 x4 x5 = Rkr A :=
  funext fun i => Ref.dkr H i
theorem ref_v (H : Ref.Holds A x0 x1 x2 x3 x4 x5) : Cert.ReferenceIdeal.Read.val_main_v55 (F := Ideal) x0 x1 x2 x3 x5 = Rv A :=
  funext fun i => Ref.dv H i

/-- The facts at the reference's own arguments, which agree with the kernel's. -/
theorem holds_agree {y0 : S8192x8x128.Idx → EReal} {y1 : S8192x8x64.Idx → EReal} {y2 : S8192x8x128.Idx → EReal}
    {y3 : S8192x64.Idx → EReal} {y4 y5 : S8192x8x128.Idx → EReal} (H : Ref.Holds A x0 x1 x2 x3 x4 x5)
    (h : y0 = x0 ∧ y1 = x1 ∧ y2 = x2 ∧ y3 = x3 ∧ y4 = x4 ∧ y5 = x5) : Ref.Holds A y0 y1 y2 y3 y4 y5 := by
  obtain ⟨h0, h1, h2, h3, h4, h5⟩ := h
  rw [h0, h1, h2, h3, h4, h5]; exact H

/-- The reference's results over the reals. -/
theorem run_ref (m : (ℓ : Loc Cert.ReferenceIdeal.nD Cert.ReferenceIdeal.τ Cert.ReferenceIdeal.sig) → Buf (Elt Ideal) ℓ)
    (ρ : Dev Cert.ReferenceIdeal.nD → PrngReg) (A : Dev Cert.ReferenceIdeal.nD → Args)
    (H : ∀ c : Dev Cert.ReferenceIdeal.nD, Ref.Holds (A c)
      (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg1))
      (m ((c.tc : Thread Cert.ReferenceIdeal.nD Cert.ReferenceIdeal.τ).loc Cert.ReferenceIdeal.main_arg2))
      (m ((c.tc : Thread Cert.ReferenceIdeal.nD Cert.ReferenceIdeal.τ).loc Cert.ReferenceIdeal.main_arg3))
      (m ((c.tc : Thread Cert.ReferenceIdeal.nD Cert.ReferenceIdeal.τ).loc Cert.ReferenceIdeal.main_arg4))
      (m ((c.tc : Thread Cert.ReferenceIdeal.nD Cert.ReferenceIdeal.τ).loc Cert.ReferenceIdeal.main_arg5))) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v81) = Rqn (A c)
      ∧ r.2.mem ((c.tc : Thread Cert.ReferenceIdeal.nD Cert.ReferenceIdeal.τ).loc Cert.ReferenceIdeal.main_v75) = Rqr (A c)
      ∧ r.2.mem ((c.tc : Thread Cert.ReferenceIdeal.nD Cert.ReferenceIdeal.τ).loc Cert.ReferenceIdeal.main_v80) = Rkn (A c)
      ∧ r.2.mem ((c.tc : Thread Cert.ReferenceIdeal.nD Cert.ReferenceIdeal.τ).loc Cert.ReferenceIdeal.main_v74) = Rkr (A c)
      ∧ r.2.mem ((c.tc : Thread Cert.ReferenceIdeal.nD Cert.ReferenceIdeal.τ).loc Cert.ReferenceIdeal.main_v55) = Rv (A c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)) :=
  (θ_run (Cert.ReferenceIdeal.defs (F := Ideal)) _ _).mono (fun _ h c => ⟨
    (h c).1.trans ((Cert.ReferenceIdeal.Read.val_main_v81_eq m c).trans (ref_qn (H c))),
    (h c).2.1.trans ((Cert.ReferenceIdeal.Read.val_main_v75_eq m c).trans (ref_qr (H c))),
    (h c).2.2.1.trans ((Cert.ReferenceIdeal.Read.val_main_v80_eq m c).trans (ref_kn (H c))),
    (h c).2.2.2.1.trans ((Cert.ReferenceIdeal.Read.val_main_v74_eq m c).trans (ref_kr (H c))),
    (h c).2.2.2.2.1.trans ((Cert.ReferenceIdeal.Read.val_main_v55_eq m c).trans (ref_v (H c))),
    (h c).2.2.2.2.2⟩) (Cert.ReferenceIdeal.Value.run (F := Ideal) m ρ)

end Cert.Flash
end
-- ==== Proof.Ffn.Spec.lean ====
/-
  The gradients of the gated feed-forward network behind its normalisation, as functions of real numbers.
-/
module

public import Mathlib.Analysis.SpecialFunctions.Log.Basic
public import Mathlib.Data.EReal.Operations
public import Mathlib.Algebra.BigOperators.Fin
public import Mathlib.Tactic.LinearCombination
public import Idealize.ShloMosaic.PureOps.Ideal
public import Idealize.ShloMosaic.Lib.IdealHost

@[expose] public section

set_option maxRecDepth 16384

noncomputable section

namespace Cert.Ffn

open Idealize.ShloMosaic
open scoped BigOperators

/-- A sum of reals. -/
theorem coe_sum' {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The number added to the mean square. -/
def eps : ℝ := (Ideal.ofBits .f32 0x358637BD#32).toReal

theorem ofBits_eps : Ideal.ofBits .f32 0x358637BD#32 = ((eps : ℝ) : EReal) := by
  have e : Ideal.ofBits .f32 0x358637BD#32 = Ideal.ieee 8 23 0x358637BD#32 := rfl
  unfold eps
  rw [e]
  unfold Ideal.ieee
  dsimp only
  rw [if_neg (by decide), if_neg (by decide)]
  exact (EReal.coe_toReal (EReal.coe_ne_top _) (EReal.coe_ne_bot _)).symm

theorem eps_pos : 0 < eps := by
  have e : Ideal.ofBits .f32 0x358637BD#32 = Ideal.ieee 8 23 0x358637BD#32 := rfl
  unfold eps
  rw [e]
  unfold Ideal.ieee
  dsimp only
  rw [if_neg (by decide), if_neg (by decide), EReal.toReal_coe, if_neg (by decide)]
  norm_num [BitVec.toNat, Nat.shiftRight_eq_div_pow]

theorem ofBits_half : Ideal.ofBits .f32 0x3F000000#32 = ((1 / 2 : ℝ) : EReal) := by
  have e : Ideal.ofBits .f32 0x3F000000#32 = Ideal.ieee 8 23 0x3F000000#32 := rfl
  rw [e]
  unfold Ideal.ieee
  dsimp only
  rw [if_neg (by decide), if_neg (by decide), if_neg (by decide)]
  norm_num [BitVec.toNat, Nat.shiftRight_eq_div_pow]

theorem ofBits_neg_half : Ideal.ofBits .f32 0xBF000000#32 = ((-1 / 2 : ℝ) : EReal) := by
  have e : Ideal.ofBits .f32 0xBF000000#32 = Ideal.ieee 8 23 0xBF000000#32 := rfl
  rw [e]
  unfold Ideal.ieee
  dsimp only
  rw [if_neg (by decide), if_neg (by decide), if_pos (by decide)]
  norm_num [BitVec.toNat, Nat.shiftRight_eq_div_pow]

theorem ofBits_1024 : Ideal.ofBits .f32 0x44800000#32 = ((1024 : ℝ) : EReal) := by
  have e : Ideal.ofBits .f32 0x44800000#32 = Ideal.ieee 8 23 0x44800000#32 := rfl
  rw [e]
  unfold Ideal.ieee
  dsimp only
  rw [if_neg (by decide), if_neg (by decide), if_neg (by decide)]
  norm_num [BitVec.toNat, Nat.shiftRight_eq_div_pow]

theorem ofBits_one : Ideal.ofBits .f32 0x3F800000#32 = ((1 : ℝ) : EReal) := Ideal.ofBits_one_f32

theorem div_real' (x : ℝ) {y : ℝ} (h : y ≠ 0) : Ideal.div (x : EReal) (y : EReal) = ((x / y : ℝ) : EReal) := by
  rw [Ideal.div_coe h, ← EReal.coe_mul, mul_one_div]

/-- The arguments as reals: the residual, the norm's weight, the two gate weights, the down weight and the gradient. -/
structure Args where
  h : Fin 8192 → Fin 1024 → ℝ
  g : Fin 1024 → ℝ
  w1 : Fin 1024 → Fin 2816 → ℝ
  w3 : Fin 1024 → Fin 2816 → ℝ
  w2 : Fin 2816 → Fin 1024 → ℝ
  ct : Fin 8192 → Fin 1024 → ℝ

namespace Args

variable (A : Args) (t : Fin 8192) (d : Fin 1024) (f : Fin 2816)

/-- The mean square of a row. -/
def ms : ℝ := (∑ d, A.h t d * A.h t d) / 1024 + eps
/-- The reciprocal root of the mean square. -/
def r : ℝ := (Real.sqrt (A.ms t))⁻¹
/-- The row divided by its root mean square. -/
def xh : ℝ := A.h t d * A.r t
/-- The normalised row. -/
def n : ℝ := A.xh t d * A.g d
/-- The gate before its activation. -/
def z1 : ℝ := ∑ d, A.n t d * A.w1 d f
/-- The other factor. -/
def z3 : ℝ := ∑ d, A.n t d * A.w3 d f
/-- The logistic of the gate. -/
def s : ℝ := (1 + Real.exp (-A.z1 t f))⁻¹
/-- The down product's gradient. -/
def df : ℝ := 1 / 2 * A.ct t d
/-- The gradient of the activation. -/
def da : ℝ := ∑ d, A.df t d * A.w2 f d
/-- The activation. -/
def act : ℝ := A.z1 t f * A.s t f * A.z3 t f
/-- The gradient of the gate. -/
def dz1 : ℝ := A.da t f * A.z3 t f * (A.s t f * (1 + A.z1 t f * (1 - A.s t f)))
/-- The gradient of the other factor. -/
def dz3 : ℝ := A.da t f * (A.z1 t f * A.s t f)
/-- The gradient of the normalised row. -/
def dn : ℝ := (∑ f, A.dz1 t f * A.w1 d f) + ∑ f, A.dz3 t f * A.w3 d f
/-- The gradient of the norm's weight. -/
def dg : ℝ := ∑ t, A.dn t d * A.xh t d
/-- The mean the normalisation takes of the gradient. -/
def mean : ℝ := (∑ k, A.dn t k * A.g k * A.xh t k) / 1024
/-- The gradient of the residual. -/
def dh : ℝ := A.ct t d + A.r t * (A.dn t d * A.g d - A.xh t d * A.mean t)

theorem ms_pos : 0 < A.ms t :=
  add_pos_of_nonneg_of_pos (div_nonneg (Finset.sum_nonneg fun d _ => mul_self_nonneg _) (by norm_num)) eps_pos

theorem ms_ne : A.ms t ≠ 0 := (A.ms_pos t).ne'

theorem r_sq : A.r t * A.r t * A.ms t = 1 := by
  unfold r
  rw [← mul_inv, Real.mul_self_sqrt (A.ms_pos t).le, inv_mul_cancel₀ (A.ms_ne t)]

theorem r_div : A.r t / A.ms t = A.r t * A.r t * A.r t := by
  rw [div_eq_iff (A.ms_ne t)]
  linear_combination (-A.r t) * A.r_sq t

theorem one_add_exp_ne : 1 + Real.exp (-A.z1 t f) ≠ 0 := (add_pos one_pos (Real.exp_pos _)).ne'

/-- The same gradient of the gate, its terms apart. -/
theorem dz1_ref : A.da t f * A.z3 t f * A.s t f + A.z1 t f * (A.da t f * A.z3 t f) * (A.s t f * (1 - A.s t f)) = A.dz1 t f := by
  unfold dz1; ring

theorem dz3_ref : A.z1 t f * A.s t f * A.da t f = A.dz3 t f := by unfold dz3; ring

/-- The term the mean square's gradient adds, once for each factor. -/
def half : ℝ := (∑ k, A.h t k * (A.dn t k * A.g k)) * (-1 / 2 * (A.r t / A.ms t)) / 1024

/-- The gradient of the residual, its terms apart. -/
theorem dh_ref : A.ct t d + A.dn t d * A.g d * A.r t + A.h t d * A.half t + A.half t * A.h t d = A.dh t d := by
  have e : (∑ k, A.dn t k * A.g k * A.xh t k) = (∑ k, A.h t k * (A.dn t k * A.g k)) * A.r t := by
    rw [Finset.sum_mul]
    exact Finset.sum_congr rfl fun k _ => by unfold xh; ring
  unfold dh mean half
  rw [e, A.r_div]
  unfold xh
  ring

theorem dg_ref : (∑ t, A.xh t d * A.dn t d) = A.dg d := Finset.sum_congr rfl fun _ _ => mul_comm _ _

end Args

/-- The reciprocal root, of the mean square. -/
theorem rsqrt_ms (A : Args) (t : Fin 8192) : Ideal.rsqrt ((A.ms t : ℝ) : EReal) = ((A.r t : ℝ) : EReal) := by
  rw [Ideal.rsqrt_coe, if_neg (not_lt.mpr (A.ms_pos t).le), if_neg (A.ms_ne t)]
  rfl

theorem logistic_z1 (A : Args) (t : Fin 8192) (f : Fin 2816) : Ideal.logistic ((A.z1 t f : ℝ) : EReal) = ((A.s t f : ℝ) : EReal) := by
  rw [Ideal.logistic_coe]; rfl

end Cert.Ffn
end
-- ==== Proof.Ffn.RefValue.lean ====
/-
  The reference's gradients of the feed-forward network are the real ones.
-/
module

public import proofs.«01_k».proof.Proof.Ffn.Spec
public import proofs.«01_k».proof.Proof.Gen.Reference2Ideal.Read

@[expose] public section

set_option maxRecDepth 16384

noncomputable section

namespace Cert.Ffn

open Cert.Reference2Ideal Cert.Reference2Ideal.Read
open Idealize.ShloMosaic Idealize.SL.Sem
open scoped BigOperators

abbrev TH := (⟨S8192x1024, .f32⟩ : BufTy).Contents (Elt Ideal)
abbrev TG := (⟨S1024, .f32⟩ : BufTy).Contents (Elt Ideal)
abbrev TW := (⟨S1024x2816, .f32⟩ : BufTy).Contents (Elt Ideal)
abbrev TD := (⟨S2816x1024, .f32⟩ : BufTy).Contents (Elt Ideal)

/-- The arrays hold the real arguments. -/
structure Holds (A : Args) (x0 : TH) (x1 : TG) (x2 x3 : TW) (x4 : TD) (x5 : TH) : Prop where
  h : ∀ i, x0 i = ((A.h (i 0) (i 1) : ℝ) : EReal)
  g : ∀ i, x1 i = ((A.g (i 0) : ℝ) : EReal)
  w1 : ∀ i, x2 i = ((A.w1 (i 0) (i 1) : ℝ) : EReal)
  w3 : ∀ i, x3 i = ((A.w3 (i 0) (i 1) : ℝ) : EReal)
  w2 : ∀ i, x4 i = ((A.w2 (i 0) (i 1) : ℝ) : EReal)
  ct : ∀ i, x5 i = ((A.ct (i 0) (i 1) : ℝ) : EReal)

theorem v1 {A : Args} {x0 : TH} {x1 : TG} {x2 x3 : TW} {x4 : TD} {x5 : TH} (H : Holds A x0 x1 x2 x3 x4 x5) (i : S8192.Idx) : val_main_v1 (F := Ideal) x0 i = ((∑ k, A.h (i 0) k * A.h (i 0) k : ℝ) : EReal) := by
  rw [val_main_v1_apply, val_main_cst_apply, Ideal.ofBits_def, Ideal.ofBits_zero_f32, zero_add]
  refine Eq.trans ?_ (coe_sum' Finset.univ _).symm
  exact Finset.sum_congr rfl fun k _ => by rw [val_main_v0_apply, Ideal.mulf_def, H.h, EReal.coe_mul]; rfl

theorem v6 {A : Args} {x0 : TH} {x1 : TG} {x2 x3 : TW} {x4 : TD} {x5 : TH} (H : Holds A x0 x1 x2 x3 x4 x5) (i : S8192x1.Idx) : val_main_v6 (F := Ideal) x0 i = ((A.ms (i 0) : ℝ) : EReal) := by
  rw [val_main_v6_apply, val_main_v4_apply, val_main_v5_apply, val_main_v3_apply, val_main_v2_apply, val_main_cst_0_apply, val_main_cst_1_apply,
    v1 H, Ideal.addf_def, Ideal.hostDivf_def, Ideal.ofBits_def, Ideal.ofBits_def, ofBits_1024, ofBits_eps]
  refine (congrArg (· + ((eps : ℝ) : EReal)) (div_real' _ (by norm_num))).trans ?_
  rw [← EReal.coe_add]; rfl

theorem v7 {A : Args} {x0 : TH} {x1 : TG} {x2 x3 : TW} {x4 : TD} {x5 : TH} (H : Holds A x0 x1 x2 x3 x4 x5) (i : S8192x1.Idx) : val_main_v7 (F := Ideal) x0 i = ((A.r (i 0) : ℝ) : EReal) := by
  rw [val_main_v7_apply, v6 H]
  exact rsqrt_ms A _

theorem v8 {A : Args} {x0 : TH} {x1 : TG} {x2 x3 : TW} {x4 : TD} {x5 : TH} (H : Holds A x0 x1 x2 x3 x4 x5) (i : S8192x1.Idx) : val_main_v8 (F := Ideal) x0 i = ((A.r (i 0) / A.ms (i 0) : ℝ) : EReal) := by
  rw [val_main_v8_apply, v7 H, v6 H, Ideal.hostDivf_def]
  exact div_real' _ (A.ms_ne _)

theorem v10 {A : Args} {x0 : TH} {x1 : TG} {x2 x3 : TW} {x4 : TD} {x5 : TH} (H : Holds A x0 x1 x2 x3 x4 x5) (i : S8192x1.Idx) : val_main_v10 (F := Ideal) x0 i = ((-1 / 2 * (A.r (i 0) / A.ms (i 0)) : ℝ) : EReal) := by
  rw [val_main_v10_apply, val_main_v9_apply, val_main_cst_2_apply, v8 H, Ideal.mulf_def, Ideal.ofBits_def, ofBits_neg_half, EReal.coe_mul]

theorem v12 {A : Args} {x0 : TH} {x1 : TG} {x2 x3 : TW} {x4 : TD} {x5 : TH} (H : Holds A x0 x1 x2 x3 x4 x5) (i : S8192x1024.Idx) : val_main_v12 (F := Ideal) x0 i = ((A.xh (i 0) (i 1) : ℝ) : EReal) := by
  rw [val_main_v12_apply, val_main_v11_apply, v7 H, H.h, Ideal.mulf_def, ← EReal.coe_mul]; rfl

theorem v14 {A : Args} {x0 : TH} {x1 : TG} {x2 x3 : TW} {x4 : TD} {x5 : TH} (H : Holds A x0 x1 x2 x3 x4 x5) (i : S8192x1024.Idx) : val_main_v14 (F := Ideal) x1 i = ((A.g (i 1) : ℝ) : EReal) := by
  rw [val_main_v14_apply, val_main_v13_apply, H.g]; rfl

theorem v15 {A : Args} {x0 : TH} {x1 : TG} {x2 x3 : TW} {x4 : TD} {x5 : TH} (H : Holds A x0 x1 x2 x3 x4 x5) (i : S8192x1024.Idx) : val_main_v15 (F := Ideal) x0 x1 i = ((A.n (i 0) (i 1) : ℝ) : EReal) := by
  rw [val_main_v15_apply, v12 H, v14 H, Ideal.mulf_def, ← EReal.coe_mul]; rfl

theorem v16 {A : Args} {x0 : TH} {x1 : TG} {x2 x3 : TW} {x4 : TD} {x5 : TH} (H : Holds A x0 x1 x2 x3 x4 x5) (i : S8192x2816.Idx) : val_main_v16 (F := Ideal) x0 x1 x2 i = ((A.z1 (i 0) (i 1) : ℝ) : EReal) := by
  rw [val_main_v16_apply]
  refine Eq.trans ?_ (coe_sum' Finset.univ _).symm
  exact Finset.sum_congr rfl fun k _ => by rw [v15 H, H.w1, EReal.coe_mul]; rfl

theorem v17 {A : Args} {x0 : TH} {x1 : TG} {x2 x3 : TW} {x4 : TD} {x5 : TH} (H : Holds A x0 x1 x2 x3 x4 x5) (i : S8192x2816.Idx) : val_main_v17 (F := Ideal) x0 x1 x3 i = ((A.z3 (i 0) (i 1) : ℝ) : EReal) := by
  rw [val_main_v17_apply]
  refine Eq.trans ?_ (coe_sum' Finset.univ _).symm
  exact Finset.sum_congr rfl fun k _ => by rw [v15 H, H.w3, EReal.coe_mul]; rfl

theorem v18_2 {A : Args} {x0 : TH} {x1 : TG} {x2 x3 : TW} {x4 : TD} {x5 : TH} (H : Holds A x0 x1 x2 x3 x4 x5) (i : S8192x2816.Idx) : val_main_v18_2 (F := Ideal) x0 x1 x2 i = ((A.s (i 0) (i 1) : ℝ) : EReal) := by
  rw [val_main_v18_2_apply, val_main_call0_v4_apply, val_main_call0_cst_0_apply, val_main_call0_v3_apply, val_main_call0_v2_apply,
    val_main_call0_cst_apply, val_main_call0_v1_apply, val_main_call0_v0_apply, v16 H, Ideal.hostDivf_def, Ideal.addf_def, Ideal.ofBits_def, ofBits_one]
  have e : FloatOps.hostUnary (F := Ideal) (φ := .f32) .exp (FloatOps.hostNegf (((A.z1 (i 0) (i 1) : ℝ) : EReal) : Ideal .f32))
      = ((Real.exp (-A.z1 (i 0) (i 1)) : ℝ) : EReal) := by
    show Ideal.exp (-((A.z1 (i 0) (i 1) : ℝ) : EReal)) = _
    rw [← EReal.coe_neg, Ideal.exp_coe]
  rw [e, ← EReal.coe_add]
  refine (div_real' 1 (A.one_add_exp_ne (i 0) (i 1))).trans ?_
  rw [one_div]; rfl

theorem v18_1 {A : Args} {x0 : TH} {x1 : TG} {x2 x3 : TW} {x4 : TD} {x5 : TH} (H : Holds A x0 x1 x2 x3 x4 x5) (i : S8192x2816.Idx) : val_main_v18_1 (F := Ideal) x0 x1 x2 i = ((A.s (i 0) (i 1) * (1 - A.s (i 0) (i 1)) : ℝ) : EReal) := by
  rw [val_main_v18_1_apply, val_main_call0_v7_apply, val_main_call0_v6_apply, val_main_call0_cst_1_apply, v18_2 H, Ideal.mulf_def,
    Ideal.subf_def, Ideal.ofBits_def, ofBits_one, ← EReal.coe_sub, ← EReal.coe_mul]

theorem v18_0 {A : Args} {x0 : TH} {x1 : TG} {x2 x3 : TW} {x4 : TD} {x5 : TH} (H : Holds A x0 x1 x2 x3 x4 x5) (i : S8192x2816.Idx) : val_main_v18_0 (F := Ideal) x0 x1 x2 i = ((A.z1 (i 0) (i 1) * A.s (i 0) (i 1) : ℝ) : EReal) := by
  rw [val_main_v18_0_apply, v16 H, v18_2 H, Ideal.mulf_def, ← EReal.coe_mul]

theorem v19 {A : Args} {x0 : TH} {x1 : TG} {x2 x3 : TW} {x4 : TD} {x5 : TH} (H : Holds A x0 x1 x2 x3 x4 x5) (i : S8192x2816.Idx) : val_main_v19 (F := Ideal) x0 x1 x2 x3 i = ((A.act (i 0) (i 1) : ℝ) : EReal) := by
  rw [val_main_v19_apply, v18_0 H, v17 H, Ideal.mulf_def, ← EReal.coe_mul]; rfl

theorem idx24 {A : Args} {x0 : TH} {x1 : TG} {x2 x3 : TW} {x4 : TD} {x5 : TH} (H : Holds A x0 x1 x2 x3 x4 x5) (i : S8192x1024.Idx) : x5 (idx_main_v24 i) = ((A.ct (i 0) (i 1) : ℝ) : EReal) := by
  have h0 : (i 0).val < 8192 := (i 0).isLt
  have h1 : (i 1).val < 1024 := (i 1).isLt
  have e : idx_main_v24 i = i := by
    funext a
    match a with
    | ⟨0, _⟩ => apply Fin.ext; show ((i 0).val * 1024 + (i 1).val) / 1024 = (i 0).val; omega
    | ⟨1, _⟩ => apply Fin.ext; show ((i 0).val * 1024 + (i 1).val) % 1024 = (i 1).val; omega
  rw [e]; exact H.ct i

theorem v26 {A : Args} {x0 : TH} {x1 : TG} {x2 x3 : TW} {x4 : TD} {x5 : TH} (H : Holds A x0 x1 x2 x3 x4 x5) (i : S8192x1024.Idx) : val_main_v26 (F := Ideal) x5 i = ((A.df (i 0) (i 1) : ℝ) : EReal) := by
  rw [val_main_v26_apply, val_main_v25_apply, val_main_cst_4_apply, val_main_v24_apply, idx24 H, Ideal.mulf_def, Ideal.ofBits_def, ofBits_half,
    ← EReal.coe_mul]; rfl

theorem v27 {A : Args} {x0 : TH} {x1 : TG} {x2 x3 : TW} {x4 : TD} {x5 : TH} (H : Holds A x0 x1 x2 x3 x4 x5) (i : S8192x2816.Idx) : val_main_v27 (F := Ideal) x4 x5 i = ((A.da (i 0) (i 1) : ℝ) : EReal) := by
  rw [val_main_v27_apply]
  refine Eq.trans ?_ (coe_sum' Finset.univ _).symm
  exact Finset.sum_congr rfl fun k _ => by rw [v26 H, H.w2, EReal.coe_mul]; rfl

theorem v28 {A : Args} {x0 : TH} {x1 : TG} {x2 x3 : TW} {x4 : TD} {x5 : TH} (H : Holds A x0 x1 x2 x3 x4 x5) (i : S8192x2816.Idx) : val_main_v28 (F := Ideal) x0 x1 x2 x4 x5 i = ((A.dz3 (i 0) (i 1) : ℝ) : EReal) := by
  rw [val_main_v28_apply, v18_0 H, v27 H, Ideal.mulf_def, ← EReal.coe_mul]
  exact congrArg _ (A.dz3_ref _ _)

theorem v29 {A : Args} {x0 : TH} {x1 : TG} {x2 x3 : TW} {x4 : TD} {x5 : TH} (H : Holds A x0 x1 x2 x3 x4 x5) (i : S8192x2816.Idx) : val_main_v29 (F := Ideal) x0 x1 x3 x4 x5 i = ((A.da (i 0) (i 1) * A.z3 (i 0) (i 1) : ℝ) : EReal) := by
  rw [val_main_v29_apply, v27 H, v17 H, Ideal.mulf_def, ← EReal.coe_mul]

theorem v30 {A : Args} {x0 : TH} {x1 : TG} {x2 x3 : TW} {x4 : TD} {x5 : TH} (H : Holds A x0 x1 x2 x3 x4 x5) (i : S8192x2816.Idx) : val_main_v30 (F := Ideal) x0 x1 x2 x3 x4 x5 i = ((A.dz1 (i 0) (i 1) : ℝ) : EReal) := by
  rw [val_main_v30_apply, val_main_call1_v1_apply, val_main_call1_v2_apply, val_main_call1_v0_apply, v29 H, v18_2 H, v18_1 H, v16 H, Ideal.addf_def, Ideal.mulf_def, Ideal.mulf_def, Ideal.mulf_def, ← EReal.coe_mul,
    ← EReal.coe_mul, ← EReal.coe_mul, ← EReal.coe_add]
  exact congrArg _ (A.dz1_ref _ _)

theorem v33 {A : Args} {x0 : TH} {x1 : TG} {x2 x3 : TW} {x4 : TD} {x5 : TH} (H : Holds A x0 x1 x2 x3 x4 x5) (i : S8192x1024.Idx) : val_main_v33 (F := Ideal) x0 x1 x2 x3 x4 x5 i = ((A.dn (i 0) (i 1) : ℝ) : EReal) := by
  have e1 : val_main_v31 (F := Ideal) x0 x1 x2 x3 x4 x5 i = ((∑ f, A.dz3 (i 0) f * A.w3 (i 1) f : ℝ) : EReal) := by
    rw [val_main_v31_apply]
    refine Eq.trans ?_ (coe_sum' Finset.univ _).symm
    exact Finset.sum_congr rfl fun k _ => by rw [v28 H, H.w3, EReal.coe_mul]; rfl
  have e2 : val_main_v32 (F := Ideal) x0 x1 x2 x3 x4 x5 i = ((∑ f, A.dz1 (i 0) f * A.w1 (i 1) f : ℝ) : EReal) := by
    rw [val_main_v32_apply]
    refine Eq.trans ?_ (coe_sum' Finset.univ _).symm
    exact Finset.sum_congr rfl fun k _ => by rw [v30 H, H.w1, EReal.coe_mul]; rfl
  rw [val_main_v33_apply, e1, e2, Ideal.addf_def, ← EReal.coe_add]
  exact congrArg _ (add_comm _ _)

theorem v35 {A : Args} {x0 : TH} {x1 : TG} {x2 x3 : TW} {x4 : TD} {x5 : TH} (H : Holds A x0 x1 x2 x3 x4 x5) (i : S1024.Idx) : val_main_v35 (F := Ideal) x0 x1 x2 x3 x4 x5 i = ((A.dg (i 0) : ℝ) : EReal) := by
  rw [val_main_v35_apply, val_main_cst_5_apply, Ideal.ofBits_def, Ideal.ofBits_zero_f32, zero_add]
  refine Eq.trans ?_ (congrArg (fun z : ℝ => (z : EReal)) (A.dg_ref (i 0)))
  refine Eq.trans ?_ (coe_sum' Finset.univ _).symm
  exact Finset.sum_congr rfl fun k _ => by rw [val_main_v34_apply, v12 H, v33 H, Ideal.mulf_def, EReal.coe_mul]; rfl

theorem v39 {A : Args} {x0 : TH} {x1 : TG} {x2 x3 : TW} {x4 : TD} {x5 : TH} (H : Holds A x0 x1 x2 x3 x4 x5) (i : S1024.Idx) : val_main_v39 (F := Ideal) x0 x1 x2 x3 x4 x5 i = ((A.dg (i 0) : ℝ) : EReal) := by
  have h0 : (i 0).val < 1024 := (i 0).isLt
  rw [val_main_v39_apply, val_main_cst_6_apply, Ideal.ofBits_def, Ideal.ofBits_zero_f32, zero_add, Fin.sum_univ_one, val_main_v36_apply, v35 H]
  refine congrArg (fun z : Fin 1024 => ((A.dg z : ℝ) : EReal)) (Fin.ext ?_)
  show 0 * 1024 + (i 0).val = (i 0).val
  omega

theorem v81 {A : Args} {x0 : TH} {x1 : TG} {x2 x3 : TW} {x4 : TD} {x5 : TH} (H : Holds A x0 x1 x2 x3 x4 x5) (i : S8x1024.Idx) : val_main_v81 (F := Ideal) x0 x1 x2 x3 x4 x5 i = ((A.dg (i 1) : ℝ) : EReal) := by
  rw [val_main_v81_apply, v39 H]; rfl

theorem v38 {A : Args} {x0 : TH} {x1 : TG} {x2 x3 : TW} {x4 : TD} {x5 : TH} (H : Holds A x0 x1 x2 x3 x4 x5) (i : S8192x1024.Idx) : val_main_v38 (F := Ideal) x0 x1 x2 x3 x4 x5 i = ((A.dn (i 0) (i 1) * A.g (i 1) : ℝ) : EReal) := by
  rw [val_main_v38_apply, val_main_v37_apply, val_main_v13_apply, v33 H, H.g, Ideal.mulf_def, ← EReal.coe_mul]; rfl

theorem v41 {A : Args} {x0 : TH} {x1 : TG} {x2 x3 : TW} {x4 : TD} {x5 : TH} (H : Holds A x0 x1 x2 x3 x4 x5) (i : S8192.Idx) : val_main_v41 (F := Ideal) x0 x1 x2 x3 x4 x5 i = ((∑ k, A.h (i 0) k * (A.dn (i 0) k * A.g k) : ℝ) : EReal) := by
  rw [val_main_v41_apply, val_main_cst_7_apply, Ideal.ofBits_def, Ideal.ofBits_zero_f32, zero_add]
  refine Eq.trans ?_ (coe_sum' Finset.univ _).symm
  exact Finset.sum_congr rfl fun k _ => by rw [val_main_v40_apply, v38 H, H.h, Ideal.mulf_def, EReal.coe_mul]; rfl

theorem v42 {A : Args} {x0 : TH} {x1 : TG} {x2 x3 : TW} {x4 : TD} {x5 : TH} (H : Holds A x0 x1 x2 x3 x4 x5) (i : S8192x1.Idx) : val_main_v42 (F := Ideal) x0 x1 x2 x3 x4 x5 i = ((∑ k, A.h (i 0) k * (A.dn (i 0) k * A.g k) : ℝ) : EReal) := by
  have h0 : (i 0).val < 8192 := (i 0).isLt
  have h1 : (i 1).val < 1 := (i 1).isLt
  have e : ((idx_main_v42 i) 0 : Fin 8192) = (i 0 : Fin 8192) := Fin.ext (by show (i 0).val * 1 + (i 1).val = (i 0).val; omega)
  rw [val_main_v42_apply, v41 H]
  exact congrArg (fun t : Fin 8192 => ((∑ k, A.h t k * (A.dn t k * A.g k) : ℝ) : EReal)) e

theorem v48 {A : Args} {x0 : TH} {x1 : TG} {x2 x3 : TW} {x4 : TD} {x5 : TH} (H : Holds A x0 x1 x2 x3 x4 x5) (i : S8192x1.Idx) : val_main_v48 (F := Ideal) x0 x1 x2 x3 x4 x5 i = ((A.half (i 0) : ℝ) : EReal) := by
  rw [val_main_v48_apply, val_main_v47_apply, val_main_cst_8_apply, val_main_v46_apply, v42 H, v10 H, Ideal.hostDivf_def, Ideal.mulf_def,
    Ideal.ofBits_def, ofBits_1024, ← EReal.coe_mul]
  exact div_real' _ (by norm_num)

theorem v50 {A : Args} {x0 : TH} {x1 : TG} {x2 x3 : TW} {x4 : TD} {x5 : TH} (H : Holds A x0 x1 x2 x3 x4 x5) (i : S8192x1024.Idx) : val_main_v50 (F := Ideal) x0 x1 x2 x3 x4 x5 i = ((A.half (i 0) : ℝ) : EReal) := by
  rw [val_main_v50_apply, val_main_v49_apply, val_main_cst_9_apply, Ideal.ofBits_def, Ideal.ofBits_zero_f32, zero_add, Fin.sum_univ_one, v48 H]; rfl

theorem v54 {A : Args} {x0 : TH} {x1 : TG} {x2 x3 : TW} {x4 : TD} {x5 : TH} (H : Holds A x0 x1 x2 x3 x4 x5) (i : S8192x1024.Idx) : val_main_v54 (F := Ideal) x0 x1 x2 x3 x4 x5 i = ((A.dh (i 0) (i 1) : ℝ) : EReal) := by
  rw [val_main_v54_apply, val_main_v53_apply, val_main_v52_apply, val_main_v51_apply, val_main_v45_apply, val_main_v44_apply, val_main_v43_apply,
    v50 H, v38 H, v7 H, H.h, H.ct, Ideal.addf_def, Ideal.addf_def, Ideal.addf_def, Ideal.mulf_def, Ideal.mulf_def, Ideal.mulf_def, ← EReal.coe_mul,
    ← EReal.coe_mul, ← EReal.coe_mul, ← EReal.coe_add, ← EReal.coe_add, ← EReal.coe_add]
  exact congrArg _ (A.dh_ref _ _)

theorem v76 {A : Args} {x0 : TH} {x1 : TG} {x2 x3 : TW} {x4 : TD} {x5 : TH} (H : Holds A x0 x1 x2 x3 x4 x5) (i : S8192x1024.Idx) : val_main_v76 (F := Ideal) x5 i = ((A.df (i 0) (i 1) : ℝ) : EReal) := by
  rw [val_main_v76_apply, val_main_v75_apply, val_main_cst_14_apply, H.ct, Ideal.mulf_def, Ideal.ofBits_def, ofBits_half, ← EReal.coe_mul]; rfl

theorem v77 {A : Args} {x0 : TH} {x1 : TG} {x2 x3 : TW} {x4 : TD} {x5 : TH} (H : Holds A x0 x1 x2 x3 x4 x5) (i : S8192x2816.Idx) : val_main_v77 (F := Ideal) x4 x5 i = ((A.da (i 0) (i 1) : ℝ) : EReal) := by
  rw [val_main_v77_apply]
  refine Eq.trans ?_ (coe_sum' Finset.univ _).symm
  exact Finset.sum_congr rfl fun k _ => by rw [v76 H, H.w2, EReal.coe_mul]; rfl

theorem v70_0 {A : Args} {x0 : TH} {x1 : TG} {x2 x3 : TW} {x4 : TD} {x5 : TH} (H : Holds A x0 x1 x2 x3 x4 x5) (i : S8192x2816.Idx) : val_main_v70_0 (F := Ideal) x0 x1 x2 i = ((A.z1 (i 0) (i 1) * A.s (i 0) (i 1) : ℝ) : EReal) := by
  exact v18_0 H i

theorem v70_1 {A : Args} {x0 : TH} {x1 : TG} {x2 x3 : TW} {x4 : TD} {x5 : TH} (H : Holds A x0 x1 x2 x3 x4 x5) (i : S8192x2816.Idx) : val_main_v70_1 (F := Ideal) x0 x1 x2 i = ((A.s (i 0) (i 1) * (1 - A.s (i 0) (i 1)) : ℝ) : EReal) := by
  exact v18_1 H i

theorem v70_2 {A : Args} {x0 : TH} {x1 : TG} {x2 x3 : TW} {x4 : TD} {x5 : TH} (H : Holds A x0 x1 x2 x3 x4 x5) (i : S8192x2816.Idx) : val_main_v70_2 (F := Ideal) x0 x1 x2 i = ((A.s (i 0) (i 1) : ℝ) : EReal) := by
  exact v18_2 H i

theorem v68 {A : Args} {x0 : TH} {x1 : TG} {x2 x3 : TW} {x4 : TD} {x5 : TH} (H : Holds A x0 x1 x2 x3 x4 x5) (i : S8192x2816.Idx) : val_main_v68 (F := Ideal) x0 x1 x2 i = ((A.z1 (i 0) (i 1) : ℝ) : EReal) := by
  exact v16 H i

theorem v69 {A : Args} {x0 : TH} {x1 : TG} {x2 x3 : TW} {x4 : TD} {x5 : TH} (H : Holds A x0 x1 x2 x3 x4 x5) (i : S8192x2816.Idx) : val_main_v69 (F := Ideal) x0 x1 x3 i = ((A.z3 (i 0) (i 1) : ℝ) : EReal) := by
  exact v17 H i

theorem v78 {A : Args} {x0 : TH} {x1 : TG} {x2 x3 : TW} {x4 : TD} {x5 : TH} (H : Holds A x0 x1 x2 x3 x4 x5) (i : S8192x2816.Idx) : val_main_v78 (F := Ideal) x0 x1 x2 x4 x5 i = ((A.dz3 (i 0) (i 1) : ℝ) : EReal) := by
  rw [val_main_v78_apply, v70_0 H, v77 H, Ideal.mulf_def, ← EReal.coe_mul]
  exact congrArg _ (A.dz3_ref _ _)

theorem v79 {A : Args} {x0 : TH} {x1 : TG} {x2 x3 : TW} {x4 : TD} {x5 : TH} (H : Holds A x0 x1 x2 x3 x4 x5) (i : S8192x2816.Idx) : val_main_v79 (F := Ideal) x0 x1 x3 x4 x5 i = ((A.da (i 0) (i 1) * A.z3 (i 0) (i 1) : ℝ) : EReal) := by
  rw [val_main_v79_apply, v77 H, v69 H, Ideal.mulf_def, ← EReal.coe_mul]

theorem v80 {A : Args} {x0 : TH} {x1 : TG} {x2 x3 : TW} {x4 : TD} {x5 : TH} (H : Holds A x0 x1 x2 x3 x4 x5) (i : S8192x2816.Idx) : val_main_v80 (F := Ideal) x0 x1 x2 x3 x4 x5 i = ((A.dz1 (i 0) (i 1) : ℝ) : EReal) := by
  rw [val_main_v80_apply, val_main_call3_v1_apply, val_main_call3_v2_apply, val_main_call3_v0_apply, v79 H, v70_2 H, v70_1 H, v68 H, Ideal.addf_def, Ideal.mulf_def, Ideal.mulf_def, Ideal.mulf_def, ← EReal.coe_mul,
    ← EReal.coe_mul, ← EReal.coe_mul, ← EReal.coe_add]
  exact congrArg _ (A.dz1_ref _ _)

theorem v82 {A : Args} {x0 : TH} {x1 : TG} {x2 x3 : TW} {x4 : TD} {x5 : TH} (H : Holds A x0 x1 x2 x3 x4 x5) (i : S8192x2816.Idx) : val_main_v82 (F := Ideal) x0 x1 x2 x3 x4 x5 i = ((A.dz1 (i 0) (i 1) : ℝ) : EReal) := by
  exact v80 H i

theorem v83 {A : Args} {x0 : TH} {x1 : TG} {x2 x3 : TW} {x4 : TD} {x5 : TH} (H : Holds A x0 x1 x2 x3 x4 x5) (i : S8192x2816.Idx) : val_main_v83 (F := Ideal) x0 x1 x2 x4 x5 i = ((A.dz3 (i 0) (i 1) : ℝ) : EReal) := by
  exact v78 H i

theorem v86 {A : Args} {x0 : TH} {x1 : TG} {x2 x3 : TW} {x4 : TD} {x5 : TH} (H : Holds A x0 x1 x2 x3 x4 x5) (i : S8192x2816.Idx) : val_main_v86 (F := Ideal) x0 x1 x2 x3 i = ((A.act (i 0) (i 1) : ℝ) : EReal) := by
  exact v19 H i

theorem v89 {A : Args} {x0 : TH} {x1 : TG} {x2 x3 : TW} {x4 : TD} {x5 : TH} (H : Holds A x0 x1 x2 x3 x4 x5) (i : S8192x1024.Idx) : val_main_v89 (F := Ideal) x5 i = ((A.df (i 0) (i 1) : ℝ) : EReal) := by
  rw [val_main_v89_apply, val_main_v88_apply, val_main_v87_apply, val_main_cst_15_apply, H.ct, Ideal.truncf_def, Ideal.mulf_def, Ideal.ofBits_def,
    ofBits_half, ← EReal.coe_mul]; rfl

end Cert.Ffn

end
-- ==== Proof.Ffn.Host.lean ====
/-
  The arrays the feed-forward backward call reads, as real numbers of the arguments.
-/
module

public import proofs.«01_k».proof.Proof.Gen.Kernel2Ideal.Frame
public import proofs.«01_k».proof.Proof.Ffn.RefValue
public import Idealize.ShloMosaic.Lib.Pointwise

@[expose] public section

set_option maxRecDepth 16384

noncomputable section

namespace Cert.Ffn

open Cert.Kernel2Ideal Cert.Kernel2Ideal.Gen
open Idealize.ShloMosaic Idealize.ShloMosaic.TcCoe Idealize.SL.Sem Idealize.ShloMosaic.StableHlo

variable (m : (ℓ : Loc nD τ sig) → Buf (Elt Ideal) ℓ) (c : Dev nD)

set_option maxHeartbeats 4000000 in
theorem V_z1 : V m c main_v15 = truncf (F := Ideal) (φ := .f32) .bf16 (Cert.Reference2Ideal.Read.val_main_v16 (F := Ideal) (m ((c : Thread nD τ).loc main_arg0)) (m ((c : Thread nD τ).loc main_arg1)) (m ((c : Thread nD τ).loc main_arg2))) bitsLt_bf16_f32 := by
  simp only [V, hostOps0, List.flatten_cons, List.flatten_nil, List.cons_append, List.nil_append, List.append_nil, TRef.binary, TRef.nullary, TRef.ternary, TRef.unary, TRef.toBuf, TRef.ofBuf, cast_eq]
  after_results_simp <;> rfl

set_option maxHeartbeats 4000000 in
theorem V_z3 : V m c main_v16 = truncf (F := Ideal) (φ := .f32) .bf16 (Cert.Reference2Ideal.Read.val_main_v17 (F := Ideal) (m ((c : Thread nD τ).loc main_arg0)) (m ((c : Thread nD τ).loc main_arg1)) (m ((c : Thread nD τ).loc main_arg3))) bitsLt_bf16_f32 := by
  simp only [V, hostOps0, List.flatten_cons, List.flatten_nil, List.cons_append, List.nil_append, List.append_nil, TRef.binary, TRef.nullary, TRef.ternary, TRef.unary, TRef.toBuf, TRef.ofBuf, cast_eq]
  after_results_simp <;> rfl

set_option maxHeartbeats 4000000 in
theorem V_w1 : V m c main_v18 = truncf (F := Ideal) (φ := .f32) .bf16 (transpose S2816x1024 [1, 0] (m ((c : Thread nD τ).loc main_arg2)) transposes_S1024x2816_S2816x1024_1_0) bitsLt_bf16_f32 := by
  simp only [V, hostOps0, List.flatten_cons, List.flatten_nil, List.cons_append, List.nil_append, List.append_nil, TRef.binary, TRef.nullary, TRef.ternary, TRef.unary, TRef.toBuf, TRef.ofBuf, cast_eq]
  after_results_simp <;> rfl

set_option maxHeartbeats 4000000 in
theorem V_w3 : V m c main_v20 = truncf (F := Ideal) (φ := .f32) .bf16 (transpose S2816x1024 [1, 0] (m ((c : Thread nD τ).loc main_arg3)) transposes_S1024x2816_S2816x1024_1_0) bitsLt_bf16_f32 := by
  simp only [V, hostOps0, List.flatten_cons, List.flatten_nil, List.cons_append, List.nil_append, List.append_nil, TRef.binary, TRef.nullary, TRef.ternary, TRef.unary, TRef.toBuf, TRef.ofBuf, cast_eq]
  after_results_simp <;> rfl

set_option maxHeartbeats 4000000 in
theorem V_w2 : V m c main_v21 = truncf (F := Ideal) (φ := .f32) .bf16 (m ((c : Thread nD τ).loc main_arg4)) bitsLt_bf16_f32 := by
  simp only [V, hostOps0, List.flatten_cons, List.flatten_nil, List.cons_append, List.nil_append, List.append_nil, TRef.binary, TRef.nullary, TRef.ternary, TRef.unary, TRef.toBuf, TRef.ofBuf, cast_eq]
  after_results_simp <;> rfl

set_option maxHeartbeats 4000000 in
theorem V_g : V m c main_v23 = shapeCast S1x1024 (m ((c : Thread nD τ).loc main_arg1)) shapeCasts_S1024_S1x1024 := by
  simp only [V, hostOps0, List.flatten_cons, List.flatten_nil, List.cons_append, List.nil_append, List.append_nil, TRef.binary, TRef.nullary, TRef.ternary, TRef.unary, TRef.toBuf, TRef.ofBuf, cast_eq]
  after_results_simp <;> rfl

/-- The arguments of the call on a device hold the real ones. -/
abbrev HoldsAt (A : Args) : Prop := Holds A (m ((c : Thread nD τ).loc main_arg0)) (m ((c : Thread nD τ).loc main_arg1))
  (m ((c : Thread nD τ).loc main_arg2)) (m ((c : Thread nD τ).loc main_arg3)) (m ((c : Thread nD τ).loc main_arg4)) (m ((c : Thread nD τ).loc main_arg5))

theorem tr_at (x : Vec Ideal S1024x2816 .f32) (f : Fin 2816) (d : Fin 1024) :
    transpose S2816x1024 [1, 0] x transposes_S1024x2816_S2816x1024_1_0 (ix2 f d) = x (ix2 d f) :=
  transpose_apply _ x _ _ _ fun c => match c with | ⟨0, _⟩ => rfl | ⟨1, _⟩ => rfl

theorem z1_at {A : Args} (H : HoldsAt m c A) (i : S8192x2816.Idx) : V m c main_v15 i = ((A.z1 (i 0) (i 1) : ℝ) : EReal) :=
  (congrFun (V_z1 m c) i).trans (v16 H i)
theorem z3_at {A : Args} (H : HoldsAt m c A) (i : S8192x2816.Idx) : V m c main_v16 i = ((A.z3 (i 0) (i 1) : ℝ) : EReal) :=
  (congrFun (V_z3 m c) i).trans (v17 H i)
theorem w1_at {A : Args} (H : HoldsAt m c A) (f : Fin 2816) (d : Fin 1024) : V m c main_v18 (ix2 f d) = ((A.w1 d f : ℝ) : EReal) :=
  (congrFun (V_w1 m c) (ix2 f d)).trans ((tr_at _ f d).trans (H.w1 _))
theorem w3_at {A : Args} (H : HoldsAt m c A) (f : Fin 2816) (d : Fin 1024) : V m c main_v20 (ix2 f d) = ((A.w3 d f : ℝ) : EReal) :=
  (congrFun (V_w3 m c) (ix2 f d)).trans ((tr_at _ f d).trans (H.w3 _))
theorem w2_at {A : Args} (H : HoldsAt m c A) (f : Fin 2816) (d : Fin 1024) : V m c main_v21 (ix2 f d) = ((A.w2 f d : ℝ) : EReal) :=
  (congrFun (V_w2 m c) (ix2 f d)).trans (H.w2 (ix2 f d))
theorem g_read (x : Vec Ideal S1024 .f32) (i : S1x1024.Idx) : shapeCast S1x1024 x shapeCasts_S1024_S1x1024 i = x (Cert.Reference2Ideal.Read.idx_main_v36 i) := by
  refine shapeCast_apply x shapeCasts_S1024_S1x1024 i (Cert.Reference2Ideal.Read.idx_main_v36 i) ?_
  rewrite [Shape.rowMajor_val_one, Shape.rowMajor_val_two]
  rfl
theorem g_at {A : Args} (H : HoldsAt m c A) (i : S1x1024.Idx) : V m c main_v23 i = ((A.g (i 1) : ℝ) : EReal) :=
  (congrFun (V_g m c) i).trans ((g_read _ i).trans ((H.g _).trans (congrArg (fun z : Fin 1024 => ((A.g z : ℝ) : EReal)) (Fin.ext (by
    have h0 : (i 0).val < 1 := (i 0).isLt
    show (i 0).val * 1024 + (i 1).val = (i 1).val
    omega)))))

end Cert.Ffn
end
-- ==== Proof.Ffn.Pay.lean ====
/-
  The payloads of the feed-forward backward call, read at an index over the extended reals.
-/
module

public import proofs.«01_k».proof.Proof.Gen.Kernel2Ideal.Skeleton
public import Idealize.ShloMosaic.Lib.Pointwise

@[expose] public section

set_option maxRecDepth 16384

noncomputable section

namespace Cert.Ffn

open Cert.Kernel2Ideal Cert.Kernel2Ideal.Gen
open Idealize.ShloMosaic Idealize.ShloMosaic.TcCoe Idealize.SL.Sem
open scoped BigOperators

variable (x0 x1 : Vec Ideal S256x1024 .f32) (x2 : Vec Ideal S1x1024 .f32) (x3 x4 : Vec Ideal S256x2816 .bf16)
  (v29 v31 : FVec Ideal S256x2816 .bf16) (w w' : Vec Ideal S2816x1024 .bf16) (r : Fin 256) (d : Fin 1024) (f : Fin 2816)

theorem pay2_at (a : Fin 8) : k0_pay2 (F := Ideal) (ix2 a d) = 0 := by pointwise [k0_pay2]
theorem pay3_at : k0_pay3 x0 (ix2 r d) = Ideal.ofBits .f32 0x3F000000#32 * x0 (ix2 r d) := by pointwise [k0_pay3]
theorem pay4_at : k0_pay4 x0 w (ix2 r f) = ∑ d : Fin 1024, (Ideal.ofBits .f32 0x3F000000#32 * x0 (ix2 r d)) * w (ix2 f d) := by
  pointwise [k0_pay4, k0_pay3]
theorem pay7_at : k0_pay7 x3 (ix2 r f) = Ideal.logistic (x3 (ix2 r f)) := by pointwise [k0_pay7, k0_pay5]
theorem pay9_at : k0_pay9 x3 x4 (ix2 r f) = x3 (ix2 r f) * Ideal.logistic (x3 (ix2 r f)) * x4 (ix2 r f) := by
  pointwise [k0_pay9, k0_pay8, k0_pay7, k0_pay5, k0_pay6]
theorem pay10_at : k0_pay10 x0 w x3 x4 (ix2 r f)
    = (k0_pay4 x0 w (ix2 r f) * x4 (ix2 r f)) * (Ideal.logistic (x3 (ix2 r f))
        * (Ideal.ofBits .f32 0x3F800000#32 + x3 (ix2 r f) * (Ideal.ofBits .f32 0x3F800000#32 - Ideal.logistic (x3 (ix2 r f))))) := by
  pointwise [k0_pay10, k0_pay7, k0_pay5, k0_pay6]
theorem pay11_at : k0_pay11 x0 w x3 (ix2 r f) = k0_pay4 x0 w (ix2 r f) * (x3 (ix2 r f) * Ideal.logistic (x3 (ix2 r f))) := by
  pointwise [k0_pay11, k0_pay8, k0_pay7, k0_pay5]
theorem pay12_at : k0_pay12 v29 v31 w w' (ix2 r d)
    = (∑ f : Fin 2816, v29 (ix2 r f) * w (ix2 f d)) + ∑ f : Fin 2816, v31 (ix2 r f) * w' (ix2 f d) := by
  pointwise [k0_pay12]
theorem pay13_at : k0_pay13 x1 (ix2 r 0)
    = Ideal.rsqrt (Ideal.div (∑ d : Fin 1024, x1 (ix2 r d) * x1 (ix2 r d)) (Ideal.ofBits .f32 0x44800000#32) + Ideal.ofBits .f32 0x358637BD#32) := by
  pointwise [k0_pay13]
theorem pay14_at : k0_pay14 x1 (ix2 r d) = x1 (ix2 r d) * k0_pay13 x1 (ix2 r 0) := by
  unfold k0_pay14
  generalize k0_pay13 x1 = y
  pointwise []
theorem pay15_at (a : Fin 8) (v50 : Vec Ideal S8x1024 .f32) : k0_pay15 v29 v31 w w' x1 v50 (ix2 a d)
    = v50 (ix2 a d) + ∑ r : Fin 256, k0_pay12 v29 v31 w w' (ix2 r d) * k0_pay14 x1 (ix2 r d) := by
  unfold k0_pay15
  generalize k0_pay12 v29 v31 w w' = y
  generalize k0_pay14 x1 = y'
  pointwise []
theorem pay16_at : k0_pay16 v29 v31 w w' x2 (ix2 r d) = k0_pay12 v29 v31 w w' (ix2 r d) * x2 (ix2 0 d) := by
  unfold k0_pay16
  generalize k0_pay12 v29 v31 w w' = y
  pointwise []
theorem pay17_at : k0_pay17 v29 v31 w w' x1 x2 (ix2 r 0)
    = Ideal.div (∑ d : Fin 1024, k0_pay16 v29 v31 w w' x2 (ix2 r d) * k0_pay14 x1 (ix2 r d)) (Ideal.ofBits .f32 0x44800000#32) := by
  unfold k0_pay17
  generalize k0_pay16 v29 v31 w w' x2 = y
  generalize k0_pay14 x1 = y'
  pointwise []
theorem pay1_at (v47 v68 : FVec Ideal S256x1 .f32) (v49 v62 : FVec Ideal S256x1024 .f32) : k0_pay1 v47 v49 v62 x0 v68 (ix2 r d)
    = x0 (ix2 r d) + v47 (ix2 r 0) * (v62 (ix2 r d) - v49 (ix2 r d) * v68 (ix2 r 0)) := by
  pointwise [k0_pay1]

end Cert.Ffn
end
-- ==== Proof.Ffn.Block.lean ====
/-
  The blocks of the feed-forward backward call at a point, and what one point computes of them, as real numbers.
-/
module

public import proofs.«01_k».proof.Proof.Ffn.Host
public import proofs.«01_k».proof.Proof.Ffn.Pay

@[expose] public section

set_option maxRecDepth 16384

noncomputable section

namespace Cert.Ffn

open Cert.Kernel2Ideal Cert.Kernel2Ideal.Gen
open Idealize.ShloMosaic Idealize.ShloMosaic.TcCoe Idealize.SL.Sem
open scoped BigOperators

section Point
variable {A : Args} {ρ : Fin 256 → Fin 8192}
  {x0 x1 : Vec Ideal S256x1024 .f32} {x2 : Vec Ideal S1x1024 .f32} {x3 x4 : Vec Ideal S256x2816 .bf16}
  {w2 w1 w3 : Vec Ideal S2816x1024 .bf16}

/-- The blocks of a point and the weights hold the real arguments of the rows `ρ`. -/
structure Blk (A : Args) (ρ : Fin 256 → Fin 8192) (x0 x1 : Vec Ideal S256x1024 .f32) (x2 : Vec Ideal S1x1024 .f32)
    (x3 x4 : Vec Ideal S256x2816 .bf16) (w2 w1 w3 : Vec Ideal S2816x1024 .bf16) : Prop where
  ct : ∀ r d, x0 (ix2 r d) = ((A.ct (ρ r) d : ℝ) : EReal)
  h : ∀ r d, x1 (ix2 r d) = ((A.h (ρ r) d : ℝ) : EReal)
  g : ∀ d, x2 (ix2 0 d) = ((A.g d : ℝ) : EReal)
  z1 : ∀ r f, x3 (ix2 r f) = ((A.z1 (ρ r) f : ℝ) : EReal)
  z3 : ∀ r f, x4 (ix2 r f) = ((A.z3 (ρ r) f : ℝ) : EReal)
  w2 : ∀ f d, w2 (ix2 f d) = ((A.w2 f d : ℝ) : EReal)
  w1 : ∀ f d, w1 (ix2 f d) = ((A.w1 d f : ℝ) : EReal)
  w3 : ∀ f d, w3 (ix2 f d) = ((A.w3 d f : ℝ) : EReal)

variable (B : Blk A ρ x0 x1 x2 x3 x4 w2 w1 w3) (r : Fin 256) (d : Fin 1024) (f : Fin 2816)
include B

theorem p3 : k0_pay3 x0 (ix2 r d) = ((A.df (ρ r) d : ℝ) : EReal) := by
  rw [pay3_at, B.ct, ofBits_half, ← EReal.coe_mul]; rfl
theorem p4 : k0_pay4 x0 w2 (ix2 r f) = ((A.da (ρ r) f : ℝ) : EReal) := by
  rw [pay4_at]
  refine Eq.trans ?_ (coe_sum' Finset.univ _).symm
  exact Finset.sum_congr rfl fun k _ => by rw [B.ct, B.w2, ofBits_half, ← EReal.coe_mul, ← EReal.coe_mul]; rfl
theorem p9 : k0_pay9 x3 x4 (ix2 r f) = ((A.act (ρ r) f : ℝ) : EReal) := by
  rw [pay9_at, B.z1, B.z3, logistic_z1, ← EReal.coe_mul, ← EReal.coe_mul]; rfl
theorem p10 : k0_pay10 x0 w2 x3 x4 (ix2 r f) = ((A.dz1 (ρ r) f : ℝ) : EReal) := by
  rw [pay10_at, p4 B, B.z1, B.z3, logistic_z1, ofBits_one, ← EReal.coe_sub, ← EReal.coe_mul, ← EReal.coe_mul, ← EReal.coe_add, ← EReal.coe_mul,
    ← EReal.coe_mul]; rfl
theorem p11 : k0_pay11 x0 w2 x3 (ix2 r f) = ((A.dz3 (ρ r) f : ℝ) : EReal) := by
  rw [pay11_at, p4 B, B.z1, logistic_z1, ← EReal.coe_mul, ← EReal.coe_mul]; rfl
theorem p12 : k0_pay12 (k0_pay10 x0 w2 x3 x4) (k0_pay11 x0 w2 x3) w1 w3 (ix2 r d) = ((A.dn (ρ r) d : ℝ) : EReal) := by
  rw [pay12_at]
  refine Eq.trans ?_ (EReal.coe_add _ _).symm
  refine congrArg₂ (fun a b : EReal => a + b) ?_ ?_
  · refine Eq.trans ?_ (coe_sum' Finset.univ _).symm
    exact Finset.sum_congr rfl fun k _ => by rw [p10 B, B.w1, EReal.coe_mul]
  · refine Eq.trans ?_ (coe_sum' Finset.univ _).symm
    exact Finset.sum_congr rfl fun k _ => by rw [p11 B, B.w3, EReal.coe_mul]
theorem p13 : k0_pay13 x1 (ix2 r 0) = ((A.r (ρ r) : ℝ) : EReal) := by
  have e : (∑ d : Fin 1024, x1 (ix2 r d) * x1 (ix2 r d)) = ((∑ d, A.h (ρ r) d * A.h (ρ r) d : ℝ) : EReal) := by
    refine Eq.trans ?_ (coe_sum' Finset.univ _).symm
    exact Finset.sum_congr rfl fun k _ => by rw [B.h, EReal.coe_mul]
  rw [pay13_at, e, ofBits_1024, ofBits_eps, div_real' _ (by norm_num), ← EReal.coe_add]
  exact rsqrt_ms A _
theorem p14 : k0_pay14 x1 (ix2 r d) = ((A.xh (ρ r) d : ℝ) : EReal) := by
  rw [pay14_at, p13 B, B.h, ← EReal.coe_mul]; rfl
theorem p15 (a : Fin 8) (v : Vec Ideal S8x1024 .f32) :
    k0_pay15 (k0_pay10 x0 w2 x3 x4) (k0_pay11 x0 w2 x3) w1 w3 x1 v (ix2 a d)
      = v (ix2 a d) + ((∑ r, A.dn (ρ r) d * A.xh (ρ r) d : ℝ) : EReal) := by
  rw [pay15_at]
  refine congrArg (fun z : EReal => v (ix2 a d) + z) ?_
  refine Eq.trans ?_ (coe_sum' Finset.univ _).symm
  exact Finset.sum_congr rfl fun k _ => by rw [p12 B, p14 B, EReal.coe_mul]
theorem p16 : k0_pay16 (k0_pay10 x0 w2 x3 x4) (k0_pay11 x0 w2 x3) w1 w3 x2 (ix2 r d) = ((A.dn (ρ r) d * A.g d : ℝ) : EReal) := by
  rw [pay16_at, p12 B, B.g, EReal.coe_mul]
theorem p17 : k0_pay17 (k0_pay10 x0 w2 x3 x4) (k0_pay11 x0 w2 x3) w1 w3 x1 x2 (ix2 r 0) = ((A.mean (ρ r) : ℝ) : EReal) := by
  have e : (∑ d : Fin 1024, k0_pay16 (k0_pay10 x0 w2 x3 x4) (k0_pay11 x0 w2 x3) w1 w3 x2 (ix2 r d) * k0_pay14 x1 (ix2 r d))
      = ((∑ k, A.dn (ρ r) k * A.g k * A.xh (ρ r) k : ℝ) : EReal) := by
    refine Eq.trans ?_ (coe_sum' Finset.univ _).symm
    exact Finset.sum_congr rfl fun k _ => by rw [p16 B, p14 B]; exact (EReal.coe_mul _ _).symm
  rw [pay17_at, e, ofBits_1024, div_real' _ (by norm_num)]; rfl
theorem p1 : k0_pay1 (k0_pay13 x1) (k0_pay14 x1) (k0_pay16 (k0_pay10 x0 w2 x3 x4) (k0_pay11 x0 w2 x3) w1 w3 x2) x0
    (k0_pay17 (k0_pay10 x0 w2 x3 x4) (k0_pay11 x0 w2 x3) w1 w3 x1 x2) (ix2 r d) = ((A.dh (ρ r) d : ℝ) : EReal) := by
  rw [pay1_at, p13 B, p14 B, p16 B, p17 B, B.ct, ← EReal.coe_mul, ← EReal.coe_sub, ← EReal.coe_mul, ← EReal.coe_add]; rfl

end Point

end Cert.Ffn
end
-- ==== Proof.Ffn.CaseB.lean ====
module

public import proofs.«01_k».proof.Proof.Gen.Kernel2Ideal.Frame
public import Idealize.ShloMosaic.Lib.Pointwise

@[expose] public section

set_option maxRecDepth 16384

noncomputable section

namespace Cert.Ffn

open Cert.Kernel2Ideal Cert.Kernel2Ideal.Gen
open Idealize.ShloMosaic Idealize.ShloMosaic.TcCoe Idealize.SL.Sem
open scoped BigOperators

theorem hz : (![0, 0] : Fin 2 → Nat) = fun _ => 0 := funext fun a => by fin_cases a <;> rfl

section

variable {F : FTy → Type} [FloatOps F]
variable (c : Dev nD) (i : grid0.Coords)
  (a1 : Memref sig .tc .vmem S256x1024 .f32) (h1 : a1.IsWhole)
  (a2 : Memref sig .tc .vmem S256x1024 .f32) (h2 : a2.IsWhole)
  (a3 : Memref sig .tc .vmem S1x1024 .f32) (h3 : a3.IsWhole)
  (a4 : Memref sig .tc .vmem S256x2816 .bf16) (h4 : a4.IsWhole)
  (a5 : Memref sig .tc .vmem S256x2816 .bf16) (h5 : a5.IsWhole)
  (a9 : Memref sig .tc .vmem S8x128 .f32) (h9 : a9.IsWhole)
  (a10 : Memref sig .tc .vmem S256x1024 .f32) (h10 : a10.IsWhole)
  (a11 : Memref sig .tc .vmem S8x1024 .f32) (h11 : a11.IsWhole)
  (a12 : Memref sig .tc .vmem S256x2816 .bf16) (h12 : a12.IsWhole)
  (a13 : Memref sig .tc .vmem S256x2816 .bf16) (h13 : a13.IsWhole)
  (a14 : Memref sig .tc .vmem S256x2816 .bf16) (h14 : a14.IsWhole)
  (a15 : Memref sig .tc .vmem S256x1024 .bf16) (h15 : a15.IsWhole)
  (a16 : Memref sig .tc .vmem S2816x1024 .bf16) (h16 : a16.IsWhole)
  (a17 : Memref sig .tc .vmem S2816x1024 .bf16) (h17 : a17.IsWhole)
  (a18 : Memref sig .tc .vmem S2816x1024 .bf16) (h18 : a18.IsWhole)
  (x0 x1 : Vec F S256x1024 .f32) (x2 : Vec F S1x1024 .f32) (x3 x4 : Vec F S256x2816 .bf16) (x5 : Vec F S8x128 .f32)
  (xo7 : Vec F S8x1024 .f32) (xs0 xs1 xs2 : Vec F S2816x1024 .bf16)
  (fh0 : HbBuf0 (F := F) c hbM0_0) (fh1 : HbBuf0 (F := F) c hbM0_1) (fh2 : HbBuf0 (F := F) c hbM0_2)

theorem out_B_6 (hc0 : ¬cond0_0 i) :
    out0_B_6 c i a1 h1 a2 h2 a3 h3 a4 h4 a5 h5 a9 h9 a10 h10 a11 h11 a12 h12 a13 h13 a14 h14 a15 h15 a16 h16 a17 h17 a18 h18 hc0 x0 x1 x2 x3 x4 x5 xo7 xs0 xs1 xs2 fh0 fh1 fh2 = k0_pay1 (k0_pay13 x1) (k0_pay14 x1) (k0_pay16 (k0_pay10 x0 xs0 x3 x4) (k0_pay11 x0 xs0 x3) xs1 xs2 x2) x0 (k0_pay17 (k0_pay10 x0 xs0 x3 x4) (k0_pay11 x0 xs0 x3) xs1 xs2 x1 x2) := by
  unfold out0_B_6
  rw [View.read_writes_eq_canon _ _ _ (cover0_B_6 c i a1 h1 a2 h2 a3 h3 a4 h4 a5 h5 a9 h9 a10 h10 a11 h11 a12 h12 a13 h13 a14 h14 a15 h15 a16 h16 a17 h17 a18 h18 hc0 x0 x1 x2 x3 x4 x5 xo7 xs0 xs1 xs2 fh0 fh1 fh2)]
  unfold kernelRun0_B
  dsimp only
  sl_unfold_words
  rw [View.canon_unit_zero (S := S256x1024) hz]
  simp only [View.readAt_eq_ld, h1.read_unread, h2.read_unread, h3.read_unread, h4.read_unread, h5.read_unread, h9.read_unread, h10.read_unread, h11.read_unread, h12.read_unread, h13.read_unread, h14.read_unread, h15.read_unread, h16.read_unread, h17.read_unread, h18.read_unread, View.ld_unit_zero (S := S256x1024) hz, View.ld_unit_zero (S := S1x1024) hz, View.ld_unit_zero (S := S256x2816) hz, View.ld_unit_zero (S := S8x1024) hz, View.ld_unit_zero (S := S2816x1024) hz, View.ld_unit_zero (S := S8x128) hz]

theorem out_B_7 (hc0 : ¬cond0_0 i) :
    out0_B_7 c i a1 h1 a2 h2 a3 h3 a4 h4 a5 h5 a9 h9 a10 h10 a11 h11 a12 h12 a13 h13 a14 h14 a15 h15 a16 h16 a17 h17 a18 h18 hc0 x0 x1 x2 x3 x4 x5 xo7 xs0 xs1 xs2 fh0 fh1 fh2 = k0_pay15 (k0_pay10 x0 xs0 x3 x4) (k0_pay11 x0 xs0 x3) xs1 xs2 x1 xo7 := by
  unfold out0_B_7
  rw [View.read_writes_eq_canon _ _ _ (cover0_B_7 c i a1 h1 a2 h2 a3 h3 a4 h4 a5 h5 a9 h9 a10 h10 a11 h11 a12 h12 a13 h13 a14 h14 a15 h15 a16 h16 a17 h17 a18 h18 hc0 x0 x1 x2 x3 x4 x5 xo7 xs0 xs1 xs2 fh0 fh1 fh2)]
  unfold kernelRun0_B
  dsimp only
  sl_unfold_words
  rw [View.canon_unit_zero (S := S8x1024) hz]
  simp only [View.readAt_eq_ld, h1.read_unread, h2.read_unread, h3.read_unread, h4.read_unread, h5.read_unread, h9.read_unread, h10.read_unread, h11.read_unread, h12.read_unread, h13.read_unread, h14.read_unread, h15.read_unread, h16.read_unread, h17.read_unread, h18.read_unread, View.ld_unit_zero (S := S256x1024) hz, View.ld_unit_zero (S := S1x1024) hz, View.ld_unit_zero (S := S256x2816) hz, View.ld_unit_zero (S := S8x1024) hz, View.ld_unit_zero (S := S2816x1024) hz, View.ld_unit_zero (S := S8x128) hz]

theorem out_B_8 (hc0 : ¬cond0_0 i) :
    out0_B_8 c i a1 h1 a2 h2 a3 h3 a4 h4 a5 h5 a9 h9 a10 h10 a11 h11 a12 h12 a13 h13 a14 h14 a15 h15 a16 h16 a17 h17 a18 h18 hc0 x0 x1 x2 x3 x4 x5 xo7 xs0 xs1 xs2 fh0 fh1 fh2 = (k0_pay10 x0 xs0 x3 x4) := by
  unfold out0_B_8
  rw [View.read_writes_eq_canon _ _ _ (cover0_B_8 c i a1 h1 a2 h2 a3 h3 a4 h4 a5 h5 a9 h9 a10 h10 a11 h11 a12 h12 a13 h13 a14 h14 a15 h15 a16 h16 a17 h17 a18 h18 hc0 x0 x1 x2 x3 x4 x5 xo7 xs0 xs1 xs2 fh0 fh1 fh2)]
  unfold kernelRun0_B
  dsimp only
  sl_unfold_words
  rw [View.canon_unit_zero (S := S256x2816) hz]
  simp only [View.readAt_eq_ld, h1.read_unread, h2.read_unread, h3.read_unread, h4.read_unread, h5.read_unread, h9.read_unread, h10.read_unread, h11.read_unread, h12.read_unread, h13.read_unread, h14.read_unread, h15.read_unread, h16.read_unread, h17.read_unread, h18.read_unread, View.ld_unit_zero (S := S256x1024) hz, View.ld_unit_zero (S := S1x1024) hz, View.ld_unit_zero (S := S256x2816) hz, View.ld_unit_zero (S := S8x1024) hz, View.ld_unit_zero (S := S2816x1024) hz, View.ld_unit_zero (S := S8x128) hz]

theorem out_B_9 (hc0 : ¬cond0_0 i) :
    out0_B_9 c i a1 h1 a2 h2 a3 h3 a4 h4 a5 h5 a9 h9 a10 h10 a11 h11 a12 h12 a13 h13 a14 h14 a15 h15 a16 h16 a17 h17 a18 h18 hc0 x0 x1 x2 x3 x4 x5 xo7 xs0 xs1 xs2 fh0 fh1 fh2 = (k0_pay11 x0 xs0 x3) := by
  unfold out0_B_9
  rw [View.read_writes_eq_canon _ _ _ (cover0_B_9 c i a1 h1 a2 h2 a3 h3 a4 h4 a5 h5 a9 h9 a10 h10 a11 h11 a12 h12 a13 h13 a14 h14 a15 h15 a16 h16 a17 h17 a18 h18 hc0 x0 x1 x2 x3 x4 x5 xo7 xs0 xs1 xs2 fh0 fh1 fh2)]
  unfold kernelRun0_B
  dsimp only
  sl_unfold_words
  rw [View.canon_unit_zero (S := S256x2816) hz]
  simp only [View.readAt_eq_ld, h1.read_unread, h2.read_unread, h3.read_unread, h4.read_unread, h5.read_unread, h9.read_unread, h10.read_unread, h11.read_unread, h12.read_unread, h13.read_unread, h14.read_unread, h15.read_unread, h16.read_unread, h17.read_unread, h18.read_unread, View.ld_unit_zero (S := S256x1024) hz, View.ld_unit_zero (S := S1x1024) hz, View.ld_unit_zero (S := S256x2816) hz, View.ld_unit_zero (S := S8x1024) hz, View.ld_unit_zero (S := S2816x1024) hz, View.ld_unit_zero (S := S8x128) hz]

theorem out_B_10 (hc0 : ¬cond0_0 i) :
    out0_B_10 c i a1 h1 a2 h2 a3 h3 a4 h4 a5 h5 a9 h9 a10 h10 a11 h11 a12 h12 a13 h13 a14 h14 a15 h15 a16 h16 a17 h17 a18 h18 hc0 x0 x1 x2 x3 x4 x5 xo7 xs0 xs1 xs2 fh0 fh1 fh2 = k0_pay9 x3 x4 := by
  unfold out0_B_10
  rw [View.read_writes_eq_canon _ _ _ (cover0_B_10 c i a1 h1 a2 h2 a3 h3 a4 h4 a5 h5 a9 h9 a10 h10 a11 h11 a12 h12 a13 h13 a14 h14 a15 h15 a16 h16 a17 h17 a18 h18 hc0 x0 x1 x2 x3 x4 x5 xo7 xs0 xs1 xs2 fh0 fh1 fh2)]
  unfold kernelRun0_B
  dsimp only
  sl_unfold_words
  rw [View.canon_unit_zero (S := S256x2816) hz]
  simp only [View.readAt_eq_ld, h1.read_unread, h2.read_unread, h3.read_unread, h4.read_unread, h5.read_unread, h9.read_unread, h10.read_unread, h11.read_unread, h12.read_unread, h13.read_unread, h14.read_unread, h15.read_unread, h16.read_unread, h17.read_unread, h18.read_unread, View.ld_unit_zero (S := S256x1024) hz, View.ld_unit_zero (S := S1x1024) hz, View.ld_unit_zero (S := S256x2816) hz, View.ld_unit_zero (S := S8x1024) hz, View.ld_unit_zero (S := S2816x1024) hz, View.ld_unit_zero (S := S8x128) hz]

theorem out_B_11 (hc0 : ¬cond0_0 i) :
    out0_B_11 c i a1 h1 a2 h2 a3 h3 a4 h4 a5 h5 a9 h9 a10 h10 a11 h11 a12 h12 a13 h13 a14 h14 a15 h15 a16 h16 a17 h17 a18 h18 hc0 x0 x1 x2 x3 x4 x5 xo7 xs0 xs1 xs2 fh0 fh1 fh2 = k0_pay3 x0 := by
  unfold out0_B_11
  rw [View.read_writes_eq_canon _ _ _ (cover0_B_11 c i a1 h1 a2 h2 a3 h3 a4 h4 a5 h5 a9 h9 a10 h10 a11 h11 a12 h12 a13 h13 a14 h14 a15 h15 a16 h16 a17 h17 a18 h18 hc0 x0 x1 x2 x3 x4 x5 xo7 xs0 xs1 xs2 fh0 fh1 fh2)]
  unfold kernelRun0_B
  dsimp only
  sl_unfold_words
  rw [View.canon_unit_zero (S := S256x1024) hz]
  simp only [View.readAt_eq_ld, h1.read_unread, h2.read_unread, h3.read_unread, h4.read_unread, h5.read_unread, h9.read_unread, h10.read_unread, h11.read_unread, h12.read_unread, h13.read_unread, h14.read_unread, h15.read_unread, h16.read_unread, h17.read_unread, h18.read_unread, View.ld_unit_zero (S := S256x1024) hz, View.ld_unit_zero (S := S1x1024) hz, View.ld_unit_zero (S := S256x2816) hz, View.ld_unit_zero (S := S8x1024) hz, View.ld_unit_zero (S := S2816x1024) hz, View.ld_unit_zero (S := S8x128) hz]

end
end Cert.Ffn
end
-- ==== Proof.Ffn.CaseA.lean ====
module

public import proofs.«01_k».proof.Proof.Gen.Kernel2Ideal.Frame
public import proofs.«01_k».proof.Proof.Ffn.CaseB
public import Idealize.ShloMosaic.Lib.Pointwise

@[expose] public section

set_option maxRecDepth 16384

noncomputable section

namespace Cert.Ffn

open Cert.Kernel2Ideal Cert.Kernel2Ideal.Gen
open Idealize.ShloMosaic Idealize.ShloMosaic.TcCoe Idealize.SL.Sem
open scoped BigOperators

theorem canon_whole {Val : EltTy → Type} [∀ e, Nonempty (Val e)] {S : Shape} {e : EltTy} (w : S.Idx → Val e) :
    View.canon [(⟨Rect.whole S, w⟩ : View.Piece Val S e)] = w :=
  View.canon_unit_zero (S := S) rfl (fun a => by simp) w

theorem readCov_whole {Val : EltTy → Type} [∀ e, Nonempty (Val e)] {S : Shape} {e : EltTy} {sp : Space} (v : View sig .tc sp S e)
    {off : Fin S.rank → Nat} (h : off = fun _ => 0) (inb : ∀ a, off a + S.size a ≤ S.size a) (w : S.Idx → Val e) :
    v.readCov [(⟨Rect.whole S, w⟩ : View.Piece Val S e)] (Rect.unit off S.size inb).toLoadRect = w := by
  subst h
  exact View.readCov_unit_zero v rfl (fun a => by simp) w

section

variable {F : FTy → Type} [FloatOps F]
variable (c : Dev nD) (i : grid0.Coords)
  (a1 : Memref sig .tc .vmem S256x1024 .f32) (h1 : a1.IsWhole)
  (a2 : Memref sig .tc .vmem S256x1024 .f32) (h2 : a2.IsWhole)
  (a3 : Memref sig .tc .vmem S1x1024 .f32) (h3 : a3.IsWhole)
  (a4 : Memref sig .tc .vmem S256x2816 .bf16) (h4 : a4.IsWhole)
  (a5 : Memref sig .tc .vmem S256x2816 .bf16) (h5 : a5.IsWhole)
  (a9 : Memref sig .tc .vmem S8x128 .f32) (h9 : a9.IsWhole)
  (a10 : Memref sig .tc .vmem S256x1024 .f32) (h10 : a10.IsWhole)
  (a11 : Memref sig .tc .vmem S8x1024 .f32) (h11 : a11.IsWhole)
  (a12 : Memref sig .tc .vmem S256x2816 .bf16) (h12 : a12.IsWhole)
  (a13 : Memref sig .tc .vmem S256x2816 .bf16) (h13 : a13.IsWhole)
  (a14 : Memref sig .tc .vmem S256x2816 .bf16) (h14 : a14.IsWhole)
  (a15 : Memref sig .tc .vmem S256x1024 .bf16) (h15 : a15.IsWhole)
  (a16 : Memref sig .tc .vmem S2816x1024 .bf16) (h16 : a16.IsWhole)
  (a17 : Memref sig .tc .vmem S2816x1024 .bf16) (h17 : a17.IsWhole)
  (a18 : Memref sig .tc .vmem S2816x1024 .bf16) (h18 : a18.IsWhole)
  (x0 x1 : Vec F S256x1024 .f32) (x2 : Vec F S1x1024 .f32) (x3 x4 : Vec F S256x2816 .bf16) (x5 : Vec F S8x128 .f32)
  (fh0 : HbBuf0 (F := F) c hbM0_0) (fh1 : HbBuf0 (F := F) c hbM0_1) (fh2 : HbBuf0 (F := F) c hbM0_2)

theorem sout_A_0 (hc0 : cond0_0 i) :
    sout0_A_0 c i a1 h1 a2 h2 a3 h3 a4 h4 a5 h5 a9 h9 a10 h10 a11 h11 a12 h12 a13 h13 a14 h14 a15 h15 a16 h16 a17 h17 a18 h18 hc0 x0 x1 x2 x3 x4 x5 fh0 fh1 fh2 = fh0 := by
  unfold sout0_A_0
  rw [View.read_writes_eq_canon _ _ _ (scover0_A_0 c i a1 h1 a2 h2 a3 h3 a4 h4 a5 h5 a9 h9 a10 h10 a11 h11 a12 h12 a13 h13 a14 h14 a15 h15 a16 h16 a17 h17 a18 h18 hc0 x0 x1 x2 x3 x4 x5 fh0 fh1 fh2)]
  unfold kernelRun0_A
  dsimp only
  sl_unfold_words
  rw [canon_whole]
  rfl

theorem sout_A_1 (hc0 : cond0_0 i) :
    sout0_A_1 c i a1 h1 a2 h2 a3 h3 a4 h4 a5 h5 a9 h9 a10 h10 a11 h11 a12 h12 a13 h13 a14 h14 a15 h15 a16 h16 a17 h17 a18 h18 hc0 x0 x1 x2 x3 x4 x5 fh0 fh1 fh2 = fh1 := by
  unfold sout0_A_1
  rw [View.read_writes_eq_canon _ _ _ (scover0_A_1 c i a1 h1 a2 h2 a3 h3 a4 h4 a5 h5 a9 h9 a10 h10 a11 h11 a12 h12 a13 h13 a14 h14 a15 h15 a16 h16 a17 h17 a18 h18 hc0 x0 x1 x2 x3 x4 x5 fh0 fh1 fh2)]
  unfold kernelRun0_A
  dsimp only
  sl_unfold_words
  rw [canon_whole]
  rfl

theorem sout_A_2 (hc0 : cond0_0 i) :
    sout0_A_2 c i a1 h1 a2 h2 a3 h3 a4 h4 a5 h5 a9 h9 a10 h10 a11 h11 a12 h12 a13 h13 a14 h14 a15 h15 a16 h16 a17 h17 a18 h18 hc0 x0 x1 x2 x3 x4 x5 fh0 fh1 fh2 = fh2 := by
  unfold sout0_A_2
  rw [View.read_writes_eq_canon _ _ _ (scover0_A_2 c i a1 h1 a2 h2 a3 h3 a4 h4 a5 h5 a9 h9 a10 h10 a11 h11 a12 h12 a13 h13 a14 h14 a15 h15 a16 h16 a17 h17 a18 h18 hc0 x0 x1 x2 x3 x4 x5 fh0 fh1 fh2)]
  unfold kernelRun0_A
  dsimp only
  sl_unfold_words
  rw [canon_whole]
  rfl

theorem out_A_6 (hc0 : cond0_0 i) :
    out0_A_6 c i a1 h1 a2 h2 a3 h3 a4 h4 a5 h5 a9 h9 a10 h10 a11 h11 a12 h12 a13 h13 a14 h14 a15 h15 a16 h16 a17 h17 a18 h18 hc0 x0 x1 x2 x3 x4 x5 fh0 fh1 fh2 = k0_pay1 (k0_pay13 x1) (k0_pay14 x1) (k0_pay16 (k0_pay10 x0 fh0 x3 x4) (k0_pay11 x0 fh0 x3) fh1 fh2 x2) x0 (k0_pay17 (k0_pay10 x0 fh0 x3 x4) (k0_pay11 x0 fh0 x3) fh1 fh2 x1 x2) := by
  unfold out0_A_6
  rw [View.read_writes_eq_canon _ _ _ (cover0_A_6 c i a1 h1 a2 h2 a3 h3 a4 h4 a5 h5 a9 h9 a10 h10 a11 h11 a12 h12 a13 h13 a14 h14 a15 h15 a16 h16 a17 h17 a18 h18 hc0 x0 x1 x2 x3 x4 x5 fh0 fh1 fh2)]
  unfold kernelRun0_A
  dsimp only
  sl_unfold_words
  rw [View.canon_unit_zero (S := S256x1024) hz]
  simp only [readCov_whole (S := S2816x1024) _ hz, View.readCov_unit_zero (S := S8x1024) _ hz, View.readAt_eq_ld, h1.read_unread, h2.read_unread, h3.read_unread, h4.read_unread, h5.read_unread, h9.read_unread, h10.read_unread, h11.read_unread, h12.read_unread, h13.read_unread, h14.read_unread, h15.read_unread, h16.read_unread, h17.read_unread, h18.read_unread, View.ld_unit_zero (S := S256x1024) hz, View.ld_unit_zero (S := S1x1024) hz, View.ld_unit_zero (S := S256x2816) hz, View.ld_unit_zero (S := S8x1024) hz, View.ld_unit_zero (S := S2816x1024) hz, View.ld_unit_zero (S := S8x128) hz]
  rfl

theorem out_A_7 (hc0 : cond0_0 i) :
    out0_A_7 c i a1 h1 a2 h2 a3 h3 a4 h4 a5 h5 a9 h9 a10 h10 a11 h11 a12 h12 a13 h13 a14 h14 a15 h15 a16 h16 a17 h17 a18 h18 hc0 x0 x1 x2 x3 x4 x5 fh0 fh1 fh2 = k0_pay15 (k0_pay10 x0 fh0 x3 x4) (k0_pay11 x0 fh0 x3) fh1 fh2 x1 k0_pay2 := by
  unfold out0_A_7
  rw [View.read_writes_eq_canon _ _ _ (cover0_A_7 c i a1 h1 a2 h2 a3 h3 a4 h4 a5 h5 a9 h9 a10 h10 a11 h11 a12 h12 a13 h13 a14 h14 a15 h15 a16 h16 a17 h17 a18 h18 hc0 x0 x1 x2 x3 x4 x5 fh0 fh1 fh2)]
  unfold kernelRun0_A
  dsimp only
  sl_unfold_words
  rw [View.canon_cons_unit_zero (S := S8x1024) hz]
  simp only [readCov_whole (S := S2816x1024) _ hz, View.readCov_unit_zero (S := S8x1024) _ hz, View.readAt_eq_ld, h1.read_unread, h2.read_unread, h3.read_unread, h4.read_unread, h5.read_unread, h9.read_unread, h10.read_unread, h11.read_unread, h12.read_unread, h13.read_unread, h14.read_unread, h15.read_unread, h16.read_unread, h17.read_unread, h18.read_unread, View.ld_unit_zero (S := S256x1024) hz, View.ld_unit_zero (S := S1x1024) hz, View.ld_unit_zero (S := S256x2816) hz, View.ld_unit_zero (S := S8x1024) hz, View.ld_unit_zero (S := S2816x1024) hz, View.ld_unit_zero (S := S8x128) hz]
  rfl

theorem out_A_8 (hc0 : cond0_0 i) :
    out0_A_8 c i a1 h1 a2 h2 a3 h3 a4 h4 a5 h5 a9 h9 a10 h10 a11 h11 a12 h12 a13 h13 a14 h14 a15 h15 a16 h16 a17 h17 a18 h18 hc0 x0 x1 x2 x3 x4 x5 fh0 fh1 fh2 = (k0_pay10 x0 fh0 x3 x4) := by
  unfold out0_A_8
  rw [View.read_writes_eq_canon _ _ _ (cover0_A_8 c i a1 h1 a2 h2 a3 h3 a4 h4 a5 h5 a9 h9 a10 h10 a11 h11 a12 h12 a13 h13 a14 h14 a15 h15 a16 h16 a17 h17 a18 h18 hc0 x0 x1 x2 x3 x4 x5 fh0 fh1 fh2)]
  unfold kernelRun0_A
  dsimp only
  sl_unfold_words
  rw [View.canon_unit_zero (S := S256x2816) hz]
  simp only [readCov_whole (S := S2816x1024) _ hz, View.readCov_unit_zero (S := S8x1024) _ hz, View.readAt_eq_ld, h1.read_unread, h2.read_unread, h3.read_unread, h4.read_unread, h5.read_unread, h9.read_unread, h10.read_unread, h11.read_unread, h12.read_unread, h13.read_unread, h14.read_unread, h15.read_unread, h16.read_unread, h17.read_unread, h18.read_unread, View.ld_unit_zero (S := S256x1024) hz, View.ld_unit_zero (S := S1x1024) hz, View.ld_unit_zero (S := S256x2816) hz, View.ld_unit_zero (S := S8x1024) hz, View.ld_unit_zero (S := S2816x1024) hz, View.ld_unit_zero (S := S8x128) hz]
  rfl

theorem out_A_9 (hc0 : cond0_0 i) :
    out0_A_9 c i a1 h1 a2 h2 a3 h3 a4 h4 a5 h5 a9 h9 a10 h10 a11 h11 a12 h12 a13 h13 a14 h14 a15 h15 a16 h16 a17 h17 a18 h18 hc0 x0 x1 x2 x3 x4 x5 fh0 fh1 fh2 = (k0_pay11 x0 fh0 x3) := by
  unfold out0_A_9
  rw [View.read_writes_eq_canon _ _ _ (cover0_A_9 c i a1 h1 a2 h2 a3 h3 a4 h4 a5 h5 a9 h9 a10 h10 a11 h11 a12 h12 a13 h13 a14 h14 a15 h15 a16 h16 a17 h17 a18 h18 hc0 x0 x1 x2 x3 x4 x5 fh0 fh1 fh2)]
  unfold kernelRun0_A
  dsimp only
  sl_unfold_words
  rw [View.canon_unit_zero (S := S256x2816) hz]
  simp only [readCov_whole (S := S2816x1024) _ hz, View.readCov_unit_zero (S := S8x1024) _ hz, View.readAt_eq_ld, h1.read_unread, h2.read_unread, h3.read_unread, h4.read_unread, h5.read_unread, h9.read_unread, h10.read_unread, h11.read_unread, h12.read_unread, h13.read_unread, h14.read_unread, h15.read_unread, h16.read_unread, h17.read_unread, h18.read_unread, View.ld_unit_zero (S := S256x1024) hz, View.ld_unit_zero (S := S1x1024) hz, View.ld_unit_zero (S := S256x2816) hz, View.ld_unit_zero (S := S8x1024) hz, View.ld_unit_zero (S := S2816x1024) hz, View.ld_unit_zero (S := S8x128) hz]
  rfl

theorem out_A_10 (hc0 : cond0_0 i) :
    out0_A_10 c i a1 h1 a2 h2 a3 h3 a4 h4 a5 h5 a9 h9 a10 h10 a11 h11 a12 h12 a13 h13 a14 h14 a15 h15 a16 h16 a17 h17 a18 h18 hc0 x0 x1 x2 x3 x4 x5 fh0 fh1 fh2 = k0_pay9 x3 x4 := by
  unfold out0_A_10
  rw [View.read_writes_eq_canon _ _ _ (cover0_A_10 c i a1 h1 a2 h2 a3 h3 a4 h4 a5 h5 a9 h9 a10 h10 a11 h11 a12 h12 a13 h13 a14 h14 a15 h15 a16 h16 a17 h17 a18 h18 hc0 x0 x1 x2 x3 x4 x5 fh0 fh1 fh2)]
  unfold kernelRun0_A
  dsimp only
  sl_unfold_words
  rw [View.canon_unit_zero (S := S256x2816) hz]
  simp only [readCov_whole (S := S2816x1024) _ hz, View.readCov_unit_zero (S := S8x1024) _ hz, View.readAt_eq_ld, h1.read_unread, h2.read_unread, h3.read_unread, h4.read_unread, h5.read_unread, h9.read_unread, h10.read_unread, h11.read_unread, h12.read_unread, h13.read_unread, h14.read_unread, h15.read_unread, h16.read_unread, h17.read_unread, h18.read_unread, View.ld_unit_zero (S := S256x1024) hz, View.ld_unit_zero (S := S1x1024) hz, View.ld_unit_zero (S := S256x2816) hz, View.ld_unit_zero (S := S8x1024) hz, View.ld_unit_zero (S := S2816x1024) hz, View.ld_unit_zero (S := S8x128) hz]

theorem out_A_11 (hc0 : cond0_0 i) :
    out0_A_11 c i a1 h1 a2 h2 a3 h3 a4 h4 a5 h5 a9 h9 a10 h10 a11 h11 a12 h12 a13 h13 a14 h14 a15 h15 a16 h16 a17 h17 a18 h18 hc0 x0 x1 x2 x3 x4 x5 fh0 fh1 fh2 = k0_pay3 x0 := by
  unfold out0_A_11
  rw [View.read_writes_eq_canon _ _ _ (cover0_A_11 c i a1 h1 a2 h2 a3 h3 a4 h4 a5 h5 a9 h9 a10 h10 a11 h11 a12 h12 a13 h13 a14 h14 a15 h15 a16 h16 a17 h17 a18 h18 hc0 x0 x1 x2 x3 x4 x5 fh0 fh1 fh2)]
  unfold kernelRun0_A
  dsimp only
  sl_unfold_words
  rw [View.canon_unit_zero (S := S256x1024) hz]
  simp only [readCov_whole (S := S2816x1024) _ hz, View.readCov_unit_zero (S := S8x1024) _ hz, View.readAt_eq_ld, h1.read_unread, h2.read_unread, h3.read_unread, h4.read_unread, h5.read_unread, h9.read_unread, h10.read_unread, h11.read_unread, h12.read_unread, h13.read_unread, h14.read_unread, h15.read_unread, h16.read_unread, h17.read_unread, h18.read_unread, View.ld_unit_zero (S := S256x1024) hz, View.ld_unit_zero (S := S1x1024) hz, View.ld_unit_zero (S := S256x2816) hz, View.ld_unit_zero (S := S8x1024) hz, View.ld_unit_zero (S := S2816x1024) hz, View.ld_unit_zero (S := S8x128) hz]

end
end Cert.Ffn
end
-- ==== Proof.Ffn.Grid.lean ====
/-
  The feed-forward backward call's results: every point's block and the sum the points keep, put together.
-/
module

public import proofs.«01_k».proof.Proof.Ffn.Block
public import proofs.«01_k».proof.Proof.Ffn.CaseA
public import proofs.«01_k».proof.Proof.Ffn.CaseB
public import Idealize.ShloMosaic.Lib.Pipeline.ValueKit

@[expose] public section

set_option maxRecDepth 16384

noncomputable section

namespace Cert.Ffn

open Cert.Kernel2Ideal Cert.Kernel2Ideal.Gen
open Idealize.ShloMosaic Idealize.ShloMosaic.TcCoe Idealize.SL.Sem
open scoped BigOperators

/-- The array's row at row `r` of point `n`. -/
def row (n : ℕ) (r : Fin 256) : Fin 8192 := ⟨(256 * n + r.val) % 8192, Nat.mod_lt _ (by decide)⟩

variable (m : (ℓ : Loc nD τ sig) → Buf (Elt Ideal) ℓ) (c : Dev nD)

theorem lt32 (t : Fin cfg0.N) : t.val < 32 := lt_of_lt_of_eq t.isLt N_0

theorem idx0 : ∀ t : Fin cfg0.N, win0_0.index t 0 = t.val ∧ win0_0.index t 1 = 0 := (by decide +kernel : ∀ t : Fin grid0.N, _)

theorem idx1 : ∀ t : Fin cfg0.N, win0_1.index t 0 = t.val ∧ win0_1.index t 1 = 0 := (by decide +kernel : ∀ t : Fin grid0.N, _)

theorem idx3 : ∀ t : Fin cfg0.N, win0_3.index t 0 = t.val ∧ win0_3.index t 1 = 0 := (by decide +kernel : ∀ t : Fin grid0.N, _)

theorem idx4 : ∀ t : Fin cfg0.N, win0_4.index t 0 = t.val ∧ win0_4.index t 1 = 0 := (by decide +kernel : ∀ t : Fin grid0.N, _)

theorem idx2 : ∀ t : Fin cfg0.N, win0_2.index t 0 = 0 ∧ win0_2.index t 1 = 0 := (by decide +kernel : ∀ t : Fin grid0.N, _)

theorem blk0 (X : Vec Ideal S8192x1024 .f32) (t : Fin cfg0.N) (r : Fin 256) (d : Fin 1024) :
    ((cfg0.win 0).blk t).view.read (Elt Ideal) X (ix2 r d) = X (ix2 (row t.val r) d) := by
  have hN := lt32 t
  refine congrArg X (funext fun a => Fin.ext ?_)
  match a with
  | ⟨0, _⟩ => show win0_0.index t 0 * 256 + 1 * r.val = (256 * t.val + r.val) % 8192; rw [(idx0 t).1]; omega
  | ⟨1, _⟩ => show win0_0.index t 1 * 1024 + 1 * d.val = d.val; rw [(idx0 t).2]; omega

theorem blk1 (X : Vec Ideal S8192x1024 .f32) (t : Fin cfg0.N) (r : Fin 256) (d : Fin 1024) :
    ((cfg0.win 1).blk t).view.read (Elt Ideal) X (ix2 r d) = X (ix2 (row t.val r) d) := by
  have hN := lt32 t
  refine congrArg X (funext fun a => Fin.ext ?_)
  match a with
  | ⟨0, _⟩ => show win0_1.index t 0 * 256 + 1 * r.val = (256 * t.val + r.val) % 8192; rw [(idx1 t).1]; omega
  | ⟨1, _⟩ => show win0_1.index t 1 * 1024 + 1 * d.val = d.val; rw [(idx1 t).2]; omega

theorem blk3 (X : Vec Ideal S8192x2816 .bf16) (t : Fin cfg0.N) (r : Fin 256) (d : Fin 2816) :
    ((cfg0.win 3).blk t).view.read (Elt Ideal) X (ix2 r d) = X (ix2 (row t.val r) d) := by
  have hN := lt32 t
  refine congrArg X (funext fun a => Fin.ext ?_)
  match a with
  | ⟨0, _⟩ => show win0_3.index t 0 * 256 + 1 * r.val = (256 * t.val + r.val) % 8192; rw [(idx3 t).1]; omega
  | ⟨1, _⟩ => show win0_3.index t 1 * 2816 + 1 * d.val = d.val; rw [(idx3 t).2]; omega

theorem blk4 (X : Vec Ideal S8192x2816 .bf16) (t : Fin cfg0.N) (r : Fin 256) (d : Fin 2816) :
    ((cfg0.win 4).blk t).view.read (Elt Ideal) X (ix2 r d) = X (ix2 (row t.val r) d) := by
  have hN := lt32 t
  refine congrArg X (funext fun a => Fin.ext ?_)
  match a with
  | ⟨0, _⟩ => show win0_4.index t 0 * 256 + 1 * r.val = (256 * t.val + r.val) % 8192; rw [(idx4 t).1]; omega
  | ⟨1, _⟩ => show win0_4.index t 1 * 2816 + 1 * d.val = d.val; rw [(idx4 t).2]; omega

theorem blk2 (X : Vec Ideal S1x1024 .f32) (t : Fin cfg0.N) (d : Fin 1024) :
    ((cfg0.win 2).blk t).view.read (Elt Ideal) X (ix2 0 d) = X (ix2 0 d) := by
  refine congrArg X (funext fun a => Fin.ext ?_)
  match a with
  | ⟨0, _⟩ => show win0_2.index t 0 * 1 + 1 * 0 = 0; rw [(idx2 t).1]
  | ⟨1, _⟩ => show win0_2.index t 1 * 1024 + 1 * d.val = d.val; rw [(idx2 t).2]; omega

/-- The blocks of a point. -/
abbrev b0 (t : Fin cfg0.N) : Vec Ideal S256x1024 .f32 := iblk m c 0 t
abbrev b1 (t : Fin cfg0.N) : Vec Ideal S256x1024 .f32 := iblk m c 1 t
abbrev b2 (t : Fin cfg0.N) : Vec Ideal S1x1024 .f32 := iblk m c 2 t
abbrev b3 (t : Fin cfg0.N) : Vec Ideal S256x2816 .bf16 := iblk m c 3 t
abbrev b4 (t : Fin cfg0.N) : Vec Ideal S256x2816 .bf16 := iblk m c 4 t
/-- The weights the call copies once. -/
abbrev W2 : Vec Ideal S2816x1024 .bf16 := V m c main_v21
abbrev W1 : Vec Ideal S2816x1024 .bf16 := V m c main_v18
abbrev W3 : Vec Ideal S2816x1024 .bf16 := V m c main_v20

theorem rd0 (t : Fin cfg0.N) (r : Fin 256) (d : Fin 1024) : b0 m c t (ix2 r d) = V m c main_arg5 (ix2 (row t.val r) d) :=
  blk0 (V m c main_arg5) t r d
theorem rd1 (t : Fin cfg0.N) (r : Fin 256) (d : Fin 1024) : b1 m c t (ix2 r d) = V m c main_arg0 (ix2 (row t.val r) d) :=
  blk1 (V m c main_arg0) t r d
theorem rd2 (t : Fin cfg0.N) (d : Fin 1024) : b2 m c t (ix2 0 d) = V m c main_v23 (ix2 0 d) := blk2 (V m c main_v23) t d
theorem rd3 (t : Fin cfg0.N) (r : Fin 256) (d : Fin 2816) : b3 m c t (ix2 r d) = V m c main_v15 (ix2 (row t.val r) d) :=
  blk3 (V m c main_v15) t r d
theorem rd4 (t : Fin cfg0.N) (r : Fin 256) (d : Fin 2816) : b4 m c t (ix2 r d) = V m c main_v16 (ix2 (row t.val r) d) :=
  blk4 (V m c main_v16) t r d

variable {m c} {A : Args}

/-- What a point reads holds the real arguments of its rows. -/
theorem blk_at (H : HoldsAt m c A) (t : Fin cfg0.N) :
    Blk A (row t.val) (b0 m c t) (b1 m c t) (b2 m c t) (b3 m c t) (b4 m c t) (W2 m c) (W1 m c) (W3 m c) where
  ct r d := (rd0 m c t r d).trans ((congrFun (V_main_arg5 m c) _).trans (H.ct _))
  h r d := (rd1 m c t r d).trans ((congrFun (V_main_arg0 m c) _).trans (H.h _))
  g d := (rd2 m c t d).trans (g_at m c H _)
  z1 r f := (rd3 m c t r f).trans (z1_at m c H _)
  z3 r f := (rd4 m c t r f).trans (z3_at m c H _)
  w2 f d := w2_at m c H f d
  w1 f d := w1_at m c H f d
  w3 f d := w3_at m c H f d

variable (m c)

/-! ## What the points leave -/

theorem sc0 : ∀ (n : ℕ) (h : n < cfg0.N), (outsAt0 m c n h).2.2.2.2.2.2.1 = W2 m c := by
  intro n
  induction n with
  | zero =>
    intro h
    refine (congrArg (fun z => z.2.2.2.2.2.2.1) (outsAt0_A m c ⟨0, h⟩ rfl)).trans ?_
    dsimp only
    exact sout_A_0 ..
  | succ n ih =>
    intro h
    have hn : n + 1 < 32 := lt_of_lt_of_eq h N_0
    refine (congrArg (fun z => z.2.2.2.2.2.2.1) (outsAt0_B m c ⟨n + 1, h⟩ (by show ¬(n + 1) % 32 = 0; omega))).trans ?_
    exact ih (Nat.lt_of_succ_lt h)

theorem sc1 : ∀ (n : ℕ) (h : n < cfg0.N), (outsAt0 m c n h).2.2.2.2.2.2.2.1 = W1 m c := by
  intro n
  induction n with
  | zero =>
    intro h
    refine (congrArg (fun z => z.2.2.2.2.2.2.2.1) (outsAt0_A m c ⟨0, h⟩ rfl)).trans ?_
    dsimp only
    exact sout_A_1 ..
  | succ n ih =>
    intro h
    have hn : n + 1 < 32 := lt_of_lt_of_eq h N_0
    refine (congrArg (fun z => z.2.2.2.2.2.2.2.1) (outsAt0_B m c ⟨n + 1, h⟩ (by show ¬(n + 1) % 32 = 0; omega))).trans ?_
    exact ih (Nat.lt_of_succ_lt h)

theorem sc2 : ∀ (n : ℕ) (h : n < cfg0.N), (outsAt0 m c n h).2.2.2.2.2.2.2.2 = W3 m c := by
  intro n
  induction n with
  | zero =>
    intro h
    refine (congrArg (fun z => z.2.2.2.2.2.2.2.2) (outsAt0_A m c ⟨0, h⟩ rfl)).trans ?_
    dsimp only
    exact sout_A_2 ..
  | succ n ih =>
    intro h
    have hn : n + 1 < 32 := lt_of_lt_of_eq h N_0
    refine (congrArg (fun z => z.2.2.2.2.2.2.2.2) (outsAt0_B m c ⟨n + 1, h⟩ (by show ¬(n + 1) % 32 = 0; omega))).trans ?_
    exact ih (Nat.lt_of_succ_lt h)

theorem left6 (t : Fin cfg0.N) : (outsAt0 m c t.val t.isLt).1 = k0_pay1 (k0_pay13 (b1 m c t)) (k0_pay14 (b1 m c t)) (k0_pay16 (k0_pay10 (b0 m c t) (W2 m c) (b3 m c t) (b4 m c t)) (k0_pay11 (b0 m c t) (W2 m c) (b3 m c t)) (W1 m c) (W3 m c) (b2 m c t)) (b0 m c t) (k0_pay17 (k0_pay10 (b0 m c t) (W2 m c) (b3 m c t) (b4 m c t)) (k0_pay11 (b0 m c t) (W2 m c) (b3 m c t)) (W1 m c) (W3 m c) (b1 m c t) (b2 m c t)) := by
  by_cases h0 : t.val % 32 = 0
  · refine (congrArg (fun z => z.1) (outsAt0_A m c t h0)).trans ?_
    dsimp only
    exact out_A_6 ..
  · refine (congrArg (fun z => z.1) (outsAt0_B m c t h0)).trans ?_
    dsimp only
    refine (out_B_6 ..).trans ?_
    rw [sc0, sc1, sc2]

theorem left8 (t : Fin cfg0.N) : (outsAt0 m c t.val t.isLt).2.2.1 = k0_pay10 (b0 m c t) (W2 m c) (b3 m c t) (b4 m c t) := by
  by_cases h0 : t.val % 32 = 0
  · refine (congrArg (fun z => z.2.2.1) (outsAt0_A m c t h0)).trans ?_
    dsimp only
    exact out_A_8 ..
  · refine (congrArg (fun z => z.2.2.1) (outsAt0_B m c t h0)).trans ?_
    dsimp only
    refine (out_B_8 ..).trans ?_
    rw [sc0]

theorem left9 (t : Fin cfg0.N) : (outsAt0 m c t.val t.isLt).2.2.2.1 = k0_pay11 (b0 m c t) (W2 m c) (b3 m c t) := by
  by_cases h0 : t.val % 32 = 0
  · refine (congrArg (fun z => z.2.2.2.1) (outsAt0_A m c t h0)).trans ?_
    dsimp only
    exact out_A_9 ..
  · refine (congrArg (fun z => z.2.2.2.1) (outsAt0_B m c t h0)).trans ?_
    dsimp only
    refine (out_B_9 ..).trans ?_
    rw [sc0]

theorem left10 (t : Fin cfg0.N) : (outsAt0 m c t.val t.isLt).2.2.2.2.1 = k0_pay9 (b3 m c t) (b4 m c t) := by
  by_cases h0 : t.val % 32 = 0
  · refine (congrArg (fun z => z.2.2.2.2.1) (outsAt0_A m c t h0)).trans ?_
    dsimp only
    exact out_A_10 ..
  · refine (congrArg (fun z => z.2.2.2.2.1) (outsAt0_B m c t h0)).trans ?_
    dsimp only
    exact out_B_10 ..

theorem left11 (t : Fin cfg0.N) : (outsAt0 m c t.val t.isLt).2.2.2.2.2.1 = k0_pay3 (b0 m c t) := by
  by_cases h0 : t.val % 32 = 0
  · refine (congrArg (fun z => z.2.2.2.2.2.1) (outsAt0_A m c t h0)).trans ?_
    dsimp only
    exact out_A_11 ..
  · refine (congrArg (fun z => z.2.2.2.2.2.1) (outsAt0_B m c t h0)).trans ?_
    dsimp only
    exact out_B_11 ..

/-- The first point's sum starts from zero. -/
theorem left7_A (t : Fin cfg0.N) (h0 : t.val % 32 = 0) : (outsAt0 m c t.val t.isLt).2.1
    = k0_pay15 (k0_pay10 (b0 m c t) (W2 m c) (b3 m c t) (b4 m c t)) (k0_pay11 (b0 m c t) (W2 m c) (b3 m c t)) (W1 m c) (W3 m c) (b1 m c t) (k0_pay2 (F := Ideal)) := by
  refine (congrArg (fun z => z.2.1) (outsAt0_A m c t h0)).trans ?_
  dsimp only
  exact out_A_7 ..
/-- A later point adds to what the one before left. -/
theorem left7_B (t : Fin cfg0.N) (h0 : ¬t.val % 32 = 0) : (outsAt0 m c t.val t.isLt).2.1
    = k0_pay15 (k0_pay10 (b0 m c t) (W2 m c) (b3 m c t) (b4 m c t)) (k0_pay11 (b0 m c t) (W2 m c) (b3 m c t)) (W1 m c) (W3 m c) (b1 m c t)
      (outsAt0 m c (t.val - 1) (Nat.lt_of_le_of_lt (Nat.sub_le _ _) t.isLt)).2.1 := by
  refine (congrArg (fun z => z.2.1) (outsAt0_B m c t h0)).trans ?_
  dsimp only
  refine (out_B_7 ..).trans ?_
  rw [sc0, sc1, sc2]

variable {m c}

/-- One row's term of the norm weight's gradient. -/
def term (A : Args) (d : Fin 1024) (k : ℕ) : ℝ :=
  A.dn ⟨k % 8192, Nat.mod_lt _ (by decide)⟩ d * A.xh ⟨k % 8192, Nat.mod_lt _ (by decide)⟩ d

theorem rows (n : ℕ) (d : Fin 1024) : (∑ r, A.dn (row n r) d * A.xh (row n r) d) = ∑ k ∈ Finset.range 256, term A d (256 * n + k) := by
  rw [Finset.sum_range]
  rfl

/-- The sum after a point. -/
theorem acc (H : HoldsAt m c A) : ∀ (n : ℕ) (h : n < cfg0.N) (a : Fin 8) (d : Fin 1024),
    (outsAt0 m c n h).2.1 (ix2 a d) = ((∑ k ∈ Finset.range (256 * (n + 1)), term A d k : ℝ) : EReal) := by
  intro n
  induction n with
  | zero =>
    intro h a d
    refine (congrFun (left7_A m c ⟨0, h⟩ rfl) (ix2 a d)).trans ?_
    rw [p15 (blk_at H ⟨0, h⟩), pay2_at, zero_add]
    refine congrArg _ ((rows 0 d).trans ?_)
    exact Finset.sum_congr rfl fun k _ => congrArg (term A d) (by omega)
  | succ n ih =>
    intro h a d
    have hn : n + 1 < 32 := lt_of_lt_of_eq h N_0
    refine (congrFun (left7_B m c ⟨n + 1, h⟩ (by show ¬(n + 1) % 32 = 0; omega)) (ix2 a d)).trans ?_
    rw [p15 (blk_at H ⟨n + 1, h⟩)]
    refine (congrArg (fun z : EReal => z + _) (ih (Nat.lt_of_succ_lt h) a d)).trans ?_
    rw [← EReal.coe_add]
    refine congrArg _ ?_
    rw [show 256 * (n + 1 + 1) = 256 * (n + 1) + 256 by omega, Finset.sum_range_add]
    exact congrArg _ (rows (n + 1) d)

theorem acc_all (d : Fin 1024) : (∑ k ∈ Finset.range 8192, term A d k) = A.dg d := by
  rw [Finset.sum_range]
  refine Finset.sum_congr rfl fun k _ => ?_
  have e : (⟨k.val % 8192, Nat.mod_lt _ (by decide)⟩ : Fin 8192) = k := Fin.ext (Nat.mod_eq_of_lt k.isLt)
  unfold term
  rw [e]

/-! ## The arrays -/

/-- The gradients of the residual, of the norm's weight (in each of eight equal rows), of the gate's two factors, the
    activation and the down product's gradient. -/
def Rh (A : Args) : S8192x1024.Idx → EReal := fun i => ((A.dh (i 0) (i 1) : ℝ) : EReal)
def Rg (A : Args) : S8x1024.Idx → EReal := fun i => ((A.dg (i 1) : ℝ) : EReal)
def Rz1 (A : Args) : S8192x2816.Idx → EReal := fun i => ((A.dz1 (i 0) (i 1) : ℝ) : EReal)
def Rz3 (A : Args) : S8192x2816.Idx → EReal := fun i => ((A.dz3 (i 0) (i 1) : ℝ) : EReal)
def Ract (A : Args) : S8192x2816.Idx → EReal := fun i => ((A.act (i 0) (i 1) : ℝ) : EReal)
def Rdf (A : Args) : S8192x1024.Idx → EReal := fun i => ((A.df (i 0) (i 1) : ℝ) : EReal)

theorem ix2_self {a b : ℕ} (y : (⟨2, ![a, b]⟩ : Shape).Idx) : y = ix2 (y 0) (y 1) := by
  refine funext fun k => ?_
  match k with
  | ⟨0, _⟩ => rfl
  | ⟨1, _⟩ => rfl

theorem idx6 : ∀ t : Fin cfg0.N, win0_6.index t 0 = t.val ∧ win0_6.index t 1 = 0 := (by decide +kernel : ∀ t : Fin grid0.N, _)
theorem emb6 (t : Fin cfg0.N) (y : S256x1024.Idx) : ((cfg0.win 6).blk t).view.emb y = (ix2 (row t.val (y 0)) (y 1) : S8192x1024.Idx) := by
  have hN := lt32 t
  have hy : (y 0).val < 256 := (y 0).isLt
  refine funext fun a => Fin.ext ?_
  match a with
  | ⟨0, _⟩ => show win0_6.index t 0 * 256 + 1 * (y 0).val = (256 * t.val + (y 0).val) % 8192; rw [(idx6 t).1]; omega
  | ⟨1, _⟩ => show win0_6.index t 1 * 1024 + 1 * (y 1).val = (y 1).val; rw [(idx6 t).2]; omega
theorem arr6 (H : HoldsAt m c A) : (dats m 0 c).arrAt 6 cfg0.N = Rh A := by
  refine (dats m 0 c).arrAt_eq_of_covers 6 _ (by decide +kernel) fun t hf y => ?_
  refine (?_ : _ = _).trans (congrArg (Rh A) (emb6 t y)).symm
  show (dats m 0 c).after 6 t y = _
  rw [after0_6, left6]
  refine (congrArg _ (ix2_self y)).trans ?_
  exact p1 (blk_at H t) (y 0) (y 1)

theorem idx8 : ∀ t : Fin cfg0.N, win0_8.index t 0 = t.val ∧ win0_8.index t 1 = 0 := (by decide +kernel : ∀ t : Fin grid0.N, _)
theorem emb8 (t : Fin cfg0.N) (y : S256x2816.Idx) : ((cfg0.win 8).blk t).view.emb y = (ix2 (row t.val (y 0)) (y 1) : S8192x2816.Idx) := by
  have hN := lt32 t
  have hy : (y 0).val < 256 := (y 0).isLt
  refine funext fun a => Fin.ext ?_
  match a with
  | ⟨0, _⟩ => show win0_8.index t 0 * 256 + 1 * (y 0).val = (256 * t.val + (y 0).val) % 8192; rw [(idx8 t).1]; omega
  | ⟨1, _⟩ => show win0_8.index t 1 * 2816 + 1 * (y 1).val = (y 1).val; rw [(idx8 t).2]; omega
theorem arr8 (H : HoldsAt m c A) : (dats m 0 c).arrAt 8 cfg0.N = Rz1 A := by
  refine (dats m 0 c).arrAt_eq_of_covers 8 _ (by decide +kernel) fun t hf y => ?_
  refine (?_ : _ = _).trans (congrArg (Rz1 A) (emb8 t y)).symm
  show (dats m 0 c).after 8 t y = _
  rw [after0_8, left8]
  refine (congrArg _ (ix2_self y)).trans ?_
  exact p10 (blk_at H t) (y 0) (y 1)

theorem idx9 : ∀ t : Fin cfg0.N, win0_9.index t 0 = t.val ∧ win0_9.index t 1 = 0 := (by decide +kernel : ∀ t : Fin grid0.N, _)
theorem emb9 (t : Fin cfg0.N) (y : S256x2816.Idx) : ((cfg0.win 9).blk t).view.emb y = (ix2 (row t.val (y 0)) (y 1) : S8192x2816.Idx) := by
  have hN := lt32 t
  have hy : (y 0).val < 256 := (y 0).isLt
  refine funext fun a => Fin.ext ?_
  match a with
  | ⟨0, _⟩ => show win0_9.index t 0 * 256 + 1 * (y 0).val = (256 * t.val + (y 0).val) % 8192; rw [(idx9 t).1]; omega
  | ⟨1, _⟩ => show win0_9.index t 1 * 2816 + 1 * (y 1).val = (y 1).val; rw [(idx9 t).2]; omega
theorem arr9 (H : HoldsAt m c A) : (dats m 0 c).arrAt 9 cfg0.N = Rz3 A := by
  refine (dats m 0 c).arrAt_eq_of_covers 9 _ (by decide +kernel) fun t hf y => ?_
  refine (?_ : _ = _).trans (congrArg (Rz3 A) (emb9 t y)).symm
  show (dats m 0 c).after 9 t y = _
  rw [after0_9, left9]
  refine (congrArg _ (ix2_self y)).trans ?_
  exact p11 (blk_at H t) (y 0) (y 1)

theorem idx10 : ∀ t : Fin cfg0.N, win0_10.index t 0 = t.val ∧ win0_10.index t 1 = 0 := (by decide +kernel : ∀ t : Fin grid0.N, _)
theorem emb10 (t : Fin cfg0.N) (y : S256x2816.Idx) : ((cfg0.win 10).blk t).view.emb y = (ix2 (row t.val (y 0)) (y 1) : S8192x2816.Idx) := by
  have hN := lt32 t
  have hy : (y 0).val < 256 := (y 0).isLt
  refine funext fun a => Fin.ext ?_
  match a with
  | ⟨0, _⟩ => show win0_10.index t 0 * 256 + 1 * (y 0).val = (256 * t.val + (y 0).val) % 8192; rw [(idx10 t).1]; omega
  | ⟨1, _⟩ => show win0_10.index t 1 * 2816 + 1 * (y 1).val = (y 1).val; rw [(idx10 t).2]; omega
theorem arr10 (H : HoldsAt m c A) : (dats m 0 c).arrAt 10 cfg0.N = Ract A := by
  refine (dats m 0 c).arrAt_eq_of_covers 10 _ (by decide +kernel) fun t hf y => ?_
  refine (?_ : _ = _).trans (congrArg (Ract A) (emb10 t y)).symm
  show (dats m 0 c).after 10 t y = _
  rw [after0_10, left10]
  refine (congrArg _ (ix2_self y)).trans ?_
  exact p9 (blk_at H t) (y 0) (y 1)

theorem idx11 : ∀ t : Fin cfg0.N, win0_11.index t 0 = t.val ∧ win0_11.index t 1 = 0 := (by decide +kernel : ∀ t : Fin grid0.N, _)
theorem emb11 (t : Fin cfg0.N) (y : S256x1024.Idx) : ((cfg0.win 11).blk t).view.emb y = (ix2 (row t.val (y 0)) (y 1) : S8192x1024.Idx) := by
  have hN := lt32 t
  have hy : (y 0).val < 256 := (y 0).isLt
  refine funext fun a => Fin.ext ?_
  match a with
  | ⟨0, _⟩ => show win0_11.index t 0 * 256 + 1 * (y 0).val = (256 * t.val + (y 0).val) % 8192; rw [(idx11 t).1]; omega
  | ⟨1, _⟩ => show win0_11.index t 1 * 1024 + 1 * (y 1).val = (y 1).val; rw [(idx11 t).2]; omega
theorem arr11 (H : HoldsAt m c A) : (dats m 0 c).arrAt 11 cfg0.N = Rdf A := by
  refine (dats m 0 c).arrAt_eq_of_covers 11 _ (by decide +kernel) fun t hf y => ?_
  refine (?_ : _ = _).trans (congrArg (Rdf A) (emb11 t y)).symm
  show (dats m 0 c).after 11 t y = _
  rw [after0_11, left11]
  refine (congrArg _ (ix2_self y)).trans ?_
  exact p3 (blk_at H t) (y 0) (y 1)

theorem idx7 : ∀ t : Fin cfg0.N, win0_7.index t 0 = 0 ∧ win0_7.index t 1 = 0 := (by decide +kernel : ∀ t : Fin grid0.N, _)
theorem emb7 (t : Fin cfg0.N) (y : S8x1024.Idx) : ((cfg0.win 7).blk t).view.emb y = (ix2 (y 0) (y 1) : S8x1024.Idx) := by
  refine funext fun a => Fin.ext ?_
  match a with
  | ⟨0, _⟩ => show win0_7.index t 0 * 8 + 1 * (y 0).val = (y 0).val; rw [(idx7 t).1]; omega
  | ⟨1, _⟩ => show win0_7.index t 1 * 1024 + 1 * (y 1).val = (y 1).val; rw [(idx7 t).2]; omega
theorem flush7 : ∀ t : Fin cfg0.N, (cfg0.win 7).flush t = true → t.val = 31 := (by decide +kernel : ∀ t : Fin grid0.N, _)
theorem arr7 (H : HoldsAt m c A) : (dats m 0 c).arrAt 7 cfg0.N = Rg A := by
  refine (dats m 0 c).arrAt_eq_of_covers 7 _ (by decide +kernel) fun t hf y => ?_
  refine (?_ : _ = _).trans (congrArg (Rg A) (emb7 t y)).symm
  show (dats m 0 c).after 7 t y = _
  rw [after0_7]
  refine (congrArg _ (ix2_self y)).trans ?_
  refine (acc H t.val t.isLt (y 0) (y 1)).trans ?_
  have e : 256 * (t.val + 1) = 8192 := by rw [flush7 t hf]
  rw [e]
  exact congrArg _ (acc_all _)

/-- The call's run: its results are the real gradients, its arguments unchanged. -/
theorem run_value (m : (ℓ : Loc nD τ sig) → Buf (Elt Ideal) ℓ) (ρ : Dev nD → PrngReg) (A : Dev nD → Args) (H : ∀ c, HoldsAt m c (A c)) :
    θ_run defs (onTc (τ := τ) (main (F := Ideal))) ⟨m, fun _ => 0, ρ⟩ (fun r => ∀ c : Dev nD,
      r.2.mem ((c.tc : Thread nD τ).loc main_v24_0) = Rh (A c)
      ∧ r.2.mem ((c.tc : Thread nD τ).loc main_v24_1) = Rg (A c)
      ∧ r.2.mem ((c.tc : Thread nD τ).loc main_v24_2) = Rz1 (A c)
      ∧ r.2.mem ((c.tc : Thread nD τ).loc main_v24_3) = Rz3 (A c)
      ∧ r.2.mem ((c.tc : Thread nD τ).loc main_v24_4) = Ract (A c)
      ∧ r.2.mem ((c.tc : Thread nD τ).loc main_v24_5) = Rdf (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
    ((h c).1 6).trans (arr6 (H c)), ((h c).1 7).trans (arr7 (H c)), ((h c).1 8).trans (arr8 (H c)),
    ((h c).1 9).trans (arr9 (H c)), ((h c).1 10).trans (arr10 (H c)), ((h c).1 11).trans (arr11 (H c)),
    ((h c).1 1).trans (((dats m 0 c).arrAt_in 1 rfl _).trans ((A_eq m c 1).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).1 0).trans (((dats m 0 c).arrAt_in 0 rfl _).trans ((A_eq m c 0).trans (V_main_arg5 m c)))⟩) (run_main m ρ)

end Cert.Ffn
end
-- ==== Proof.Ffn.Equal.lean ====
/-
  The feed-forward backward call's six results are the reference's: both are the gradients over the reals, index by index.
-/
module

public import proofs.«01_k».proof.Defs
public import proofs.«01_k».proof.Proof.Ffn.Grid
public import proofs.«01_k».proof.Proof.Gen.Kernel2
public import proofs.«01_k».proof.Proof.Gen.Pre_finite2
public import proofs.«01_k».proof.Proof.Gen.Reference2Ideal.Run
public import Idealize.ShloMosaic.Lib.Pointwise

@[expose] public section

set_option maxRecDepth 16384

noncomputable section

namespace Cert.Ffn

open Idealize.ShloMosaic Idealize.SL.Sem

/-- The reference's results over the reals. -/
theorem run_ref (m : (ℓ : Loc Cert.Reference2Ideal.nD Cert.Reference2Ideal.τ Cert.Reference2Ideal.sig) → Buf (Elt Ideal) ℓ)
    (ρ : Dev Cert.Reference2Ideal.nD → PrngReg) (A : Dev Cert.Reference2Ideal.nD → Args)
    (H : ∀ c : Dev Cert.Reference2Ideal.nD, Holds (A c)
      (m ((c.tc : Thread Cert.Reference2Ideal.nD Cert.Reference2Ideal.τ).loc Cert.Reference2Ideal.main_arg0))
      (m ((c.tc : Thread Cert.Reference2Ideal.nD Cert.Reference2Ideal.τ).loc Cert.Reference2Ideal.main_arg1))
      (m ((c.tc : Thread Cert.Reference2Ideal.nD Cert.Reference2Ideal.τ).loc Cert.Reference2Ideal.main_arg2))
      (m ((c.tc : Thread Cert.Reference2Ideal.nD Cert.Reference2Ideal.τ).loc Cert.Reference2Ideal.main_arg3))
      (m ((c.tc : Thread Cert.Reference2Ideal.nD Cert.Reference2Ideal.τ).loc Cert.Reference2Ideal.main_arg4))
      (m ((c.tc : Thread Cert.Reference2Ideal.nD Cert.Reference2Ideal.τ).loc Cert.Reference2Ideal.main_arg5))) :
    θ_run (Cert.Reference2Ideal.defs (F := Ideal)) (onTc (τ := Cert.Reference2Ideal.τ) (Cert.Reference2Ideal.main (F := Ideal))) ⟨m, fun _ => 0, ρ⟩ (fun r => ∀ c : Dev Cert.Reference2Ideal.nD,
      r.2.mem ((c.tc : Thread Cert.Reference2Ideal.nD Cert.Reference2Ideal.τ).loc Cert.Reference2Ideal.main_v54) = Rh (A c)
      ∧ r.2.mem ((c.tc : Thread Cert.Reference2Ideal.nD Cert.Reference2Ideal.τ).loc Cert.Reference2Ideal.main_v81) = Rg (A c)
      ∧ r.2.mem ((c.tc : Thread Cert.Reference2Ideal.nD Cert.Reference2Ideal.τ).loc Cert.Reference2Ideal.main_v82) = Rz1 (A c)
      ∧ r.2.mem ((c.tc : Thread Cert.Reference2Ideal.nD Cert.Reference2Ideal.τ).loc Cert.Reference2Ideal.main_v83) = Rz3 (A c)
      ∧ r.2.mem ((c.tc : Thread Cert.Reference2Ideal.nD Cert.Reference2Ideal.τ).loc Cert.Reference2Ideal.main_v86) = Ract (A c)
      ∧ r.2.mem ((c.tc : Thread Cert.Reference2Ideal.nD Cert.Reference2Ideal.τ).loc Cert.Reference2Ideal.main_v89) = Rdf (A c)
      ∧ r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)) :=
  (θ_run (Cert.Reference2Ideal.defs (F := Ideal)) _ _).mono (fun _ h c => ⟨
    (h c).1.trans ((Cert.Reference2Ideal.Read.val_main_v54_eq m c).trans (funext fun i => v54 (H c) i)),
    (h c).2.1.trans ((Cert.Reference2Ideal.Read.val_main_v81_eq m c).trans (funext fun i => v81 (H c) i)),
    (h c).2.2.1.trans ((Cert.Reference2Ideal.Read.val_main_v82_eq m c).trans (funext fun i => v82 (H c) i)),
    (h c).2.2.2.1.trans ((Cert.Reference2Ideal.Read.val_main_v83_eq _ _ _ _ _).trans (funext fun i => v83 (H c) i)),
    (h c).2.2.2.2.1.trans ((Cert.Reference2Ideal.Read.val_main_v86_eq _ _ _ _).trans (funext fun i => v86 (H c) i)),
    (h c).2.2.2.2.2.1.trans ((Cert.Reference2Ideal.Read.val_main_v89_eq _).trans (funext fun i => v89 (H c) i)),
    (h c).2.2.2.2.2.2⟩) (Cert.Reference2Ideal.Value.run (F := Ideal) m ρ)

/-! ## Finite arguments are reals -/

/-- A number whose absolute value is below the format's infinity is a real. -/
theorem real_of (x : EReal) (h : Ideal.cmp .olt (max x (-x)) (Ideal.ofBits .f32 0x7F800000#32) = 1#1) : x = ((x.toReal : ℝ) : EReal) := by
  have htop : Ideal.ofBits .f32 0x7F800000#32 = ⊤ := by simp [Ideal.ofBits, Ideal.ieee]
  rw [htop] at h
  refine (EReal.coe_toReal ?_ ?_).symm <;> (rintro rfl; exact absurd h (by simp [Ideal.cmp]))

theorem of2 {a b : ℕ} (x : (⟨2, ![a, b]⟩ : Shape).Idx → EReal) (h : ∀ i, x i = ((EReal.toReal (x i) : ℝ) : EReal)) (i) :
    x i = ((EReal.toReal (x (ix2 (i 0) (i 1))) : ℝ) : EReal) :=
  (h i).trans (congrArg (fun z => ((EReal.toReal (x z) : ℝ) : EReal)) (ix2_self i))
theorem of1 {a : ℕ} (x : (⟨1, ![a]⟩ : Shape).Idx → EReal) (h : ∀ i, x i = ((EReal.toReal (x i) : ℝ) : EReal)) (i) :
    x i = ((EReal.toReal (x (ix1 (i 0))) : ℝ) : EReal) :=
  (h i).trans (congrArg (fun z => ((EReal.toReal (x z) : ℝ) : EReal)) (funext fun k => match k with | ⟨0, _⟩ => rfl))

theorem holds_of {x0 : TH} {x1 : TG} {x2 x3 : TW} {x4 : TD} {x5 : TH}
    (h0 : ∀ i, x0 i = ((EReal.toReal (x0 i) : ℝ) : EReal)) (h1 : ∀ i, x1 i = ((EReal.toReal (x1 i) : ℝ) : EReal))
    (h2 : ∀ i, x2 i = ((EReal.toReal (x2 i) : ℝ) : EReal)) (h3 : ∀ i, x3 i = ((EReal.toReal (x3 i) : ℝ) : EReal))
    (h4 : ∀ i, x4 i = ((EReal.toReal (x4 i) : ℝ) : EReal)) (h5 : ∀ i, x5 i = ((EReal.toReal (x5 i) : ℝ) : EReal)) :
    ∃ A, Holds A x0 x1 x2 x3 x4 x5 :=
  ⟨⟨fun t d => EReal.toReal (x0 (ix2 t d)), fun d => EReal.toReal (x1 (ix1 d)), fun d f => EReal.toReal (x2 (ix2 d f)),
      fun d f => EReal.toReal (x3 (ix2 d f)), fun f d => EReal.toReal (x4 (ix2 f d)), fun t d => EReal.toReal (x5 (ix2 t d))⟩,
    of2 x0 h0, of1 x1 h1, of2 x2 h2, of2 x3 h3, of2 x4 h4, of2 x5 h5⟩

/-- The precondition says it of the call's arguments. -/
theorem holds_of_finite (m : (ℓ : Loc Cert.Kernel2Ideal.nD Cert.Kernel2Ideal.τ Cert.Kernel2Ideal.sig) → Buf (Elt Ideal) ℓ)
    (hp : Cert.Pre_Kernel2Ideal_finite2 m) (c : Dev Cert.Kernel2Ideal.nD) : ∃ A, HoldsAt m c A := by
  obtain ⟨h0, h1, h2, h3, h4, h5⟩ := hp c
  exact holds_of (fun i => real_of _ (congrFun h0 i)) (fun i => real_of _ (congrFun h1 i)) (fun i => real_of _ (congrFun h2 i))
    (fun i => real_of _ (congrFun h3 i)) (fun i => real_of _ (congrFun h4 i)) (fun i => real_of _ (congrFun h5 i))

/-- The facts at the reference's own arguments, which agree with the call's. -/
theorem holds_agree {A : Args} {x0 y0 : TH} {x1 y1 : TG} {x2 x3 y2 y3 : TW} {x4 y4 : TD} {x5 y5 : TH} (H : Holds A x0 x1 x2 x3 x4 x5)
    (h : y0 = x0 ∧ y1 = x1 ∧ y2 = x2 ∧ y3 = x3 ∧ y4 = x4 ∧ y5 = x5) : Holds A y0 y1 y2 y3 y4 y5 := by
  obtain ⟨h0, h1, h2, h3, h4, h5⟩ := h
  rw [h0, h1, h2, h3, h4, h5]; exact H

/-! ## The printed call and its idealisation are one text -/

theorem bind_congr' {m : Type → Type 1} [Monad m] {α β : Type} {x y : m α} {f g : α → m β} (h : x = y)
    (k : ∀ a, f a = g a) : (x >>= f) = (y >>= g) := by rw [h, funext k]

/-- Programs of the call's body. -/
abbrev BodyProg : Type → Type 1 :=
  Prog (TpuEff Cert.Kernel2Ideal.nD Cert.Kernel2Ideal.τ Cert.Kernel2Ideal.sig (Elt Bits) Cert.Kernel2Ideal.Λ₀ .tc)

set_option maxHeartbeats 1000000 in
theorem bodies_same : @Cert.Kernel2.defs₀ Bits _ _ = @Cert.Kernel2Ideal.defs₀ Bits _ _ := by
  refine congrArg Defs.onTc (funext fun l => funext fun a => ?_)
  match l, a with
  | 0, (t, s) =>
    dsimp only
    unfold Cert.Kernel2.cc0_ffn_bwd_x Cert.Kernel2Ideal.cc0_ffn_bwd_x
    refine bind_congr' (m := BodyProg) rfl fun x => ?_
    obtain ⟨_, _⟩ := x
    dsimp only
    refine bind_congr' (m := BodyProg) rfl fun x => ?_
    obtain ⟨_, _, _, _, _⟩ := x
    rfl

theorem defs_same : @Cert.Kernel2.defs Bits _ _ = @Cert.Kernel2Ideal.defs Bits _ _ := by
  show Pipeline.defs (Cert.Kernel2Ideal.pcfgs (F := Bits)) (@Cert.Kernel2.defs₀ Bits _ _)
    = Pipeline.defs (Cert.Kernel2Ideal.pcfgs (F := Bits)) (@Cert.Kernel2Ideal.defs₀ Bits _ _)
  rw [bodies_same]

set_option backward.isDefEq.respectTransparency false in
set_option maxHeartbeats 8000000 in
theorem main_same (c) : @Cert.Kernel2.main Bits _ _ c = @Cert.Kernel2Ideal.main Bits _ _ c := rfl

end Cert.Ffn

end
-- ==== Proof.Dw.Value.lean ====
/-
  The weight gradient's call: four blocks of rows summed in a scratch, one block of columns after another. Over the
  reals its result at an index is the sum over all rows of the products of the two arguments.
-/
module

public import proofs.«01_k».proof.Proof.Gen.Kernel3Ideal.Value
public import Idealize.ShloMosaic.Lib.Pointwise

@[expose] public section

set_option maxRecDepth 16384

noncomputable section

namespace Cert.Dw

open Cert.Kernel3Ideal Cert.Kernel3Ideal.Gen Cert.Kernel3Ideal.Value
open Idealize.ShloMosaic Idealize.ShloMosaic.TcCoe Idealize.SL.Sem
open scoped BigOperators

theorem hz : (![0, 0] : Fin 2 → Nat) = fun _ => 0 := funext fun a => by fin_cases a <;> rfl

section Cases
variable {F : FTy → Type} [FloatOps F]
variable (c : Dev nD) (i : grid0.Coords) (a4 : Memref sig .tc .vmem S2048x1408 .bf16) (h4 : a4.IsWhole)
  (a5 : Memref sig .tc .vmem S2048x1024 .bf16) (h5 : a5.IsWhole) (a6 : Memref sig .tc .vmem S1408x1024 .bf16) (h6 : a6.IsWhole)
  (a7 : Memref sig .tc .vmem S1408x1024 .f32) (h7 : a7.IsWhole)
  (x0 : Vec F S2048x1408 .bf16) (x1 : Vec F S2048x1024 .bf16) (s : Vec F S1408x1024 .f32)

/-- At a first block of rows the scratch is zeroed, then holds the block's products. -/
theorem sout_A (hc0 : cond0_0 i) (hc1 : ¬cond0_1 i) :
    sout0_A_0 c i a4 h4 a5 h5 a6 h6 a7 h7 hc0 hc1 x0 x1 = k0_pay2 k0_pay1 x0 x1 := by
  unfold sout0_A_0
  rw [View.read_writes_eq_canon _ _ _ (scover0_A_0 c i a4 h4 a5 h5 a6 h6 a7 h7 hc0 hc1 x0 x1)]
  unfold kernelRun0_A
  dsimp only
  sl_unfold_words
  rw [View.canon_cons_unit_zero (S := S1408x1024) hz, View.readCov_unit_zero (S := S1408x1024) _ hz]
  simp only [View.readAt_eq_ld, h4.read_unread, h5.read_unread, View.ld_unit_zero (S := S2048x1408) hz, View.ld_unit_zero (S := S2048x1024) hz]

/-- At a later block the products are added to it. -/
theorem sout_B (hc0 : ¬cond0_0 i) (hc1 : ¬cond0_1 i) :
    sout0_B_0 c i a4 h4 a5 h5 a6 h6 a7 h7 hc0 hc1 x0 x1 s = k0_pay2 s x0 x1 := by
  unfold sout0_B_0
  rw [View.read_writes_eq_canon _ _ _ (scover0_B_0 c i a4 h4 a5 h5 a6 h6 a7 h7 hc0 hc1 x0 x1 s)]
  unfold kernelRun0_B
  dsimp only
  rw [View.canon_unit_zero (S := S1408x1024) hz]
  simp only [View.readAt_eq_ld, h4.read_unread, h5.read_unread, h7.read_unread, View.ld_unit_zero (S := S2048x1408) hz,
    View.ld_unit_zero (S := S2048x1024) hz, View.ld_unit_zero (S := S1408x1024) hz]

theorem sout_C (hc0 : ¬cond0_0 i) (hc1 : cond0_1 i) :
    sout0_C_0 c i a4 h4 a5 h5 a6 h6 a7 h7 hc0 hc1 x0 x1 s = k0_pay2 s x0 x1 := by
  unfold sout0_C_0
  rw [View.read_writes_eq_canon _ _ _ (scover0_C_0 c i a4 h4 a5 h5 a6 h6 a7 h7 hc0 hc1 x0 x1 s)]
  unfold kernelRun0_C
  dsimp only
  sl_unfold_words
  rw [View.canon_unit_zero (S := S1408x1024) hz]
  simp only [View.readAt_eq_ld, h4.read_unread, h5.read_unread, h7.read_unread, View.ld_unit_zero (S := S2048x1408) hz,
    View.ld_unit_zero (S := S2048x1024) hz, View.ld_unit_zero (S := S1408x1024) hz]

/-- After the last block the scratch is rounded into the result. -/
theorem out_C (hc0 : ¬cond0_0 i) (hc1 : cond0_1 i) :
    out0_C_2 c i a4 h4 a5 h5 a6 h6 a7 h7 hc0 hc1 x0 x1 s = k0_pay3 (k0_pay2 s x0 x1) := by
  unfold out0_C_2
  rw [View.read_writes_eq_canon _ _ _ (cover0_C_2 c i a4 h4 a5 h5 a6 h6 a7 h7 hc0 hc1 x0 x1 s)]
  unfold kernelRun0_C
  dsimp only
  sl_unfold_words
  rw [View.canon_unit_zero (S := S1408x1024) hz, View.readCov_unit_zero (S := S1408x1024) _ hz]
  simp only [View.readAt_eq_ld, h4.read_unread, h5.read_unread, h7.read_unread, View.ld_unit_zero (S := S2048x1408) hz,
    View.ld_unit_zero (S := S2048x1024) hz, View.ld_unit_zero (S := S1408x1024) hz]

end Cases

theorem pay1_at (r : Fin 1408) (x : Fin 1024) : k0_pay1 (F := Ideal) (ix2 r x) = 0 := by pointwise [k0_pay1]
theorem pay2_at (s : Vec Ideal S1408x1024 .f32) (x0 : Vec Ideal S2048x1408 .bf16) (x1 : Vec Ideal S2048x1024 .bf16)
    (r : Fin 1408) (x : Fin 1024) :
    k0_pay2 s x0 x1 (ix2 r x) = s (ix2 r x) + ∑ k : Fin 2048, x0 (ix2 k r) * x1 (ix2 k x) := by
  pointwise [k0_pay2]
theorem pay3_at (s : Vec Ideal S1408x1024 .f32) (r : Fin 1408) (x : Fin 1024) : k0_pay3 s (ix2 r x) = s (ix2 r x) := by
  pointwise [k0_pay3]

/-- One row's product. -/
def term (X : S8192x2816.Idx → EReal) (Y : S8192x1024.Idx → EReal) (r : ℕ) (x : Fin 1024) (k : ℕ) : EReal :=
  X (ix2 ⟨k % 8192, Nat.mod_lt _ (by decide)⟩ ⟨r % 2816, Nat.mod_lt _ (by decide)⟩) * Y (ix2 ⟨k % 8192, Nat.mod_lt _ (by decide)⟩ x)

/-- The sum of the products of all rows. -/
def Rdw (X : S8192x2816.Idx → EReal) (Y : S8192x1024.Idx → EReal) : S2816x1024.Idx → EReal := fun i =>
  ∑ k : Fin 8192, X (ix2 k (i 0)) * Y (ix2 k (i 1))

section Run
variable (m : (ℓ : Loc nD τ sig) → Buf (Elt Ideal) ℓ) (ρ : Dev nD → PrngReg) (c : Dev nD)

theorem idx0 : ∀ t : Fin cfg0.N, win0_0.index t 0 = t.val % 4 ∧ win0_0.index t 1 = t.val / 4 :=
  (by decide +kernel : ∀ t : Fin grid0.N, _)
theorem idx1 : ∀ t : Fin cfg0.N, win0_1.index t 0 = t.val % 4 ∧ win0_1.index t 1 = 0 :=
  (by decide +kernel : ∀ t : Fin grid0.N, _)

/-- The two arguments' blocks at a point. -/
abbrev bA (t : Fin cfg0.N) : Vec Ideal S2048x1408 .bf16 := iblk m c 0 t
abbrev bB (t : Fin cfg0.N) : Vec Ideal S2048x1024 .bf16 := iblk m c 1 t

theorem blk0 (t : Fin cfg0.N) (k : Fin 2048) (r : Fin 1408) :
    bA m c t (ix2 k r)
      = m ((c : Thread nD τ).loc main_arg0) (ix2 ⟨(2048 * (t.val % 4) + k.val) % 8192, Nat.mod_lt _ (by decide)⟩
          ⟨(1408 * (t.val / 4) + r.val) % 2816, Nat.mod_lt _ (by decide)⟩) := by
  have hN : t.val < 8 := lt_of_lt_of_eq t.isLt N_0
  have hi := idx0 t
  unfold bA iblk
  rw [View.read_apply]
  show m (c.tc.loc main_arg0) _ = m (c.tc.loc main_arg0) _
  congr 1
  funext a
  apply Fin.ext
  match a with
  | ⟨0, _⟩ =>
    show win0_0.index t 0 * 2048 + 1 * k.val = (2048 * (t.val % 4) + k.val) % 8192
    rw [hi.1]; omega
  | ⟨1, _⟩ =>
    show win0_0.index t 1 * 1408 + 1 * r.val = (1408 * (t.val / 4) + r.val) % 2816
    rw [hi.2]; omega

theorem blk1 (t : Fin cfg0.N) (k : Fin 2048) (x : Fin 1024) :
    bB m c t (ix2 k x)
      = m ((c : Thread nD τ).loc main_arg1) (ix2 ⟨(2048 * (t.val % 4) + k.val) % 8192, Nat.mod_lt _ (by decide)⟩ x) := by
  have hN : t.val < 8 := lt_of_lt_of_eq t.isLt N_0
  have hi := idx1 t
  unfold bB iblk
  rw [View.read_apply]
  show m (c.tc.loc main_arg1) _ = m (c.tc.loc main_arg1) _
  congr 1
  funext a
  apply Fin.ext
  match a with
  | ⟨0, _⟩ =>
    show win0_1.index t 0 * 2048 + 1 * k.val = (2048 * (t.val % 4) + k.val) % 8192
    rw [hi.1]; omega
  | ⟨1, _⟩ =>
    show win0_1.index t 1 * 1024 + 1 * x.val = x.val
    rw [hi.2]; omega

abbrev T (n : ℕ) (r : Fin 1408) (x : Fin 1024) : ℕ → EReal :=
  term (m ((c : Thread nD τ).loc main_arg0)) (m ((c : Thread nD τ).loc main_arg1)) (1408 * (n / 4) + r.val) x

/-- One block's products are the next 2048 terms. -/
theorem block (t : Fin cfg0.N) (r : Fin 1408) (x : Fin 1024) :
    (∑ k : Fin 2048, bA m c t (ix2 k r) * bB m c t (ix2 k x))
      = ∑ k ∈ Finset.range 2048, T m c t.val r x (2048 * (t.val % 4) + k) := by
  rw [Finset.sum_range]
  refine Finset.sum_congr rfl fun k _ => ?_
  rw [blk0, blk1]
  rfl

/-- One step of the sum. -/
theorem step (t : Fin cfg0.N) (r : Fin 1408) (x : Fin 1024) (z : EReal)
    (hs : z = ∑ k ∈ Finset.range (2048 * (t.val % 4)), T m c t.val r x k) :
    z + (∑ k : Fin 2048, bA m c t (ix2 k r) * bB m c t (ix2 k x))
      = ∑ k ∈ Finset.range (2048 * (t.val % 4 + 1)), T m c t.val r x k := by
  rw [block, hs, Nat.mul_add, Nat.mul_one, Finset.sum_range_add]

/-- What the scratch holds after a point. -/
theorem scratch : ∀ (n : ℕ) (h : n < cfg0.N) (r : Fin 1408) (x : Fin 1024),
    (outsAt0 m c n h).2 (ix2 r x) = ∑ k ∈ Finset.range (2048 * (n % 4 + 1)), T m c n r x k := by
  intro n
  induction n with
  | zero =>
    intro h r x
    rw [outsAt0_A m c ⟨0, h⟩ rfl (fun hh => absurd (show (0 : ℕ) % 4 = 3 from hh) (by decide))]
    dsimp only
    rw [sout_A, pay2_at, pay1_at]
    exact step m c ⟨0, h⟩ r x 0 (by simp)
  | succ n ih =>
    intro h r x
    by_cases h0 : (n + 1) % 4 = 0
    · have h1 : ¬(n + 1) % 4 = 3 := by omega
      rw [outsAt0_A m c ⟨n + 1, h⟩ h0 h1]
      dsimp only
      rw [sout_A, pay2_at, pay1_at]
      exact step m c ⟨n + 1, h⟩ r x 0 (by dsimp only; rw [h0]; simp)
    · have e : (n + 1) % 4 = n % 4 + 1 := by omega
      have e' : (n + 1) / 4 = n / 4 := by omega
      have hs := ih (Nat.lt_of_succ_lt h) r x
      have hs' : (outsAt0 m c n (Nat.lt_of_succ_lt h)).2 (ix2 r x)
          = ∑ k ∈ Finset.range (2048 * ((n + 1) % 4)), T m c (n + 1) r x k := by
        rw [hs, e]; unfold T; rw [e']
      by_cases h1 : (n + 1) % 4 = 3
      · rw [outsAt0_C m c ⟨n + 1, h⟩ h0 h1]
        dsimp only
        rw [sout_C, pay2_at]
        exact step m c ⟨n + 1, h⟩ r x _ hs'
      · rw [outsAt0_B m c ⟨n + 1, h⟩ h0 h1]
        dsimp only
        rw [sout_B, pay2_at]
        exact step m c ⟨n + 1, h⟩ r x _ hs'

/-- What a last point leaves in the result's block. -/
theorem last (n : ℕ) (h : n < cfg0.N) (h1 : n % 4 = 3) (r : Fin 1408) (x : Fin 1024) :
    (outsAt0 m c n h).1 (ix2 r x) = ∑ k ∈ Finset.range 8192, T m c n r x k := by
  have h0 : ¬n % 4 = 0 := by omega
  have e := scratch m c n h r x
  have eC := outsAt0_C m c ⟨n, h⟩ h0 h1
  have e2 := (congrArg (fun z => z.2 (ix2 r x)) eC).symm.trans e
  refine (congrArg (fun z => z.1 (ix2 r x)) eC).trans ?_
  dsimp only at e2 ⊢
  rw [sout_C, h1] at e2
  rw [out_C, pay3_at]
  exact e2

/-- The result array: the sums over all rows. -/
theorem result : G2 m c = Rdw (m ((c : Thread nD τ).loc main_arg0)) (m ((c : Thread nD τ).loc main_arg1)) := by
  funext i
  have hi0 : (i 0).val < 2816 := (i 0).isLt
  have hi1 : (i 1).val < 1024 := (i 1).isLt
  have hr : run2Of i = (i 0).val / 1408 := by unfold run2Of; omega
  have hp : pt2Of i < cfg0.N := by
    rw [show cfg0.N = 8 from N_0]; unfold pt2Of; rw [hr]; omega
  unfold G2
  rw [dif_pos hp]
  have e := last m c (pt2Of i) hp (by unfold pt2Of; omega) ⟨(i 0).val % 1408, Nat.mod_lt _ (by decide)⟩ ⟨(i 1).val % 1024, Nat.mod_lt _ (by decide)⟩
  rw [outsAt0_sweep] at e
  have hl : loc2Of i = ix2 ⟨(i 0).val % 1408, Nat.mod_lt _ (by decide)⟩ ⟨(i 1).val % 1024, Nat.mod_lt _ (by decide)⟩ := by
    funext a
    match a with
    | ⟨0, _⟩ => rfl
    | ⟨1, _⟩ => rfl
  rw [hl]
  refine e.trans ?_
  rw [Finset.sum_range]
  refine Finset.sum_congr rfl fun k _ => ?_
  have hq : pt2Of i / 4 = (i 0).val / 1408 := by unfold pt2Of; rw [hr]; omega
  have ek : (⟨k.val % 8192, Nat.mod_lt _ (by decide)⟩ : Fin 8192) = k := Fin.ext (Nat.mod_eq_of_lt k.isLt)
  have er : (⟨(1408 * (pt2Of i / 4) + (i 0).val % 1408) % 2816, Nat.mod_lt _ (by decide)⟩ : Fin 2816) = i 0 :=
    Fin.ext (by show (1408 * (pt2Of i / 4) + (i 0).val % 1408) % 2816 = (i 0).val; rw [hq]; omega)
  have ex : (⟨(i 1).val % 1024, Nat.mod_lt _ (by decide)⟩ : Fin 1024) = i 1 := Fin.ext (Nat.mod_eq_of_lt hi1)
  unfold T term
  dsimp only
  rw [ek, er, ex]

/-- The call's run: its result is the sums, its arguments unchanged. -/
theorem run_value : θ_run defs (onTc (τ := τ) (main (F := Ideal))) ⟨m, fun _ => 0, ρ⟩ fun r => ∀ c : Dev nD,
      r.2.mem ((c : Thread nD τ).loc main_v0) = Rdw (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (result m c), (h c).2⟩) (Cert.Kernel3Ideal.Value.run m ρ)

end Run

end Cert.Dw

end
-- ==== Proof.Dw.Equal.lean ====
/-
  The reference's weight gradient is the same sum, and the printed call and its idealisation are one text.
-/
module

public import proofs.«01_k».proof.Proof.Dw.Value
public import proofs.«01_k».proof.Proof.Gen.Kernel3
public import proofs.«01_k».proof.Proof.Gen.Reference3Ideal.Run
public import proofs.«01_k».proof.Proof.Gen.Reference3Ideal.Read
public import Idealize.ShloMosaic.Adequacy
public import Idealize.ShloMosaic.Init

@[expose] public section

set_option maxRecDepth 16384

noncomputable section

namespace Cert.Dw

open Idealize.ShloMosaic Idealize.SL.Sem
open Cert.Reference3Ideal (S8192x2816 S8192x1024)

/-- The reference's term is the sum of the products of all rows. -/
theorem ref_value (X : S8192x2816.Idx → EReal) (Y : S8192x1024.Idx → EReal) :
    Cert.Reference3Ideal.Read.val_main_v6 (F := Ideal) X Y = Rdw X Y := by
  funext i
  rw [Cert.Reference3Ideal.Read.val_main_v6_apply, Cert.Reference3Ideal.Read.val_main_v5_apply,
    Cert.Reference3Ideal.Read.val_main_v4_apply]
  unfold Rdw
  refine Finset.sum_congr rfl fun k _ => ?_
  rw [Cert.Reference3Ideal.Read.val_main_v3_apply, Cert.Reference3Ideal.Read.val_main_v1_apply, mul_comm]
  refine congrArg₂ (fun a b : EReal => a * b) (congrArg X (funext fun a => ?_)) (congrArg Y (funext fun a => ?_))
  · match a with
    | ⟨0, _⟩ => rfl
    | ⟨1, _⟩ => rfl
  · match a with
    | ⟨0, _⟩ => rfl
    | ⟨1, _⟩ => rfl

/-- The reference's run. -/
theorem run_ref (m : (ℓ : Loc Cert.Reference3Ideal.nD Cert.Reference3Ideal.τ Cert.Reference3Ideal.sig) → Buf (Elt Ideal) ℓ)
    (ρ : Dev Cert.Reference3Ideal.nD → PrngReg) (X : Dev Cert.Reference3Ideal.nD → S8192x2816.Idx → EReal)
    (Y : Dev Cert.Reference3Ideal.nD → S8192x1024.Idx → EReal)
    (h : ∀ c : Dev Cert.Reference3Ideal.nD, m ((c.tc : Thread Cert.Reference3Ideal.nD Cert.Reference3Ideal.τ).loc Cert.Reference3Ideal.main_arg0) = X c
      ∧ m ((c.tc : Thread Cert.Reference3Ideal.nD Cert.Reference3Ideal.τ).loc Cert.Reference3Ideal.main_arg1) = Y c) :
    θ_run (Cert.Reference3Ideal.defs (F := Ideal)) (onTc (τ := Cert.Reference3Ideal.τ) (Cert.Reference3Ideal.main (F := Ideal))) ⟨m, fun _ => 0, ρ⟩ (fun r => ∀ c : Dev Cert.Reference3Ideal.nD,
      r.2.mem ((c.tc : Thread Cert.Reference3Ideal.nD Cert.Reference3Ideal.τ).loc Cert.Reference3Ideal.main_v6) = Rdw (X c) (Y c)
      ∧ r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)) :=
  (θ_run (Cert.Reference3Ideal.defs (F := Ideal)) _ _).mono (fun _ g c => ⟨
    (g c).1.trans ((Cert.Reference3Ideal.Read.val_main_v6_eq _ _).trans ((ref_value _ _).trans (by rw [(h c).1, (h c).2]))),
    (g c).2⟩) (Cert.Reference3Ideal.Value.run (F := Ideal) m ρ)

theorem bodies_same : @Cert.Kernel3.defs₀ Bits _ _ = @Cert.Kernel3Ideal.defs₀ Bits _ _ := by
  refine congrArg Defs.onTc (funext fun l => funext fun a => ?_)
  match l, a with
  | 0, (t, s) => rfl

theorem defs_same : @Cert.Kernel3.defs Bits _ _ = @Cert.Kernel3Ideal.defs Bits _ _ := by
  show Pipeline.defs (Cert.Kernel3Ideal.pcfgs (F := Bits)) (@Cert.Kernel3.defs₀ Bits _ _)
    = Pipeline.defs (Cert.Kernel3Ideal.pcfgs (F := Bits)) (@Cert.Kernel3Ideal.defs₀ Bits _ _)
  rw [bodies_same]

theorem main_same : @Cert.Kernel3.main Bits _ = @Cert.Kernel3Ideal.main Bits _ := rfl

end Cert.Dw

end
-- ==== Proof.Fwd.RefValue.lean ====
/-
  The feed-forward as the mathematics writes it, index by index, and the reference read as that.
-/
module

public import proofs.«01_k».proof.Proof.Gen.Reference4Ideal.Read
public import Idealize.ShloMosaic.Lib.Pointwise

@[expose] public section

set_option maxRecDepth 16384

noncomputable section

namespace Cert.Fwd

open Cert.Reference4Ideal Cert.Reference4Ideal.Read
open Idealize.ShloMosaic Idealize.ShloMosaic.TcCoe Idealize.SL.Sem
open scoped BigOperators

abbrev TH := (⟨S8192x1024, .f32⟩ : BufTy).Contents (Elt Ideal)
abbrev TG := (⟨S1024, .f32⟩ : BufTy).Contents (Elt Ideal)
abbrev TW := (⟨S1024x2816, .f32⟩ : BufTy).Contents (Elt Ideal)
abbrev TD := (⟨S2816x1024, .f32⟩ : BufTy).Contents (Elt Ideal)

theorem ix2_self {a b : ℕ} (y : (⟨2, ![a, b]⟩ : Shape).Idx) : y = ix2 (y 0) (y 1) :=
  funext fun k => match k with | ⟨0, _⟩ => rfl | ⟨1, _⟩ => rfl

/-- The reciprocal root of a row's mean square. -/
def rms (x0 : TH) (t : Fin 8192) : EReal :=
  Ideal.rsqrt (Ideal.div (∑ d : Fin 1024, x0 (ix2 t d) * x0 (ix2 t d)) (Ideal.ofBits .f32 0x44800000#32) + Ideal.ofBits .f32 0x358637BD#32)
/-- The normed input. -/
def nrm (x0 : TH) (x1 : TG) (t : Fin 8192) (d : Fin 1024) : EReal := x0 (ix2 t d) * rms x0 t * x1 (ix1 d)
/-- A product of it with weights. -/
def prod (x0 : TH) (x1 : TG) (w : TW) (t : Fin 8192) (f : Fin 2816) : EReal := ∑ d : Fin 1024, nrm x0 x1 t d * w (ix2 d f)
/-- The gated activation. -/
def act (x0 : TH) (x1 : TG) (x2 x3 : TW) (t : Fin 8192) (f : Fin 2816) : EReal :=
  prod x0 x1 x2 t f * Ideal.logistic (prod x0 x1 x2 t f) * prod x0 x1 x3 t f
/-- The half step. -/
def half (x0 : TH) (x1 : TG) (x2 x3 : TW) (x4 : TD) (t : Fin 8192) (d : Fin 1024) : EReal :=
  x0 (ix2 t d) + Ideal.ofBits .f32 0x3F000000#32 * ∑ f : Fin 2816, act x0 x1 x2 x3 t f * x4 (ix2 f d)

variable (x0 : TH) (x1 : TG) (x2 x3 : TW) (x4 : TD)

theorem rv7 (i : S8192x1.Idx) : val_main_v7 (F := Ideal) x0 i = rms x0 (i 0) := by
  rw [val_main_v7_apply, val_main_v6_apply, val_main_v4_apply, val_main_v5_apply, val_main_v3_apply, val_main_v2_apply, val_main_cst_0_apply, val_main_cst_1_apply,
    val_main_v1_apply, val_main_cst_apply, Ideal.addf_def, Ideal.hostDivf_def, Ideal.ofBits_def, Ideal.ofBits_def, Ideal.ofBits_def, Ideal.ofBits_zero_f32, zero_add]
  unfold rms
  refine congrArg (fun z : EReal => Ideal.rsqrt (Ideal.div z _ + _)) (Finset.sum_congr rfl fun k _ => ?_)
  have e : idx_main_v1 (idx_main_v2 i) k = ix2 (i 0) k := funext fun a => match a with | ⟨0, _⟩ => rfl | ⟨1, _⟩ => rfl
  rw [val_main_v0_apply, e]; rfl
theorem rv12 (i : S8192x1024.Idx) : val_main_v12 (F := Ideal) x0 x1 i = nrm x0 x1 (i 0) (i 1) := by
  rw [val_main_v12_apply, val_main_v11_apply, val_main_v10_apply, val_main_v9_apply, val_main_v8_apply, rv7, Ideal.mulf_def, Ideal.mulf_def]
  unfold nrm
  have e : idx_main_v10 (idx_main_v11 i) = ix1 (i 1) := funext fun a => match a with | ⟨0, _⟩ => rfl
  rw [e]
  refine congrArg (fun z : EReal => z * _ * _) (congrArg x0 (ix2_self i))
theorem rv20 (i : S8192x1.Idx) : val_main_v20 (F := Ideal) x0 i = rms x0 (i 0) := by
  rw [val_main_v20_apply, val_main_v19_apply, val_main_v17_apply, val_main_v18_apply, val_main_v16_apply, val_main_v15_apply, val_main_cst_3_apply, val_main_cst_4_apply,
    val_main_v14_apply, val_main_cst_2_apply, Ideal.addf_def, Ideal.hostDivf_def, Ideal.ofBits_def, Ideal.ofBits_def, Ideal.ofBits_def, Ideal.ofBits_zero_f32, zero_add]
  unfold rms
  refine congrArg (fun z : EReal => Ideal.rsqrt (Ideal.div z _ + _)) (Finset.sum_congr rfl fun k _ => ?_)
  have e : idx_main_v14 (idx_main_v15 i) k = ix2 (i 0) k := funext fun a => match a with | ⟨0, _⟩ => rfl | ⟨1, _⟩ => rfl
  rw [val_main_v13_apply, e]; rfl
theorem rv25 (i : S8192x1024.Idx) : val_main_v25 (F := Ideal) x0 x1 i = nrm x0 x1 (i 0) (i 1) := by
  rw [val_main_v25_apply, val_main_v24_apply, val_main_v23_apply, val_main_v22_apply, val_main_v21_apply, rv20, Ideal.mulf_def, Ideal.mulf_def]
  unfold nrm
  have e : idx_main_v23 (idx_main_v24 i) = ix1 (i 1) := funext fun a => match a with | ⟨0, _⟩ => rfl
  rw [e]
  refine congrArg (fun z : EReal => z * _ * _) (congrArg x0 (ix2_self i))
theorem rv26 (i : S8192x2816.Idx) : val_main_v26 (F := Ideal) x0 x1 x2 i = prod x0 x1 x2 (i 0) (i 1) := by
  rw [val_main_v26_apply]
  refine Finset.sum_congr rfl fun k _ => ?_
  have e : ridx_main_v26 i k = ix2 k (i 1) := funext fun a => match a with | ⟨0, _⟩ => rfl | ⟨1, _⟩ => rfl
  rw [rv25, e]; rfl
theorem rv27 (i : S8192x2816.Idx) : val_main_v27 (F := Ideal) x0 x1 x3 i = prod x0 x1 x3 (i 0) (i 1) := by
  rw [val_main_v27_apply]
  refine Finset.sum_congr rfl fun k _ => ?_
  have e : ridx_main_v27 i k = ix2 k (i 1) := funext fun a => match a with | ⟨0, _⟩ => rfl | ⟨1, _⟩ => rfl
  rw [rv25, e]; rfl
theorem rv35 (i : S8192x2816.Idx) : val_main_v35 (F := Ideal) x0 x1 x2 i = prod x0 x1 x2 (i 0) (i 1) := by
  rw [val_main_v35_apply]
  refine Finset.sum_congr rfl fun k _ => ?_
  have e : ridx_main_v35 i k = ix2 k (i 1) := funext fun a => match a with | ⟨0, _⟩ => rfl | ⟨1, _⟩ => rfl
  rw [rv12, e]; rfl
theorem rv37 (i : S8192x2816.Idx) : val_main_v37 (F := Ideal) x0 x1 x3 i = prod x0 x1 x3 (i 0) (i 1) := by
  rw [val_main_v37_apply]
  refine Finset.sum_congr rfl fun k _ => ?_
  have e : ridx_main_v37 i k = ix2 k (i 1) := funext fun a => match a with | ⟨0, _⟩ => rfl | ⟨1, _⟩ => rfl
  rw [rv12, e]; rfl
theorem rv29 (i : S8192x2816.Idx) : val_main_v29 (F := Ideal) x0 x1 x2 x3 i = act x0 x1 x2 x3 (i 0) (i 1) := by
  rw [val_main_v29_apply, val_main_v28_apply, val_main_call0_v5_apply, val_main_call0_v4_apply, val_main_call0_cst_0_apply, val_main_call0_v3_apply,
    val_main_call0_v2_apply, val_main_call0_cst_apply, val_main_call0_v1_apply, val_main_call0_v0_apply, rv26, rv27, Ideal.mulf_def, Ideal.mulf_def,
    Ideal.hostDivf_def, Ideal.addf_def, Ideal.ofBits_def, Ideal.ofBits_one_f32]
  rfl
theorem rv33 (i : S8192x1024.Idx) : val_main_v33 (F := Ideal) x0 x1 x2 x3 x4 i = half x0 x1 x2 x3 x4 (i 0) (i 1) := by
  rw [val_main_v33_apply, val_main_v32_apply, val_main_v31_apply, val_main_cst_5_apply, val_main_v30_apply, Ideal.addf_def, Ideal.mulf_def, Ideal.ofBits_def]
  unfold half
  refine congrArg₂ (fun a b : EReal => a + _ * b) (congrArg x0 (ix2_self i)) (Finset.sum_congr rfl fun k _ => ?_)
  have e : ridx_main_v30 i k = ix2 k (i 1) := funext fun a => match a with | ⟨0, _⟩ => rfl | ⟨1, _⟩ => rfl
  rw [rv29, e]; rfl
theorem rv34 (i : S8192x1024.Idx) : val_main_v34 (F := Ideal) x0 x1 i = nrm x0 x1 (i 0) (i 1) :=
  (val_main_v34_apply x0 x1 i).trans (rv12 x0 x1 i)
theorem rv36 (i : S8192x2816.Idx) : val_main_v36 (F := Ideal) x0 x1 x2 i = prod x0 x1 x2 (i 0) (i 1) :=
  (val_main_v36_apply x0 x1 x2 i).trans (rv35 x0 x1 x2 i)
theorem rv38 (i : S8192x2816.Idx) : val_main_v38 (F := Ideal) x0 x1 x3 i = prod x0 x1 x3 (i 0) (i 1) :=
  (val_main_v38_apply x0 x1 x3 i).trans (rv37 x0 x1 x3 i)

end Cert.Fwd
end
-- ==== Proof.Fwd.Block.lean ====
/-
  What the feed-forward call computes of one block of rows.
-/
module

public import proofs.«01_k».proof.Proof.Gen.Kernel4Ideal.Skeleton
public import proofs.«01_k».proof.Proof.Fwd.RefValue

@[expose] public section

set_option maxRecDepth 16384

noncomputable section

namespace Cert.Fwd

open Cert.Kernel4Ideal Cert.Kernel4Ideal.Gen
open Idealize.ShloMosaic Idealize.ShloMosaic.TcCoe Idealize.SL.Sem
open scoped BigOperators

section
variable (a : Vec Ideal S256x1024 .f32) (b : Vec Ideal S1x1024 .f32) (w w' : Vec Ideal S2816x1024 .bf16) (r : Fin 256) (d : Fin 1024) (f : Fin 2816)

theorem pay2_at : k0_pay2 a b (ix2 r d) = a (ix2 r d) * Ideal.rsqrt (Ideal.div (∑ d : Fin 1024, a (ix2 r d) * a (ix2 r d)) (Ideal.ofBits .f32 0x44800000#32)
    + Ideal.ofBits .f32 0x358637BD#32) * b (ix2 0 d) := by
  pointwise [k0_pay2]
theorem pay3_at : k0_pay3 a b w (ix2 r f) = ∑ d : Fin 1024, k0_pay2 a b (ix2 r d) * w (ix2 f d) := by
  unfold k0_pay3
  generalize k0_pay2 a b = y
  pointwise []
theorem pay4_at : k0_pay4 a b w (ix2 r f) = ∑ d : Fin 1024, k0_pay2 a b (ix2 r d) * w (ix2 f d) := by
  unfold k0_pay4
  generalize k0_pay2 a b = y
  pointwise []
theorem pay5_at : k0_pay5 a b w (ix2 r f) = k0_pay3 a b w (ix2 r f) := by
  unfold k0_pay5
  generalize k0_pay3 a b w = y
  pointwise []
theorem pay6_at : k0_pay6 a b w (ix2 r f) = k0_pay4 a b w (ix2 r f) := by
  unfold k0_pay6
  generalize k0_pay4 a b w = y
  pointwise []
theorem pay7_at : k0_pay7 a b w w' (ix2 r f)
    = k0_pay3 a b w (ix2 r f) * Ideal.logistic (k0_pay3 a b w (ix2 r f)) * k0_pay4 a b w' (ix2 r f) := by
  unfold k0_pay7
  generalize k0_pay3 a b w = y
  generalize k0_pay4 a b w' = y'
  pointwise []
theorem pay1_at (v : FVec Ideal S256x2816 .bf16) : k0_pay1 a v w (ix2 r d)
    = a (ix2 r d) + Ideal.ofBits .f32 0x3F000000#32 * ∑ f : Fin 2816, v (ix2 r f) * w (ix2 f d) := by
  pointwise [k0_pay1]
end

section Point
variable {x0 : TH} {x1 : TG} {x2 x3 : TW} {x4 : TD} {ρ : Fin 256 → Fin 8192}
  {a : Vec Ideal S256x1024 .f32} {b : Vec Ideal S1x1024 .f32} {w1 w3 w2 : Vec Ideal S2816x1024 .bf16}

/-- The blocks of a point and the weights hold the arguments at the rows `ρ`. -/
structure Blk (x0 : TH) (x1 : TG) (x2 x3 : TW) (x4 : TD) (ρ : Fin 256 → Fin 8192)
    (a : Vec Ideal S256x1024 .f32) (b : Vec Ideal S1x1024 .f32) (w1 w3 w2 : Vec Ideal S2816x1024 .bf16) : Prop where
  h : ∀ r d, a (ix2 r d) = x0 (ix2 (ρ r) d)
  g : ∀ d, b (ix2 0 d) = x1 (ix1 d)
  w1 : ∀ f d, w1 (ix2 f d) = x2 (ix2 d f)
  w3 : ∀ f d, w3 (ix2 f d) = x3 (ix2 d f)
  w2 : ∀ f d, w2 (ix2 f d) = x4 (ix2 f d)

variable (B : Blk x0 x1 x2 x3 x4 ρ a b w1 w3 w2) (r : Fin 256) (d : Fin 1024) (f : Fin 2816)
include B

theorem p2 : k0_pay2 a b (ix2 r d) = nrm x0 x1 (ρ r) d := by
  rw [pay2_at, B.h, B.g]
  unfold nrm rms
  refine congrArg (fun z : EReal => _ * Ideal.rsqrt (Ideal.div z _ + _) * _) (Finset.sum_congr rfl fun k _ => ?_)
  rw [B.h]
theorem p3 : k0_pay3 a b w1 (ix2 r f) = prod x0 x1 x2 (ρ r) f := by
  rw [pay3_at]
  exact Finset.sum_congr rfl fun k _ => by rw [p2 B, B.w1]
theorem p4 : k0_pay4 a b w3 (ix2 r f) = prod x0 x1 x3 (ρ r) f := by
  rw [pay4_at]
  exact Finset.sum_congr rfl fun k _ => by rw [p2 B, B.w3]
theorem p5 : k0_pay5 a b w1 (ix2 r f) = prod x0 x1 x2 (ρ r) f := (pay5_at ..).trans (p3 B r f)
theorem p6 : k0_pay6 a b w3 (ix2 r f) = prod x0 x1 x3 (ρ r) f := (pay6_at ..).trans (p4 B r f)
theorem p7 : k0_pay7 a b w1 w3 (ix2 r f) = act x0 x1 x2 x3 (ρ r) f := by
  rw [pay7_at, p3 B, p4 B]; rfl
theorem p1 : k0_pay1 a (k0_pay7 a b w1 w3) w2 (ix2 r d) = half x0 x1 x2 x3 x4 (ρ r) d := by
  rw [pay1_at, B.h]
  refine congrArg (fun z : EReal => _ + _ * z) (Finset.sum_congr rfl fun k _ => ?_)
  rw [p7 B, B.w2]
end Point

end Cert.Fwd
end
-- ==== Proof.Fwd.Cases.lean ====
/-
  What a point of the feed-forward call leaves in its blocks, in the first step and in the others.
-/
module

public import proofs.«01_k».proof.Proof.Gen.Kernel4Ideal.Frame
public import Idealize.ShloMosaic.Lib.Pointwise

@[expose] public section

set_option maxRecDepth 16384

noncomputable section

namespace Cert.Fwd

open Cert.Kernel4Ideal Cert.Kernel4Ideal.Gen
open Idealize.ShloMosaic Idealize.ShloMosaic.TcCoe Idealize.SL.Sem
open scoped BigOperators

theorem hz : (![0, 0] : Fin 2 → Nat) = fun _ => 0 := funext fun a => by fin_cases a <;> rfl

theorem canon_whole {Val : EltTy → Type} [∀ e, Nonempty (Val e)] {S : Shape} {e : EltTy} (w : S.Idx → Val e) :
    View.canon [(⟨Rect.whole S, w⟩ : View.Piece Val S e)] = w :=
  View.canon_unit_zero (S := S) rfl (fun a => by simp) w

theorem readCov_whole {Val : EltTy → Type} [∀ e, Nonempty (Val e)] {S : Shape} {e : EltTy} {sp : Space} (v : View sig .tc sp S e)
    {off : Fin S.rank → Nat} (h : off = fun _ => 0) (inb : ∀ a, off a + S.size a ≤ S.size a) (w : S.Idx → Val e) :
    v.readCov [(⟨Rect.whole S, w⟩ : View.Piece Val S e)] (Rect.unit off S.size inb).toLoadRect = w := by
  subst h
  exact View.readCov_unit_zero v rfl (fun a => by simp) w

section
variable {F : FTy → Type} [FloatOps F]
variable (c : Dev nD) (i : grid0.Coords)
  (a1 : Memref sig .tc .vmem S256x1024 .f32) (h1 : a1.IsWhole)
  (a2 : Memref sig .tc .vmem S1x1024 .f32) (h2 : a2.IsWhole)
  (a6 : Memref sig .tc .vmem S8x128 .f32) (h6 : a6.IsWhole)
  (a7 : Memref sig .tc .vmem S256x1024 .f32) (h7 : a7.IsWhole)
  (a8 : Memref sig .tc .vmem S256x1024 .bf16) (h8 : a8.IsWhole)
  (a9 : Memref sig .tc .vmem S256x2816 .bf16) (h9 : a9.IsWhole)
  (a10 : Memref sig .tc .vmem S256x2816 .bf16) (h10 : a10.IsWhole)
  (a11 : Memref sig .tc .vmem S2816x1024 .bf16) (h11 : a11.IsWhole)
  (a12 : Memref sig .tc .vmem S2816x1024 .bf16) (h12 : a12.IsWhole)
  (a13 : Memref sig .tc .vmem S2816x1024 .bf16) (h13 : a13.IsWhole)
  (x0 : Vec F S256x1024 .f32) (x1 : Vec F S1x1024 .f32) (x2 : Vec F S8x128 .f32) (xs0 xs1 xs2 : Vec F S2816x1024 .bf16)
  (fh0 : HbBuf0 (F := F) c hbM0_0) (fh1 : HbBuf0 (F := F) c hbM0_1) (fh2 : HbBuf0 (F := F) c hbM0_2)

theorem sout_A_0 (hc0 : cond0_0 i) :
    sout0_A_0 c i a1 h1 a2 h2 a6 h6 a7 h7 a8 h8 a9 h9 a10 h10 a11 h11 a12 h12 a13 h13 hc0 x0 x1 x2 fh0 fh1 fh2 = fh0 := by
  unfold sout0_A_0
  rw [View.read_writes_eq_canon _ _ _ (scover0_A_0 c i a1 h1 a2 h2 a6 h6 a7 h7 a8 h8 a9 h9 a10 h10 a11 h11 a12 h12 a13 h13 hc0 x0 x1 x2 fh0 fh1 fh2)]
  unfold kernelRun0_A
  dsimp only
  sl_unfold_words
  rw [canon_whole]
  rfl

theorem sout_A_1 (hc0 : cond0_0 i) :
    sout0_A_1 c i a1 h1 a2 h2 a6 h6 a7 h7 a8 h8 a9 h9 a10 h10 a11 h11 a12 h12 a13 h13 hc0 x0 x1 x2 fh0 fh1 fh2 = fh1 := by
  unfold sout0_A_1
  rw [View.read_writes_eq_canon _ _ _ (scover0_A_1 c i a1 h1 a2 h2 a6 h6 a7 h7 a8 h8 a9 h9 a10 h10 a11 h11 a12 h12 a13 h13 hc0 x0 x1 x2 fh0 fh1 fh2)]
  unfold kernelRun0_A
  dsimp only
  sl_unfold_words
  rw [canon_whole]
  rfl

theorem sout_A_2 (hc0 : cond0_0 i) :
    sout0_A_2 c i a1 h1 a2 h2 a6 h6 a7 h7 a8 h8 a9 h9 a10 h10 a11 h11 a12 h12 a13 h13 hc0 x0 x1 x2 fh0 fh1 fh2 = fh2 := by
  unfold sout0_A_2
  rw [View.read_writes_eq_canon _ _ _ (scover0_A_2 c i a1 h1 a2 h2 a6 h6 a7 h7 a8 h8 a9 h9 a10 h10 a11 h11 a12 h12 a13 h13 hc0 x0 x1 x2 fh0 fh1 fh2)]
  unfold kernelRun0_A
  dsimp only
  sl_unfold_words
  rw [canon_whole]
  rfl

theorem out_A_3 (hc0 : cond0_0 i) :
    out0_A_3 c i a1 h1 a2 h2 a6 h6 a7 h7 a8 h8 a9 h9 a10 h10 a11 h11 a12 h12 a13 h13 hc0 x0 x1 x2 fh0 fh1 fh2 = k0_pay1 x0 (k0_pay7 x0 x1 fh0 fh1) fh2 := by
  unfold out0_A_3
  rw [View.read_writes_eq_canon _ _ _ (cover0_A_3 c i a1 h1 a2 h2 a6 h6 a7 h7 a8 h8 a9 h9 a10 h10 a11 h11 a12 h12 a13 h13 hc0 x0 x1 x2 fh0 fh1 fh2)]
  unfold kernelRun0_A
  dsimp only
  sl_unfold_words
  rw [View.canon_unit_zero (S := S256x1024) hz]
  simp only [readCov_whole (S := S2816x1024) _ hz, View.readAt_eq_ld, h1.read_unread, h2.read_unread, h6.read_unread, h7.read_unread, h8.read_unread, h9.read_unread, h10.read_unread, h11.read_unread, h12.read_unread, h13.read_unread, View.ld_unit_zero (S := S256x1024) hz, View.ld_unit_zero (S := S1x1024) hz, View.ld_unit_zero (S := S256x2816) hz, View.ld_unit_zero (S := S2816x1024) hz, View.ld_unit_zero (S := S8x128) hz]
  rfl

theorem out_A_4 (hc0 : cond0_0 i) :
    out0_A_4 c i a1 h1 a2 h2 a6 h6 a7 h7 a8 h8 a9 h9 a10 h10 a11 h11 a12 h12 a13 h13 hc0 x0 x1 x2 fh0 fh1 fh2 = k0_pay2 x0 x1 := by
  unfold out0_A_4
  rw [View.read_writes_eq_canon _ _ _ (cover0_A_4 c i a1 h1 a2 h2 a6 h6 a7 h7 a8 h8 a9 h9 a10 h10 a11 h11 a12 h12 a13 h13 hc0 x0 x1 x2 fh0 fh1 fh2)]
  unfold kernelRun0_A
  dsimp only
  sl_unfold_words
  rw [View.canon_unit_zero (S := S256x1024) hz]
  simp only [readCov_whole (S := S2816x1024) _ hz, View.readAt_eq_ld, h1.read_unread, h2.read_unread, h6.read_unread, h7.read_unread, h8.read_unread, h9.read_unread, h10.read_unread, h11.read_unread, h12.read_unread, h13.read_unread, View.ld_unit_zero (S := S256x1024) hz, View.ld_unit_zero (S := S1x1024) hz, View.ld_unit_zero (S := S256x2816) hz, View.ld_unit_zero (S := S2816x1024) hz, View.ld_unit_zero (S := S8x128) hz]

theorem out_A_5 (hc0 : cond0_0 i) :
    out0_A_5 c i a1 h1 a2 h2 a6 h6 a7 h7 a8 h8 a9 h9 a10 h10 a11 h11 a12 h12 a13 h13 hc0 x0 x1 x2 fh0 fh1 fh2 = k0_pay5 x0 x1 fh0 := by
  unfold out0_A_5
  rw [View.read_writes_eq_canon _ _ _ (cover0_A_5 c i a1 h1 a2 h2 a6 h6 a7 h7 a8 h8 a9 h9 a10 h10 a11 h11 a12 h12 a13 h13 hc0 x0 x1 x2 fh0 fh1 fh2)]
  unfold kernelRun0_A
  dsimp only
  sl_unfold_words
  rw [View.canon_unit_zero (S := S256x2816) hz]
  simp only [readCov_whole (S := S2816x1024) _ hz, View.readAt_eq_ld, h1.read_unread, h2.read_unread, h6.read_unread, h7.read_unread, h8.read_unread, h9.read_unread, h10.read_unread, h11.read_unread, h12.read_unread, h13.read_unread, View.ld_unit_zero (S := S256x1024) hz, View.ld_unit_zero (S := S1x1024) hz, View.ld_unit_zero (S := S256x2816) hz, View.ld_unit_zero (S := S2816x1024) hz, View.ld_unit_zero (S := S8x128) hz]
  rfl

theorem out_A_6 (hc0 : cond0_0 i) :
    out0_A_6 c i a1 h1 a2 h2 a6 h6 a7 h7 a8 h8 a9 h9 a10 h10 a11 h11 a12 h12 a13 h13 hc0 x0 x1 x2 fh0 fh1 fh2 = k0_pay6 x0 x1 fh1 := by
  unfold out0_A_6
  rw [View.read_writes_eq_canon _ _ _ (cover0_A_6 c i a1 h1 a2 h2 a6 h6 a7 h7 a8 h8 a9 h9 a10 h10 a11 h11 a12 h12 a13 h13 hc0 x0 x1 x2 fh0 fh1 fh2)]
  unfold kernelRun0_A
  dsimp only
  sl_unfold_words
  rw [View.canon_unit_zero (S := S256x2816) hz]
  simp only [readCov_whole (S := S2816x1024) _ hz, View.readAt_eq_ld, h1.read_unread, h2.read_unread, h6.read_unread, h7.read_unread, h8.read_unread, h9.read_unread, h10.read_unread, h11.read_unread, h12.read_unread, h13.read_unread, View.ld_unit_zero (S := S256x1024) hz, View.ld_unit_zero (S := S1x1024) hz, View.ld_unit_zero (S := S256x2816) hz, View.ld_unit_zero (S := S2816x1024) hz, View.ld_unit_zero (S := S8x128) hz]
  rfl

theorem out_B_3 (hc0 : ¬cond0_0 i) :
    out0_B_3 c i a1 h1 a2 h2 a6 h6 a7 h7 a8 h8 a9 h9 a10 h10 a11 h11 a12 h12 a13 h13 hc0 x0 x1 x2 xs0 xs1 xs2 fh0 fh1 fh2 = k0_pay1 x0 (k0_pay7 x0 x1 xs0 xs1) xs2 := by
  unfold out0_B_3
  rw [View.read_writes_eq_canon _ _ _ (cover0_B_3 c i a1 h1 a2 h2 a6 h6 a7 h7 a8 h8 a9 h9 a10 h10 a11 h11 a12 h12 a13 h13 hc0 x0 x1 x2 xs0 xs1 xs2 fh0 fh1 fh2)]
  unfold kernelRun0_B
  dsimp only
  sl_unfold_words
  rw [View.canon_unit_zero (S := S256x1024) hz]
  simp only [View.readAt_eq_ld, h1.read_unread, h2.read_unread, h6.read_unread, h7.read_unread, h8.read_unread, h9.read_unread, h10.read_unread, h11.read_unread, h12.read_unread, h13.read_unread, View.ld_unit_zero (S := S256x1024) hz, View.ld_unit_zero (S := S1x1024) hz, View.ld_unit_zero (S := S256x2816) hz, View.ld_unit_zero (S := S2816x1024) hz, View.ld_unit_zero (S := S8x128) hz]

theorem out_B_4 (hc0 : ¬cond0_0 i) :
    out0_B_4 c i a1 h1 a2 h2 a6 h6 a7 h7 a8 h8 a9 h9 a10 h10 a11 h11 a12 h12 a13 h13 hc0 x0 x1 x2 xs0 xs1 xs2 fh0 fh1 fh2 = k0_pay2 x0 x1 := by
  unfold out0_B_4
  rw [View.read_writes_eq_canon _ _ _ (cover0_B_4 c i a1 h1 a2 h2 a6 h6 a7 h7 a8 h8 a9 h9 a10 h10 a11 h11 a12 h12 a13 h13 hc0 x0 x1 x2 xs0 xs1 xs2 fh0 fh1 fh2)]
  unfold kernelRun0_B
  dsimp only
  sl_unfold_words
  rw [View.canon_unit_zero (S := S256x1024) hz]
  simp only [View.readAt_eq_ld, h1.read_unread, h2.read_unread, h6.read_unread, h7.read_unread, h8.read_unread, h9.read_unread, h10.read_unread, h11.read_unread, h12.read_unread, h13.read_unread, View.ld_unit_zero (S := S256x1024) hz, View.ld_unit_zero (S := S1x1024) hz, View.ld_unit_zero (S := S256x2816) hz, View.ld_unit_zero (S := S2816x1024) hz, View.ld_unit_zero (S := S8x128) hz]

theorem out_B_5 (hc0 : ¬cond0_0 i) :
    out0_B_5 c i a1 h1 a2 h2 a6 h6 a7 h7 a8 h8 a9 h9 a10 h10 a11 h11 a12 h12 a13 h13 hc0 x0 x1 x2 xs0 xs1 xs2 fh0 fh1 fh2 = k0_pay5 x0 x1 xs0 := by
  unfold out0_B_5
  rw [View.read_writes_eq_canon _ _ _ (cover0_B_5 c i a1 h1 a2 h2 a6 h6 a7 h7 a8 h8 a9 h9 a10 h10 a11 h11 a12 h12 a13 h13 hc0 x0 x1 x2 xs0 xs1 xs2 fh0 fh1 fh2)]
  unfold kernelRun0_B
  dsimp only
  sl_unfold_words
  rw [View.canon_unit_zero (S := S256x2816) hz]
  simp only [View.readAt_eq_ld, h1.read_unread, h2.read_unread, h6.read_unread, h7.read_unread, h8.read_unread, h9.read_unread, h10.read_unread, h11.read_unread, h12.read_unread, h13.read_unread, View.ld_unit_zero (S := S256x1024) hz, View.ld_unit_zero (S := S1x1024) hz, View.ld_unit_zero (S := S256x2816) hz, View.ld_unit_zero (S := S2816x1024) hz, View.ld_unit_zero (S := S8x128) hz]

theorem out_B_6 (hc0 : ¬cond0_0 i) :
    out0_B_6 c i a1 h1 a2 h2 a6 h6 a7 h7 a8 h8 a9 h9 a10 h10 a11 h11 a12 h12 a13 h13 hc0 x0 x1 x2 xs0 xs1 xs2 fh0 fh1 fh2 = k0_pay6 x0 x1 xs1 := by
  unfold out0_B_6
  rw [View.read_writes_eq_canon _ _ _ (cover0_B_6 c i a1 h1 a2 h2 a6 h6 a7 h7 a8 h8 a9 h9 a10 h10 a11 h11 a12 h12 a13 h13 hc0 x0 x1 x2 xs0 xs1 xs2 fh0 fh1 fh2)]
  unfold kernelRun0_B
  dsimp only
  sl_unfold_words
  rw [View.canon_unit_zero (S := S256x2816) hz]
  simp only [View.readAt_eq_ld, h1.read_unread, h2.read_unread, h6.read_unread, h7.read_unread, h8.read_unread, h9.read_unread, h10.read_unread, h11.read_unread, h12.read_unread, h13.read_unread, View.ld_unit_zero (S := S256x1024) hz, View.ld_unit_zero (S := S1x1024) hz, View.ld_unit_zero (S := S256x2816) hz, View.ld_unit_zero (S := S2816x1024) hz, View.ld_unit_zero (S := S8x128) hz]

end

end Cert.Fwd
end
-- ==== Proof.Fwd.Grid.lean ====
/-
  The feed-forward call's results: every point's block, put together.
-/
module

public import proofs.«01_k».proof.Proof.Fwd.Block
public import proofs.«01_k».proof.Proof.Fwd.Cases
public import Idealize.ShloMosaic.Lib.Pipeline.ValueKit

@[expose] public section

set_option maxRecDepth 16384

noncomputable section

namespace Cert.Fwd

open Cert.Kernel4Ideal Cert.Kernel4Ideal.Gen
open Idealize.ShloMosaic Idealize.ShloMosaic.TcCoe Idealize.SL.Sem
open Idealize.ShloMosaic.StableHlo
open scoped BigOperators

/-- The array's row at row `r` of point `n`. -/
def row (n : ℕ) (r : Fin 256) : Fin 8192 := ⟨(256 * n + r.val) % 8192, Nat.mod_lt _ (by decide)⟩

variable (m : (ℓ : Loc nD τ sig) → Buf (Elt Ideal) ℓ) (c : Dev nD)

/-- The call's arguments on a device. -/
abbrev X0 : TH := m ((c : Thread nD τ).loc main_arg0)
abbrev X1 : TG := m ((c : Thread nD τ).loc main_arg1)
abbrev X2 : TW := m ((c : Thread nD τ).loc main_arg2)
abbrev X3 : TW := m ((c : Thread nD τ).loc main_arg3)
abbrev X4 : TD := m ((c : Thread nD τ).loc main_arg4)

/-! ## The prepared weights -/

set_option maxHeartbeats 4000000 in
theorem V_w1 : V m c main_v1 = truncf (F := Ideal) (φ := .f32) .bf16 (transpose S2816x1024 [1, 0] (m ((c : Thread nD τ).loc main_arg2)) transposes_S1024x2816_S2816x1024_1_0) bitsLt_bf16_f32 := by
  simp only [V, hostOps0, List.flatten_cons, List.flatten_nil, List.cons_append, List.nil_append, List.append_nil, TRef.binary, TRef.nullary, TRef.ternary, TRef.unary, TRef.toBuf, TRef.ofBuf, cast_eq]
  after_results_simp <;> rfl

set_option maxHeartbeats 4000000 in
theorem V_w3 : V m c main_v3 = truncf (F := Ideal) (φ := .f32) .bf16 (transpose S2816x1024 [1, 0] (m ((c : Thread nD τ).loc main_arg3)) transposes_S1024x2816_S2816x1024_1_0) bitsLt_bf16_f32 := by
  simp only [V, hostOps0, List.flatten_cons, List.flatten_nil, List.cons_append, List.nil_append, List.append_nil, TRef.binary, TRef.nullary, TRef.ternary, TRef.unary, TRef.toBuf, TRef.ofBuf, cast_eq]
  after_results_simp <;> rfl

set_option maxHeartbeats 4000000 in
theorem V_w2 : V m c main_v4 = truncf (F := Ideal) (φ := .f32) .bf16 (m ((c : Thread nD τ).loc main_arg4)) bitsLt_bf16_f32 := by
  simp only [V, hostOps0, List.flatten_cons, List.flatten_nil, List.cons_append, List.nil_append, List.append_nil, TRef.binary, TRef.nullary, TRef.ternary, TRef.unary, TRef.toBuf, TRef.ofBuf, cast_eq]
  after_results_simp <;> rfl

set_option maxHeartbeats 4000000 in
theorem V_g : V m c main_v6 = shapeCast S1x1024 (m ((c : Thread nD τ).loc main_arg1)) shapeCasts_S1024_S1x1024 := by
  simp only [V, hostOps0, List.flatten_cons, List.flatten_nil, List.cons_append, List.nil_append, List.append_nil, TRef.binary, TRef.nullary, TRef.ternary, TRef.unary, TRef.toBuf, TRef.ofBuf, cast_eq]
  after_results_simp <;> rfl

theorem tr_at (x : Vec Ideal S1024x2816 .f32) (f : Fin 2816) (d : Fin 1024) :
    transpose S2816x1024 [1, 0] x transposes_S1024x2816_S2816x1024_1_0 (ix2 f d) = x (ix2 d f) :=
  transpose_apply _ x _ _ _ fun c => match c with | ⟨0, _⟩ => rfl | ⟨1, _⟩ => rfl
theorem g_read (x : Vec Ideal S1024 .f32) (d : Fin 1024) : shapeCast S1x1024 x shapeCasts_S1024_S1x1024 (ix2 0 d) = x (ix1 d) := by
  refine shapeCast_apply x shapeCasts_S1024_S1x1024 (ix2 0 d) (ix1 d) ?_
  rewrite [Shape.rowMajor_val_one, Shape.rowMajor_val_two]
  show d.val = 0 * 1024 + d.val
  omega

theorem lt32 (t : Fin cfg0.N) : t.val < 32 := lt_of_lt_of_eq t.isLt N_0
theorem idx0 : ∀ t : Fin cfg0.N, win0_0.index t 0 = t.val ∧ win0_0.index t 1 = 0 := (by decide +kernel : ∀ t : Fin grid0.N, _)
theorem idx1 : ∀ t : Fin cfg0.N, win0_1.index t 0 = 0 ∧ win0_1.index t 1 = 0 := (by decide +kernel : ∀ t : Fin grid0.N, _)
theorem blk0 (X : Vec Ideal S8192x1024 .f32) (t : Fin cfg0.N) (r : Fin 256) (d : Fin 1024) :
    ((cfg0.win 0).blk t).view.read (Elt Ideal) X (ix2 r d) = X (ix2 (row t.val r) d) := by
  have hN := lt32 t
  refine congrArg X (funext fun a => Fin.ext ?_)
  match a with
  | ⟨0, _⟩ => show win0_0.index t 0 * 256 + 1 * r.val = (256 * t.val + r.val) % 8192; rw [(idx0 t).1]; omega
  | ⟨1, _⟩ => show win0_0.index t 1 * 1024 + 1 * d.val = d.val; rw [(idx0 t).2]; omega
theorem blk1 (X : Vec Ideal S1x1024 .f32) (t : Fin cfg0.N) (d : Fin 1024) :
    ((cfg0.win 1).blk t).view.read (Elt Ideal) X (ix2 0 d) = X (ix2 0 d) := by
  refine congrArg X (funext fun a => Fin.ext ?_)
  match a with
  | ⟨0, _⟩ => show win0_1.index t 0 * 1 + 1 * 0 = 0; rw [(idx1 t).1]
  | ⟨1, _⟩ => show win0_1.index t 1 * 1024 + 1 * d.val = d.val; rw [(idx1 t).2]; omega

/-- The blocks of a point. -/
abbrev b0 (t : Fin cfg0.N) : Vec Ideal S256x1024 .f32 := iblk m c 0 t
abbrev b1 (t : Fin cfg0.N) : Vec Ideal S1x1024 .f32 := iblk m c 1 t
/-- The weights the call copies once. -/
abbrev W1 : Vec Ideal S2816x1024 .bf16 := V m c main_v1
abbrev W3 : Vec Ideal S2816x1024 .bf16 := V m c main_v3
abbrev W2 : Vec Ideal S2816x1024 .bf16 := V m c main_v4

theorem rd0 (t : Fin cfg0.N) (r : Fin 256) (d : Fin 1024) : b0 m c t (ix2 r d) = V m c main_arg0 (ix2 (row t.val r) d) :=
  blk0 (V m c main_arg0) t r d
theorem rd1 (t : Fin cfg0.N) (d : Fin 1024) : b1 m c t (ix2 0 d) = V m c main_v6 (ix2 0 d) := blk1 (V m c main_v6) t d

/-- What a point reads holds the arguments at its rows. -/
theorem blk_at (t : Fin cfg0.N) :
    Blk (X0 m c) (X1 m c) (X2 m c) (X3 m c) (X4 m c) (row t.val) (b0 m c t) (b1 m c t) (W1 m c) (W3 m c) (W2 m c) where
  h r d := (rd0 m c t r d).trans (congrFun (V_main_arg0 m c) _)
  g d := (rd1 m c t d).trans ((congrFun (V_g m c) _).trans (g_read _ d))
  w1 f d := (congrFun (V_w1 m c) (ix2 f d)).trans (tr_at _ f d)
  w3 f d := (congrFun (V_w3 m c) (ix2 f d)).trans (tr_at _ f d)
  w2 f d := congrFun (V_w2 m c) (ix2 f d)

/-! ## What the points leave -/

theorem sc0 : ∀ (n : ℕ) (h : n < cfg0.N), (outsAt0 m c n h).2.2.2.2.1 = W1 m c := by
  intro n
  induction n with
  | zero =>
    intro h
    refine (congrArg (fun z => z.2.2.2.2.1) (outsAt0_A m c ⟨0, h⟩ rfl)).trans ?_
    dsimp only
    exact sout_A_0 ..
  | succ n ih =>
    intro h
    have hn : n + 1 < 32 := lt_of_lt_of_eq h N_0
    refine (congrArg (fun z => z.2.2.2.2.1) (outsAt0_B m c ⟨n + 1, h⟩ (by show ¬(n + 1) % 32 = 0; omega))).trans ?_
    exact ih (Nat.lt_of_succ_lt h)
theorem sc1 : ∀ (n : ℕ) (h : n < cfg0.N), (outsAt0 m c n h).2.2.2.2.2.1 = W3 m c := by
  intro n
  induction n with
  | zero =>
    intro h
    refine (congrArg (fun z => z.2.2.2.2.2.1) (outsAt0_A m c ⟨0, h⟩ rfl)).trans ?_
    dsimp only
    exact sout_A_1 ..
  | succ n ih =>
    intro h
    have hn : n + 1 < 32 := lt_of_lt_of_eq h N_0
    refine (congrArg (fun z => z.2.2.2.2.2.1) (outsAt0_B m c ⟨n + 1, h⟩ (by show ¬(n + 1) % 32 = 0; omega))).trans ?_
    exact ih (Nat.lt_of_succ_lt h)
theorem sc2 : ∀ (n : ℕ) (h : n < cfg0.N), (outsAt0 m c n h).2.2.2.2.2.2 = W2 m c := by
  intro n
  induction n with
  | zero =>
    intro h
    refine (congrArg (fun z => z.2.2.2.2.2.2) (outsAt0_A m c ⟨0, h⟩ rfl)).trans ?_
    dsimp only
    exact sout_A_2 ..
  | succ n ih =>
    intro h
    have hn : n + 1 < 32 := lt_of_lt_of_eq h N_0
    refine (congrArg (fun z => z.2.2.2.2.2.2) (outsAt0_B m c ⟨n + 1, h⟩ (by show ¬(n + 1) % 32 = 0; omega))).trans ?_
    exact ih (Nat.lt_of_succ_lt h)
theorem left3 (t : Fin cfg0.N) : (outsAt0 m c t.val t.isLt).1 = k0_pay1 (b0 m c t) (k0_pay7 (b0 m c t) (b1 m c t) (W1 m c) (W3 m c)) (W2 m c) := by
  by_cases h0 : t.val % 32 = 0
  · refine (congrArg (fun z => z.1) (outsAt0_A m c t h0)).trans ?_
    dsimp only
    exact out_A_3 ..
  · refine (congrArg (fun z => z.1) (outsAt0_B m c t h0)).trans ?_
    dsimp only
    refine (out_B_3 ..).trans ?_
    rw [sc0, sc1, sc2]
theorem left4 (t : Fin cfg0.N) : (outsAt0 m c t.val t.isLt).2.1 = k0_pay2 (b0 m c t) (b1 m c t) := by
  by_cases h0 : t.val % 32 = 0
  · refine (congrArg (fun z => z.2.1) (outsAt0_A m c t h0)).trans ?_
    dsimp only
    exact out_A_4 ..
  · refine (congrArg (fun z => z.2.1) (outsAt0_B m c t h0)).trans ?_
    dsimp only
    exact out_B_4 ..
theorem left5 (t : Fin cfg0.N) : (outsAt0 m c t.val t.isLt).2.2.1 = k0_pay5 (b0 m c t) (b1 m c t) (W1 m c) := by
  by_cases h0 : t.val % 32 = 0
  · refine (congrArg (fun z => z.2.2.1) (outsAt0_A m c t h0)).trans ?_
    dsimp only
    exact out_A_5 ..
  · refine (congrArg (fun z => z.2.2.1) (outsAt0_B m c t h0)).trans ?_
    dsimp only
    refine (out_B_5 ..).trans ?_
    rw [sc0]
theorem left6 (t : Fin cfg0.N) : (outsAt0 m c t.val t.isLt).2.2.2.1 = k0_pay6 (b0 m c t) (b1 m c t) (W3 m c) := by
  by_cases h0 : t.val % 32 = 0
  · refine (congrArg (fun z => z.2.2.2.1) (outsAt0_A m c t h0)).trans ?_
    dsimp only
    exact out_A_6 ..
  · refine (congrArg (fun z => z.2.2.2.1) (outsAt0_B m c t h0)).trans ?_
    dsimp only
    refine (out_B_6 ..).trans ?_
    rw [sc1]

/-! ## The arrays -/

/-- The half step, the normed input and the two products before the gate. -/
def Rh (x0 : TH) (x1 : TG) (x2 x3 : TW) (x4 : TD) : S8192x1024.Idx → EReal := fun i => half x0 x1 x2 x3 x4 (i 0) (i 1)
def Rn (x0 : TH) (x1 : TG) : S8192x1024.Idx → EReal := fun i => nrm x0 x1 (i 0) (i 1)
def Rz (x0 : TH) (x1 : TG) (w : TW) : S8192x2816.Idx → EReal := fun i => prod x0 x1 w (i 0) (i 1)

theorem idx3 : ∀ t : Fin cfg0.N, win0_3.index t 0 = t.val ∧ win0_3.index t 1 = 0 := (by decide +kernel : ∀ t : Fin grid0.N, _)
theorem emb3 (t : Fin cfg0.N) (y : S256x1024.Idx) : ((cfg0.win 3).blk t).view.emb y = (ix2 (row t.val (y 0)) (y 1) : S8192x1024.Idx) := by
  have hN := lt32 t
  have hy : (y 0).val < 256 := (y 0).isLt
  refine funext fun a => Fin.ext ?_
  match a with
  | ⟨0, _⟩ => show win0_3.index t 0 * 256 + 1 * (y 0).val = (256 * t.val + (y 0).val) % 8192; rw [(idx3 t).1]; omega
  | ⟨1, _⟩ => show win0_3.index t 1 * 1024 + 1 * (y 1).val = (y 1).val; rw [(idx3 t).2]; omega
theorem arr3 : (dats m 0 c).arrAt 3 cfg0.N = (Rh (X0 m c) (X1 m c) (X2 m c) (X3 m c) (X4 m c)) := by
  refine (dats m 0 c).arrAt_eq_of_covers 3 _ (by decide +kernel) fun t hf y => ?_
  refine (?_ : _ = _).trans (congrArg (Rh (X0 m c) (X1 m c) (X2 m c) (X3 m c) (X4 m c)) (emb3 t y)).symm
  show (dats m 0 c).after 3 t y = _
  rw [after0_3, left3]
  refine (congrArg _ (ix2_self y)).trans ?_
  exact p1 (blk_at m c t) (y 0) (y 1)
theorem idx4 : ∀ t : Fin cfg0.N, win0_4.index t 0 = t.val ∧ win0_4.index t 1 = 0 := (by decide +kernel : ∀ t : Fin grid0.N, _)
theorem emb4 (t : Fin cfg0.N) (y : S256x1024.Idx) : ((cfg0.win 4).blk t).view.emb y = (ix2 (row t.val (y 0)) (y 1) : S8192x1024.Idx) := by
  have hN := lt32 t
  have hy : (y 0).val < 256 := (y 0).isLt
  refine funext fun a => Fin.ext ?_
  match a with
  | ⟨0, _⟩ => show win0_4.index t 0 * 256 + 1 * (y 0).val = (256 * t.val + (y 0).val) % 8192; rw [(idx4 t).1]; omega
  | ⟨1, _⟩ => show win0_4.index t 1 * 1024 + 1 * (y 1).val = (y 1).val; rw [(idx4 t).2]; omega
theorem arr4 : (dats m 0 c).arrAt 4 cfg0.N = (Rn (X0 m c) (X1 m c)) := by
  refine (dats m 0 c).arrAt_eq_of_covers 4 _ (by decide +kernel) fun t hf y => ?_
  refine (?_ : _ = _).trans (congrArg (Rn (X0 m c) (X1 m c)) (emb4 t y)).symm
  show (dats m 0 c).after 4 t y = _
  rw [after0_4, left4]
  refine (congrArg _ (ix2_self y)).trans ?_
  exact p2 (blk_at m c t) (y 0) (y 1)
theorem idx5 : ∀ t : Fin cfg0.N, win0_5.index t 0 = t.val ∧ win0_5.index t 1 = 0 := (by decide +kernel : ∀ t : Fin grid0.N, _)
theorem emb5 (t : Fin cfg0.N) (y : S256x2816.Idx) : ((cfg0.win 5).blk t).view.emb y = (ix2 (row t.val (y 0)) (y 1) : S8192x2816.Idx) := by
  have hN := lt32 t
  have hy : (y 0).val < 256 := (y 0).isLt
  refine funext fun a => Fin.ext ?_
  match a with
  | ⟨0, _⟩ => show win0_5.index t 0 * 256 + 1 * (y 0).val = (256 * t.val + (y 0).val) % 8192; rw [(idx5 t).1]; omega
  | ⟨1, _⟩ => show win0_5.index t 1 * 2816 + 1 * (y 1).val = (y 1).val; rw [(idx5 t).2]; omega
theorem arr5 : (dats m 0 c).arrAt 5 cfg0.N = (Rz (X0 m c) (X1 m c) (X2 m c)) := by
  refine (dats m 0 c).arrAt_eq_of_covers 5 _ (by decide +kernel) fun t hf y => ?_
  refine (?_ : _ = _).trans (congrArg (Rz (X0 m c) (X1 m c) (X2 m c)) (emb5 t y)).symm
  show (dats m 0 c).after 5 t y = _
  rw [after0_5, left5]
  refine (congrArg _ (ix2_self y)).trans ?_
  exact p5 (blk_at m c t) (y 0) (y 1)
theorem idx6 : ∀ t : Fin cfg0.N, win0_6.index t 0 = t.val ∧ win0_6.index t 1 = 0 := (by decide +kernel : ∀ t : Fin grid0.N, _)
theorem emb6 (t : Fin cfg0.N) (y : S256x2816.Idx) : ((cfg0.win 6).blk t).view.emb y = (ix2 (row t.val (y 0)) (y 1) : S8192x2816.Idx) := by
  have hN := lt32 t
  have hy : (y 0).val < 256 := (y 0).isLt
  refine funext fun a => Fin.ext ?_
  match a with
  | ⟨0, _⟩ => show win0_6.index t 0 * 256 + 1 * (y 0).val = (256 * t.val + (y 0).val) % 8192; rw [(idx6 t).1]; omega
  | ⟨1, _⟩ => show win0_6.index t 1 * 2816 + 1 * (y 1).val = (y 1).val; rw [(idx6 t).2]; omega
theorem arr6 : (dats m 0 c).arrAt 6 cfg0.N = (Rz (X0 m c) (X1 m c) (X3 m c)) := by
  refine (dats m 0 c).arrAt_eq_of_covers 6 _ (by decide +kernel) fun t hf y => ?_
  refine (?_ : _ = _).trans (congrArg (Rz (X0 m c) (X1 m c) (X3 m c)) (emb6 t y)).symm
  show (dats m 0 c).after 6 t y = _
  rw [after0_6, left6]
  refine (congrArg _ (ix2_self y)).trans ?_
  exact p6 (blk_at m c t) (y 0) (y 1)

/-- The call's run: its results are the feed-forward's, its arguments unchanged. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v7_0) = Rh (X0 m c) (X1 m c) (X2 m c) (X3 m c) (X4 m c)
      ∧ r.2.mem ((c.tc : Thread nD τ).loc main_v7_1) = Rn (X0 m c) (X1 m c)
      ∧ r.2.mem ((c.tc : Thread nD τ).loc main_v7_2) = Rz (X0 m c) (X1 m c) (X2 m c)
      ∧ r.2.mem ((c.tc : Thread nD τ).loc main_v7_3) = Rz (X0 m c) (X1 m c) (X3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
    ((h c).1 3).trans (arr3 m c), ((h c).1 4).trans (arr4 m c), ((h c).1 5).trans (arr5 m c), ((h c).1 6).trans (arr6 m c),
    ((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩) (run_main m ρ)

end Cert.Fwd
end
-- ==== Proof.Fwd.Equal.lean ====
/-
  The feed-forward call's four results are the reference's: the half step, the normed input and the two products
  before the gate, index by index.
-/
module

public import proofs.«01_k».proof.Defs
public import proofs.«01_k».proof.Proof.Fwd.Grid
public import proofs.«01_k».proof.Proof.Gen.Kernel4
public import proofs.«01_k».proof.Proof.Gen.Reference4Ideal.Run
public import Idealize.ShloMosaic.Lib.Pointwise

@[expose] public section

set_option maxRecDepth 16384

noncomputable section

namespace Cert.Fwd

open Idealize.ShloMosaic Idealize.SL.Sem

/-- The reference's results, of arguments that agree with the call's. -/
theorem run_ref (m : (ℓ : Loc Cert.Reference4Ideal.nD Cert.Reference4Ideal.τ Cert.Reference4Ideal.sig) → Buf (Elt Ideal) ℓ)
    (ρ : Dev Cert.Reference4Ideal.nD → PrngReg) (x0 : Dev Cert.Kernel4Ideal.nD → TH) (x1 : Dev Cert.Kernel4Ideal.nD → TG)
    (x2 x3 : Dev Cert.Kernel4Ideal.nD → TW) (x4 : Dev Cert.Kernel4Ideal.nD → TD)
    (hm : ∀ c : Dev Cert.Reference4Ideal.nD, m ((c.tc : Thread Cert.Reference4Ideal.nD Cert.Reference4Ideal.τ).loc Cert.Reference4Ideal.main_arg0) = x0 c ∧ m ((c.tc : Thread Cert.Reference4Ideal.nD Cert.Reference4Ideal.τ).loc Cert.Reference4Ideal.main_arg1) = x1 c ∧ m ((c.tc : Thread Cert.Reference4Ideal.nD Cert.Reference4Ideal.τ).loc Cert.Reference4Ideal.main_arg2) = x2 c ∧ m ((c.tc : Thread Cert.Reference4Ideal.nD Cert.Reference4Ideal.τ).loc Cert.Reference4Ideal.main_arg3) = x3 c ∧ m ((c.tc : Thread Cert.Reference4Ideal.nD Cert.Reference4Ideal.τ).loc Cert.Reference4Ideal.main_arg4) = x4 c) :
    θ_run (Cert.Reference4Ideal.defs (F := Ideal)) (onTc (τ := Cert.Reference4Ideal.τ) (Cert.Reference4Ideal.main (F := Ideal))) ⟨m, fun _ => 0, ρ⟩ (fun r => ∀ c : Dev Cert.Reference4Ideal.nD,
      r.2.mem ((c.tc : Thread Cert.Reference4Ideal.nD Cert.Reference4Ideal.τ).loc Cert.Reference4Ideal.main_v33) = Rh (x0 c) (x1 c) (x2 c) (x3 c) (x4 c)
      ∧ r.2.mem ((c.tc : Thread Cert.Reference4Ideal.nD Cert.Reference4Ideal.τ).loc Cert.Reference4Ideal.main_v34) = Rn (x0 c) (x1 c)
      ∧ r.2.mem ((c.tc : Thread Cert.Reference4Ideal.nD Cert.Reference4Ideal.τ).loc Cert.Reference4Ideal.main_v36) = Rz (x0 c) (x1 c) (x2 c)
      ∧ r.2.mem ((c.tc : Thread Cert.Reference4Ideal.nD Cert.Reference4Ideal.τ).loc Cert.Reference4Ideal.main_v38) = Rz (x0 c) (x1 c) (x3 c)
      ∧ r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)) :=
  (θ_run (Cert.Reference4Ideal.defs (F := Ideal)) _ _).mono (fun _ h c => ⟨
    (h c).1.trans ((Cert.Reference4Ideal.Read.val_main_v33_eq _ _ _ _ _).trans (by
      rw [(hm c).1, (hm c).2.1, (hm c).2.2.1, (hm c).2.2.2.1, (hm c).2.2.2.2]; exact funext fun i => rv33 _ _ _ _ _ i)),
    (h c).2.1.trans ((Cert.Reference4Ideal.Read.val_main_v34_eq _ _).trans (by
      rw [(hm c).1, (hm c).2.1]; exact funext fun i => rv34 _ _ i)),
    (h c).2.2.1.trans ((Cert.Reference4Ideal.Read.val_main_v36_eq _ _ _).trans (by
      rw [(hm c).1, (hm c).2.1, (hm c).2.2.1]; exact funext fun i => rv36 _ _ _ i)),
    (h c).2.2.2.1.trans ((Cert.Reference4Ideal.Read.val_main_v38_eq _ _ _).trans (by
      rw [(hm c).1, (hm c).2.1, (hm c).2.2.2.1]; exact funext fun i => rv38 _ _ _ i)),
    (h c).2.2.2.2⟩) (Cert.Reference4Ideal.Value.run (F := Ideal) m ρ)

/-! ## The printed call and its idealisation are one text -/

theorem bind_congr' {m : Type → Type 1} [Monad m] {α β : Type} {x y : m α} {f g : α → m β} (h : x = y)
    (k : ∀ a, f a = g a) : (x >>= f) = (y >>= g) := by rw [h, funext k]

/-- Programs of the call's body. -/
abbrev BodyProg : Type → Type 1 :=
  Prog (TpuEff Cert.Kernel4Ideal.nD Cert.Kernel4Ideal.τ Cert.Kernel4Ideal.sig (Elt Bits) Cert.Kernel4Ideal.Λ₀ .tc)

set_option maxHeartbeats 1000000 in
theorem bodies_same : @Cert.Kernel4.defs₀ Bits _ _ = @Cert.Kernel4Ideal.defs₀ Bits _ _ := by
  refine congrArg Defs.onTc (funext fun l => funext fun a => ?_)
  match l, a with
  | 0, (t, s) =>
    dsimp only
    unfold Cert.Kernel4.cc0_ffn_fwd Cert.Kernel4Ideal.cc0_ffn_fwd
    refine bind_congr' (m := BodyProg) rfl fun x => ?_
    obtain ⟨_, _⟩ := x
    rfl

theorem defs_same : @Cert.Kernel4.defs Bits _ _ = @Cert.Kernel4Ideal.defs Bits _ _ := by
  show Pipeline.defs (Cert.Kernel4Ideal.pcfgs (F := Bits)) (@Cert.Kernel4.defs₀ Bits _ _)
    = Pipeline.defs (Cert.Kernel4Ideal.pcfgs (F := Bits)) (@Cert.Kernel4Ideal.defs₀ Bits _ _)
  rw [bodies_same]

set_option backward.isDefEq.respectTransparency false in
set_option maxHeartbeats 8000000 in
theorem main_same (c) : @Cert.Kernel4.main Bits _ _ c = @Cert.Kernel4Ideal.main Bits _ _ c := rfl

end Cert.Fwd

end
-- ==== Proof.Mix.Sum.lean ====
/-
  Sums of products, as the products of matrices are over the reals.
-/
module

public import Idealize.ShloMosaic.Lib.Pointwise
public import Idealize.ShloMosaic.Lib.Pipeline.ValueKit

@[expose] public section

set_option maxRecDepth 16384

noncomputable section

namespace Cert.Mix

open Idealize.ShloMosaic
open scoped BigOperators

theorem hz : (![0, 0] : Fin 2 → Nat) = fun _ => 0 := funext fun a => by fin_cases a <;> rfl
theorem ix2_self {a b : ℕ} (y : (⟨2, ![a, b]⟩ : Shape).Idx) : y = ix2 (y 0) (y 1) :=
  funext fun k => match k with | ⟨0, _⟩ => rfl | ⟨1, _⟩ => rfl

/-- The gradient of a product's weights: at an index, the sum over all rows. -/
def grad {m n : ℕ} (X : (⟨2, ![8192, m]⟩ : Shape).Idx → EReal) (Y : (⟨2, ![8192, n]⟩ : Shape).Idx → EReal) (r : Fin m) (x : Fin n) : EReal :=
  ∑ k : Fin 8192, X (ix2 k r) * Y (ix2 k x)
/-- One row's product. -/
def term {m n : ℕ} (X : (⟨2, ![8192, m]⟩ : Shape).Idx → EReal) (Y : (⟨2, ![8192, n]⟩ : Shape).Idx → EReal) (r : Fin m) (x : Fin n) (k : ℕ) : EReal :=
  X (ix2 ⟨k % 8192, Nat.mod_lt _ (by decide)⟩ r) * Y (ix2 ⟨k % 8192, Nat.mod_lt _ (by decide)⟩ x)
theorem sum_term {m n : ℕ} (X : (⟨2, ![8192, m]⟩ : Shape).Idx → EReal) (Y : (⟨2, ![8192, n]⟩ : Shape).Idx → EReal) (r : Fin m) (x : Fin n) :
    (∑ k ∈ Finset.range 8192, term X Y r x k) = grad X Y r x := by
  rw [Finset.sum_range]
  refine Finset.sum_congr rfl fun k _ => ?_
  have ek : (⟨k.val % 8192, Nat.mod_lt _ (by decide)⟩ : Fin 8192) = k := Fin.ext (Nat.mod_eq_of_lt k.isLt)
  unfold term
  rw [ek]

/-- A product, and a product with transposed weights. -/
def prod {k n : ℕ} (X : (⟨2, ![8192, k]⟩ : Shape).Idx → EReal) (W : (⟨2, ![k, n]⟩ : Shape).Idx → EReal) (t : Fin 8192) (x : Fin n) : EReal :=
  ∑ d : Fin k, X (ix2 t d) * W (ix2 d x)
def prodT {k n : ℕ} (X : (⟨2, ![8192, k]⟩ : Shape).Idx → EReal) (W : (⟨2, ![n, k]⟩ : Shape).Idx → EReal) (t : Fin 8192) (x : Fin n) : EReal :=
  ∑ d : Fin k, X (ix2 t d) * W (ix2 x d)
/-- The array's row at row `r` of block `n` of 512 rows. -/
def row (n : ℕ) (r : Fin 512) : Fin 8192 := ⟨(512 * n + r.val) % 8192, Nat.mod_lt _ (by decide)⟩

end Cert.Mix
end
-- ==== Proof.Mix.Dw5.lean ====
/-
  The weight gradient of the token mixers' last products: eight blocks of rows summed in a scratch.
-/
module

public import proofs.«01_k».proof.Defs
public import proofs.«01_k».proof.Proof.Mix.Sum
public import proofs.«01_k».proof.Proof.Gen.Kernel5
public import proofs.«01_k».proof.Proof.Gen.Kernel5Ideal.Frame
public import proofs.«01_k».proof.Proof.Gen.Reference5Ideal.Run
public import proofs.«01_k».proof.Proof.Gen.Reference5Ideal.Read
public import Idealize.ShloMosaic.Lib.Pointwise
public import Idealize.ShloMosaic.Lib.Pipeline.ValueKit
public import Idealize.ShloMosaic.Adequacy
public import Idealize.ShloMosaic.Init

@[expose] public section

set_option maxRecDepth 16384

noncomputable section

namespace Cert.Dw5

open Cert.Kernel5Ideal Cert.Kernel5Ideal.Gen Cert.Mix
open Idealize.ShloMosaic Idealize.ShloMosaic.TcCoe Idealize.SL.Sem
open scoped BigOperators

abbrev T0 := (⟨S8192x1024, .bf16⟩ : BufTy).Contents (Elt Ideal)
abbrev T1 := (⟨S8192x1024, .f32⟩ : BufTy).Contents (Elt Ideal)

section Cases
variable {F : FTy → Type} [FloatOps F]
variable (c : Dev nD) (i : grid0.Coords) (a4 : Memref sig .tc .vmem S1024x1024 .bf16) (h4 : a4.IsWhole)
  (a5 : Memref sig .tc .vmem S1024x1024 .f32) (h5 : a5.IsWhole) (a6 : Memref sig .tc .vmem S1024x1024 .bf16) (h6 : a6.IsWhole)
  (a7 : Memref sig .tc .vmem S1024x1024 .f32) (h7 : a7.IsWhole)
  (x0 : Vec F S1024x1024 .bf16) (x1 : Vec F S1024x1024 .f32) (s : Vec F S1024x1024 .f32)

/-- At a first block of rows the scratch is zeroed, then holds the block's products. -/
theorem sout_A (hc0 : cond0_0 i) (hc1 : ¬cond0_1 i) : sout0_A_0 c i a4 h4 a5 h5 a6 h6 a7 h7 hc0 hc1 x0 x1 = k0_pay2 k0_pay1 x0 x1 := by
  unfold sout0_A_0
  rw [View.read_writes_eq_canon _ _ _ (scover0_A_0 c i a4 h4 a5 h5 a6 h6 a7 h7 hc0 hc1 x0 x1)]
  unfold kernelRun0_A
  dsimp only
  sl_unfold_words
  rw [View.canon_cons_unit_zero (S := S1024x1024) hz, View.readCov_unit_zero (S := S1024x1024) _ hz]
  simp only [View.readAt_eq_ld, h4.read_unread, h5.read_unread, View.ld_unit_zero (S := S1024x1024) hz]

theorem sout_B (hc0 : ¬cond0_0 i) (hc1 : ¬cond0_1 i) : sout0_B_0 c i a4 h4 a5 h5 a6 h6 a7 h7 hc0 hc1 x0 x1 s = k0_pay2 s x0 x1 := by
  unfold sout0_B_0
  rw [View.read_writes_eq_canon _ _ _ (scover0_B_0 c i a4 h4 a5 h5 a6 h6 a7 h7 hc0 hc1 x0 x1 s)]
  unfold kernelRun0_B
  dsimp only
  rw [View.canon_unit_zero (S := S1024x1024) hz]
  simp only [View.readAt_eq_ld, h4.read_unread, h5.read_unread, h7.read_unread, View.ld_unit_zero (S := S1024x1024) hz]

theorem sout_C (hc0 : ¬cond0_0 i) (hc1 : cond0_1 i) : sout0_C_0 c i a4 h4 a5 h5 a6 h6 a7 h7 hc0 hc1 x0 x1 s = k0_pay2 s x0 x1 := by
  unfold sout0_C_0
  rw [View.read_writes_eq_canon _ _ _ (scover0_C_0 c i a4 h4 a5 h5 a6 h6 a7 h7 hc0 hc1 x0 x1 s)]
  unfold kernelRun0_C
  dsimp only
  sl_unfold_words
  rw [View.canon_unit_zero (S := S1024x1024) hz]
  simp only [View.readAt_eq_ld, h4.read_unread, h5.read_unread, h7.read_unread, View.ld_unit_zero (S := S1024x1024) hz]

/-- After the last block the scratch is rounded into the result. -/
theorem out_C (hc0 : ¬cond0_0 i) (hc1 : cond0_1 i) : out0_C_2 c i a4 h4 a5 h5 a6 h6 a7 h7 hc0 hc1 x0 x1 s = k0_pay3 (k0_pay2 s x0 x1) := by
  unfold out0_C_2
  rw [View.read_writes_eq_canon _ _ _ (cover0_C_2 c i a4 h4 a5 h5 a6 h6 a7 h7 hc0 hc1 x0 x1 s)]
  unfold kernelRun0_C
  dsimp only
  sl_unfold_words
  rw [View.canon_unit_zero (S := S1024x1024) hz, View.readCov_unit_zero (S := S1024x1024) _ hz]
  simp only [View.readAt_eq_ld, h4.read_unread, h5.read_unread, h7.read_unread, View.ld_unit_zero (S := S1024x1024) hz]

end Cases

theorem pay1_at (r : Fin 1024) (x : Fin 1024) : k0_pay1 (F := Ideal) (ix2 r x) = 0 := by pointwise [k0_pay1]
theorem pay2_at (s : Vec Ideal S1024x1024 .f32) (x0 : Vec Ideal S1024x1024 .bf16) (x1 : Vec Ideal S1024x1024 .f32) (r : Fin 1024) (x : Fin 1024) :
    k0_pay2 s x0 x1 (ix2 r x) = s (ix2 r x) + ∑ k : Fin 1024, x0 (ix2 k r) * x1 (ix2 k x) := by
  pointwise [k0_pay2]
theorem pay3_at (s : Vec Ideal S1024x1024 .f32) (r : Fin 1024) (x : Fin 1024) : k0_pay3 s (ix2 r x) = s (ix2 r x) := by
  pointwise [k0_pay3]

section Run
variable (m : (ℓ : Loc nD τ sig) → Buf (Elt Ideal) ℓ) (c : Dev nD)

abbrev X0 : T0 := m ((c : Thread nD τ).loc main_arg0)
abbrev X1 : T1 := m ((c : Thread nD τ).loc main_arg1)

theorem ltN (t : Fin cfg0.N) : t.val < 8 := lt_of_lt_of_eq t.isLt N_0
theorem idx0 : ∀ t : Fin cfg0.N, win0_0.index t 0 = t.val % 8 ∧ win0_0.index t 1 = 0 := (by decide +kernel : ∀ t : Fin grid0.N, _)
theorem idx1 : ∀ t : Fin cfg0.N, win0_1.index t 0 = t.val % 8 ∧ win0_1.index t 1 = t.val / 8 := (by decide +kernel : ∀ t : Fin grid0.N, _)
theorem idx2 : ∀ t : Fin cfg0.N, win0_2.index t 0 = 0 ∧ win0_2.index t 1 = t.val / 8 := (by decide +kernel : ∀ t : Fin grid0.N, _)
theorem flush2 : ∀ t : Fin cfg0.N, (cfg0.win 2).flush t = true → t.val % 8 = 7 := (by decide +kernel : ∀ t : Fin grid0.N, _)

/-- The column of the result at column `x` of a point's block. -/
def col (n : ℕ) (x : Fin 1024) : Fin 1024 := ⟨(1024 * (n / 8) + x.val) % 1024, Nat.mod_lt _ (by decide)⟩

/-- The two arguments' blocks at a point. -/
abbrev bA (t : Fin cfg0.N) : Vec Ideal S1024x1024 .bf16 := iblk m c 0 t
abbrev bB (t : Fin cfg0.N) : Vec Ideal S1024x1024 .f32 := iblk m c 1 t

theorem blk0 (t : Fin cfg0.N) (k : Fin 1024) (r : Fin 1024) :
    bA m c t (ix2 k r) = X0 m c (ix2 ⟨(1024 * (t.val % 8) + k.val) % 8192, Nat.mod_lt _ (by decide)⟩ r) := by
  have hN := ltN t
  refine congrArg (X0 m c) (funext fun a => Fin.ext ?_)
  match a with
  | ⟨0, _⟩ => show win0_0.index t 0 * 1024 + 1 * k.val = (1024 * (t.val % 8) + k.val) % 8192; rw [(idx0 t).1]; omega
  | ⟨1, _⟩ => show win0_0.index t 1 * 1024 + 1 * r.val = r.val; rw [(idx0 t).2]; omega
theorem blk1 (t : Fin cfg0.N) (k : Fin 1024) (x : Fin 1024) :
    bB m c t (ix2 k x) = X1 m c (ix2 ⟨(1024 * (t.val % 8) + k.val) % 8192, Nat.mod_lt _ (by decide)⟩ (col t.val x)) := by
  have hN := ltN t
  refine congrArg (X1 m c) (funext fun a => Fin.ext ?_)
  match a with
  | ⟨0, _⟩ => show win0_1.index t 0 * 1024 + 1 * k.val = (1024 * (t.val % 8) + k.val) % 8192; rw [(idx1 t).1]; omega
  | ⟨1, _⟩ => show win0_1.index t 1 * 1024 + 1 * x.val = (1024 * (t.val / 8) + x.val) % 1024; rw [(idx1 t).2]; omega

abbrev T (n : ℕ) (r : Fin 1024) (x : Fin 1024) : ℕ → EReal := term (X0 m c) (X1 m c) r (col n x)

/-- One block's products are the next 1024 terms. -/
theorem step (t : Fin cfg0.N) (r : Fin 1024) (x : Fin 1024) (z : EReal)
    (hs : z = ∑ k ∈ Finset.range (1024 * (t.val % 8)), T m c t.val r x k) :
    z + (∑ k : Fin 1024, bA m c t (ix2 k r) * bB m c t (ix2 k x))
      = ∑ k ∈ Finset.range (1024 * (t.val % 8 + 1)), T m c t.val r x k := by
  have e : (∑ k : Fin 1024, bA m c t (ix2 k r) * bB m c t (ix2 k x))
      = ∑ k ∈ Finset.range 1024, T m c t.val r x (1024 * (t.val % 8) + k) := by
    rw [Finset.sum_range]
    refine Finset.sum_congr rfl fun k _ => ?_
    rw [blk0, blk1]
    rfl
  rw [e, hs, Nat.mul_add, Nat.mul_one, Finset.sum_range_add]

/-- What the scratch holds after a point. -/
theorem scratch : ∀ (n : ℕ) (h : n < cfg0.N) (r : Fin 1024) (x : Fin 1024),
    (outsAt0 m c n h).2 (ix2 r x) = ∑ k ∈ Finset.range (1024 * (n % 8 + 1)), T m c n r x k := by
  intro n
  induction n with
  | zero =>
    intro h r x
    rw [outsAt0_A m c ⟨0, h⟩ rfl (fun hh => absurd (show (0 : ℕ) % 8 = 7 from hh) (by decide))]
    dsimp only
    rw [sout_A, pay2_at, pay1_at]
    exact step m c ⟨0, h⟩ r x 0 (by simp)
  | succ n ih =>
    intro h r x
    by_cases h0 : (n + 1) % 8 = 0
    · have h1 : ¬(n + 1) % 8 = 7 := by omega
      rw [outsAt0_A m c ⟨n + 1, h⟩ h0 h1]
      dsimp only
      rw [sout_A, pay2_at, pay1_at]
      exact step m c ⟨n + 1, h⟩ r x 0 (by dsimp only; rw [h0]; simp)
    · have e : (n + 1) % 8 = n % 8 + 1 := by omega
      have e' : (n + 1) / 8 = n / 8 := by omega
      have e2 : col (n + 1) x = col n x := Fin.ext (congrArg (fun q => (1024 * q + x.val) % 1024) e')
      have hs := ih (Nat.lt_of_succ_lt h) r x
      have hs' : (outsAt0 m c n (Nat.lt_of_succ_lt h)).2 (ix2 r x)
          = ∑ k ∈ Finset.range (1024 * ((n + 1) % 8)), T m c (n + 1) r x k := by
        rw [hs, e]; unfold T; rw [e2]
      by_cases h1 : (n + 1) % 8 = 7
      · rw [outsAt0_C m c ⟨n + 1, h⟩ h0 h1]
        dsimp only
        rw [sout_C, pay2_at]
        exact step m c ⟨n + 1, h⟩ r x _ hs'
      · rw [outsAt0_B m c ⟨n + 1, h⟩ h0 h1]
        dsimp only
        rw [sout_B, pay2_at]
        exact step m c ⟨n + 1, h⟩ r x _ hs'

/-- What a last point leaves in the result's block. -/
theorem last (n : ℕ) (h : n < cfg0.N) (h1 : n % 8 = 7) (r : Fin 1024) (x : Fin 1024) :
    (outsAt0 m c n h).1 (ix2 r x) = grad (X0 m c) (X1 m c) r (col n x) := by
  have h0 : ¬n % 8 = 0 := by omega
  have e := scratch m c n h r x
  have eC := outsAt0_C m c ⟨n, h⟩ h0 h1
  have e2 := (congrArg (fun z => z.2 (ix2 r x)) eC).symm.trans e
  refine (congrArg (fun z => z.1 (ix2 r x)) eC).trans ?_
  dsimp only at e2 ⊢
  rw [sout_C, h1] at e2
  rw [out_C, pay3_at]
  exact e2.trans (sum_term _ _ r (col n x))

/-- The result: the sums over all rows. -/
def R (x0 : T0) (x1 : T1) : S1024x1024.Idx → EReal := fun i => grad x0 x1 (i 0) (i 1)

theorem emb2 (t : Fin cfg0.N) (y : S1024x1024.Idx) : ((cfg0.win 2).blk t).view.emb y = (ix2 (y 0) (col t.val (y 1)) : S1024x1024.Idx) := by
  have hN := ltN t
  have hy : (y 1).val < 1024 := (y 1).isLt
  refine funext fun a => Fin.ext ?_
  match a with
  | ⟨0, _⟩ => show win0_2.index t 0 * 1024 + 1 * (y 0).val = (y 0).val; rw [(idx2 t).1]; omega
  | ⟨1, _⟩ => show win0_2.index t 1 * 1024 + 1 * (y 1).val = (1024 * (t.val / 8) + (y 1).val) % 1024; rw [(idx2 t).2]; omega
theorem arr2 : (dats m 0 c).arrAt 2 cfg0.N = R (X0 m c) (X1 m c) := by
  refine (dats m 0 c).arrAt_eq_of_covers 2 _ (by decide +kernel) fun t hf y => ?_
  refine (?_ : _ = _).trans (congrArg (R (X0 m c) (X1 m c)) (emb2 t y)).symm
  show (dats m 0 c).after 2 t y = _
  rw [after0_2]
  refine (congrArg _ (ix2_self y)).trans ?_
  exact last m c t.val t.isLt (flush2 t hf) (y 0) (y 1)

end Run

/-- The call's run: its results, and its arguments unchanged. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0) = R (X0 m c) (X1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (arr2 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main m ρ)

/-- The reference's term is the same sum. -/
theorem ref_main_v5 (x0 : T0) (x1 : T1) : Cert.Reference5Ideal.Read.val_main_v5 (F := Ideal) x0 x1 = R x0 x1 := by
  funext i
  rw [Cert.Reference5Ideal.Read.val_main_v5_apply, Cert.Reference5Ideal.Read.val_main_v4_apply, Cert.Reference5Ideal.Read.val_main_v3_apply]
  unfold R grad
  refine Finset.sum_congr rfl fun k _ => ?_
  rw [Cert.Reference5Ideal.Read.val_main_v1_apply, mul_comm]
  refine congrArg₂ (fun a b : EReal => a * b) (congrArg x0 (funext fun a => ?_)) (congrArg x1 (funext fun a => ?_))
  · match a with
    | ⟨0, _⟩ => rfl
    | ⟨1, _⟩ => rfl
  · match a with
    | ⟨0, _⟩ => rfl
    | ⟨1, _⟩ => rfl

/-! ## The claims -/

theorem run_ref (m : (ℓ : Loc Cert.Reference5Ideal.nD Cert.Reference5Ideal.τ Cert.Reference5Ideal.sig) → Buf (Elt Ideal) ℓ) (ρ : Dev Cert.Reference5Ideal.nD → PrngReg)
    (x0 : Dev Cert.Reference5Ideal.nD → T0) (x1 : Dev Cert.Reference5Ideal.nD → T1)
    (hm : ∀ c : Dev Cert.Reference5Ideal.nD, m ((c.tc : Thread Cert.Reference5Ideal.nD Cert.Reference5Ideal.τ).loc Cert.Reference5Ideal.main_arg0) = x0 c ∧ m ((c.tc : Thread Cert.Reference5Ideal.nD Cert.Reference5Ideal.τ).loc Cert.Reference5Ideal.main_arg1) = x1 c) :
    θ_run (Cert.Reference5Ideal.defs (F := Ideal)) (onTc (τ := Cert.Reference5Ideal.τ) (Cert.Reference5Ideal.main (F := Ideal))) ⟨m, fun _ => 0, ρ⟩ (fun r => ∀ c : Dev Cert.Reference5Ideal.nD,
      r.2.mem ((c.tc : Thread Cert.Reference5Ideal.nD Cert.Reference5Ideal.τ).loc Cert.Reference5Ideal.main_v5) = R (x0 c) (x1 c)
      ∧ r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)) :=
  (θ_run (Cert.Reference5Ideal.defs (F := Ideal)) _ _).mono (fun _ h c => ⟨
    (h c).1.trans ((Cert.Reference5Ideal.Read.val_main_v5_eq _ _).trans ((ref_main_v5 _ _).trans (by rw [(hm c).1, (hm c).2]))),
    (h c).2⟩) (Cert.Reference5Ideal.Value.run (F := Ideal) m ρ)

theorem defs_same : @Cert.Kernel5.defs Bits _ _ = @Cert.Kernel5Ideal.defs Bits _ _ := by
  show Pipeline.defs (Cert.Kernel5Ideal.pcfgs (F := Bits)) (@Cert.Kernel5.defs₀ Bits _ _) = Pipeline.defs (Cert.Kernel5Ideal.pcfgs (F := Bits)) (@Cert.Kernel5Ideal.defs₀ Bits _ _)
  have h : @Cert.Kernel5.defs₀ Bits _ _ = @Cert.Kernel5Ideal.defs₀ Bits _ _ := by
    refine congrArg Defs.onTc (funext fun l => funext fun a => ?_)
    match l, a with
    | 0, (t, s) => rfl
  rw [h]

theorem main_same : @Cert.Kernel5.main Bits _ = @Cert.Kernel5Ideal.main Bits _ := rfl

/-- The printed call's frame: its generated run at bits. -/
theorem frame_kernel : Cert.quiescent_Kernel5 := by
  intro m ρ _
  have h := Cert.Kernel5Ideal.Gen.frame (F := Bits) m ρ
  rw [← defs_same, ← main_same] at h
  exact h

/-- The idealised call's frame: the same run at extended reals. -/
theorem frame_ideal : Cert.quiescent_Kernel5Ideal := fun m ρ _ => Cert.Kernel5Ideal.Gen.frame (F := Ideal) m ρ

/-- The reference's frame. -/
theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The call's results are the reference's. -/
theorem equal : Cert.algebraic_Kernel5Ideal_Reference5Ideal := by
  intro m g m' g' _ hm
  exact ⟨fun c => R (X0 m c) (X1 m c),
    run_value m g, run_ref m' g' (X0 m) (X1 m) hm⟩

end Cert.Dw5
end
-- ==== Proof.Mix.Dw6.lean ====
/-
  The weight gradients of the convolution's first products: eight blocks of rows summed in a scratch.
-/
module

public import proofs.«01_k».proof.Defs
public import proofs.«01_k».proof.Proof.Mix.Sum
public import proofs.«01_k».proof.Proof.Gen.Kernel6
public import proofs.«01_k».proof.Proof.Gen.Kernel6Ideal.Frame
public import proofs.«01_k».proof.Proof.Gen.Reference6Ideal.Run
public import proofs.«01_k».proof.Proof.Gen.Reference6Ideal.Read
public import Idealize.ShloMosaic.Lib.Pointwise
public import Idealize.ShloMosaic.Lib.Pipeline.ValueKit
public import Idealize.ShloMosaic.Adequacy
public import Idealize.ShloMosaic.Init

@[expose] public section

set_option maxRecDepth 16384

noncomputable section

namespace Cert.Dw6

open Cert.Kernel6Ideal Cert.Kernel6Ideal.Gen Cert.Mix
open Idealize.ShloMosaic Idealize.ShloMosaic.TcCoe Idealize.SL.Sem
open scoped BigOperators

abbrev T0 := (⟨S8192x1024, .bf16⟩ : BufTy).Contents (Elt Ideal)
abbrev T1 := (⟨S8192x1024, .bf16⟩ : BufTy).Contents (Elt Ideal)

section Cases
variable {F : FTy → Type} [FloatOps F]
variable (c : Dev nD) (i : grid0.Coords) (a4 : Memref sig .tc .vmem S1024x1024 .bf16) (h4 : a4.IsWhole)
  (a5 : Memref sig .tc .vmem S1024x1024 .bf16) (h5 : a5.IsWhole) (a6 : Memref sig .tc .vmem S1024x1024 .bf16) (h6 : a6.IsWhole)
  (a7 : Memref sig .tc .vmem S1024x1024 .f32) (h7 : a7.IsWhole)
  (x0 : Vec F S1024x1024 .bf16) (x1 : Vec F S1024x1024 .bf16) (s : Vec F S1024x1024 .f32)

/-- At a first block of rows the scratch is zeroed, then holds the block's products. -/
theorem sout_A (hc0 : cond0_0 i) (hc1 : ¬cond0_1 i) : sout0_A_0 c i a4 h4 a5 h5 a6 h6 a7 h7 hc0 hc1 x0 x1 = k0_pay2 k0_pay1 x0 x1 := by
  unfold sout0_A_0
  rw [View.read_writes_eq_canon _ _ _ (scover0_A_0 c i a4 h4 a5 h5 a6 h6 a7 h7 hc0 hc1 x0 x1)]
  unfold kernelRun0_A
  dsimp only
  sl_unfold_words
  rw [View.canon_cons_unit_zero (S := S1024x1024) hz, View.readCov_unit_zero (S := S1024x1024) _ hz]
  simp only [View.readAt_eq_ld, h4.read_unread, h5.read_unread, View.ld_unit_zero (S := S1024x1024) hz]

theorem sout_B (hc0 : ¬cond0_0 i) (hc1 : ¬cond0_1 i) : sout0_B_0 c i a4 h4 a5 h5 a6 h6 a7 h7 hc0 hc1 x0 x1 s = k0_pay2 s x0 x1 := by
  unfold sout0_B_0
  rw [View.read_writes_eq_canon _ _ _ (scover0_B_0 c i a4 h4 a5 h5 a6 h6 a7 h7 hc0 hc1 x0 x1 s)]
  unfold kernelRun0_B
  dsimp only
  rw [View.canon_unit_zero (S := S1024x1024) hz]
  simp only [View.readAt_eq_ld, h4.read_unread, h5.read_unread, h7.read_unread, View.ld_unit_zero (S := S1024x1024) hz]

theorem sout_C (hc0 : ¬cond0_0 i) (hc1 : cond0_1 i) : sout0_C_0 c i a4 h4 a5 h5 a6 h6 a7 h7 hc0 hc1 x0 x1 s = k0_pay2 s x0 x1 := by
  unfold sout0_C_0
  rw [View.read_writes_eq_canon _ _ _ (scover0_C_0 c i a4 h4 a5 h5 a6 h6 a7 h7 hc0 hc1 x0 x1 s)]
  unfold kernelRun0_C
  dsimp only
  sl_unfold_words
  rw [View.canon_unit_zero (S := S1024x1024) hz]
  simp only [View.readAt_eq_ld, h4.read_unread, h5.read_unread, h7.read_unread, View.ld_unit_zero (S := S1024x1024) hz]

/-- After the last block the scratch is rounded into the result. -/
theorem out_C (hc0 : ¬cond0_0 i) (hc1 : cond0_1 i) : out0_C_2 c i a4 h4 a5 h5 a6 h6 a7 h7 hc0 hc1 x0 x1 s = k0_pay3 (k0_pay2 s x0 x1) := by
  unfold out0_C_2
  rw [View.read_writes_eq_canon _ _ _ (cover0_C_2 c i a4 h4 a5 h5 a6 h6 a7 h7 hc0 hc1 x0 x1 s)]
  unfold kernelRun0_C
  dsimp only
  sl_unfold_words
  rw [View.canon_unit_zero (S := S1024x1024) hz, View.readCov_unit_zero (S := S1024x1024) _ hz]
  simp only [View.readAt_eq_ld, h4.read_unread, h5.read_unread, h7.read_unread, View.ld_unit_zero (S := S1024x1024) hz]

end Cases

theorem pay1_at (r : Fin 1024) (x : Fin 1024) : k0_pay1 (F := Ideal) (ix2 r x) = 0 := by pointwise [k0_pay1]
theorem pay2_at (s : Vec Ideal S1024x1024 .f32) (x0 : Vec Ideal S1024x1024 .bf16) (x1 : Vec Ideal S1024x1024 .bf16) (r : Fin 1024) (x : Fin 1024) :
    k0_pay2 s x0 x1 (ix2 r x) = s (ix2 r x) + ∑ k : Fin 1024, x0 (ix2 k r) * x1 (ix2 k x) := by
  pointwise [k0_pay2]
theorem pay3_at (s : Vec Ideal S1024x1024 .f32) (r : Fin 1024) (x : Fin 1024) : k0_pay3 s (ix2 r x) = s (ix2 r x) := by
  pointwise [k0_pay3]

section Run
variable (m : (ℓ : Loc nD τ sig) → Buf (Elt Ideal) ℓ) (c : Dev nD)

abbrev X0 : T0 := m ((c : Thread nD τ).loc main_arg0)
abbrev X1 : T1 := m ((c : Thread nD τ).loc main_arg1)

theorem ltN (t : Fin cfg0.N) : t.val < 8 := lt_of_lt_of_eq t.isLt N_0
theorem idx0 : ∀ t : Fin cfg0.N, win0_0.index t 0 = t.val % 8 ∧ win0_0.index t 1 = 0 := (by decide +kernel : ∀ t : Fin grid0.N, _)
theorem idx1 : ∀ t : Fin cfg0.N, win0_1.index t 0 = t.val % 8 ∧ win0_1.index t 1 = t.val / 8 := (by decide +kernel : ∀ t : Fin grid0.N, _)
theorem idx2 : ∀ t : Fin cfg0.N, win0_2.index t 0 = 0 ∧ win0_2.index t 1 = t.val / 8 := (by decide +kernel : ∀ t : Fin grid0.N, _)
theorem flush2 : ∀ t : Fin cfg0.N, (cfg0.win 2).flush t = true → t.val % 8 = 7 := (by decide +kernel : ∀ t : Fin grid0.N, _)

/-- The column of the result at column `x` of a point's block. -/
def col (n : ℕ) (x : Fin 1024) : Fin 1024 := ⟨(1024 * (n / 8) + x.val) % 1024, Nat.mod_lt _ (by decide)⟩

/-- The two arguments' blocks at a point. -/
abbrev bA (t : Fin cfg0.N) : Vec Ideal S1024x1024 .bf16 := iblk m c 0 t
abbrev bB (t : Fin cfg0.N) : Vec Ideal S1024x1024 .bf16 := iblk m c 1 t

theorem blk0 (t : Fin cfg0.N) (k : Fin 1024) (r : Fin 1024) :
    bA m c t (ix2 k r) = X0 m c (ix2 ⟨(1024 * (t.val % 8) + k.val) % 8192, Nat.mod_lt _ (by decide)⟩ r) := by
  have hN := ltN t
  refine congrArg (X0 m c) (funext fun a => Fin.ext ?_)
  match a with
  | ⟨0, _⟩ => show win0_0.index t 0 * 1024 + 1 * k.val = (1024 * (t.val % 8) + k.val) % 8192; rw [(idx0 t).1]; omega
  | ⟨1, _⟩ => show win0_0.index t 1 * 1024 + 1 * r.val = r.val; rw [(idx0 t).2]; omega
theorem blk1 (t : Fin cfg0.N) (k : Fin 1024) (x : Fin 1024) :
    bB m c t (ix2 k x) = X1 m c (ix2 ⟨(1024 * (t.val % 8) + k.val) % 8192, Nat.mod_lt _ (by decide)⟩ (col t.val x)) := by
  have hN := ltN t
  refine congrArg (X1 m c) (funext fun a => Fin.ext ?_)
  match a with
  | ⟨0, _⟩ => show win0_1.index t 0 * 1024 + 1 * k.val = (1024 * (t.val % 8) + k.val) % 8192; rw [(idx1 t).1]; omega
  | ⟨1, _⟩ => show win0_1.index t 1 * 1024 + 1 * x.val = (1024 * (t.val / 8) + x.val) % 1024; rw [(idx1 t).2]; omega

abbrev T (n : ℕ) (r : Fin 1024) (x : Fin 1024) : ℕ → EReal := term (X0 m c) (X1 m c) r (col n x)

/-- One block's products are the next 1024 terms. -/
theorem step (t : Fin cfg0.N) (r : Fin 1024) (x : Fin 1024) (z : EReal)
    (hs : z = ∑ k ∈ Finset.range (1024 * (t.val % 8)), T m c t.val r x k) :
    z + (∑ k : Fin 1024, bA m c t (ix2 k r) * bB m c t (ix2 k x))
      = ∑ k ∈ Finset.range (1024 * (t.val % 8 + 1)), T m c t.val r x k := by
  have e : (∑ k : Fin 1024, bA m c t (ix2 k r) * bB m c t (ix2 k x))
      = ∑ k ∈ Finset.range 1024, T m c t.val r x (1024 * (t.val % 8) + k) := by
    rw [Finset.sum_range]
    refine Finset.sum_congr rfl fun k _ => ?_
    rw [blk0, blk1]
    rfl
  rw [e, hs, Nat.mul_add, Nat.mul_one, Finset.sum_range_add]

/-- What the scratch holds after a point. -/
theorem scratch : ∀ (n : ℕ) (h : n < cfg0.N) (r : Fin 1024) (x : Fin 1024),
    (outsAt0 m c n h).2 (ix2 r x) = ∑ k ∈ Finset.range (1024 * (n % 8 + 1)), T m c n r x k := by
  intro n
  induction n with
  | zero =>
    intro h r x
    rw [outsAt0_A m c ⟨0, h⟩ rfl (fun hh => absurd (show (0 : ℕ) % 8 = 7 from hh) (by decide))]
    dsimp only
    rw [sout_A, pay2_at, pay1_at]
    exact step m c ⟨0, h⟩ r x 0 (by simp)
  | succ n ih =>
    intro h r x
    by_cases h0 : (n + 1) % 8 = 0
    · have h1 : ¬(n + 1) % 8 = 7 := by omega
      rw [outsAt0_A m c ⟨n + 1, h⟩ h0 h1]
      dsimp only
      rw [sout_A, pay2_at, pay1_at]
      exact step m c ⟨n + 1, h⟩ r x 0 (by dsimp only; rw [h0]; simp)
    · have e : (n + 1) % 8 = n % 8 + 1 := by omega
      have e' : (n + 1) / 8 = n / 8 := by omega
      have e2 : col (n + 1) x = col n x := Fin.ext (congrArg (fun q => (1024 * q + x.val) % 1024) e')
      have hs := ih (Nat.lt_of_succ_lt h) r x
      have hs' : (outsAt0 m c n (Nat.lt_of_succ_lt h)).2 (ix2 r x)
          = ∑ k ∈ Finset.range (1024 * ((n + 1) % 8)), T m c (n + 1) r x k := by
        rw [hs, e]; unfold T; rw [e2]
      by_cases h1 : (n + 1) % 8 = 7
      · rw [outsAt0_C m c ⟨n + 1, h⟩ h0 h1]
        dsimp only
        rw [sout_C, pay2_at]
        exact step m c ⟨n + 1, h⟩ r x _ hs'
      · rw [outsAt0_B m c ⟨n + 1, h⟩ h0 h1]
        dsimp only
        rw [sout_B, pay2_at]
        exact step m c ⟨n + 1, h⟩ r x _ hs'

/-- What a last point leaves in the result's block. -/
theorem last (n : ℕ) (h : n < cfg0.N) (h1 : n % 8 = 7) (r : Fin 1024) (x : Fin 1024) :
    (outsAt0 m c n h).1 (ix2 r x) = grad (X0 m c) (X1 m c) r (col n x) := by
  have h0 : ¬n % 8 = 0 := by omega
  have e := scratch m c n h r x
  have eC := outsAt0_C m c ⟨n, h⟩ h0 h1
  have e2 := (congrArg (fun z => z.2 (ix2 r x)) eC).symm.trans e
  refine (congrArg (fun z => z.1 (ix2 r x)) eC).trans ?_
  dsimp only at e2 ⊢
  rw [sout_C, h1] at e2
  rw [out_C, pay3_at]
  exact e2.trans (sum_term _ _ r (col n x))

/-- The result: the sums over all rows. -/
def R (x0 : T0) (x1 : T1) : S1024x1024.Idx → EReal := fun i => grad x0 x1 (i 0) (i 1)

theorem emb2 (t : Fin cfg0.N) (y : S1024x1024.Idx) : ((cfg0.win 2).blk t).view.emb y = (ix2 (y 0) (col t.val (y 1)) : S1024x1024.Idx) := by
  have hN := ltN t
  have hy : (y 1).val < 1024 := (y 1).isLt
  refine funext fun a => Fin.ext ?_
  match a with
  | ⟨0, _⟩ => show win0_2.index t 0 * 1024 + 1 * (y 0).val = (y 0).val; rw [(idx2 t).1]; omega
  | ⟨1, _⟩ => show win0_2.index t 1 * 1024 + 1 * (y 1).val = (1024 * (t.val / 8) + (y 1).val) % 1024; rw [(idx2 t).2]; omega
theorem arr2 : (dats m 0 c).arrAt 2 cfg0.N = R (X0 m c) (X1 m c) := by
  refine (dats m 0 c).arrAt_eq_of_covers 2 _ (by decide +kernel) fun t hf y => ?_
  refine (?_ : _ = _).trans (congrArg (R (X0 m c) (X1 m c)) (emb2 t y)).symm
  show (dats m 0 c).after 2 t y = _
  rw [after0_2]
  refine (congrArg _ (ix2_self y)).trans ?_
  exact last m c t.val t.isLt (flush2 t hf) (y 0) (y 1)

end Run

/-- The call's run: its results, and its arguments unchanged. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0) = R (X0 m c) (X1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (arr2 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main m ρ)

/-- The reference's term is the same sum. -/
theorem ref_main_v6 (x0 : T0) (x1 : T1) : Cert.Reference6Ideal.Read.val_main_v6 (F := Ideal) x0 x1 = R x0 x1 := by
  funext i
  rw [Cert.Reference6Ideal.Read.val_main_v6_apply, Cert.Reference6Ideal.Read.val_main_v5_apply, Cert.Reference6Ideal.Read.val_main_v4_apply]
  unfold R grad
  refine Finset.sum_congr rfl fun k _ => ?_
  rw [Cert.Reference6Ideal.Read.val_main_v3_apply, Cert.Reference6Ideal.Read.val_main_v1_apply, mul_comm]
  refine congrArg₂ (fun a b : EReal => a * b) (congrArg x0 (funext fun a => ?_)) (congrArg x1 (funext fun a => ?_))
  · match a with
    | ⟨0, _⟩ => rfl
    | ⟨1, _⟩ => rfl
  · match a with
    | ⟨0, _⟩ => rfl
    | ⟨1, _⟩ => rfl

/-! ## The claims -/

theorem run_ref (m : (ℓ : Loc Cert.Reference6Ideal.nD Cert.Reference6Ideal.τ Cert.Reference6Ideal.sig) → Buf (Elt Ideal) ℓ) (ρ : Dev Cert.Reference6Ideal.nD → PrngReg)
    (x0 : Dev Cert.Reference6Ideal.nD → T0) (x1 : Dev Cert.Reference6Ideal.nD → T1)
    (hm : ∀ c : Dev Cert.Reference6Ideal.nD, m ((c.tc : Thread Cert.Reference6Ideal.nD Cert.Reference6Ideal.τ).loc Cert.Reference6Ideal.main_arg0) = x0 c ∧ m ((c.tc : Thread Cert.Reference6Ideal.nD Cert.Reference6Ideal.τ).loc Cert.Reference6Ideal.main_arg1) = x1 c) :
    θ_run (Cert.Reference6Ideal.defs (F := Ideal)) (onTc (τ := Cert.Reference6Ideal.τ) (Cert.Reference6Ideal.main (F := Ideal))) ⟨m, fun _ => 0, ρ⟩ (fun r => ∀ c : Dev Cert.Reference6Ideal.nD,
      r.2.mem ((c.tc : Thread Cert.Reference6Ideal.nD Cert.Reference6Ideal.τ).loc Cert.Reference6Ideal.main_v6) = R (x0 c) (x1 c)
      ∧ r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)) :=
  (θ_run (Cert.Reference6Ideal.defs (F := Ideal)) _ _).mono (fun _ h c => ⟨
    (h c).1.trans ((Cert.Reference6Ideal.Read.val_main_v6_eq _ _).trans ((ref_main_v6 _ _).trans (by rw [(hm c).1, (hm c).2]))),
    (h c).2⟩) (Cert.Reference6Ideal.Value.run (F := Ideal) m ρ)

theorem defs_same : @Cert.Kernel6.defs Bits _ _ = @Cert.Kernel6Ideal.defs Bits _ _ := by
  show Pipeline.defs (Cert.Kernel6Ideal.pcfgs (F := Bits)) (@Cert.Kernel6.defs₀ Bits _ _) = Pipeline.defs (Cert.Kernel6Ideal.pcfgs (F := Bits)) (@Cert.Kernel6Ideal.defs₀ Bits _ _)
  have h : @Cert.Kernel6.defs₀ Bits _ _ = @Cert.Kernel6Ideal.defs₀ Bits _ _ := by
    refine congrArg Defs.onTc (funext fun l => funext fun a => ?_)
    match l, a with
    | 0, (t, s) => rfl
  rw [h]

theorem main_same : @Cert.Kernel6.main Bits _ = @Cert.Kernel6Ideal.main Bits _ := rfl

/-- The printed call's frame: its generated run at bits. -/
theorem frame_kernel : Cert.quiescent_Kernel6 := by
  intro m ρ _
  have h := Cert.Kernel6Ideal.Gen.frame (F := Bits) m ρ
  rw [← defs_same, ← main_same] at h
  exact h

/-- The idealised call's frame: the same run at extended reals. -/
theorem frame_ideal : Cert.quiescent_Kernel6Ideal := fun m ρ _ => Cert.Kernel6Ideal.Gen.frame (F := Ideal) m ρ

/-- The reference's frame. -/
theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The call's results are the reference's. -/
theorem equal : Cert.algebraic_Kernel6Ideal_Reference6Ideal := by
  intro m g m' g' _ hm
  exact ⟨fun c => R (X0 m c) (X1 m c),
    run_value m g, run_ref m' g' (X0 m) (X1 m) hm⟩

end Cert.Dw6
end
-- ==== Proof.Mix.Dw7.lean ====
/-
  The weight gradient of the queries' up projection: eight blocks of rows summed in a scratch, for each half of the columns.
-/
module

public import proofs.«01_k».proof.Defs
public import proofs.«01_k».proof.Proof.Mix.Sum
public import proofs.«01_k».proof.Proof.Gen.Kernel7
public import proofs.«01_k».proof.Proof.Gen.Kernel7Ideal.Frame
public import proofs.«01_k».proof.Proof.Gen.Reference7Ideal.Run
public import proofs.«01_k».proof.Proof.Gen.Reference7Ideal.Read
public import Idealize.ShloMosaic.Lib.Pointwise
public import Idealize.ShloMosaic.Lib.Pipeline.ValueKit
public import Idealize.ShloMosaic.Adequacy
public import Idealize.ShloMosaic.Init

@[expose] public section

set_option maxRecDepth 16384

noncomputable section

namespace Cert.Dw7

open Cert.Kernel7Ideal Cert.Kernel7Ideal.Gen Cert.Mix
open Idealize.ShloMosaic Idealize.ShloMosaic.TcCoe Idealize.SL.Sem
open scoped BigOperators

abbrev T0 := (⟨S8192x512, .bf16⟩ : BufTy).Contents (Elt Ideal)
abbrev T1 := (⟨S8192x2048, .bf16⟩ : BufTy).Contents (Elt Ideal)

section Cases
variable {F : FTy → Type} [FloatOps F]
variable (c : Dev nD) (i : grid0.Coords) (a4 : Memref sig .tc .vmem S1024x512 .bf16) (h4 : a4.IsWhole)
  (a5 : Memref sig .tc .vmem S1024x1024 .bf16) (h5 : a5.IsWhole) (a6 : Memref sig .tc .vmem S512x1024 .bf16) (h6 : a6.IsWhole)
  (a7 : Memref sig .tc .vmem S512x1024 .f32) (h7 : a7.IsWhole)
  (x0 : Vec F S1024x512 .bf16) (x1 : Vec F S1024x1024 .bf16) (s : Vec F S512x1024 .f32)

/-- At a first block of rows the scratch is zeroed, then holds the block's products. -/
theorem sout_A (hc0 : cond0_0 i) (hc1 : ¬cond0_1 i) : sout0_A_0 c i a4 h4 a5 h5 a6 h6 a7 h7 hc0 hc1 x0 x1 = k0_pay2 k0_pay1 x0 x1 := by
  unfold sout0_A_0
  rw [View.read_writes_eq_canon _ _ _ (scover0_A_0 c i a4 h4 a5 h5 a6 h6 a7 h7 hc0 hc1 x0 x1)]
  unfold kernelRun0_A
  dsimp only
  sl_unfold_words
  rw [View.canon_cons_unit_zero (S := S512x1024) hz, View.readCov_unit_zero (S := S512x1024) _ hz]
  simp only [View.readAt_eq_ld, h4.read_unread, h5.read_unread, View.ld_unit_zero (S := S1024x512) hz, View.ld_unit_zero (S := S1024x1024) hz, View.ld_unit_zero (S := S512x1024) hz]

theorem sout_B (hc0 : ¬cond0_0 i) (hc1 : ¬cond0_1 i) : sout0_B_0 c i a4 h4 a5 h5 a6 h6 a7 h7 hc0 hc1 x0 x1 s = k0_pay2 s x0 x1 := by
  unfold sout0_B_0
  rw [View.read_writes_eq_canon _ _ _ (scover0_B_0 c i a4 h4 a5 h5 a6 h6 a7 h7 hc0 hc1 x0 x1 s)]
  unfold kernelRun0_B
  dsimp only
  rw [View.canon_unit_zero (S := S512x1024) hz]
  simp only [View.readAt_eq_ld, h4.read_unread, h5.read_unread, h7.read_unread, View.ld_unit_zero (S := S1024x512) hz, View.ld_unit_zero (S := S1024x1024) hz, View.ld_unit_zero (S := S512x1024) hz]

theorem sout_C (hc0 : ¬cond0_0 i) (hc1 : cond0_1 i) : sout0_C_0 c i a4 h4 a5 h5 a6 h6 a7 h7 hc0 hc1 x0 x1 s = k0_pay2 s x0 x1 := by
  unfold sout0_C_0
  rw [View.read_writes_eq_canon _ _ _ (scover0_C_0 c i a4 h4 a5 h5 a6 h6 a7 h7 hc0 hc1 x0 x1 s)]
  unfold kernelRun0_C
  dsimp only
  sl_unfold_words
  rw [View.canon_unit_zero (S := S512x1024) hz]
  simp only [View.readAt_eq_ld, h4.read_unread, h5.read_unread, h7.read_unread, View.ld_unit_zero (S := S1024x512) hz, View.ld_unit_zero (S := S1024x1024) hz, View.ld_unit_zero (S := S512x1024) hz]

/-- After the last block the scratch is rounded into the result. -/
theorem out_C (hc0 : ¬cond0_0 i) (hc1 : cond0_1 i) : out0_C_2 c i a4 h4 a5 h5 a6 h6 a7 h7 hc0 hc1 x0 x1 s = k0_pay3 (k0_pay2 s x0 x1) := by
  unfold out0_C_2
  rw [View.read_writes_eq_canon _ _ _ (cover0_C_2 c i a4 h4 a5 h5 a6 h6 a7 h7 hc0 hc1 x0 x1 s)]
  unfold kernelRun0_C
  dsimp only
  sl_unfold_words
  rw [View.canon_unit_zero (S := S512x1024) hz, View.readCov_unit_zero (S := S512x1024) _ hz]
  simp only [View.readAt_eq_ld, h4.read_unread, h5.read_unread, h7.read_unread, View.ld_unit_zero (S := S1024x512) hz, View.ld_unit_zero (S := S1024x1024) hz, View.ld_unit_zero (S := S512x1024) hz]

end Cases

theorem pay1_at (r : Fin 512) (x : Fin 1024) : k0_pay1 (F := Ideal) (ix2 r x) = 0 := by pointwise [k0_pay1]
theorem pay2_at (s : Vec Ideal S512x1024 .f32) (x0 : Vec Ideal S1024x512 .bf16) (x1 : Vec Ideal S1024x1024 .bf16) (r : Fin 512) (x : Fin 1024) :
    k0_pay2 s x0 x1 (ix2 r x) = s (ix2 r x) + ∑ k : Fin 1024, x0 (ix2 k r) * x1 (ix2 k x) := by
  pointwise [k0_pay2]
theorem pay3_at (s : Vec Ideal S512x1024 .f32) (r : Fin 512) (x : Fin 1024) : k0_pay3 s (ix2 r x) = s (ix2 r x) := by
  pointwise [k0_pay3]

section Run
variable (m : (ℓ : Loc nD τ sig) → Buf (Elt Ideal) ℓ) (c : Dev nD)

abbrev X0 : T0 := m ((c : Thread nD τ).loc main_arg0)
abbrev X1 : T1 := m ((c : Thread nD τ).loc main_arg1)

theorem ltN (t : Fin cfg0.N) : t.val < 16 := lt_of_lt_of_eq t.isLt N_0
theorem idx0 : ∀ t : Fin cfg0.N, win0_0.index t 0 = t.val % 8 ∧ win0_0.index t 1 = 0 := (by decide +kernel : ∀ t : Fin grid0.N, _)
theorem idx1 : ∀ t : Fin cfg0.N, win0_1.index t 0 = t.val % 8 ∧ win0_1.index t 1 = t.val / 8 := (by decide +kernel : ∀ t : Fin grid0.N, _)
theorem idx2 : ∀ t : Fin cfg0.N, win0_2.index t 0 = 0 ∧ win0_2.index t 1 = t.val / 8 := (by decide +kernel : ∀ t : Fin grid0.N, _)
theorem flush2 : ∀ t : Fin cfg0.N, (cfg0.win 2).flush t = true → t.val % 8 = 7 := (by decide +kernel : ∀ t : Fin grid0.N, _)

/-- The column of the result at column `x` of a point's block. -/
def col (n : ℕ) (x : Fin 1024) : Fin 2048 := ⟨(1024 * (n / 8) + x.val) % 2048, Nat.mod_lt _ (by decide)⟩

/-- The two arguments' blocks at a point. -/
abbrev bA (t : Fin cfg0.N) : Vec Ideal S1024x512 .bf16 := iblk m c 0 t
abbrev bB (t : Fin cfg0.N) : Vec Ideal S1024x1024 .bf16 := iblk m c 1 t

theorem blk0 (t : Fin cfg0.N) (k : Fin 1024) (r : Fin 512) :
    bA m c t (ix2 k r) = X0 m c (ix2 ⟨(1024 * (t.val % 8) + k.val) % 8192, Nat.mod_lt _ (by decide)⟩ r) := by
  have hN := ltN t
  refine congrArg (X0 m c) (funext fun a => Fin.ext ?_)
  match a with
  | ⟨0, _⟩ => show win0_0.index t 0 * 1024 + 1 * k.val = (1024 * (t.val % 8) + k.val) % 8192; rw [(idx0 t).1]; omega
  | ⟨1, _⟩ => show win0_0.index t 1 * 512 + 1 * r.val = r.val; rw [(idx0 t).2]; omega
theorem blk1 (t : Fin cfg0.N) (k : Fin 1024) (x : Fin 1024) :
    bB m c t (ix2 k x) = X1 m c (ix2 ⟨(1024 * (t.val % 8) + k.val) % 8192, Nat.mod_lt _ (by decide)⟩ (col t.val x)) := by
  have hN := ltN t
  refine congrArg (X1 m c) (funext fun a => Fin.ext ?_)
  match a with
  | ⟨0, _⟩ => show win0_1.index t 0 * 1024 + 1 * k.val = (1024 * (t.val % 8) + k.val) % 8192; rw [(idx1 t).1]; omega
  | ⟨1, _⟩ => show win0_1.index t 1 * 1024 + 1 * x.val = (1024 * (t.val / 8) + x.val) % 2048; rw [(idx1 t).2]; omega

abbrev T (n : ℕ) (r : Fin 512) (x : Fin 1024) : ℕ → EReal := term (X0 m c) (X1 m c) r (col n x)

/-- One block's products are the next 1024 terms. -/
theorem step (t : Fin cfg0.N) (r : Fin 512) (x : Fin 1024) (z : EReal)
    (hs : z = ∑ k ∈ Finset.range (1024 * (t.val % 8)), T m c t.val r x k) :
    z + (∑ k : Fin 1024, bA m c t (ix2 k r) * bB m c t (ix2 k x))
      = ∑ k ∈ Finset.range (1024 * (t.val % 8 + 1)), T m c t.val r x k := by
  have e : (∑ k : Fin 1024, bA m c t (ix2 k r) * bB m c t (ix2 k x))
      = ∑ k ∈ Finset.range 1024, T m c t.val r x (1024 * (t.val % 8) + k) := by
    rw [Finset.sum_range]
    refine Finset.sum_congr rfl fun k _ => ?_
    rw [blk0, blk1]
    rfl
  rw [e, hs, Nat.mul_add, Nat.mul_one, Finset.sum_range_add]

/-- What the scratch holds after a point. -/
theorem scratch : ∀ (n : ℕ) (h : n < cfg0.N) (r : Fin 512) (x : Fin 1024),
    (outsAt0 m c n h).2 (ix2 r x) = ∑ k ∈ Finset.range (1024 * (n % 8 + 1)), T m c n r x k := by
  intro n
  induction n with
  | zero =>
    intro h r x
    rw [outsAt0_A m c ⟨0, h⟩ rfl (fun hh => absurd (show (0 : ℕ) % 8 = 7 from hh) (by decide))]
    dsimp only
    rw [sout_A, pay2_at, pay1_at]
    exact step m c ⟨0, h⟩ r x 0 (by simp)
  | succ n ih =>
    intro h r x
    by_cases h0 : (n + 1) % 8 = 0
    · have h1 : ¬(n + 1) % 8 = 7 := by omega
      rw [outsAt0_A m c ⟨n + 1, h⟩ h0 h1]
      dsimp only
      rw [sout_A, pay2_at, pay1_at]
      exact step m c ⟨n + 1, h⟩ r x 0 (by dsimp only; rw [h0]; simp)
    · have e : (n + 1) % 8 = n % 8 + 1 := by omega
      have e' : (n + 1) / 8 = n / 8 := by omega
      have e2 : col (n + 1) x = col n x := Fin.ext (congrArg (fun q => (1024 * q + x.val) % 2048) e')
      have hs := ih (Nat.lt_of_succ_lt h) r x
      have hs' : (outsAt0 m c n (Nat.lt_of_succ_lt h)).2 (ix2 r x)
          = ∑ k ∈ Finset.range (1024 * ((n + 1) % 8)), T m c (n + 1) r x k := by
        rw [hs, e]; unfold T; rw [e2]
      by_cases h1 : (n + 1) % 8 = 7
      · rw [outsAt0_C m c ⟨n + 1, h⟩ h0 h1]
        dsimp only
        rw [sout_C, pay2_at]
        exact step m c ⟨n + 1, h⟩ r x _ hs'
      · rw [outsAt0_B m c ⟨n + 1, h⟩ h0 h1]
        dsimp only
        rw [sout_B, pay2_at]
        exact step m c ⟨n + 1, h⟩ r x _ hs'

/-- What a last point leaves in the result's block. -/
theorem last (n : ℕ) (h : n < cfg0.N) (h1 : n % 8 = 7) (r : Fin 512) (x : Fin 1024) :
    (outsAt0 m c n h).1 (ix2 r x) = grad (X0 m c) (X1 m c) r (col n x) := by
  have h0 : ¬n % 8 = 0 := by omega
  have e := scratch m c n h r x
  have eC := outsAt0_C m c ⟨n, h⟩ h0 h1
  have e2 := (congrArg (fun z => z.2 (ix2 r x)) eC).symm.trans e
  refine (congrArg (fun z => z.1 (ix2 r x)) eC).trans ?_
  dsimp only at e2 ⊢
  rw [sout_C, h1] at e2
  rw [out_C, pay3_at]
  exact e2.trans (sum_term _ _ r (col n x))

/-- The result: the sums over all rows. -/
def R (x0 : T0) (x1 : T1) : S512x2048.Idx → EReal := fun i => grad x0 x1 (i 0) (i 1)

theorem emb2 (t : Fin cfg0.N) (y : S512x1024.Idx) : ((cfg0.win 2).blk t).view.emb y = (ix2 (y 0) (col t.val (y 1)) : S512x2048.Idx) := by
  have hN := ltN t
  have hy : (y 1).val < 1024 := (y 1).isLt
  refine funext fun a => Fin.ext ?_
  match a with
  | ⟨0, _⟩ => show win0_2.index t 0 * 512 + 1 * (y 0).val = (y 0).val; rw [(idx2 t).1]; omega
  | ⟨1, _⟩ => show win0_2.index t 1 * 1024 + 1 * (y 1).val = (1024 * (t.val / 8) + (y 1).val) % 2048; rw [(idx2 t).2]; omega
theorem arr2 : (dats m 0 c).arrAt 2 cfg0.N = R (X0 m c) (X1 m c) := by
  refine (dats m 0 c).arrAt_eq_of_covers 2 _ (by decide +kernel) fun t hf y => ?_
  refine (?_ : _ = _).trans (congrArg (R (X0 m c) (X1 m c)) (emb2 t y)).symm
  show (dats m 0 c).after 2 t y = _
  rw [after0_2]
  refine (congrArg _ (ix2_self y)).trans ?_
  exact last m c t.val t.isLt (flush2 t hf) (y 0) (y 1)

end Run

/-- The call's run: its results, and its arguments unchanged. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0) = R (X0 m c) (X1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (arr2 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main m ρ)

/-- The reference's term is the same sum. -/
theorem ref_main_v6 (x0 : T0) (x1 : T1) : Cert.Reference7Ideal.Read.val_main_v6 (F := Ideal) x0 x1 = R x0 x1 := by
  funext i
  rw [Cert.Reference7Ideal.Read.val_main_v6_apply, Cert.Reference7Ideal.Read.val_main_v5_apply, Cert.Reference7Ideal.Read.val_main_v4_apply]
  unfold R grad
  refine Finset.sum_congr rfl fun k _ => ?_
  rw [Cert.Reference7Ideal.Read.val_main_v3_apply, Cert.Reference7Ideal.Read.val_main_v1_apply, mul_comm]
  refine congrArg₂ (fun a b : EReal => a * b) (congrArg x0 (funext fun a => ?_)) (congrArg x1 (funext fun a => ?_))
  · match a with
    | ⟨0, _⟩ => rfl
    | ⟨1, _⟩ => rfl
  · match a with
    | ⟨0, _⟩ => rfl
    | ⟨1, _⟩ => rfl

/-! ## The claims -/

theorem run_ref (m : (ℓ : Loc Cert.Reference7Ideal.nD Cert.Reference7Ideal.τ Cert.Reference7Ideal.sig) → Buf (Elt Ideal) ℓ) (ρ : Dev Cert.Reference7Ideal.nD → PrngReg)
    (x0 : Dev Cert.Reference7Ideal.nD → T0) (x1 : Dev Cert.Reference7Ideal.nD → T1)
    (hm : ∀ c : Dev Cert.Reference7Ideal.nD, m ((c.tc : Thread Cert.Reference7Ideal.nD Cert.Reference7Ideal.τ).loc Cert.Reference7Ideal.main_arg0) = x0 c ∧ m ((c.tc : Thread Cert.Reference7Ideal.nD Cert.Reference7Ideal.τ).loc Cert.Reference7Ideal.main_arg1) = x1 c) :
    θ_run (Cert.Reference7Ideal.defs (F := Ideal)) (onTc (τ := Cert.Reference7Ideal.τ) (Cert.Reference7Ideal.main (F := Ideal))) ⟨m, fun _ => 0, ρ⟩ (fun r => ∀ c : Dev Cert.Reference7Ideal.nD,
      r.2.mem ((c.tc : Thread Cert.Reference7Ideal.nD Cert.Reference7Ideal.τ).loc Cert.Reference7Ideal.main_v6) = R (x0 c) (x1 c)
      ∧ r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)) :=
  (θ_run (Cert.Reference7Ideal.defs (F := Ideal)) _ _).mono (fun _ h c => ⟨
    (h c).1.trans ((Cert.Reference7Ideal.Read.val_main_v6_eq _ _).trans ((ref_main_v6 _ _).trans (by rw [(hm c).1, (hm c).2]))),
    (h c).2⟩) (Cert.Reference7Ideal.Value.run (F := Ideal) m ρ)

theorem defs_same : @Cert.Kernel7.defs Bits _ _ = @Cert.Kernel7Ideal.defs Bits _ _ := by
  show Pipeline.defs (Cert.Kernel7Ideal.pcfgs (F := Bits)) (@Cert.Kernel7.defs₀ Bits _ _) = Pipeline.defs (Cert.Kernel7Ideal.pcfgs (F := Bits)) (@Cert.Kernel7Ideal.defs₀ Bits _ _)
  have h : @Cert.Kernel7.defs₀ Bits _ _ = @Cert.Kernel7Ideal.defs₀ Bits _ _ := by
    refine congrArg Defs.onTc (funext fun l => funext fun a => ?_)
    match l, a with
    | 0, (t, s) => rfl
  rw [h]

theorem main_same : @Cert.Kernel7.main Bits _ = @Cert.Kernel7Ideal.main Bits _ := rfl

/-- The printed call's frame: its generated run at bits. -/
theorem frame_kernel : Cert.quiescent_Kernel7 := by
  intro m ρ _
  have h := Cert.Kernel7Ideal.Gen.frame (F := Bits) m ρ
  rw [← defs_same, ← main_same] at h
  exact h

/-- The idealised call's frame: the same run at extended reals. -/
theorem frame_ideal : Cert.quiescent_Kernel7Ideal := fun m ρ _ => Cert.Kernel7Ideal.Gen.frame (F := Ideal) m ρ

/-- The reference's frame. -/
theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The call's results are the reference's. -/
theorem equal : Cert.algebraic_Kernel7Ideal_Reference7Ideal := by
  intro m g m' g' _ hm
  exact ⟨fun c => R (X0 m c) (X1 m c),
    run_value m g, run_ref m' g' (X0 m) (X1 m) hm⟩

end Cert.Dw7
end
-- ==== Proof.Mix.Dw8.lean ====
/-
  The weight gradient of the keys' and values' up projection: eight blocks of rows summed in a scratch, for each half of the columns.
-/
module

public import proofs.«01_k».proof.Defs
public import proofs.«01_k».proof.Proof.Mix.Sum
public import proofs.«01_k».proof.Proof.Gen.Kernel8
public import proofs.«01_k».proof.Proof.Gen.Kernel8Ideal.Frame
public import proofs.«01_k».proof.Proof.Gen.Reference8Ideal.Run
public import proofs.«01_k».proof.Proof.Gen.Reference8Ideal.Read
public import Idealize.ShloMosaic.Lib.Pointwise
public import Idealize.ShloMosaic.Lib.Pipeline.ValueKit
public import Idealize.ShloMosaic.Adequacy
public import Idealize.ShloMosaic.Init

@[expose] public section

set_option maxRecDepth 16384

noncomputable section

namespace Cert.Dw8

open Cert.Kernel8Ideal Cert.Kernel8Ideal.Gen Cert.Mix
open Idealize.ShloMosaic Idealize.ShloMosaic.TcCoe Idealize.SL.Sem
open scoped BigOperators

abbrev T0 := (⟨S8192x256, .bf16⟩ : BufTy).Contents (Elt Ideal)
abbrev T1 := (⟨S8192x2048, .bf16⟩ : BufTy).Contents (Elt Ideal)

section Cases
variable {F : FTy → Type} [FloatOps F]
variable (c : Dev nD) (i : grid0.Coords) (a4 : Memref sig .tc .vmem S1024x256 .bf16) (h4 : a4.IsWhole)
  (a5 : Memref sig .tc .vmem S1024x1024 .bf16) (h5 : a5.IsWhole) (a6 : Memref sig .tc .vmem S256x1024 .bf16) (h6 : a6.IsWhole)
  (a7 : Memref sig .tc .vmem S256x1024 .f32) (h7 : a7.IsWhole)
  (x0 : Vec F S1024x256 .bf16) (x1 : Vec F S1024x1024 .bf16) (s : Vec F S256x1024 .f32)

/-- At a first block of rows the scratch is zeroed, then holds the block's products. -/
theorem sout_A (hc0 : cond0_0 i) (hc1 : ¬cond0_1 i) : sout0_A_0 c i a4 h4 a5 h5 a6 h6 a7 h7 hc0 hc1 x0 x1 = k0_pay2 k0_pay1 x0 x1 := by
  unfold sout0_A_0
  rw [View.read_writes_eq_canon _ _ _ (scover0_A_0 c i a4 h4 a5 h5 a6 h6 a7 h7 hc0 hc1 x0 x1)]
  unfold kernelRun0_A
  dsimp only
  sl_unfold_words
  rw [View.canon_cons_unit_zero (S := S256x1024) hz, View.readCov_unit_zero (S := S256x1024) _ hz]
  simp only [View.readAt_eq_ld, h4.read_unread, h5.read_unread, View.ld_unit_zero (S := S1024x256) hz, View.ld_unit_zero (S := S1024x1024) hz, View.ld_unit_zero (S := S256x1024) hz]

theorem sout_B (hc0 : ¬cond0_0 i) (hc1 : ¬cond0_1 i) : sout0_B_0 c i a4 h4 a5 h5 a6 h6 a7 h7 hc0 hc1 x0 x1 s = k0_pay2 s x0 x1 := by
  unfold sout0_B_0
  rw [View.read_writes_eq_canon _ _ _ (scover0_B_0 c i a4 h4 a5 h5 a6 h6 a7 h7 hc0 hc1 x0 x1 s)]
  unfold kernelRun0_B
  dsimp only
  rw [View.canon_unit_zero (S := S256x1024) hz]
  simp only [View.readAt_eq_ld, h4.read_unread, h5.read_unread, h7.read_unread, View.ld_unit_zero (S := S1024x256) hz, View.ld_unit_zero (S := S1024x1024) hz, View.ld_unit_zero (S := S256x1024) hz]

theorem sout_C (hc0 : ¬cond0_0 i) (hc1 : cond0_1 i) : sout0_C_0 c i a4 h4 a5 h5 a6 h6 a7 h7 hc0 hc1 x0 x1 s = k0_pay2 s x0 x1 := by
  unfold sout0_C_0
  rw [View.read_writes_eq_canon _ _ _ (scover0_C_0 c i a4 h4 a5 h5 a6 h6 a7 h7 hc0 hc1 x0 x1 s)]
  unfold kernelRun0_C
  dsimp only
  sl_unfold_words
  rw [View.canon_unit_zero (S := S256x1024) hz]
  simp only [View.readAt_eq_ld, h4.read_unread, h5.read_unread, h7.read_unread, View.ld_unit_zero (S := S1024x256) hz, View.ld_unit_zero (S := S1024x1024) hz, View.ld_unit_zero (S := S256x1024) hz]

/-- After the last block the scratch is rounded into the result. -/
theorem out_C (hc0 : ¬cond0_0 i) (hc1 : cond0_1 i) : out0_C_2 c i a4 h4 a5 h5 a6 h6 a7 h7 hc0 hc1 x0 x1 s = k0_pay3 (k0_pay2 s x0 x1) := by
  unfold out0_C_2
  rw [View.read_writes_eq_canon _ _ _ (cover0_C_2 c i a4 h4 a5 h5 a6 h6 a7 h7 hc0 hc1 x0 x1 s)]
  unfold kernelRun0_C
  dsimp only
  sl_unfold_words
  rw [View.canon_unit_zero (S := S256x1024) hz, View.readCov_unit_zero (S := S256x1024) _ hz]
  simp only [View.readAt_eq_ld, h4.read_unread, h5.read_unread, h7.read_unread, View.ld_unit_zero (S := S1024x256) hz, View.ld_unit_zero (S := S1024x1024) hz, View.ld_unit_zero (S := S256x1024) hz]

end Cases

theorem pay1_at (r : Fin 256) (x : Fin 1024) : k0_pay1 (F := Ideal) (ix2 r x) = 0 := by pointwise [k0_pay1]
theorem pay2_at (s : Vec Ideal S256x1024 .f32) (x0 : Vec Ideal S1024x256 .bf16) (x1 : Vec Ideal S1024x1024 .bf16) (r : Fin 256) (x : Fin 1024) :
    k0_pay2 s x0 x1 (ix2 r x) = s (ix2 r x) + ∑ k : Fin 1024, x0 (ix2 k r) * x1 (ix2 k x) := by
  pointwise [k0_pay2]
theorem pay3_at (s : Vec Ideal S256x1024 .f32) (r : Fin 256) (x : Fin 1024) : k0_pay3 s (ix2 r x) = s (ix2 r x) := by
  pointwise [k0_pay3]

section Run
variable (m : (ℓ : Loc nD τ sig) → Buf (Elt Ideal) ℓ) (c : Dev nD)

abbrev X0 : T0 := m ((c : Thread nD τ).loc main_arg0)
abbrev X1 : T1 := m ((c : Thread nD τ).loc main_arg1)

theorem ltN (t : Fin cfg0.N) : t.val < 16 := lt_of_lt_of_eq t.isLt N_0
theorem idx0 : ∀ t : Fin cfg0.N, win0_0.index t 0 = t.val % 8 ∧ win0_0.index t 1 = 0 := (by decide +kernel : ∀ t : Fin grid0.N, _)
theorem idx1 : ∀ t : Fin cfg0.N, win0_1.index t 0 = t.val % 8 ∧ win0_1.index t 1 = t.val / 8 := (by decide +kernel : ∀ t : Fin grid0.N, _)
theorem idx2 : ∀ t : Fin cfg0.N, win0_2.index t 0 = 0 ∧ win0_2.index t 1 = t.val / 8 := (by decide +kernel : ∀ t : Fin grid0.N, _)
theorem flush2 : ∀ t : Fin cfg0.N, (cfg0.win 2).flush t = true → t.val % 8 = 7 := (by decide +kernel : ∀ t : Fin grid0.N, _)

/-- The column of the result at column `x` of a point's block. -/
def col (n : ℕ) (x : Fin 1024) : Fin 2048 := ⟨(1024 * (n / 8) + x.val) % 2048, Nat.mod_lt _ (by decide)⟩

/-- The two arguments' blocks at a point. -/
abbrev bA (t : Fin cfg0.N) : Vec Ideal S1024x256 .bf16 := iblk m c 0 t
abbrev bB (t : Fin cfg0.N) : Vec Ideal S1024x1024 .bf16 := iblk m c 1 t

theorem blk0 (t : Fin cfg0.N) (k : Fin 1024) (r : Fin 256) :
    bA m c t (ix2 k r) = X0 m c (ix2 ⟨(1024 * (t.val % 8) + k.val) % 8192, Nat.mod_lt _ (by decide)⟩ r) := by
  have hN := ltN t
  refine congrArg (X0 m c) (funext fun a => Fin.ext ?_)
  match a with
  | ⟨0, _⟩ => show win0_0.index t 0 * 1024 + 1 * k.val = (1024 * (t.val % 8) + k.val) % 8192; rw [(idx0 t).1]; omega
  | ⟨1, _⟩ => show win0_0.index t 1 * 256 + 1 * r.val = r.val; rw [(idx0 t).2]; omega
theorem blk1 (t : Fin cfg0.N) (k : Fin 1024) (x : Fin 1024) :
    bB m c t (ix2 k x) = X1 m c (ix2 ⟨(1024 * (t.val % 8) + k.val) % 8192, Nat.mod_lt _ (by decide)⟩ (col t.val x)) := by
  have hN := ltN t
  refine congrArg (X1 m c) (funext fun a => Fin.ext ?_)
  match a with
  | ⟨0, _⟩ => show win0_1.index t 0 * 1024 + 1 * k.val = (1024 * (t.val % 8) + k.val) % 8192; rw [(idx1 t).1]; omega
  | ⟨1, _⟩ => show win0_1.index t 1 * 1024 + 1 * x.val = (1024 * (t.val / 8) + x.val) % 2048; rw [(idx1 t).2]; omega

abbrev T (n : ℕ) (r : Fin 256) (x : Fin 1024) : ℕ → EReal := term (X0 m c) (X1 m c) r (col n x)

/-- One block's products are the next 1024 terms. -/
theorem step (t : Fin cfg0.N) (r : Fin 256) (x : Fin 1024) (z : EReal)
    (hs : z = ∑ k ∈ Finset.range (1024 * (t.val % 8)), T m c t.val r x k) :
    z + (∑ k : Fin 1024, bA m c t (ix2 k r) * bB m c t (ix2 k x))
      = ∑ k ∈ Finset.range (1024 * (t.val % 8 + 1)), T m c t.val r x k := by
  have e : (∑ k : Fin 1024, bA m c t (ix2 k r) * bB m c t (ix2 k x))
      = ∑ k ∈ Finset.range 1024, T m c t.val r x (1024 * (t.val % 8) + k) := by
    rw [Finset.sum_range]
    refine Finset.sum_congr rfl fun k _ => ?_
    rw [blk0, blk1]
    rfl
  rw [e, hs, Nat.mul_add, Nat.mul_one, Finset.sum_range_add]

/-- What the scratch holds after a point. -/
theorem scratch : ∀ (n : ℕ) (h : n < cfg0.N) (r : Fin 256) (x : Fin 1024),
    (outsAt0 m c n h).2 (ix2 r x) = ∑ k ∈ Finset.range (1024 * (n % 8 + 1)), T m c n r x k := by
  intro n
  induction n with
  | zero =>
    intro h r x
    rw [outsAt0_A m c ⟨0, h⟩ rfl (fun hh => absurd (show (0 : ℕ) % 8 = 7 from hh) (by decide))]
    dsimp only
    rw [sout_A, pay2_at, pay1_at]
    exact step m c ⟨0, h⟩ r x 0 (by simp)
  | succ n ih =>
    intro h r x
    by_cases h0 : (n + 1) % 8 = 0
    · have h1 : ¬(n + 1) % 8 = 7 := by omega
      rw [outsAt0_A m c ⟨n + 1, h⟩ h0 h1]
      dsimp only
      rw [sout_A, pay2_at, pay1_at]
      exact step m c ⟨n + 1, h⟩ r x 0 (by dsimp only; rw [h0]; simp)
    · have e : (n + 1) % 8 = n % 8 + 1 := by omega
      have e' : (n + 1) / 8 = n / 8 := by omega
      have e2 : col (n + 1) x = col n x := Fin.ext (congrArg (fun q => (1024 * q + x.val) % 2048) e')
      have hs := ih (Nat.lt_of_succ_lt h) r x
      have hs' : (outsAt0 m c n (Nat.lt_of_succ_lt h)).2 (ix2 r x)
          = ∑ k ∈ Finset.range (1024 * ((n + 1) % 8)), T m c (n + 1) r x k := by
        rw [hs, e]; unfold T; rw [e2]
      by_cases h1 : (n + 1) % 8 = 7
      · rw [outsAt0_C m c ⟨n + 1, h⟩ h0 h1]
        dsimp only
        rw [sout_C, pay2_at]
        exact step m c ⟨n + 1, h⟩ r x _ hs'
      · rw [outsAt0_B m c ⟨n + 1, h⟩ h0 h1]
        dsimp only
        rw [sout_B, pay2_at]
        exact step m c ⟨n + 1, h⟩ r x _ hs'

/-- What a last point leaves in the result's block. -/
theorem last (n : ℕ) (h : n < cfg0.N) (h1 : n % 8 = 7) (r : Fin 256) (x : Fin 1024) :
    (outsAt0 m c n h).1 (ix2 r x) = grad (X0 m c) (X1 m c) r (col n x) := by
  have h0 : ¬n % 8 = 0 := by omega
  have e := scratch m c n h r x
  have eC := outsAt0_C m c ⟨n, h⟩ h0 h1
  have e2 := (congrArg (fun z => z.2 (ix2 r x)) eC).symm.trans e
  refine (congrArg (fun z => z.1 (ix2 r x)) eC).trans ?_
  dsimp only at e2 ⊢
  rw [sout_C, h1] at e2
  rw [out_C, pay3_at]
  exact e2.trans (sum_term _ _ r (col n x))

/-- The result: the sums over all rows. -/
def R (x0 : T0) (x1 : T1) : S256x2048.Idx → EReal := fun i => grad x0 x1 (i 0) (i 1)

theorem emb2 (t : Fin cfg0.N) (y : S256x1024.Idx) : ((cfg0.win 2).blk t).view.emb y = (ix2 (y 0) (col t.val (y 1)) : S256x2048.Idx) := by
  have hN := ltN t
  have hy : (y 1).val < 1024 := (y 1).isLt
  refine funext fun a => Fin.ext ?_
  match a with
  | ⟨0, _⟩ => show win0_2.index t 0 * 256 + 1 * (y 0).val = (y 0).val; rw [(idx2 t).1]; omega
  | ⟨1, _⟩ => show win0_2.index t 1 * 1024 + 1 * (y 1).val = (1024 * (t.val / 8) + (y 1).val) % 2048; rw [(idx2 t).2]; omega
theorem arr2 : (dats m 0 c).arrAt 2 cfg0.N = R (X0 m c) (X1 m c) := by
  refine (dats m 0 c).arrAt_eq_of_covers 2 _ (by decide +kernel) fun t hf y => ?_
  refine (?_ : _ = _).trans (congrArg (R (X0 m c) (X1 m c)) (emb2 t y)).symm
  show (dats m 0 c).after 2 t y = _
  rw [after0_2]
  refine (congrArg _ (ix2_self y)).trans ?_
  exact last m c t.val t.isLt (flush2 t hf) (y 0) (y 1)

end Run

/-- The call's run: its results, and its arguments unchanged. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0) = R (X0 m c) (X1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (arr2 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main m ρ)

/-- The reference's term is the same sum. -/
theorem ref_main_v6 (x0 : T0) (x1 : T1) : Cert.Reference8Ideal.Read.val_main_v6 (F := Ideal) x0 x1 = R x0 x1 := by
  funext i
  rw [Cert.Reference8Ideal.Read.val_main_v6_apply, Cert.Reference8Ideal.Read.val_main_v5_apply, Cert.Reference8Ideal.Read.val_main_v4_apply]
  unfold R grad
  refine Finset.sum_congr rfl fun k _ => ?_
  rw [Cert.Reference8Ideal.Read.val_main_v3_apply, Cert.Reference8Ideal.Read.val_main_v1_apply, mul_comm]
  refine congrArg₂ (fun a b : EReal => a * b) (congrArg x0 (funext fun a => ?_)) (congrArg x1 (funext fun a => ?_))
  · match a with
    | ⟨0, _⟩ => rfl
    | ⟨1, _⟩ => rfl
  · match a with
    | ⟨0, _⟩ => rfl
    | ⟨1, _⟩ => rfl

/-! ## The claims -/

theorem run_ref (m : (ℓ : Loc Cert.Reference8Ideal.nD Cert.Reference8Ideal.τ Cert.Reference8Ideal.sig) → Buf (Elt Ideal) ℓ) (ρ : Dev Cert.Reference8Ideal.nD → PrngReg)
    (x0 : Dev Cert.Reference8Ideal.nD → T0) (x1 : Dev Cert.Reference8Ideal.nD → T1)
    (hm : ∀ c : Dev Cert.Reference8Ideal.nD, m ((c.tc : Thread Cert.Reference8Ideal.nD Cert.Reference8Ideal.τ).loc Cert.Reference8Ideal.main_arg0) = x0 c ∧ m ((c.tc : Thread Cert.Reference8Ideal.nD Cert.Reference8Ideal.τ).loc Cert.Reference8Ideal.main_arg1) = x1 c) :
    θ_run (Cert.Reference8Ideal.defs (F := Ideal)) (onTc (τ := Cert.Reference8Ideal.τ) (Cert.Reference8Ideal.main (F := Ideal))) ⟨m, fun _ => 0, ρ⟩ (fun r => ∀ c : Dev Cert.Reference8Ideal.nD,
      r.2.mem ((c.tc : Thread Cert.Reference8Ideal.nD Cert.Reference8Ideal.τ).loc Cert.Reference8Ideal.main_v6) = R (x0 c) (x1 c)
      ∧ r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)) :=
  (θ_run (Cert.Reference8Ideal.defs (F := Ideal)) _ _).mono (fun _ h c => ⟨
    (h c).1.trans ((Cert.Reference8Ideal.Read.val_main_v6_eq _ _).trans ((ref_main_v6 _ _).trans (by rw [(hm c).1, (hm c).2]))),
    (h c).2⟩) (Cert.Reference8Ideal.Value.run (F := Ideal) m ρ)

theorem defs_same : @Cert.Kernel8.defs Bits _ _ = @Cert.Kernel8Ideal.defs Bits _ _ := by
  show Pipeline.defs (Cert.Kernel8Ideal.pcfgs (F := Bits)) (@Cert.Kernel8.defs₀ Bits _ _) = Pipeline.defs (Cert.Kernel8Ideal.pcfgs (F := Bits)) (@Cert.Kernel8Ideal.defs₀ Bits _ _)
  have h : @Cert.Kernel8.defs₀ Bits _ _ = @Cert.Kernel8Ideal.defs₀ Bits _ _ := by
    refine congrArg Defs.onTc (funext fun l => funext fun a => ?_)
    match l, a with
    | 0, (t, s) => rfl
  rw [h]

theorem main_same : @Cert.Kernel8.main Bits _ = @Cert.Kernel8Ideal.main Bits _ := rfl

/-- The printed call's frame: its generated run at bits. -/
theorem frame_kernel : Cert.quiescent_Kernel8 := by
  intro m ρ _
  have h := Cert.Kernel8Ideal.Gen.frame (F := Bits) m ρ
  rw [← defs_same, ← main_same] at h
  exact h

/-- The idealised call's frame: the same run at extended reals. -/
theorem frame_ideal : Cert.quiescent_Kernel8Ideal := fun m ρ _ => Cert.Kernel8Ideal.Gen.frame (F := Ideal) m ρ

/-- The reference's frame. -/
theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The call's results are the reference's. -/
theorem equal : Cert.algebraic_Kernel8Ideal_Reference8Ideal := by
  intro m g m' g' _ hm
  exact ⟨fun c => R (X0 m c) (X1 m c),
    run_value m g, run_ref m' g' (X0 m) (X1 m) hm⟩

end Cert.Dw8
end
-- ==== Proof.Mix.Dw9.lean ====
/-
  The weight gradient of the down projection: eight blocks of rows summed in a scratch.
-/
module

public import proofs.«01_k».proof.Defs
public import proofs.«01_k».proof.Proof.Mix.Sum
public import proofs.«01_k».proof.Proof.Gen.Kernel9
public import proofs.«01_k».proof.Proof.Gen.Kernel9Ideal.Frame
public import proofs.«01_k».proof.Proof.Gen.Reference9Ideal.Run
public import proofs.«01_k».proof.Proof.Gen.Reference9Ideal.Read
public import Idealize.ShloMosaic.Lib.Pointwise
public import Idealize.ShloMosaic.Lib.Pipeline.ValueKit
public import Idealize.ShloMosaic.Adequacy
public import Idealize.ShloMosaic.Init

@[expose] public section

set_option maxRecDepth 16384

noncomputable section

namespace Cert.Dw9

open Cert.Kernel9Ideal Cert.Kernel9Ideal.Gen Cert.Mix
open Idealize.ShloMosaic Idealize.ShloMosaic.TcCoe Idealize.SL.Sem
open scoped BigOperators

abbrev T0 := (⟨S8192x1024, .bf16⟩ : BufTy).Contents (Elt Ideal)
abbrev T1 := (⟨S8192x896, .bf16⟩ : BufTy).Contents (Elt Ideal)

section Cases
variable {F : FTy → Type} [FloatOps F]
variable (c : Dev nD) (i : grid0.Coords) (a4 : Memref sig .tc .vmem S1024x1024 .bf16) (h4 : a4.IsWhole)
  (a5 : Memref sig .tc .vmem S1024x896 .bf16) (h5 : a5.IsWhole) (a6 : Memref sig .tc .vmem S1024x896 .bf16) (h6 : a6.IsWhole)
  (a7 : Memref sig .tc .vmem S1024x896 .f32) (h7 : a7.IsWhole)
  (x0 : Vec F S1024x1024 .bf16) (x1 : Vec F S1024x896 .bf16) (s : Vec F S1024x896 .f32)

/-- At a first block of rows the scratch is zeroed, then holds the block's products. -/
theorem sout_A (hc0 : cond0_0 i) (hc1 : ¬cond0_1 i) : sout0_A_0 c i a4 h4 a5 h5 a6 h6 a7 h7 hc0 hc1 x0 x1 = k0_pay2 k0_pay1 x0 x1 := by
  unfold sout0_A_0
  rw [View.read_writes_eq_canon _ _ _ (scover0_A_0 c i a4 h4 a5 h5 a6 h6 a7 h7 hc0 hc1 x0 x1)]
  unfold kernelRun0_A
  dsimp only
  sl_unfold_words
  rw [View.canon_cons_unit_zero (S := S1024x896) hz, View.readCov_unit_zero (S := S1024x896) _ hz]
  simp only [View.readAt_eq_ld, h4.read_unread, h5.read_unread, View.ld_unit_zero (S := S1024x1024) hz, View.ld_unit_zero (S := S1024x896) hz]

theorem sout_B (hc0 : ¬cond0_0 i) (hc1 : ¬cond0_1 i) : sout0_B_0 c i a4 h4 a5 h5 a6 h6 a7 h7 hc0 hc1 x0 x1 s = k0_pay2 s x0 x1 := by
  unfold sout0_B_0
  rw [View.read_writes_eq_canon _ _ _ (scover0_B_0 c i a4 h4 a5 h5 a6 h6 a7 h7 hc0 hc1 x0 x1 s)]
  unfold kernelRun0_B
  dsimp only
  rw [View.canon_unit_zero (S := S1024x896) hz]
  simp only [View.readAt_eq_ld, h4.read_unread, h5.read_unread, h7.read_unread, View.ld_unit_zero (S := S1024x1024) hz, View.ld_unit_zero (S := S1024x896) hz]

theorem sout_C (hc0 : ¬cond0_0 i) (hc1 : cond0_1 i) : sout0_C_0 c i a4 h4 a5 h5 a6 h6 a7 h7 hc0 hc1 x0 x1 s = k0_pay2 s x0 x1 := by
  unfold sout0_C_0
  rw [View.read_writes_eq_canon _ _ _ (scover0_C_0 c i a4 h4 a5 h5 a6 h6 a7 h7 hc0 hc1 x0 x1 s)]
  unfold kernelRun0_C
  dsimp only
  sl_unfold_words
  rw [View.canon_unit_zero (S := S1024x896) hz]
  simp only [View.readAt_eq_ld, h4.read_unread, h5.read_unread, h7.read_unread, View.ld_unit_zero (S := S1024x1024) hz, View.ld_unit_zero (S := S1024x896) hz]

/-- After the last block the scratch is rounded into the result. -/
theorem out_C (hc0 : ¬cond0_0 i) (hc1 : cond0_1 i) : out0_C_2 c i a4 h4 a5 h5 a6 h6 a7 h7 hc0 hc1 x0 x1 s = k0_pay3 (k0_pay2 s x0 x1) := by
  unfold out0_C_2
  rw [View.read_writes_eq_canon _ _ _ (cover0_C_2 c i a4 h4 a5 h5 a6 h6 a7 h7 hc0 hc1 x0 x1 s)]
  unfold kernelRun0_C
  dsimp only
  sl_unfold_words
  rw [View.canon_unit_zero (S := S1024x896) hz, View.readCov_unit_zero (S := S1024x896) _ hz]
  simp only [View.readAt_eq_ld, h4.read_unread, h5.read_unread, h7.read_unread, View.ld_unit_zero (S := S1024x1024) hz, View.ld_unit_zero (S := S1024x896) hz]

end Cases

theorem pay1_at (r : Fin 1024) (x : Fin 896) : k0_pay1 (F := Ideal) (ix2 r x) = 0 := by pointwise [k0_pay1]
theorem pay2_at (s : Vec Ideal S1024x896 .f32) (x0 : Vec Ideal S1024x1024 .bf16) (x1 : Vec Ideal S1024x896 .bf16) (r : Fin 1024) (x : Fin 896) :
    k0_pay2 s x0 x1 (ix2 r x) = s (ix2 r x) + ∑ k : Fin 1024, x0 (ix2 k r) * x1 (ix2 k x) := by
  pointwise [k0_pay2]
theorem pay3_at (s : Vec Ideal S1024x896 .f32) (r : Fin 1024) (x : Fin 896) : k0_pay3 s (ix2 r x) = s (ix2 r x) := by
  pointwise [k0_pay3]

section Run
variable (m : (ℓ : Loc nD τ sig) → Buf (Elt Ideal) ℓ) (c : Dev nD)

abbrev X0 : T0 := m ((c : Thread nD τ).loc main_arg0)
abbrev X1 : T1 := m ((c : Thread nD τ).loc main_arg1)

theorem ltN (t : Fin cfg0.N) : t.val < 8 := lt_of_lt_of_eq t.isLt N_0
theorem idx0 : ∀ t : Fin cfg0.N, win0_0.index t 0 = t.val % 8 ∧ win0_0.index t 1 = 0 := (by decide +kernel : ∀ t : Fin grid0.N, _)
theorem idx1 : ∀ t : Fin cfg0.N, win0_1.index t 0 = t.val % 8 ∧ win0_1.index t 1 = t.val / 8 := (by decide +kernel : ∀ t : Fin grid0.N, _)
theorem idx2 : ∀ t : Fin cfg0.N, win0_2.index t 0 = 0 ∧ win0_2.index t 1 = t.val / 8 := (by decide +kernel : ∀ t : Fin grid0.N, _)
theorem flush2 : ∀ t : Fin cfg0.N, (cfg0.win 2).flush t = true → t.val % 8 = 7 := (by decide +kernel : ∀ t : Fin grid0.N, _)

/-- The column of the result at column `x` of a point's block. -/
def col (n : ℕ) (x : Fin 896) : Fin 896 := ⟨(896 * (n / 8) + x.val) % 896, Nat.mod_lt _ (by decide)⟩

/-- The two arguments' blocks at a point. -/
abbrev bA (t : Fin cfg0.N) : Vec Ideal S1024x1024 .bf16 := iblk m c 0 t
abbrev bB (t : Fin cfg0.N) : Vec Ideal S1024x896 .bf16 := iblk m c 1 t

theorem blk0 (t : Fin cfg0.N) (k : Fin 1024) (r : Fin 1024) :
    bA m c t (ix2 k r) = X0 m c (ix2 ⟨(1024 * (t.val % 8) + k.val) % 8192, Nat.mod_lt _ (by decide)⟩ r) := by
  have hN := ltN t
  refine congrArg (X0 m c) (funext fun a => Fin.ext ?_)
  match a with
  | ⟨0, _⟩ => show win0_0.index t 0 * 1024 + 1 * k.val = (1024 * (t.val % 8) + k.val) % 8192; rw [(idx0 t).1]; omega
  | ⟨1, _⟩ => show win0_0.index t 1 * 1024 + 1 * r.val = r.val; rw [(idx0 t).2]; omega
theorem blk1 (t : Fin cfg0.N) (k : Fin 1024) (x : Fin 896) :
    bB m c t (ix2 k x) = X1 m c (ix2 ⟨(1024 * (t.val % 8) + k.val) % 8192, Nat.mod_lt _ (by decide)⟩ (col t.val x)) := by
  have hN := ltN t
  refine congrArg (X1 m c) (funext fun a => Fin.ext ?_)
  match a with
  | ⟨0, _⟩ => show win0_1.index t 0 * 1024 + 1 * k.val = (1024 * (t.val % 8) + k.val) % 8192; rw [(idx1 t).1]; omega
  | ⟨1, _⟩ => show win0_1.index t 1 * 896 + 1 * x.val = (896 * (t.val / 8) + x.val) % 896; rw [(idx1 t).2]; omega

abbrev T (n : ℕ) (r : Fin 1024) (x : Fin 896) : ℕ → EReal := term (X0 m c) (X1 m c) r (col n x)

/-- One block's products are the next 1024 terms. -/
theorem step (t : Fin cfg0.N) (r : Fin 1024) (x : Fin 896) (z : EReal)
    (hs : z = ∑ k ∈ Finset.range (1024 * (t.val % 8)), T m c t.val r x k) :
    z + (∑ k : Fin 1024, bA m c t (ix2 k r) * bB m c t (ix2 k x))
      = ∑ k ∈ Finset.range (1024 * (t.val % 8 + 1)), T m c t.val r x k := by
  have e : (∑ k : Fin 1024, bA m c t (ix2 k r) * bB m c t (ix2 k x))
      = ∑ k ∈ Finset.range 1024, T m c t.val r x (1024 * (t.val % 8) + k) := by
    rw [Finset.sum_range]
    refine Finset.sum_congr rfl fun k _ => ?_
    rw [blk0, blk1]
    rfl
  rw [e, hs, Nat.mul_add, Nat.mul_one, Finset.sum_range_add]

/-- What the scratch holds after a point. -/
theorem scratch : ∀ (n : ℕ) (h : n < cfg0.N) (r : Fin 1024) (x : Fin 896),
    (outsAt0 m c n h).2 (ix2 r x) = ∑ k ∈ Finset.range (1024 * (n % 8 + 1)), T m c n r x k := by
  intro n
  induction n with
  | zero =>
    intro h r x
    rw [outsAt0_A m c ⟨0, h⟩ rfl (fun hh => absurd (show (0 : ℕ) % 8 = 7 from hh) (by decide))]
    dsimp only
    rw [sout_A, pay2_at, pay1_at]
    exact step m c ⟨0, h⟩ r x 0 (by simp)
  | succ n ih =>
    intro h r x
    by_cases h0 : (n + 1) % 8 = 0
    · have h1 : ¬(n + 1) % 8 = 7 := by omega
      rw [outsAt0_A m c ⟨n + 1, h⟩ h0 h1]
      dsimp only
      rw [sout_A, pay2_at, pay1_at]
      exact step m c ⟨n + 1, h⟩ r x 0 (by dsimp only; rw [h0]; simp)
    · have e : (n + 1) % 8 = n % 8 + 1 := by omega
      have e' : (n + 1) / 8 = n / 8 := by omega
      have e2 : col (n + 1) x = col n x := Fin.ext (congrArg (fun q => (896 * q + x.val) % 896) e')
      have hs := ih (Nat.lt_of_succ_lt h) r x
      have hs' : (outsAt0 m c n (Nat.lt_of_succ_lt h)).2 (ix2 r x)
          = ∑ k ∈ Finset.range (1024 * ((n + 1) % 8)), T m c (n + 1) r x k := by
        rw [hs, e]; unfold T; rw [e2]
      by_cases h1 : (n + 1) % 8 = 7
      · rw [outsAt0_C m c ⟨n + 1, h⟩ h0 h1]
        dsimp only
        rw [sout_C, pay2_at]
        exact step m c ⟨n + 1, h⟩ r x _ hs'
      · rw [outsAt0_B m c ⟨n + 1, h⟩ h0 h1]
        dsimp only
        rw [sout_B, pay2_at]
        exact step m c ⟨n + 1, h⟩ r x _ hs'

/-- What a last point leaves in the result's block. -/
theorem last (n : ℕ) (h : n < cfg0.N) (h1 : n % 8 = 7) (r : Fin 1024) (x : Fin 896) :
    (outsAt0 m c n h).1 (ix2 r x) = grad (X0 m c) (X1 m c) r (col n x) := by
  have h0 : ¬n % 8 = 0 := by omega
  have e := scratch m c n h r x
  have eC := outsAt0_C m c ⟨n, h⟩ h0 h1
  have e2 := (congrArg (fun z => z.2 (ix2 r x)) eC).symm.trans e
  refine (congrArg (fun z => z.1 (ix2 r x)) eC).trans ?_
  dsimp only at e2 ⊢
  rw [sout_C, h1] at e2
  rw [out_C, pay3_at]
  exact e2.trans (sum_term _ _ r (col n x))

/-- The result: the sums over all rows. -/
def R (x0 : T0) (x1 : T1) : S1024x896.Idx → EReal := fun i => grad x0 x1 (i 0) (i 1)

theorem emb2 (t : Fin cfg0.N) (y : S1024x896.Idx) : ((cfg0.win 2).blk t).view.emb y = (ix2 (y 0) (col t.val (y 1)) : S1024x896.Idx) := by
  have hN := ltN t
  have hy : (y 1).val < 896 := (y 1).isLt
  refine funext fun a => Fin.ext ?_
  match a with
  | ⟨0, _⟩ => show win0_2.index t 0 * 1024 + 1 * (y 0).val = (y 0).val; rw [(idx2 t).1]; omega
  | ⟨1, _⟩ => show win0_2.index t 1 * 896 + 1 * (y 1).val = (896 * (t.val / 8) + (y 1).val) % 896; rw [(idx2 t).2]; omega
theorem arr2 : (dats m 0 c).arrAt 2 cfg0.N = R (X0 m c) (X1 m c) := by
  refine (dats m 0 c).arrAt_eq_of_covers 2 _ (by decide +kernel) fun t hf y => ?_
  refine (?_ : _ = _).trans (congrArg (R (X0 m c) (X1 m c)) (emb2 t y)).symm
  show (dats m 0 c).after 2 t y = _
  rw [after0_2]
  refine (congrArg _ (ix2_self y)).trans ?_
  exact last m c t.val t.isLt (flush2 t hf) (y 0) (y 1)

end Run

/-- The call's run: its results, and its arguments unchanged. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0) = R (X0 m c) (X1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (arr2 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main m ρ)

/-- The reference's term is the same sum. -/
theorem ref_main_v6 (x0 : T0) (x1 : T1) : Cert.Reference9Ideal.Read.val_main_v6 (F := Ideal) x0 x1 = R x0 x1 := by
  funext i
  rw [Cert.Reference9Ideal.Read.val_main_v6_apply, Cert.Reference9Ideal.Read.val_main_v5_apply, Cert.Reference9Ideal.Read.val_main_v4_apply]
  unfold R grad
  refine Finset.sum_congr rfl fun k _ => ?_
  rw [Cert.Reference9Ideal.Read.val_main_v3_apply, Cert.Reference9Ideal.Read.val_main_v1_apply, mul_comm]
  refine congrArg₂ (fun a b : EReal => a * b) (congrArg x0 (funext fun a => ?_)) (congrArg x1 (funext fun a => ?_))
  · match a with
    | ⟨0, _⟩ => rfl
    | ⟨1, _⟩ => rfl
  · match a with
    | ⟨0, _⟩ => rfl
    | ⟨1, _⟩ => rfl

/-! ## The claims -/

theorem run_ref (m : (ℓ : Loc Cert.Reference9Ideal.nD Cert.Reference9Ideal.τ Cert.Reference9Ideal.sig) → Buf (Elt Ideal) ℓ) (ρ : Dev Cert.Reference9Ideal.nD → PrngReg)
    (x0 : Dev Cert.Reference9Ideal.nD → T0) (x1 : Dev Cert.Reference9Ideal.nD → T1)
    (hm : ∀ c : Dev Cert.Reference9Ideal.nD, m ((c.tc : Thread Cert.Reference9Ideal.nD Cert.Reference9Ideal.τ).loc Cert.Reference9Ideal.main_arg0) = x0 c ∧ m ((c.tc : Thread Cert.Reference9Ideal.nD Cert.Reference9Ideal.τ).loc Cert.Reference9Ideal.main_arg1) = x1 c) :
    θ_run (Cert.Reference9Ideal.defs (F := Ideal)) (onTc (τ := Cert.Reference9Ideal.τ) (Cert.Reference9Ideal.main (F := Ideal))) ⟨m, fun _ => 0, ρ⟩ (fun r => ∀ c : Dev Cert.Reference9Ideal.nD,
      r.2.mem ((c.tc : Thread Cert.Reference9Ideal.nD Cert.Reference9Ideal.τ).loc Cert.Reference9Ideal.main_v6) = R (x0 c) (x1 c)
      ∧ r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)) :=
  (θ_run (Cert.Reference9Ideal.defs (F := Ideal)) _ _).mono (fun _ h c => ⟨
    (h c).1.trans ((Cert.Reference9Ideal.Read.val_main_v6_eq _ _).trans ((ref_main_v6 _ _).trans (by rw [(hm c).1, (hm c).2]))),
    (h c).2⟩) (Cert.Reference9Ideal.Value.run (F := Ideal) m ρ)

theorem defs_same : @Cert.Kernel9.defs Bits _ _ = @Cert.Kernel9Ideal.defs Bits _ _ := by
  show Pipeline.defs (Cert.Kernel9Ideal.pcfgs (F := Bits)) (@Cert.Kernel9.defs₀ Bits _ _) = Pipeline.defs (Cert.Kernel9Ideal.pcfgs (F := Bits)) (@Cert.Kernel9Ideal.defs₀ Bits _ _)
  have h : @Cert.Kernel9.defs₀ Bits _ _ = @Cert.Kernel9Ideal.defs₀ Bits _ _ := by
    refine congrArg Defs.onTc (funext fun l => funext fun a => ?_)
    match l, a with
    | 0, (t, s) => rfl
  rw [h]

theorem main_same : @Cert.Kernel9.main Bits _ = @Cert.Kernel9Ideal.main Bits _ := rfl

/-- The printed call's frame: its generated run at bits. -/
theorem frame_kernel : Cert.quiescent_Kernel9 := by
  intro m ρ _
  have h := Cert.Kernel9Ideal.Gen.frame (F := Bits) m ρ
  rw [← defs_same, ← main_same] at h
  exact h

/-- The idealised call's frame: the same run at extended reals. -/
theorem frame_ideal : Cert.quiescent_Kernel9Ideal := fun m ρ _ => Cert.Kernel9Ideal.Gen.frame (F := Ideal) m ρ

/-- The reference's frame. -/
theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The call's results are the reference's. -/
theorem equal : Cert.algebraic_Kernel9Ideal_Reference9Ideal := by
  intro m g m' g' _ hm
  exact ⟨fun c => R (X0 m c) (X1 m c),
    run_value m g, run_ref m' g' (X0 m) (X1 m) hm⟩

end Cert.Dw9
end
-- ==== Proof.Mix.Mm10.lean ====
/-
  The gated value of the convolution's input: two products and a gate, one block of rows at a time.
-/
module

public import proofs.«01_k».proof.Defs
public import proofs.«01_k».proof.Proof.Mix.Sum
public import proofs.«01_k».proof.Proof.Gen.Kernel10
public import proofs.«01_k».proof.Proof.Gen.Kernel10Ideal.Frame
public import proofs.«01_k».proof.Proof.Gen.Reference10Ideal.Run
public import proofs.«01_k».proof.Proof.Gen.Reference10Ideal.Read
public import Idealize.ShloMosaic.Lib.Pointwise
public import Idealize.ShloMosaic.Lib.Pipeline.ValueKit
public import Idealize.ShloMosaic.Adequacy
public import Idealize.ShloMosaic.Init

@[expose] public section

set_option maxRecDepth 16384

noncomputable section

namespace Cert.Mm10

open Cert.Kernel10Ideal Cert.Kernel10Ideal.Gen Cert.Mix
open Idealize.ShloMosaic Idealize.ShloMosaic.TcCoe Idealize.SL.Sem
open scoped BigOperators

abbrev T0 := (⟨S8192x1024, .bf16⟩ : BufTy).Contents (Elt Ideal)
abbrev T1 := (⟨S1024x1024, .bf16⟩ : BufTy).Contents (Elt Ideal)
abbrev T2 := (⟨S1024x1024, .bf16⟩ : BufTy).Contents (Elt Ideal)

section
variable (a : Vec Ideal S512x1024 .bf16) (w w' : Vec Ideal S1024x1024 .bf16) (r : Fin 512) (x : Fin 1024)
theorem pay1_at : k0_pay1 a w (ix2 r x) = ∑ d : Fin 1024, a (ix2 r d) * w (ix2 d x) := by pointwise [k0_pay1]
theorem pay2_at : k0_pay2 a w (ix2 r x) = ∑ d : Fin 1024, a (ix2 r d) * w (ix2 d x) := by pointwise [k0_pay2]
theorem pay3_at : k0_pay3 a w (ix2 r x) = k0_pay1 a w (ix2 r x) := by
  unfold k0_pay3
  generalize k0_pay1 a w = y
  pointwise []
theorem pay4_at : k0_pay4 a w (ix2 r x) = k0_pay2 a w (ix2 r x) := by
  unfold k0_pay4
  generalize k0_pay2 a w = y
  pointwise []
theorem pay5_at : k0_pay5 a w w' (ix2 r x) = k0_pay1 a w (ix2 r x) * Ideal.logistic (k0_pay2 a w' (ix2 r x)) := by
  unfold k0_pay5
  generalize k0_pay1 a w = y
  generalize k0_pay2 a w' = y'
  pointwise []
end

section Run
variable (m : (ℓ : Loc nD τ sig) → Buf (Elt Ideal) ℓ) (c : Dev nD)

abbrev X0 : T0 := m ((c : Thread nD τ).loc main_arg0)
abbrev X1 : T1 := m ((c : Thread nD τ).loc main_arg1)
abbrev X2 : T2 := m ((c : Thread nD τ).loc main_arg2)

theorem ltN (t : Fin cfg0.N) : t.val < 16 := lt_of_lt_of_eq t.isLt N_0
theorem idx0 : ∀ t : Fin cfg0.N, win0_0.index t 0 = t.val ∧ win0_0.index t 1 = 0 := (by decide +kernel : ∀ t : Fin grid0.N, _)
abbrev b0 (t : Fin cfg0.N) : Vec Ideal S512x1024 .bf16 := iblk m c 0 t
theorem rd0 (t : Fin cfg0.N) (r : Fin 512) (d : Fin 1024) : b0 m c t (ix2 r d) = X0 m c (ix2 (row t.val r) d) := by
  have hN := ltN t
  refine Eq.trans (b := V m c main_arg0 (ix2 (row t.val r) d)) (congrArg (V m c main_arg0) (funext fun a => Fin.ext ?_)) (congrFun (V_main_arg0 m c) _)
  match a with
  | ⟨0, _⟩ => show win0_0.index t 0 * 512 + 1 * r.val = (512 * t.val + r.val) % 8192; rw [(idx0 t).1]; omega
  | ⟨1, _⟩ => show win0_0.index t 1 * 1024 + 1 * d.val = d.val; rw [(idx0 t).2]; omega
theorem idx1 : ∀ t : Fin cfg0.N, win0_1.index t 0 = 0 ∧ win0_1.index t 1 = 0 := (by decide +kernel : ∀ t : Fin grid0.N, _)
abbrev b1 (t : Fin cfg0.N) : Vec Ideal S1024x1024 .bf16 := iblk m c 1 t
theorem rd1 (t : Fin cfg0.N) (r : Fin 1024) (d : Fin 1024) : b1 m c t (ix2 r d) = X1 m c (ix2 r d) := by
  have hN := ltN t
  refine Eq.trans (b := V m c main_arg1 (ix2 r d)) (congrArg (V m c main_arg1) (funext fun a => Fin.ext ?_)) (congrFun (V_main_arg1 m c) _)
  match a with
  | ⟨0, _⟩ => show win0_1.index t 0 * 1024 + 1 * r.val = r.val; rw [(idx1 t).1]; omega
  | ⟨1, _⟩ => show win0_1.index t 1 * 1024 + 1 * d.val = d.val; rw [(idx1 t).2]; omega
theorem idx2 : ∀ t : Fin cfg0.N, win0_2.index t 0 = 0 ∧ win0_2.index t 1 = 0 := (by decide +kernel : ∀ t : Fin grid0.N, _)
abbrev b2 (t : Fin cfg0.N) : Vec Ideal S1024x1024 .bf16 := iblk m c 2 t
theorem rd2 (t : Fin cfg0.N) (r : Fin 1024) (d : Fin 1024) : b2 m c t (ix2 r d) = X2 m c (ix2 r d) := by
  have hN := ltN t
  refine Eq.trans (b := V m c main_arg2 (ix2 r d)) (congrArg (V m c main_arg2) (funext fun a => Fin.ext ?_)) (congrFun (V_main_arg2 m c) _)
  match a with
  | ⟨0, _⟩ => show win0_2.index t 0 * 1024 + 1 * r.val = r.val; rw [(idx2 t).1]; omega
  | ⟨1, _⟩ => show win0_2.index t 1 * 1024 + 1 * d.val = d.val; rw [(idx2 t).2]; omega
theorem sum1 (t : Fin cfg0.N) (r : Fin 512) (x : Fin 1024) :
    (∑ d : Fin 1024, b0 m c t (ix2 r d) * b1 m c t (ix2 d x)) = prod (X0 m c) (X1 m c) (row t.val r) x :=
  Finset.sum_congr rfl fun k _ => by rw [rd0, rd1]
theorem sum2 (t : Fin cfg0.N) (r : Fin 512) (x : Fin 1024) :
    (∑ d : Fin 1024, b0 m c t (ix2 r d) * b2 m c t (ix2 d x)) = prod (X0 m c) (X2 m c) (row t.val r) x :=
  Finset.sum_congr rfl fun k _ => by rw [rd0, rd2]

def Ra (x0 : T0) (x1 : T1) : S8192x1024.Idx → EReal := fun i => prod x0 x1 (i 0) (i 1)
theorem idx3 : ∀ t : Fin cfg0.N, win0_3.index t 0 = t.val ∧ win0_3.index t 1 = 0 := (by decide +kernel : ∀ t : Fin grid0.N, _)
theorem emb3 (t : Fin cfg0.N) (y : S512x1024.Idx) : ((cfg0.win 3).blk t).view.emb y = (ix2 (row t.val (y 0)) (y 1) : S8192x1024.Idx) := by
  have hN := ltN t
  have hy : (y 0).val < 512 := (y 0).isLt
  refine funext fun a => Fin.ext ?_
  match a with
  | ⟨0, _⟩ => show win0_3.index t 0 * 512 + 1 * (y 0).val = (512 * t.val + (y 0).val) % 8192; rw [(idx3 t).1]; omega
  | ⟨1, _⟩ => show win0_3.index t 1 * 1024 + 1 * (y 1).val = (y 1).val; rw [(idx3 t).2]; omega
theorem left3 (t : Fin cfg0.N) : (dats m 0 c).after 3 t = k0_pay3 (b0 m c t) (b1 m c t) := by
  rw [after0_3]
  unfold out0_3
  rw [View.canon_unit_zero (S := S512x1024) hz]
  simp only [View.ld_unit_zero (S := S512x1024) hz, View.ld_unit_zero (S := S1024x1024) hz]
theorem arr3 : (dats m 0 c).arrAt 3 cfg0.N = Ra (X0 m c) (X1 m c) := by
  refine (dats m 0 c).arrAt_eq_of_covers 3 _ (by decide +kernel) fun t hf y => ?_
  refine (?_ : _ = _).trans (congrArg (Ra (X0 m c) (X1 m c)) (emb3 t y)).symm
  show (dats m 0 c).after 3 t y = _
  rw [left3]
  refine (congrArg _ (ix2_self y)).trans ?_
  refine (pay3_at ..).trans ((pay1_at ..).trans ?_)
  exact sum1 m c t (y 0) (y 1)

def Rb (x0 : T0) (x2 : T2) : S8192x1024.Idx → EReal := fun i => prod x0 x2 (i 0) (i 1)
theorem idx4 : ∀ t : Fin cfg0.N, win0_4.index t 0 = t.val ∧ win0_4.index t 1 = 0 := (by decide +kernel : ∀ t : Fin grid0.N, _)
theorem emb4 (t : Fin cfg0.N) (y : S512x1024.Idx) : ((cfg0.win 4).blk t).view.emb y = (ix2 (row t.val (y 0)) (y 1) : S8192x1024.Idx) := by
  have hN := ltN t
  have hy : (y 0).val < 512 := (y 0).isLt
  refine funext fun a => Fin.ext ?_
  match a with
  | ⟨0, _⟩ => show win0_4.index t 0 * 512 + 1 * (y 0).val = (512 * t.val + (y 0).val) % 8192; rw [(idx4 t).1]; omega
  | ⟨1, _⟩ => show win0_4.index t 1 * 1024 + 1 * (y 1).val = (y 1).val; rw [(idx4 t).2]; omega
theorem left4 (t : Fin cfg0.N) : (dats m 0 c).after 4 t = k0_pay4 (b0 m c t) (b2 m c t) := by
  rw [after0_4]
  unfold out0_4
  rw [View.canon_unit_zero (S := S512x1024) hz]
  simp only [View.ld_unit_zero (S := S512x1024) hz, View.ld_unit_zero (S := S1024x1024) hz]
theorem arr4 : (dats m 0 c).arrAt 4 cfg0.N = Rb (X0 m c) (X2 m c) := by
  refine (dats m 0 c).arrAt_eq_of_covers 4 _ (by decide +kernel) fun t hf y => ?_
  refine (?_ : _ = _).trans (congrArg (Rb (X0 m c) (X2 m c)) (emb4 t y)).symm
  show (dats m 0 c).after 4 t y = _
  rw [left4]
  refine (congrArg _ (ix2_self y)).trans ?_
  refine (pay4_at ..).trans ((pay2_at ..).trans ?_)
  exact sum2 m c t (y 0) (y 1)

def Rg (x0 : T0) (x1 : T1) (x2 : T2) : S8192x1024.Idx → EReal := fun i => prod x0 x1 (i 0) (i 1) * Ideal.logistic (prod x0 x2 (i 0) (i 1))
theorem idx5 : ∀ t : Fin cfg0.N, win0_5.index t 0 = t.val ∧ win0_5.index t 1 = 0 := (by decide +kernel : ∀ t : Fin grid0.N, _)
theorem emb5 (t : Fin cfg0.N) (y : S512x1024.Idx) : ((cfg0.win 5).blk t).view.emb y = (ix2 (row t.val (y 0)) (y 1) : S8192x1024.Idx) := by
  have hN := ltN t
  have hy : (y 0).val < 512 := (y 0).isLt
  refine funext fun a => Fin.ext ?_
  match a with
  | ⟨0, _⟩ => show win0_5.index t 0 * 512 + 1 * (y 0).val = (512 * t.val + (y 0).val) % 8192; rw [(idx5 t).1]; omega
  | ⟨1, _⟩ => show win0_5.index t 1 * 1024 + 1 * (y 1).val = (y 1).val; rw [(idx5 t).2]; omega
theorem left5 (t : Fin cfg0.N) : (dats m 0 c).after 5 t = k0_pay5 (b0 m c t) (b1 m c t) (b2 m c t) := by
  rw [after0_5]
  unfold out0_5
  rw [View.canon_unit_zero (S := S512x1024) hz]
  simp only [View.ld_unit_zero (S := S512x1024) hz, View.ld_unit_zero (S := S1024x1024) hz]
theorem arr5 : (dats m 0 c).arrAt 5 cfg0.N = Rg (X0 m c) (X1 m c) (X2 m c) := by
  refine (dats m 0 c).arrAt_eq_of_covers 5 _ (by decide +kernel) fun t hf y => ?_
  refine (?_ : _ = _).trans (congrArg (Rg (X0 m c) (X1 m c) (X2 m c)) (emb5 t y)).symm
  show (dats m 0 c).after 5 t y = _
  rw [left5]
  refine (congrArg _ (ix2_self y)).trans ?_
  refine (pay5_at ..).trans ?_
  exact congrArg₂ (fun a b : EReal => a * Ideal.logistic b) ((pay1_at ..).trans (sum1 m c t (y 0) (y 1))) ((pay2_at ..).trans (sum2 m c t (y 0) (y 1)))

end Run

/-- The call's run: its results, and its arguments unchanged. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0_0) = Ra (X0 m c) (X1 m c)
      ∧ r.2.mem ((c.tc : Thread nD τ).loc main_v0_1) = Rb (X0 m c) (X2 m c)
      ∧ r.2.mem ((c.tc : Thread nD τ).loc main_v0_2) = Rg (X0 m c) (X1 m c) (X2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans (arr3 m c), ((h c).1 4).trans (arr4 m c), ((h c).1 5).trans (arr5 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c)))⟩) (run_main m ρ)

theorem dot_a (x : T0) (w : T1) (i : S8192x1024.Idx) : Cert.Reference10Ideal.Read.val_main_v2 (F := Ideal) x w i = prod x w (i 0) (i 1) := by
  rw [Cert.Reference10Ideal.Read.val_main_v2_apply]
  refine Finset.sum_congr rfl fun k _ => ?_
  have e1 : Cert.Reference10Ideal.Read.lidx_main_v2 i k = ix2 (i 0) k := funext fun a => match a with | ⟨0, _⟩ => rfl | ⟨1, _⟩ => rfl
  have e2 : Cert.Reference10Ideal.Read.ridx_main_v2 i k = ix2 k (i 1) := funext fun a => match a with | ⟨0, _⟩ => rfl | ⟨1, _⟩ => rfl
  rw [Cert.Reference10Ideal.Read.val_main_v0_apply, Cert.Reference10Ideal.Read.val_main_v1_apply, e1, e2]
  rfl

theorem dot_b (x : T0) (w : T2) (i : S8192x1024.Idx) : Cert.Reference10Ideal.Read.val_main_v5 (F := Ideal) x w i = prod x w (i 0) (i 1) := by
  rw [Cert.Reference10Ideal.Read.val_main_v5_apply]
  refine Finset.sum_congr rfl fun k _ => ?_
  have e1 : Cert.Reference10Ideal.Read.lidx_main_v5 i k = ix2 (i 0) k := funext fun a => match a with | ⟨0, _⟩ => rfl | ⟨1, _⟩ => rfl
  have e2 : Cert.Reference10Ideal.Read.ridx_main_v5 i k = ix2 k (i 1) := funext fun a => match a with | ⟨0, _⟩ => rfl | ⟨1, _⟩ => rfl
  rw [Cert.Reference10Ideal.Read.val_main_v3_apply, Cert.Reference10Ideal.Read.val_main_v4_apply, e1, e2]
  rfl

theorem ref_main_v6 (x0 : T0) (x1 : T1) : Cert.Reference10Ideal.Read.val_main_v6 (F := Ideal) x0 x1 = Ra x0 x1 := by
  funext i
  rw [Cert.Reference10Ideal.Read.val_main_v6_apply]
  exact dot_a x0 x1 i
theorem ref_main_v7 (x0 : T0) (x2 : T2) : Cert.Reference10Ideal.Read.val_main_v7 (F := Ideal) x0 x2 = Rb x0 x2 := by
  funext i
  rw [Cert.Reference10Ideal.Read.val_main_v7_apply]
  exact dot_b x0 x2 i
theorem ref_main_v15 (x0 : T0) (x1 : T1) (x2 : T2) : Cert.Reference10Ideal.Read.val_main_v15 (F := Ideal) x0 x1 x2 = Rg x0 x1 x2 := by
  funext i
  rw [Cert.Reference10Ideal.Read.val_main_v15_apply, Cert.Reference10Ideal.Read.val_main_v14_apply, Cert.Reference10Ideal.Read.val_main_v13_apply, Cert.Reference10Ideal.Read.val_main_v12_apply, Cert.Reference10Ideal.Read.val_main_cst_0_apply, Cert.Reference10Ideal.Read.val_main_v11_apply, Cert.Reference10Ideal.Read.val_main_v10_apply, Cert.Reference10Ideal.Read.val_main_cst_apply, Cert.Reference10Ideal.Read.val_main_v9_apply, Cert.Reference10Ideal.Read.val_main_v8_apply, dot_a, dot_b, Ideal.mulf_def, Ideal.hostDivf_def, Ideal.addf_def,
    Ideal.ofBits_def, Ideal.ofBits_one_f32]
  rfl

/-! ## The claims -/

theorem run_ref (m : (ℓ : Loc Cert.Reference10Ideal.nD Cert.Reference10Ideal.τ Cert.Reference10Ideal.sig) → Buf (Elt Ideal) ℓ) (ρ : Dev Cert.Reference10Ideal.nD → PrngReg)
    (x0 : Dev Cert.Reference10Ideal.nD → T0) (x1 : Dev Cert.Reference10Ideal.nD → T1) (x2 : Dev Cert.Reference10Ideal.nD → T2)
    (hm : ∀ c : Dev Cert.Reference10Ideal.nD, m ((c.tc : Thread Cert.Reference10Ideal.nD Cert.Reference10Ideal.τ).loc Cert.Reference10Ideal.main_arg0) = x0 c ∧ m ((c.tc : Thread Cert.Reference10Ideal.nD Cert.Reference10Ideal.τ).loc Cert.Reference10Ideal.main_arg1) = x1 c ∧ m ((c.tc : Thread Cert.Reference10Ideal.nD Cert.Reference10Ideal.τ).loc Cert.Reference10Ideal.main_arg2) = x2 c) :
    θ_run (Cert.Reference10Ideal.defs (F := Ideal)) (onTc (τ := Cert.Reference10Ideal.τ) (Cert.Reference10Ideal.main (F := Ideal))) ⟨m, fun _ => 0, ρ⟩ (fun r => ∀ c : Dev Cert.Reference10Ideal.nD,
      r.2.mem ((c.tc : Thread Cert.Reference10Ideal.nD Cert.Reference10Ideal.τ).loc Cert.Reference10Ideal.main_v6) = Ra (x0 c) (x1 c)
      ∧ r.2.mem ((c.tc : Thread Cert.Reference10Ideal.nD Cert.Reference10Ideal.τ).loc Cert.Reference10Ideal.main_v7) = Rb (x0 c) (x2 c)
      ∧ r.2.mem ((c.tc : Thread Cert.Reference10Ideal.nD Cert.Reference10Ideal.τ).loc Cert.Reference10Ideal.main_v15) = Rg (x0 c) (x1 c) (x2 c)
      ∧ r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)) :=
  (θ_run (Cert.Reference10Ideal.defs (F := Ideal)) _ _).mono (fun _ h c => ⟨
    (h c).1.trans ((Cert.Reference10Ideal.Read.val_main_v6_eq _ _).trans ((ref_main_v6 _ _).trans (by rw [(hm c).1, (hm c).2.1]))),
    (h c).2.1.trans ((Cert.Reference10Ideal.Read.val_main_v7_eq _ _).trans ((ref_main_v7 _ _).trans (by rw [(hm c).1, (hm c).2.2]))),
    (h c).2.2.1.trans ((Cert.Reference10Ideal.Read.val_main_v15_eq _ _ _).trans ((ref_main_v15 _ _ _).trans (by rw [(hm c).1, (hm c).2.1, (hm c).2.2]))),
    (h c).2.2.2⟩) (Cert.Reference10Ideal.Value.run (F := Ideal) m ρ)

theorem defs_same : @Cert.Kernel10.defs Bits _ _ = @Cert.Kernel10Ideal.defs Bits _ _ := by
  show Pipeline.defs (Cert.Kernel10Ideal.pcfgs (F := Bits)) (@Cert.Kernel10.defs₀ Bits _ _) = Pipeline.defs (Cert.Kernel10Ideal.pcfgs (F := Bits)) (@Cert.Kernel10Ideal.defs₀ Bits _ _)
  have h : @Cert.Kernel10.defs₀ Bits _ _ = @Cert.Kernel10Ideal.defs₀ Bits _ _ := by
    refine congrArg Defs.onTc (funext fun l => funext fun a => ?_)
    match l, a with
    | 0, (t, s) => rfl
  rw [h]

theorem main_same : @Cert.Kernel10.main Bits _ = @Cert.Kernel10Ideal.main Bits _ := rfl

/-- The printed call's frame: its generated run at bits. -/
theorem frame_kernel : Cert.quiescent_Kernel10 := by
  intro m ρ _
  have h := Cert.Kernel10Ideal.Gen.frame (F := Bits) m ρ
  rw [← defs_same, ← main_same] at h
  exact h

/-- The idealised call's frame: the same run at extended reals. -/
theorem frame_ideal : Cert.quiescent_Kernel10Ideal := fun m ρ _ => Cert.Kernel10Ideal.Gen.frame (F := Ideal) m ρ

/-- The reference's frame. -/
theorem frame_reference : Cert.quiescent_Reference10Ideal := fun m ρ _ =>
  (θ_run Cert.Reference10Ideal.defs _ _).mono (fun r h => ⟨fun c => (h c).2.2.2, sem_eq_zero_of_no_sems (by decide) r.2⟩)
    (Cert.Reference10Ideal.Value.run (F := Ideal) m ρ)

/-- The call's results are the reference's. -/
theorem equal : Cert.algebraic_Kernel10Ideal_Reference10Ideal := by
  intro m g m' g' _ hm
  exact ⟨fun c => Ra (X0 m c) (X1 m c), fun c => Rb (X0 m c) (X2 m c), fun c => Rg (X0 m c) (X1 m c) (X2 m c),
    run_value m g, run_ref m' g' (X0 m) (X1 m) (X2 m) hm⟩

end Cert.Mm10
end
-- ==== Proof.Mix.Mm11.lean ====
/-
  A token mixer's last product, added to its residual, one block of rows at a time.
-/
module

public import proofs.«01_k».proof.Defs
public import proofs.«01_k».proof.Proof.Mix.Sum
public import proofs.«01_k».proof.Proof.Gen.Kernel11
public import proofs.«01_k».proof.Proof.Gen.Kernel11Ideal.Frame
public import proofs.«01_k».proof.Proof.Gen.Reference11Ideal.Run
public import proofs.«01_k».proof.Proof.Gen.Reference11Ideal.Read
public import Idealize.ShloMosaic.Lib.Pointwise
public import Idealize.ShloMosaic.Lib.Pipeline.ValueKit
public import Idealize.ShloMosaic.Adequacy
public import Idealize.ShloMosaic.Init

@[expose] public section

set_option maxRecDepth 16384

noncomputable section

namespace Cert.Mm11

open Cert.Kernel11Ideal Cert.Kernel11Ideal.Gen Cert.Mix
open Idealize.ShloMosaic Idealize.ShloMosaic.TcCoe Idealize.SL.Sem
open scoped BigOperators

abbrev T0 := (⟨S8192x1024, .bf16⟩ : BufTy).Contents (Elt Ideal)
abbrev T1 := (⟨S1024x1024, .bf16⟩ : BufTy).Contents (Elt Ideal)
abbrev T2 := (⟨S8192x1024, .f32⟩ : BufTy).Contents (Elt Ideal)

theorem pay1_at (a : Vec Ideal S512x1024 .bf16) (w : Vec Ideal S1024x1024 .bf16) (z : Vec Ideal S512x1024 .f32) (r : Fin 512) (x : Fin 1024) :
    k0_pay1 a w z (ix2 r x) = z (ix2 r x) + ∑ d : Fin 1024, a (ix2 r d) * w (ix2 d x) := by pointwise [k0_pay1]

section Run
variable (m : (ℓ : Loc nD τ sig) → Buf (Elt Ideal) ℓ) (c : Dev nD)

abbrev X0 : T0 := m ((c : Thread nD τ).loc main_arg0)
abbrev X1 : T1 := m ((c : Thread nD τ).loc main_arg1)
abbrev X2 : T2 := m ((c : Thread nD τ).loc main_arg2)

theorem ltN (t : Fin cfg0.N) : t.val < 16 := lt_of_lt_of_eq t.isLt N_0
theorem idx0 : ∀ t : Fin cfg0.N, win0_0.index t 0 = t.val ∧ win0_0.index t 1 = 0 := (by decide +kernel : ∀ t : Fin grid0.N, _)
abbrev b0 (t : Fin cfg0.N) : Vec Ideal S512x1024 .bf16 := iblk m c 0 t
theorem rd0 (t : Fin cfg0.N) (r : Fin 512) (d : Fin 1024) : b0 m c t (ix2 r d) = X0 m c (ix2 (row t.val r) d) := by
  have hN := ltN t
  refine Eq.trans (b := V m c main_arg0 (ix2 (row t.val r) d)) (congrArg (V m c main_arg0) (funext fun a => Fin.ext ?_)) (congrFun (V_main_arg0 m c) _)
  match a with
  | ⟨0, _⟩ => show win0_0.index t 0 * 512 + 1 * r.val = (512 * t.val + r.val) % 8192; rw [(idx0 t).1]; omega
  | ⟨1, _⟩ => show win0_0.index t 1 * 1024 + 1 * d.val = d.val; rw [(idx0 t).2]; omega
theorem idx1 : ∀ t : Fin cfg0.N, win0_1.index t 0 = 0 ∧ win0_1.index t 1 = 0 := (by decide +kernel : ∀ t : Fin grid0.N, _)
abbrev b1 (t : Fin cfg0.N) : Vec Ideal S1024x1024 .bf16 := iblk m c 1 t
theorem rd1 (t : Fin cfg0.N) (r : Fin 1024) (d : Fin 1024) : b1 m c t (ix2 r d) = X1 m c (ix2 r d) := by
  have hN := ltN t
  refine Eq.trans (b := V m c main_arg1 (ix2 r d)) (congrArg (V m c main_arg1) (funext fun a => Fin.ext ?_)) (congrFun (V_main_arg1 m c) _)
  match a with
  | ⟨0, _⟩ => show win0_1.index t 0 * 1024 + 1 * r.val = r.val; rw [(idx1 t).1]; omega
  | ⟨1, _⟩ => show win0_1.index t 1 * 1024 + 1 * d.val = d.val; rw [(idx1 t).2]; omega
theorem idx2 : ∀ t : Fin cfg0.N, win0_2.index t 0 = t.val ∧ win0_2.index t 1 = 0 := (by decide +kernel : ∀ t : Fin grid0.N, _)
abbrev b2 (t : Fin cfg0.N) : Vec Ideal S512x1024 .f32 := iblk m c 2 t
theorem rd2 (t : Fin cfg0.N) (r : Fin 512) (d : Fin 1024) : b2 m c t (ix2 r d) = X2 m c (ix2 (row t.val r) d) := by
  have hN := ltN t
  refine Eq.trans (b := V m c main_arg2 (ix2 (row t.val r) d)) (congrArg (V m c main_arg2) (funext fun a => Fin.ext ?_)) (congrFun (V_main_arg2 m c) _)
  match a with
  | ⟨0, _⟩ => show win0_2.index t 0 * 512 + 1 * r.val = (512 * t.val + r.val) % 8192; rw [(idx2 t).1]; omega
  | ⟨1, _⟩ => show win0_2.index t 1 * 1024 + 1 * d.val = d.val; rw [(idx2 t).2]; omega
theorem sum1 (t : Fin cfg0.N) (r : Fin 512) (x : Fin 1024) :
    (∑ d : Fin 1024, b0 m c t (ix2 r d) * b1 m c t (ix2 d x)) = prod (X0 m c) (X1 m c) (row t.val r) x :=
  Finset.sum_congr rfl fun k _ => by rw [rd0, rd1]

def R (x0 : T0) (x1 : T1) (x2 : T2) : S8192x1024.Idx → EReal := fun i => x2 (ix2 (i 0) (i 1)) + prod x0 x1 (i 0) (i 1)
theorem idx3 : ∀ t : Fin cfg0.N, win0_3.index t 0 = t.val ∧ win0_3.index t 1 = 0 := (by decide +kernel : ∀ t : Fin grid0.N, _)
theorem emb3 (t : Fin cfg0.N) (y : S512x1024.Idx) : ((cfg0.win 3).blk t).view.emb y = (ix2 (row t.val (y 0)) (y 1) : S8192x1024.Idx) := by
  have hN := ltN t
  have hy : (y 0).val < 512 := (y 0).isLt
  refine funext fun a => Fin.ext ?_
  match a with
  | ⟨0, _⟩ => show win0_3.index t 0 * 512 + 1 * (y 0).val = (512 * t.val + (y 0).val) % 8192; rw [(idx3 t).1]; omega
  | ⟨1, _⟩ => show win0_3.index t 1 * 1024 + 1 * (y 1).val = (y 1).val; rw [(idx3 t).2]; omega
theorem left3 (t : Fin cfg0.N) : (dats m 0 c).after 3 t = k0_pay1 (b0 m c t) (b1 m c t) (b2 m c t) := by
  rw [after0_3]
  unfold out0_3
  rw [View.canon_unit_zero (S := S512x1024) hz]
  simp only [View.ld_unit_zero (S := S512x1024) hz, View.ld_unit_zero (S := S1024x1024) hz]
theorem arr3 : (dats m 0 c).arrAt 3 cfg0.N = R (X0 m c) (X1 m c) (X2 m c) := by
  refine (dats m 0 c).arrAt_eq_of_covers 3 _ (by decide +kernel) fun t hf y => ?_
  refine (?_ : _ = _).trans (congrArg (R (X0 m c) (X1 m c) (X2 m c)) (emb3 t y)).symm
  show (dats m 0 c).after 3 t y = _
  rw [left3]
  refine (congrArg _ (ix2_self y)).trans ?_
  refine (pay1_at ..).trans ?_
  exact congrArg₂ (fun a b : EReal => a + b) (rd2 m c t (y 0) (y 1)) (sum1 m c t (y 0) (y 1))

end Run

/-- The call's run: its results, and its arguments unchanged. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0) = R (X0 m c) (X1 m c) (X2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans (arr3 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c)))⟩) (run_main m ρ)

theorem dot_a (x : T0) (w : T1) (i : S8192x1024.Idx) : Cert.Reference11Ideal.Read.val_main_v2 (F := Ideal) x w i = prod x w (i 0) (i 1) := by
  rw [Cert.Reference11Ideal.Read.val_main_v2_apply]
  refine Finset.sum_congr rfl fun k _ => ?_
  have e1 : Cert.Reference11Ideal.Read.lidx_main_v2 i k = ix2 (i 0) k := funext fun a => match a with | ⟨0, _⟩ => rfl | ⟨1, _⟩ => rfl
  have e2 : Cert.Reference11Ideal.Read.ridx_main_v2 i k = ix2 k (i 1) := funext fun a => match a with | ⟨0, _⟩ => rfl | ⟨1, _⟩ => rfl
  rw [Cert.Reference11Ideal.Read.val_main_v0_apply, Cert.Reference11Ideal.Read.val_main_v1_apply, e1, e2]
  rfl

theorem ref_main_v3 (x0 : T0) (x1 : T1) (x2 : T2) : Cert.Reference11Ideal.Read.val_main_v3 (F := Ideal) x0 x1 x2 = R x0 x1 x2 := by
  funext i
  rw [Cert.Reference11Ideal.Read.val_main_v3_apply, dot_a, Ideal.addf_def]
  exact congrArg (fun z : EReal => z + _) (congrArg x2 (ix2_self i))

/-! ## The claims -/

theorem run_ref (m : (ℓ : Loc Cert.Reference11Ideal.nD Cert.Reference11Ideal.τ Cert.Reference11Ideal.sig) → Buf (Elt Ideal) ℓ) (ρ : Dev Cert.Reference11Ideal.nD → PrngReg)
    (x0 : Dev Cert.Reference11Ideal.nD → T0) (x1 : Dev Cert.Reference11Ideal.nD → T1) (x2 : Dev Cert.Reference11Ideal.nD → T2)
    (hm : ∀ c : Dev Cert.Reference11Ideal.nD, m ((c.tc : Thread Cert.Reference11Ideal.nD Cert.Reference11Ideal.τ).loc Cert.Reference11Ideal.main_arg0) = x0 c ∧ m ((c.tc : Thread Cert.Reference11Ideal.nD Cert.Reference11Ideal.τ).loc Cert.Reference11Ideal.main_arg1) = x1 c ∧ m ((c.tc : Thread Cert.Reference11Ideal.nD Cert.Reference11Ideal.τ).loc Cert.Reference11Ideal.main_arg2) = x2 c) :
    θ_run (Cert.Reference11Ideal.defs (F := Ideal)) (onTc (τ := Cert.Reference11Ideal.τ) (Cert.Reference11Ideal.main (F := Ideal))) ⟨m, fun _ => 0, ρ⟩ (fun r => ∀ c : Dev Cert.Reference11Ideal.nD,
      r.2.mem ((c.tc : Thread Cert.Reference11Ideal.nD Cert.Reference11Ideal.τ).loc Cert.Reference11Ideal.main_v3) = R (x0 c) (x1 c) (x2 c)
      ∧ r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)) :=
  (θ_run (Cert.Reference11Ideal.defs (F := Ideal)) _ _).mono (fun _ h c => ⟨
    (h c).1.trans ((Cert.Reference11Ideal.Read.val_main_v3_eq _ _ _).trans ((ref_main_v3 _ _ _).trans (by rw [(hm c).1, (hm c).2.1, (hm c).2.2]))),
    (h c).2⟩) (Cert.Reference11Ideal.Value.run (F := Ideal) m ρ)

theorem defs_same : @Cert.Kernel11.defs Bits _ _ = @Cert.Kernel11Ideal.defs Bits _ _ := by
  show Pipeline.defs (Cert.Kernel11Ideal.pcfgs (F := Bits)) (@Cert.Kernel11.defs₀ Bits _ _) = Pipeline.defs (Cert.Kernel11Ideal.pcfgs (F := Bits)) (@Cert.Kernel11Ideal.defs₀ Bits _ _)
  have h : @Cert.Kernel11.defs₀ Bits _ _ = @Cert.Kernel11Ideal.defs₀ Bits _ _ := by
    refine congrArg Defs.onTc (funext fun l => funext fun a => ?_)
    match l, a with
    | 0, (t, s) => rfl
  rw [h]

theorem main_same : @Cert.Kernel11.main Bits _ = @Cert.Kernel11Ideal.main Bits _ := rfl

/-- The printed call's frame: its generated run at bits. -/
theorem frame_kernel : Cert.quiescent_Kernel11 := by
  intro m ρ _
  have h := Cert.Kernel11Ideal.Gen.frame (F := Bits) m ρ
  rw [← defs_same, ← main_same] at h
  exact h

/-- The idealised call's frame: the same run at extended reals. -/
theorem frame_ideal : Cert.quiescent_Kernel11Ideal := fun m ρ _ => Cert.Kernel11Ideal.Gen.frame (F := Ideal) m ρ

/-- The reference's frame. -/
theorem frame_reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The call's results are the reference's. -/
theorem equal : Cert.algebraic_Kernel11Ideal_Reference11Ideal := by
  intro m g m' g' _ hm
  exact ⟨fun c => R (X0 m c) (X1 m c) (X2 m c),
    run_value m g, run_ref m' g' (X0 m) (X1 m) (X2 m) hm⟩

end Cert.Mm11
end
-- ==== Proof.Mix.Mm12.lean ====
/-
  The gradient through the attention's last product, one block of rows at a time.
-/
module

public import proofs.«01_k».proof.Defs
public import proofs.«01_k».proof.Proof.Mix.Sum
public import proofs.«01_k».proof.Proof.Gen.Kernel12
public import proofs.«01_k».proof.Proof.Gen.Kernel12Ideal.Frame
public import proofs.«01_k».proof.Proof.Gen.Reference12Ideal.Run
public import proofs.«01_k».proof.Proof.Gen.Reference12Ideal.Read
public import Idealize.ShloMosaic.Lib.Pointwise
public import Idealize.ShloMosaic.Lib.Pipeline.ValueKit
public import Idealize.ShloMosaic.Adequacy
public import Idealize.ShloMosaic.Init

@[expose] public section

set_option maxRecDepth 16384

noncomputable section

namespace Cert.Mm12

open Cert.Kernel12Ideal Cert.Kernel12Ideal.Gen Cert.Mix
open Idealize.ShloMosaic Idealize.ShloMosaic.TcCoe Idealize.SL.Sem
open scoped BigOperators

abbrev T0 := (⟨S8192x1024, .f32⟩ : BufTy).Contents (Elt Ideal)
abbrev T1 := (⟨S1024x1024, .bf16⟩ : BufTy).Contents (Elt Ideal)

theorem pay1_at (a : Vec Ideal S512x1024 .f32) (w : Vec Ideal S1024x1024 .bf16) (r : Fin 512) (x : Fin 1024) :
    k0_pay1 a w (ix2 r x) = ∑ d : Fin 1024, a (ix2 r d) * w (ix2 x d) := by pointwise [k0_pay1]

section Run
variable (m : (ℓ : Loc nD τ sig) → Buf (Elt Ideal) ℓ) (c : Dev nD)

abbrev X0 : T0 := m ((c : Thread nD τ).loc main_arg0)
abbrev X1 : T1 := m ((c : Thread nD τ).loc main_arg1)

theorem ltN (t : Fin cfg0.N) : t.val < 16 := lt_of_lt_of_eq t.isLt N_0
theorem idx0 : ∀ t : Fin cfg0.N, win0_0.index t 0 = t.val ∧ win0_0.index t 1 = 0 := (by decide +kernel : ∀ t : Fin grid0.N, _)
abbrev b0 (t : Fin cfg0.N) : Vec Ideal S512x1024 .f32 := iblk m c 0 t
theorem rd0 (t : Fin cfg0.N) (r : Fin 512) (d : Fin 1024) : b0 m c t (ix2 r d) = X0 m c (ix2 (row t.val r) d) := by
  have hN := ltN t
  refine Eq.trans (b := V m c main_arg0 (ix2 (row t.val r) d)) (congrArg (V m c main_arg0) (funext fun a => Fin.ext ?_)) (congrFun (V_main_arg0 m c) _)
  match a with
  | ⟨0, _⟩ => show win0_0.index t 0 * 512 + 1 * r.val = (512 * t.val + r.val) % 8192; rw [(idx0 t).1]; omega
  | ⟨1, _⟩ => show win0_0.index t 1 * 1024 + 1 * d.val = d.val; rw [(idx0 t).2]; omega
theorem idx1 : ∀ t : Fin cfg0.N, win0_1.index t 0 = 0 ∧ win0_1.index t 1 = 0 := (by decide +kernel : ∀ t : Fin grid0.N, _)
abbrev b1 (t : Fin cfg0.N) : Vec Ideal S1024x1024 .bf16 := iblk m c 1 t
theorem rd1 (t : Fin cfg0.N) (r : Fin 1024) (d : Fin 1024) : b1 m c t (ix2 r d) = X1 m c (ix2 r d) := by
  have hN := ltN t
  refine Eq.trans (b := V m c main_arg1 (ix2 r d)) (congrArg (V m c main_arg1) (funext fun a => Fin.ext ?_)) (congrFun (V_main_arg1 m c) _)
  match a with
  | ⟨0, _⟩ => show win0_1.index t 0 * 1024 + 1 * r.val = r.val; rw [(idx1 t).1]; omega
  | ⟨1, _⟩ => show win0_1.index t 1 * 1024 + 1 * d.val = d.val; rw [(idx1 t).2]; omega
theorem sum1 (t : Fin cfg0.N) (r : Fin 512) (x : Fin 1024) :
    (∑ d : Fin 1024, b0 m c t (ix2 r d) * b1 m c t (ix2 x d)) = prodT (X0 m c) (X1 m c) (row t.val r) x :=
  Finset.sum_congr rfl fun k _ => by rw [rd0, rd1]

def R (x0 : T0) (x1 : T1) : S8192x1024.Idx → EReal := fun i => prodT x0 x1 (i 0) (i 1)
theorem idx3 : ∀ t : Fin cfg0.N, win0_3.index t 0 = t.val ∧ win0_3.index t 1 = 0 := (by decide +kernel : ∀ t : Fin grid0.N, _)
theorem emb3 (t : Fin cfg0.N) (y : S512x1024.Idx) : ((cfg0.win 3).blk t).view.emb y = (ix2 (row t.val (y 0)) (y 1) : S8192x1024.Idx) := by
  have hN := ltN t
  have hy : (y 0).val < 512 := (y 0).isLt
  refine funext fun a => Fin.ext ?_
  match a with
  | ⟨0, _⟩ => show win0_3.index t 0 * 512 + 1 * (y 0).val = (512 * t.val + (y 0).val) % 8192; rw [(idx3 t).1]; omega
  | ⟨1, _⟩ => show win0_3.index t 1 * 1024 + 1 * (y 1).val = (y 1).val; rw [(idx3 t).2]; omega
theorem left3 (t : Fin cfg0.N) : (dats m 0 c).after 3 t = k0_pay1 (b0 m c t) (b1 m c t) := by
  rw [after0_3]
  unfold out0_3
  rw [View.canon_unit_zero (S := S512x1024) hz]
  simp only [View.ld_unit_zero (S := S512x1024) hz, View.ld_unit_zero (S := S1024x1024) hz]
theorem arr3 : (dats m 0 c).arrAt 3 cfg0.N = R (X0 m c) (X1 m c) := by
  refine (dats m 0 c).arrAt_eq_of_covers 3 _ (by decide +kernel) fun t hf y => ?_
  refine (?_ : _ = _).trans (congrArg (R (X0 m c) (X1 m c)) (emb3 t y)).symm
  show (dats m 0 c).after 3 t y = _
  rw [left3]
  refine (congrArg _ (ix2_self y)).trans ?_
  refine (pay1_at ..).trans ?_
  exact sum1 m c t (y 0) (y 1)

end Run

/-- The call's run: its results, and its arguments unchanged. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v1) = R (X0 m c) (X1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 3).trans (arr3 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main m ρ)

theorem dot_a (x : T0) (w : T1) (i : S8192x1024.Idx) : Cert.Reference12Ideal.Read.val_main_v3 (F := Ideal) x w i = prodT x w (i 0) (i 1) := by
  rw [Cert.Reference12Ideal.Read.val_main_v3_apply]
  refine Finset.sum_congr rfl fun k _ => ?_
  have e1 : Cert.Reference12Ideal.Read.lidx_main_v3 i k = ix2 (i 0) k := funext fun a => match a with | ⟨0, _⟩ => rfl | ⟨1, _⟩ => rfl
  have e2 : Cert.Reference12Ideal.Read.ridx_main_v3 i k = ix2 (i 1) k := funext fun a => match a with | ⟨0, _⟩ => rfl | ⟨1, _⟩ => rfl
  rw [Cert.Reference12Ideal.Read.val_main_v1_apply, e1, e2]
  rfl

theorem ref_main_v4 (x0 : T0) (x1 : T1) : Cert.Reference12Ideal.Read.val_main_v4 (F := Ideal) x0 x1 = R x0 x1 := by
  funext i
  rw [Cert.Reference12Ideal.Read.val_main_v4_apply]
  exact dot_a x0 x1 i

/-! ## The claims -/

theorem run_ref (m : (ℓ : Loc Cert.Reference12Ideal.nD Cert.Reference12Ideal.τ Cert.Reference12Ideal.sig) → Buf (Elt Ideal) ℓ) (ρ : Dev Cert.Reference12Ideal.nD → PrngReg)
    (x0 : Dev Cert.Reference12Ideal.nD → T0) (x1 : Dev Cert.Reference12Ideal.nD → T1)
    (hm : ∀ c : Dev Cert.Reference12Ideal.nD, m ((c.tc : Thread Cert.Reference12Ideal.nD Cert.Reference12Ideal.τ).loc Cert.Reference12Ideal.main_arg0) = x0 c ∧ m ((c.tc : Thread Cert.Reference12Ideal.nD Cert.Reference12Ideal.τ).loc Cert.Reference12Ideal.main_arg1) = x1 c) :
    θ_run (Cert.Reference12Ideal.defs (F := Ideal)) (onTc (τ := Cert.Reference12Ideal.τ) (Cert.Reference12Ideal.main (F := Ideal))) ⟨m, fun _ => 0, ρ⟩ (fun r => ∀ c : Dev Cert.Reference12Ideal.nD,
      r.2.mem ((c.tc : Thread Cert.Reference12Ideal.nD Cert.Reference12Ideal.τ).loc Cert.Reference12Ideal.main_v4) = R (x0 c) (x1 c)
      ∧ r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)) :=
  (θ_run (Cert.Reference12Ideal.defs (F := Ideal)) _ _).mono (fun _ h c => ⟨
    (h c).1.trans ((Cert.Reference12Ideal.Read.val_main_v4_eq _ _).trans ((ref_main_v4 _ _).trans (by rw [(hm c).1, (hm c).2]))),
    (h c).2⟩) (Cert.Reference12Ideal.Value.run (F := Ideal) m ρ)

theorem defs_same : @Cert.Kernel12.defs Bits _ _ = @Cert.Kernel12Ideal.defs Bits _ _ := by
  show Pipeline.defs (Cert.Kernel12Ideal.pcfgs (F := Bits)) (@Cert.Kernel12.defs₀ Bits _ _) = Pipeline.defs (Cert.Kernel12Ideal.pcfgs (F := Bits)) (@Cert.Kernel12Ideal.defs₀ Bits _ _)
  have h : @Cert.Kernel12.defs₀ Bits _ _ = @Cert.Kernel12Ideal.defs₀ Bits _ _ := by
    refine congrArg Defs.onTc (funext fun l => funext fun a => ?_)
    match l, a with
    | 0, (t, s) => rfl
  rw [h]

set_option backward.isDefEq.respectTransparency false in
set_option maxHeartbeats 8000000 in
theorem main_same (c) : @Cert.Kernel12.main Bits _ _ c = @Cert.Kernel12Ideal.main Bits _ _ c := rfl

/-- The printed call's frame: its generated run at bits. -/
theorem frame_kernel : Cert.quiescent_Kernel12 := by
  intro m ρ _
  have h := Cert.Kernel12Ideal.Gen.frame (F := Bits) m ρ
  rw [← defs_same, show @Cert.Kernel12Ideal.main Bits _ _ = @Cert.Kernel12.main Bits _ _ from funext fun c => (main_same c).symm] at h
  exact h

/-- The idealised call's frame: the same run at extended reals. -/
theorem frame_ideal : Cert.quiescent_Kernel12Ideal := fun m ρ _ => Cert.Kernel12Ideal.Gen.frame (F := Ideal) m ρ

/-- The reference's frame. -/
theorem frame_reference : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- The call's results are the reference's. -/
theorem equal : Cert.algebraic_Kernel12Ideal_Reference12Ideal := by
  intro m g m' g' _ hm
  exact ⟨fun c => R (X0 m c) (X1 m c),
    run_value m g, run_ref m' g' (X0 m) (X1 m) hm⟩

end Cert.Mm12
end
-- ==== Proof.Mix.Mm13.lean ====
/-
  The attention's down projection, one block of rows at a time.
-/
module

public import proofs.«01_k».proof.Defs
public import proofs.«01_k».proof.Proof.Mix.Sum
public import proofs.«01_k».proof.Proof.Gen.Kernel13
public import proofs.«01_k».proof.Proof.Gen.Kernel13Ideal.Frame
public import proofs.«01_k».proof.Proof.Gen.Reference13Ideal.Run
public import proofs.«01_k».proof.Proof.Gen.Reference13Ideal.Read
public import Idealize.ShloMosaic.Lib.Pointwise
public import Idealize.ShloMosaic.Lib.Pipeline.ValueKit
public import Idealize.ShloMosaic.Adequacy
public import Idealize.ShloMosaic.Init

@[expose] public section

set_option maxRecDepth 16384

noncomputable section

namespace Cert.Mm13

open Cert.Kernel13Ideal Cert.Kernel13Ideal.Gen Cert.Mix
open Idealize.ShloMosaic Idealize.ShloMosaic.TcCoe Idealize.SL.Sem
open scoped BigOperators

abbrev T0 := (⟨S8192x1024, .bf16⟩ : BufTy).Contents (Elt Ideal)
abbrev T1 := (⟨S1024x896, .bf16⟩ : BufTy).Contents (Elt Ideal)

theorem pay1_at (a : Vec Ideal S512x1024 .bf16) (w : Vec Ideal S1024x896 .bf16) (r : Fin 512) (x : Fin 896) :
    k0_pay1 a w (ix2 r x) = ∑ d : Fin 1024, a (ix2 r d) * w (ix2 d x) := by pointwise [k0_pay1]

section Run
variable (m : (ℓ : Loc nD τ sig) → Buf (Elt Ideal) ℓ) (c : Dev nD)

abbrev X0 : T0 := m ((c : Thread nD τ).loc main_arg0)
abbrev X1 : T1 := m ((c : Thread nD τ).loc main_arg1)

theorem ltN (t : Fin cfg0.N) : t.val < 16 := lt_of_lt_of_eq t.isLt N_0
theorem idx0 : ∀ t : Fin cfg0.N, win0_0.index t 0 = t.val ∧ win0_0.index t 1 = 0 := (by decide +kernel : ∀ t : Fin grid0.N, _)
abbrev b0 (t : Fin cfg0.N) : Vec Ideal S512x1024 .bf16 := iblk m c 0 t
theorem rd0 (t : Fin cfg0.N) (r : Fin 512) (d : Fin 1024) : b0 m c t (ix2 r d) = X0 m c (ix2 (row t.val r) d) := by
  have hN := ltN t
  refine Eq.trans (b := V m c main_arg0 (ix2 (row t.val r) d)) (congrArg (V m c main_arg0) (funext fun a => Fin.ext ?_)) (congrFun (V_main_arg0 m c) _)
  match a with
  | ⟨0, _⟩ => show win0_0.index t 0 * 512 + 1 * r.val = (512 * t.val + r.val) % 8192; rw [(idx0 t).1]; omega
  | ⟨1, _⟩ => show win0_0.index t 1 * 1024 + 1 * d.val = d.val; rw [(idx0 t).2]; omega
theorem idx1 : ∀ t : Fin cfg0.N, win0_1.index t 0 = 0 ∧ win0_1.index t 1 = 0 := (by decide +kernel : ∀ t : Fin grid0.N, _)
abbrev b1 (t : Fin cfg0.N) : Vec Ideal S1024x896 .bf16 := iblk m c 1 t
theorem rd1 (t : Fin cfg0.N) (r : Fin 1024) (d : Fin 896) : b1 m c t (ix2 r d) = X1 m c (ix2 r d) := by
  have hN := ltN t
  refine Eq.trans (b := V m c main_arg1 (ix2 r d)) (congrArg (V m c main_arg1) (funext fun a => Fin.ext ?_)) (congrFun (V_main_arg1 m c) _)
  match a with
  | ⟨0, _⟩ => show win0_1.index t 0 * 1024 + 1 * r.val = r.val; rw [(idx1 t).1]; omega
  | ⟨1, _⟩ => show win0_1.index t 1 * 896 + 1 * d.val = d.val; rw [(idx1 t).2]; omega
theorem sum1 (t : Fin cfg0.N) (r : Fin 512) (x : Fin 896) :
    (∑ d : Fin 1024, b0 m c t (ix2 r d) * b1 m c t (ix2 d x)) = prod (X0 m c) (X1 m c) (row t.val r) x :=
  Finset.sum_congr rfl fun k _ => by rw [rd0, rd1]

def R (x0 : T0) (x1 : T1) : S8192x896.Idx → EReal := fun i => prod x0 x1 (i 0) (i 1)
theorem idx2 : ∀ t : Fin cfg0.N, win0_2.index t 0 = t.val ∧ win0_2.index t 1 = 0 := (by decide +kernel : ∀ t : Fin grid0.N, _)
theorem emb2 (t : Fin cfg0.N) (y : S512x896.Idx) : ((cfg0.win 2).blk t).view.emb y = (ix2 (row t.val (y 0)) (y 1) : S8192x896.Idx) := by
  have hN := ltN t
  have hy : (y 0).val < 512 := (y 0).isLt
  refine funext fun a => Fin.ext ?_
  match a with
  | ⟨0, _⟩ => show win0_2.index t 0 * 512 + 1 * (y 0).val = (512 * t.val + (y 0).val) % 8192; rw [(idx2 t).1]; omega
  | ⟨1, _⟩ => show win0_2.index t 1 * 896 + 1 * (y 1).val = (y 1).val; rw [(idx2 t).2]; omega
theorem left2 (t : Fin cfg0.N) : (dats m 0 c).after 2 t = k0_pay1 (b0 m c t) (b1 m c t) := by
  rw [after0_2]
  unfold out0_2
  rw [View.canon_unit_zero (S := S512x896) hz]
  simp only [View.ld_unit_zero (S := S512x1024) hz, View.ld_unit_zero (S := S1024x896) hz]
theorem arr2 : (dats m 0 c).arrAt 2 cfg0.N = R (X0 m c) (X1 m c) := by
  refine (dats m 0 c).arrAt_eq_of_covers 2 _ (by decide +kernel) fun t hf y => ?_
  refine (?_ : _ = _).trans (congrArg (R (X0 m c) (X1 m c)) (emb2 t y)).symm
  show (dats m 0 c).after 2 t y = _
  rw [left2]
  refine (congrArg _ (ix2_self y)).trans ?_
  refine (pay1_at ..).trans ?_
  exact sum1 m c t (y 0) (y 1)

end Run

/-- The call's run: its results, and its arguments unchanged. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0) = R (X0 m c) (X1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (arr2 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main m ρ)

theorem dot_a (x : T0) (w : T1) (i : S8192x896.Idx) : Cert.Reference13Ideal.Read.val_main_v2 (F := Ideal) x w i = prod x w (i 0) (i 1) := by
  rw [Cert.Reference13Ideal.Read.val_main_v2_apply]
  refine Finset.sum_congr rfl fun k _ => ?_
  have e1 : Cert.Reference13Ideal.Read.lidx_main_v2 i k = ix2 (i 0) k := funext fun a => match a with | ⟨0, _⟩ => rfl | ⟨1, _⟩ => rfl
  have e2 : Cert.Reference13Ideal.Read.ridx_main_v2 i k = ix2 k (i 1) := funext fun a => match a with | ⟨0, _⟩ => rfl | ⟨1, _⟩ => rfl
  rw [Cert.Reference13Ideal.Read.val_main_v0_apply, Cert.Reference13Ideal.Read.val_main_v1_apply, e1, e2]
  rfl

theorem ref_main_v2 (x0 : T0) (x1 : T1) : Cert.Reference13Ideal.Read.val_main_v2 (F := Ideal) x0 x1 = R x0 x1 := funext fun i => dot_a x0 x1 i

/-! ## The claims -/

theorem run_ref (m : (ℓ : Loc Cert.Reference13Ideal.nD Cert.Reference13Ideal.τ Cert.Reference13Ideal.sig) → Buf (Elt Ideal) ℓ) (ρ : Dev Cert.Reference13Ideal.nD → PrngReg)
    (x0 : Dev Cert.Reference13Ideal.nD → T0) (x1 : Dev Cert.Reference13Ideal.nD → T1)
    (hm : ∀ c : Dev Cert.Reference13Ideal.nD, m ((c.tc : Thread Cert.Reference13Ideal.nD Cert.Reference13Ideal.τ).loc Cert.Reference13Ideal.main_arg0) = x0 c ∧ m ((c.tc : Thread Cert.Reference13Ideal.nD Cert.Reference13Ideal.τ).loc Cert.Reference13Ideal.main_arg1) = x1 c) :
    θ_run (Cert.Reference13Ideal.defs (F := Ideal)) (onTc (τ := Cert.Reference13Ideal.τ) (Cert.Reference13Ideal.main (F := Ideal))) ⟨m, fun _ => 0, ρ⟩ (fun r => ∀ c : Dev Cert.Reference13Ideal.nD,
      r.2.mem ((c.tc : Thread Cert.Reference13Ideal.nD Cert.Reference13Ideal.τ).loc Cert.Reference13Ideal.main_v2) = R (x0 c) (x1 c)
      ∧ r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)) :=
  (θ_run (Cert.Reference13Ideal.defs (F := Ideal)) _ _).mono (fun _ h c => ⟨
    (h c).1.trans ((Cert.Reference13Ideal.Read.val_main_v2_eq _ _).trans ((ref_main_v2 _ _).trans (by rw [(hm c).1, (hm c).2]))),
    (h c).2⟩) (Cert.Reference13Ideal.Value.run (F := Ideal) m ρ)

theorem defs_same : @Cert.Kernel13.defs Bits _ _ = @Cert.Kernel13Ideal.defs Bits _ _ := by
  show Pipeline.defs (Cert.Kernel13Ideal.pcfgs (F := Bits)) (@Cert.Kernel13.defs₀ Bits _ _) = Pipeline.defs (Cert.Kernel13Ideal.pcfgs (F := Bits)) (@Cert.Kernel13Ideal.defs₀ Bits _ _)
  have h : @Cert.Kernel13.defs₀ Bits _ _ = @Cert.Kernel13Ideal.defs₀ Bits _ _ := by
    refine congrArg Defs.onTc (funext fun l => funext fun a => ?_)
    match l, a with
    | 0, (t, s) => rfl
  rw [h]

theorem main_same : @Cert.Kernel13.main Bits _ = @Cert.Kernel13Ideal.main Bits _ := rfl

/-- The printed call's frame: its generated run at bits. -/
theorem frame_kernel : Cert.quiescent_Kernel13 := by
  intro m ρ _
  have h := Cert.Kernel13Ideal.Gen.frame (F := Bits) m ρ
  rw [← defs_same, ← main_same] at h
  exact h

/-- The idealised call's frame: the same run at extended reals. -/
theorem frame_ideal : Cert.quiescent_Kernel13Ideal := fun m ρ _ => Cert.Kernel13Ideal.Gen.frame (F := Ideal) m ρ

/-- The reference's frame. -/
theorem frame_reference : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- The call's results are the reference's. -/
theorem equal : Cert.algebraic_Kernel13Ideal_Reference13Ideal := by
  intro m g m' g' _ hm
  exact ⟨fun c => R (X0 m c) (X1 m c),
    run_value m g, run_ref m' g' (X0 m) (X1 m) hm⟩

end Cert.Mm13
end
-- ==== Proof.lean ====
/-
  The claims of Defs.lean, put together.

  The kernel's run is written once, in Proof/Flash, for the idealised program at any float operations; the printed
  program has the same text, so its frame is that run read at bits. The reference is one line of host operations and
  declares no semaphore: its frame is its generated run. Over the reals both hold the five gradients of attention,
  which Proof/Flash/Spec.lean writes down as sums. The feed-forwards' backward call is the same: its frames are its
  generated run, and over the reals both sides hold the gradients that Proof/Ffn/Spec.lean writes down. So is the
  weight gradient: both sides are the sum over the rows that Proof/Dw/Value.lean writes down. And so is the
  feed-forwards' forward call, whose results Proof/Fwd/RefValue.lean writes down. The products of the token mixers and their weight gradients have
  their frames and their equality in a module each, in Proof/Mix.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Flash.Run
public import proofs.«01_k».proof.Proof.Gen.ReferenceIdeal.Read
public import proofs.«01_k».proof.Proof.Gen.Pre_finite
public import proofs.«01_k».proof.Proof.Flash.Same
public import proofs.«01_k».proof.Proof.Flash.Equal
public import proofs.«01_k».proof.Proof.Gen.Kernel2
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Pre_finite2
public import proofs.«01_k».proof.Proof.Ffn.Equal
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Dw.Equal
public import proofs.«01_k».proof.Proof.Gen.Kernel4
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Fwd.Equal
public import proofs.«01_k».proof.Proof.Gen.Kernel5
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Mix.Dw5
public import proofs.«01_k».proof.Proof.Gen.Kernel6
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Mix.Dw6
public import proofs.«01_k».proof.Proof.Gen.Kernel7
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Mix.Dw7
public import proofs.«01_k».proof.Proof.Gen.Kernel8
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Mix.Dw8
public import proofs.«01_k».proof.Proof.Gen.Kernel9
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Mix.Dw9
public import proofs.«01_k».proof.Proof.Gen.Kernel10
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Mix.Mm10
public import proofs.«01_k».proof.Proof.Gen.Kernel11
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Mix.Mm11
public import proofs.«01_k».proof.Proof.Gen.Kernel12
public import proofs.«01_k».proof.Proof.Gen.Kernel12Ideal
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Mix.Mm12
public import proofs.«01_k».proof.Proof.Gen.Kernel13
public import proofs.«01_k».proof.Proof.Gen.Kernel13Ideal
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Reference13Ideal.Read
public import proofs.«01_k».proof.Proof.Mix.Mm13
public import Idealize.ShloMosaic.Adequacy
public import Idealize.ShloMosaic.Init

@[expose] public section

set_option maxRecDepth 16384

noncomputable section

namespace Cert.Proof

open Idealize.ShloMosaic Idealize.SL.Sem

set_option maxHeartbeats 8000000 in
/-- The printed kernel's frame: the run of Proof/Flash/Run.lean at bits. -/
theorem frame_kernel : Cert.quiescent_Kernel := by
  intro m ρ _
  have h := Cert.Flash.frame (F := Bits) m ρ
  rw [← Cert.Flash.defs_same, show @Cert.KernelIdeal.main Bits _ _ = @Cert.Kernel.main Bits _ _ from
    funext fun c => (Cert.Flash.main_same c).symm] at h
  exact h

/-- The idealised kernel's frame: the same run at extended reals. -/
theorem frame_ideal : Cert.quiescent_KernelIdeal := fun m ρ _ => Cert.Flash.frame (F := Ideal) m ρ

/-- The reference's frame: its results are terms of the arguments, and it declares no semaphore. -/
theorem frame_reference : Cert.quiescent_ReferenceIdeal := fun m ρ _ =>
  (θ_run Cert.ReferenceIdeal.defs _ _).mono
    (fun r h => ⟨fun c => (h c).2.2.2.2.2, sem_eq_zero_of_no_sems (by decide) r.2⟩)
    (Cert.ReferenceIdeal.Value.run (F := Ideal) m ρ)

/-- The kernel's five gradients are the reference's, of finite arguments. -/
theorem equal : Cert.algebraic_KernelIdeal_ReferenceIdeal_pre_finite := by
  intro m g m' g' hp hm
  choose A H using Cert.Flash.Ref.holds_of_finite m hp
  exact ⟨fun c => Cert.Flash.Rqn (A c), fun c => Cert.Flash.Rqr (A c), fun c => Cert.Flash.Rkn (A c), fun c => Cert.Flash.Rkr (A c),
    fun c => Cert.Flash.Rv (A c), Cert.Flash.run_value m g A H,
    Cert.Flash.run_ref m' g' A fun c => Cert.Flash.holds_agree (H c) (hm c)⟩

/-- The printed feed-forward backward's frame: its generated run at bits. -/
theorem frame_kernel2 : Cert.quiescent_Kernel2 := by
  intro m ρ _
  have h := Cert.Kernel2Ideal.Gen.frame (F := Bits) m ρ
  rw [← Cert.Ffn.defs_same, show @Cert.Kernel2Ideal.main Bits _ _ = @Cert.Kernel2.main Bits _ _ from
    funext fun c => (Cert.Ffn.main_same c).symm] at h
  exact h

/-- The idealised feed-forward backward's frame: the same run at extended reals. -/
theorem frame_ideal2 : Cert.quiescent_Kernel2Ideal := fun m ρ _ => Cert.Kernel2Ideal.Gen.frame (F := Ideal) m ρ

/-- The frame of the feed-forward's reference. -/
theorem frame_reference2 : Cert.quiescent_Reference2Ideal := fun m ρ _ =>
  (θ_run Cert.Reference2Ideal.defs _ _).mono
    (fun r h => ⟨fun c => (h c).2.2.2.2.2.2, sem_eq_zero_of_no_sems (by decide) r.2⟩)
    (Cert.Reference2Ideal.Value.run (F := Ideal) m ρ)

/-- The call's six results are the reference's, of finite arguments. -/
theorem equal2 : Cert.algebraic_Kernel2Ideal_Reference2Ideal_pre_finite2 := by
  intro m g m' g' hp hm
  choose A H using Cert.Ffn.holds_of_finite m hp
  exact ⟨fun c => Cert.Ffn.Rh (A c), fun c => Cert.Ffn.Rg (A c), fun c => Cert.Ffn.Rz1 (A c), fun c => Cert.Ffn.Rz3 (A c),
    fun c => Cert.Ffn.Ract (A c), fun c => Cert.Ffn.Rdf (A c), Cert.Ffn.run_value m g A H,
    Cert.Ffn.run_ref m' g' A fun c => Cert.Ffn.holds_agree (H c) (hm c)⟩

/-- The printed weight gradient's frame: its generated run at bits. -/
theorem frame_kernel3 : Cert.quiescent_Kernel3 := by
  intro m ρ _
  have h := Cert.Kernel3Ideal.Gen.frame (F := Bits) m ρ
  rw [← Cert.Dw.defs_same, ← Cert.Dw.main_same] at h
  exact h

/-- The idealised weight gradient's frame: the same run at extended reals. -/
theorem frame_ideal3 : Cert.quiescent_Kernel3Ideal := fun m ρ _ => Cert.Kernel3Ideal.Gen.frame (F := Ideal) m ρ

/-- The frame of the weight gradient's reference. -/
theorem frame_reference3 : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- The call's weight gradient is the reference's. -/
theorem equal3 : Cert.algebraic_Kernel3Ideal_Reference3Ideal := by
  intro m g m' g' _ hm
  exact ⟨fun c => Cert.Dw.Rdw (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1)),
    Cert.Dw.run_value m g, Cert.Dw.run_ref m' g' _ _ hm⟩

set_option maxHeartbeats 8000000 in
/-- The printed feed-forward's frame: its generated run at bits. -/
theorem frame_kernel4 : Cert.quiescent_Kernel4 := by
  intro m ρ _
  have h := Cert.Kernel4Ideal.Gen.frame (F := Bits) m ρ
  rw [← Cert.Fwd.defs_same, show @Cert.Kernel4Ideal.main Bits _ _ = @Cert.Kernel4.main Bits _ _ from
    funext fun c => (Cert.Fwd.main_same c).symm] at h
  exact h

/-- The idealised feed-forward's frame: the same run at extended reals. -/
theorem frame_ideal4 : Cert.quiescent_Kernel4Ideal := fun m ρ _ => Cert.Kernel4Ideal.Gen.frame (F := Ideal) m ρ

/-- The frame of the feed-forward's reference. -/
theorem frame_reference4 : Cert.quiescent_Reference4Ideal := fun m ρ _ =>
  (θ_run Cert.Reference4Ideal.defs _ _).mono
    (fun r h => ⟨fun c => (h c).2.2.2.2, sem_eq_zero_of_no_sems (by decide) r.2⟩)
    (Cert.Reference4Ideal.Value.run (F := Ideal) m ρ)

/-- The feed-forward's four results are the reference's. -/
theorem equal4 : Cert.algebraic_Kernel4Ideal_Reference4Ideal := by
  intro m g m' g' _ hm
  exact ⟨fun c => Cert.Fwd.Rh (Cert.Fwd.X0 m c) (Cert.Fwd.X1 m c) (Cert.Fwd.X2 m c) (Cert.Fwd.X3 m c) (Cert.Fwd.X4 m c),
    fun c => Cert.Fwd.Rn (Cert.Fwd.X0 m c) (Cert.Fwd.X1 m c), fun c => Cert.Fwd.Rz (Cert.Fwd.X0 m c) (Cert.Fwd.X1 m c) (Cert.Fwd.X2 m c),
    fun c => Cert.Fwd.Rz (Cert.Fwd.X0 m c) (Cert.Fwd.X1 m c) (Cert.Fwd.X3 m c), Cert.Fwd.run_value m g,
    Cert.Fwd.run_ref m' g' (Cert.Fwd.X0 m) (Cert.Fwd.X1 m) (Cert.Fwd.X2 m) (Cert.Fwd.X3 m) (Cert.Fwd.X4 m) hm⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts, Cert.Kernel3.Gen.facts,
    Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Pre_finite.Gen.facts, Cert.Pre_finite2.Gen.facts,
    frame_kernel, frame_ideal, fun m ρ _ => Cert.Flash.frame (F := Ideal) m ρ,
    frame_reference, fun m ρ _ => frame_reference m ρ trivial,
    frame_kernel2, frame_ideal2, fun m ρ _ => frame_ideal2 m ρ trivial,
    frame_reference2, fun m ρ _ => frame_reference2 m ρ trivial,
    frame_kernel3, frame_ideal3, frame_reference3, frame_kernel4, frame_ideal4, frame_reference4,
    Cert.Dw5.frame_kernel, Cert.Dw5.frame_ideal, Cert.Dw5.frame_reference,
    Cert.Dw6.frame_kernel, Cert.Dw6.frame_ideal, Cert.Dw6.frame_reference,
    Cert.Dw7.frame_kernel, Cert.Dw7.frame_ideal, Cert.Dw7.frame_reference,
    Cert.Dw8.frame_kernel, Cert.Dw8.frame_ideal, Cert.Dw8.frame_reference,
    Cert.Dw9.frame_kernel, Cert.Dw9.frame_ideal, Cert.Dw9.frame_reference,
    Cert.Mm10.frame_kernel, Cert.Mm10.frame_ideal, Cert.Mm10.frame_reference,
    Cert.Mm11.frame_kernel, Cert.Mm11.frame_ideal, Cert.Mm11.frame_reference,
    Cert.Mm12.frame_kernel, Cert.Mm12.frame_ideal, Cert.Mm12.frame_reference,
    Cert.Mm13.frame_kernel, Cert.Mm13.frame_ideal, Cert.Mm13.frame_reference,
    trivial, equal, trivial, equal2, trivial, equal3, trivial, equal4,
    trivial, Cert.Dw5.equal, trivial, Cert.Dw6.equal, trivial, Cert.Dw7.equal, trivial, Cert.Dw8.equal, trivial, Cert.Dw9.equal, trivial, Cert.Mm10.equal, trivial, Cert.Mm11.equal, trivial, Cert.Mm12.equal, trivial, Cert.Mm13.equal⟩

end Cert.Proof

end
